-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 2048, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![2, 128, 256]⟩ ⟨3, ![2, 2048, 256]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![2, 2048, 256]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 2048, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x128x512 : Shape := ⟨3, ![2, 128, 512]⟩
abbrev S512x256 : Shape := ⟨2, ![512, 256]⟩
abbrev S2x128x256 : Shape := ⟨3, ![2, 128, 256]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x256 : S_.BroadcastsInDim S2x128x256 (![] : Fin 0 → Fin S2x128x256.rank)
  reducesTo_S2x128x256_S_d0_1_2 : S2x128x256.ReducesTo [0, 1, 2] S_

variable [Facts]

def fn {F : FTy → Type} [FloatOps F] (main_arg0 : FVec F S2x128x512 .f32) (main_arg1 : FVec F S512x256 .f32) (main_arg2 : FVec F S2x128x256 .f32) (main_arg3 : FVec F S2x128x256 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x256 .f32 := Host.absf main_arg2
  let main_cst_2 : FVec F S_ .f32 := constant S_ .f32 0x7F800000#32
  let main_v10 : FVec F S2x128x256 .f32 := broadcastInDim S2x128x256 ![] bcast_S_S2x128x256 main_cst_2
  let main_v11 : IVec S2x128x256 1 := cmpf .olt main_v9 main_v10
  let main_c_3 : IVec S_ 1 := constantI S_ 1 1#1
  let main_v12 : IVec S_ 1 := (fun x v => Host.reduce IntOp.andi x v reducesTo_S2x128x256_S_d0_1_2 h_S_) main_v11 main_c_3
  let main_v13 : IVec S_ 1 := andi main_v8 main_v12
  main_v13
-- ==== Pre_scores_finite_ReferenceIdeal.lean ====
abbrev S2x2048x512 : Shape := ⟨3, ![2, 2048, 512]⟩
abbrev S512x256 : Shape := ⟨2, ![512, 256]⟩
abbrev S2x2048x256 : Shape := ⟨3, ![2, 2048, 256]⟩
abbrev S256x512 : Shape := ⟨2, ![256, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x2048x256 : S_.BroadcastsInDim S2x2048x256 (![] : Fin 0 → Fin S2x2048x256.rank)
  reducesTo_S2x2048x256_S_d0_1_2 : S2x2048x256.ReducesTo [0, 1, 2] S_

variable [Facts]

def fn {F : FTy → Type} [FloatOps F] (main_arg0 : FVec F S2x2048x512 .f32) (main_arg1 : FVec F S512x256 .f32) (main_arg2 : FVec F S2x2048x256 .f32) (main_arg3 : FVec F S2x2048x256 .f32) (main_arg4 : FVec F S256x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x2048x256 .f32 := Host.absf main_arg2
  let main_cst_2 : FVec F S_ .f32 := constant S_ .f32 0x7F800000#32
  let main_v10 : FVec F S2x2048x256 .f32 := broadcastInDim S2x2048x256 ![] bcast_S_S2x2048x256 main_cst_2
  let main_v11 : IVec S2x2048x256 1 := cmpf .olt main_v9 main_v10
  let main_c_3 : IVec S_ 1 := constantI S_ 1 1#1
  let main_v12 : IVec S_ 1 := (fun x v => Host.reduce IntOp.andi x v reducesTo_S2x2048x256_S_d0_1_2 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x256 : Shape := ⟨3, ![2, 128, 256]⟩
abbrev S256x512 : Shape := ⟨2, ![256, 512]⟩
abbrev S2x2x128x512 : Shape := ⟨4, ![2, 2, 128, 512]⟩
abbrev S2x32x256 : Shape := ⟨3, ![2, 32, 256]⟩
abbrev S2x2x32x256 : Shape := ⟨4, ![2, 2, 32, 256]⟩
abbrev S2x32x384 : Shape := ⟨3, ![2, 32, 384]⟩
abbrev S15x2x32x384 : Shape := ⟨4, ![15, 2, 32, 384]⟩
abbrev S2 : Shape := ⟨1, ![2]⟩
abbrev S15 : Shape := ⟨1, ![15]⟩
abbrev S1 : Shape := ⟨1, ![1]⟩
abbrev S_ : Shape := ⟨0, ![]⟩
abbrev S1x2x128x512 : Shape := ⟨4, ![1, 2, 128, 512]⟩
abbrev S1x128x512 : Shape := ⟨3, ![1, 128, 512]⟩
abbrev S128x512 : Shape := ⟨2, ![128, 512]⟩
abbrev S128x256 : Shape := ⟨2, ![128, 256]⟩
abbrev S32x256 : Shape := ⟨2, ![32, 256]⟩
abbrev S1x32x256 : Shape := ⟨3, ![1, 32, 256]⟩
abbrev S1x1x32x256 : Shape := ⟨4, ![1, 1, 32, 256]⟩
abbrev S32x64 : Shape := ⟨2, ![32, 64]⟩
abbrev S1x128x256 : Shape := ⟨3, ![1, 128, 256]⟩
abbrev S128x64 : Shape := ⟨2, ![128, 64]⟩
abbrev S32x128 : Shape := ⟨2, ![32, 128]⟩
abbrev S32 : Shape := ⟨1, ![32]⟩
abbrev S32x1 : Shape := ⟨2, ![32, 1]⟩
abbrev S32x120 : Shape := ⟨2, ![32, 120]⟩
abbrev S32x384 : Shape := ⟨2, ![32, 384]⟩
abbrev S1x32x384 : Shape := ⟨3, ![1, 32, 384]⟩
abbrev S1x2x32x384 : Shape := ⟨4, ![1, 2, 32, 384]⟩
abbrev S96x256 : Shape := ⟨2, ![96, 256]⟩
abbrev S1x1x128x512 : Shape := ⟨4, ![1, 1, 128, 512]⟩
abbrev S512x64 : Shape := ⟨2, ![512, 64]⟩
abbrev S128 : Shape := ⟨1, ![128]⟩
abbrev S128x1 : Shape := ⟨2, ![128, 1]⟩
abbrev S1x1x32x384 : Shape := ⟨4, ![1, 1, 32, 384]⟩
abbrev S32x4 : Shape := ⟨2, ![32, 4]⟩
abbrev S32x512 : Shape := ⟨2, ![32, 512]⟩
abbrev S1x32x512 : Shape := ⟨3, ![1, 32, 512]⟩

abbrev nBuf : Space → Nat
  | .hbm => 6
  | .vmem => 12
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x256, .f32⟩
  | .hbm, ⟨3, _⟩ => ⟨S2x128x256, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x256, .f32⟩
  | .local _ .vmem, ⟨3, _⟩ => ⟨S2x128x256, .f32⟩
  | .local _ .vmem, ⟨4, _⟩ => ⟨S256x512, .f32⟩
  | .local _ .vmem, ⟨5, _⟩ => ⟨S2x128x512, .f32⟩
  | .local _ .vmem, ⟨6, _⟩ => ⟨S2x128x512, .bf16⟩
  | .local _ .vmem, ⟨7, _⟩ => ⟨S2x2x128x512, .bf16⟩
  | .local _ .vmem, ⟨8, _⟩ => ⟨S2x32x256, .bf16⟩
  | .local _ .vmem, ⟨9, _⟩ => ⟨S2x2x32x256, .bf16⟩
  | .local _ .vmem, ⟨10, _⟩ => ⟨S2x32x384, .bf16⟩
  | .local _ .vmem, ⟨11, _⟩ => ⟨S15x2x32x384, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .eq v2 c0_i32
  let v5 : BitVec 32 := Scalar.extui v4
  let c0_i32_0 : BitVec 32 := 0#32
  let v6 : BitVec 1 := Scalar.cmpi .ne v5 c0_i32_0
  v6

def k0_dev1 : Nat :=
  let c0_i32_317 : BitVec 32 := 0#32
  let c1_i32_315 : BitVec 32 := 1#32
  let c1_i32_316 : BitVec 32 := 1#32
  let v573 : BitVec 32 := Scalar.muli c1_i32_315 c1_i32_316
  let v574 : BitVec 32 := Scalar.addi c0_i32_317 v573
  v574.toNat
def k0_dev2 : Nat :=
  let c0_i32_321 : BitVec 32 := 0#32
  let c2_i32_319 : BitVec 32 := 2#32
  let c1_i32_320 : BitVec 32 := 1#32
  let v575 : BitVec 32 := Scalar.muli c2_i32_319 c1_i32_320
  let v576 : BitVec 32 := Scalar.addi c0_i32_321 v575
  v576.toNat
def k0_dev3 : Nat :=
  let c0_i32_324 : BitVec 32 := 0#32
  let c3_i32 : BitVec 32 := 3#32
  let c1_i32_323 : BitVec 32 := 1#32
  let v577 : BitVec 32 := Scalar.muli c3_i32 c1_i32_323
  let v578 : BitVec 32 := Scalar.addi c0_i32_324 v577
  v578.toNat
def k0_dev4 : Nat :=
  let c0_i32_327 : BitVec 32 := 0#32
  let c4_i32 : BitVec 32 := 4#32
  let c1_i32_326 : BitVec 32 := 1#32
  let v579 : BitVec 32 := Scalar.muli c4_i32 c1_i32_326
  let v580 : BitVec 32 := Scalar.addi c0_i32_327 v579
  v580.toNat
def k0_dev5 : Nat :=
  let c0_i32_330 : BitVec 32 := 0#32
  let c5_i32 : BitVec 32 := 5#32
  let c1_i32_329 : BitVec 32 := 1#32
  let v581 : BitVec 32 := Scalar.muli c5_i32 c1_i32_329
  let v582 : BitVec 32 := Scalar.addi c0_i32_330 v581
  v582.toNat
def k0_dev6 : Nat :=
  let c0_i32_333 : BitVec 32 := 0#32
  let c6_i32 : BitVec 32 := 6#32
  let c1_i32_332 : BitVec 32 := 1#32
  let v583 : BitVec 32 := Scalar.muli c6_i32 c1_i32_332
  let v584 : BitVec 32 := Scalar.addi c0_i32_333 v583
  v584.toNat
def k0_dev7 : Nat :=
  let c0_i32_336 : BitVec 32 := 0#32
  let c7_i32 : BitVec 32 := 7#32
  let c1_i32_335 : BitVec 32 := 1#32
  let v585 : BitVec 32 := Scalar.muli c7_i32 c1_i32_335
  let v586 : BitVec 32 := Scalar.addi c0_i32_336 v585
  v586.toNat
def k0_dev8 : Nat :=
  let c0_i32_339 : BitVec 32 := 0#32
  let c8_i32 : BitVec 32 := 8#32
  let c1_i32_338 : BitVec 32 := 1#32
  let v587 : BitVec 32 := Scalar.muli c8_i32 c1_i32_338
  let v588 : BitVec 32 := Scalar.addi c0_i32_339 v587
  v588.toNat
def k0_dev9 : Nat :=
  let c0_i32_342 : BitVec 32 := 0#32
  let c9_i32 : BitVec 32 := 9#32
  let c1_i32_341 : BitVec 32 := 1#32
  let v589 : BitVec 32 := Scalar.muli c9_i32 c1_i32_341
  let v590 : BitVec 32 := Scalar.addi c0_i32_342 v589
  v590.toNat
def k0_dev10 : Nat :=
  let c0_i32_345 : BitVec 32 := 0#32
  let c10_i32 : BitVec 32 := 10#32
  let c1_i32_344 : BitVec 32 := 1#32
  let v591 : BitVec 32 := Scalar.muli c10_i32 c1_i32_344
  let v592 : BitVec 32 := Scalar.addi c0_i32_345 v591
  v592.toNat
def k0_dev11 : Nat :=
  let c0_i32_348 : BitVec 32 := 0#32
  let c11_i32 : BitVec 32 := 11#32
  let c1_i32_347 : BitVec 32 := 1#32
  let v593 : BitVec 32 := Scalar.muli c11_i32 c1_i32_347
  let v594 : BitVec 32 := Scalar.addi c0_i32_348 v593
  v594.toNat
def k0_dev12 : Nat :=
  let c0_i32_351 : BitVec 32 := 0#32
  let c12_i32 : BitVec 32 := 12#32
  let c1_i32_350 : BitVec 32 := 1#32
  let v595 : BitVec 32 := Scalar.muli c12_i32 c1_i32_350
  let v596 : BitVec 32 := Scalar.addi c0_i32_351 v595
  v596.toNat
def k0_dev13 : Nat :=
  let c0_i32_354 : BitVec 32 := 0#32
  let c13_i32 : BitVec 32 := 13#32
  let c1_i32_353 : BitVec 32 := 1#32
  let v597 : BitVec 32 := Scalar.muli c13_i32 c1_i32_353
  let v598 : BitVec 32 := Scalar.addi c0_i32_354 v597
  v598.toNat
def k0_dev14 : Nat :=
  let c0_i32_357 : BitVec 32 := 0#32
  let c14_i32 : BitVec 32 := 14#32
  let c1_i32_356 : BitVec 32 := 1#32
  let v599 : BitVec 32 := Scalar.muli c14_i32 c1_i32_356
  let v600 : BitVec 32 := Scalar.addi c0_i32_357 v599
  v600.toNat
def k0_dev15 : Nat :=
  let c0_i32_361 : BitVec 32 := 0#32
  let c15_i32_359 : BitVec 32 := 15#32
  let c1_i32_360 : BitVec 32 := 1#32
  let v601 : BitVec 32 := Scalar.muli c15_i32_359 c1_i32_360
  let v602 : BitVec 32 := Scalar.addi c0_i32_361 v601
  v602.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1 : BitVec 32 := 0#32
  let v7 : BitVec 1 := Scalar.cmpi .ne v2 c0_i32_1
  let v8 : BitVec 32 := Scalar.extui v7
  let c0_i32_2 : BitVec 32 := 0#32
  let v9 : BitVec 1 := Scalar.cmpi .ne v8 c0_i32_2
  v9

def k0_dev16 : Nat :=
  let c0_i32_317 : BitVec 32 := 0#32
  let c0_i32_315 : BitVec 32 := 0#32
  let c1_i32_316 : BitVec 32 := 1#32
  let v573 : BitVec 32 := Scalar.muli c0_i32_315 c1_i32_316
  let v574 : BitVec 32 := Scalar.addi c0_i32_317 v573
  v574.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v10 : BitVec 1 := Scalar.cmpi .sgt v2 c1_i32_3
  let v11 : BitVec 32 := Scalar.extui v10
  let c0_i32_4 : BitVec 32 := 0#32
  let v12 : BitVec 1 := Scalar.cmpi .ne v11 c0_i32_4
  v12

def k0_dev17 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_314 : BitVec 32 := 1#32
  let v573 : BitVec 32 := Scalar.subi v2 c1_i32_314
  let c1_i32_316 : BitVec 32 := 1#32
  let v574 : BitVec 32 := Scalar.muli v573 c1_i32_316
  let v575 : BitVec 32 := Scalar.addi c0_i32_317 v574
  v575.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v13 : BitVec 1 := Scalar.cmpi .sgt v2 c0_i32_5
  let c15_i32 : BitVec 32 := 15#32
  let v14 : BitVec 1 := Scalar.cmpi .slt v2 c15_i32
  let v15 : BitVec 1 := Scalar.andi v13 v14
  let v16 : BitVec 32 := Scalar.extui v15
  let c0_i32_6 : BitVec 32 := 0#32
  let v17 : BitVec 1 := Scalar.cmpi .ne v16 c0_i32_6
  v17

def k0_dev18 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_314 : BitVec 32 := 1#32
  let v573 : BitVec 32 := Scalar.addi v2 c1_i32_314
  let c1_i32_316 : BitVec 32 := 1#32
  let v574 : BitVec 32 := Scalar.muli v573 c1_i32_316
  let v575 : BitVec 32 := Scalar.addi c0_i32_317 v574
  v575.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_41 : BitVec 32 := 0#32
  let v62 : BitVec 1 := Scalar.cmpi .eq v2 c0_i32_41
  let v63 : BitVec 32 := Scalar.extui v62
  let c0_i32_42 : BitVec 32 := 0#32
  let v64 : BitVec 1 := Scalar.cmpi .ne v63 c0_i32_42
  v64

def k0_dev19 : Nat :=
  let c0_i32_317 : BitVec 32 := 0#32
  let c15_i32_315 : BitVec 32 := 15#32
  let c1_i32_316 : BitVec 32 := 1#32
  let v573 : BitVec 32 := Scalar.muli c15_i32_315 c1_i32_316
  let v574 : BitVec 32 := Scalar.addi c0_i32_317 v573
  v574.toNat
def k0_dev20 : Nat :=
  let c0_i32_321 : BitVec 32 := 0#32
  let c14_i32_319 : BitVec 32 := 14#32
  let c1_i32_320 : BitVec 32 := 1#32
  let v579 : BitVec 32 := Scalar.muli c14_i32_319 c1_i32_320
  let v580 : BitVec 32 := Scalar.addi c0_i32_321 v579
  v580.toNat
def k0_dev21 : Nat :=
  let c0_i32_325 : BitVec 32 := 0#32
  let c13_i32_323 : BitVec 32 := 13#32
  let c1_i32_324 : BitVec 32 := 1#32
  let v585 : BitVec 32 := Scalar.muli c13_i32_323 c1_i32_324
  let v586 : BitVec 32 := Scalar.addi c0_i32_325 v585
  v586.toNat
def k0_dev22 : Nat :=
  let c0_i32_329 : BitVec 32 := 0#32
  let c12_i32_327 : BitVec 32 := 12#32
  let c1_i32_328 : BitVec 32 := 1#32
  let v591 : BitVec 32 := Scalar.muli c12_i32_327 c1_i32_328
  let v592 : BitVec 32 := Scalar.addi c0_i32_329 v591
  v592.toNat
def k0_dev23 : Nat :=
  let c0_i32_333 : BitVec 32 := 0#32
  let c11_i32_331 : BitVec 32 := 11#32
  let c1_i32_332 : BitVec 32 := 1#32
  let v597 : BitVec 32 := Scalar.muli c11_i32_331 c1_i32_332
  let v598 : BitVec 32 := Scalar.addi c0_i32_333 v597
  v598.toNat
def k0_dev24 : Nat :=
  let c0_i32_337 : BitVec 32 := 0#32
  let c10_i32_335 : BitVec 32 := 10#32
  let c1_i32_336 : BitVec 32 := 1#32
  let v603 : BitVec 32 := Scalar.muli c10_i32_335 c1_i32_336
  let v604 : BitVec 32 := Scalar.addi c0_i32_337 v603
  v604.toNat
def k0_dev25 : Nat :=
  let c0_i32_341 : BitVec 32 := 0#32
  let c9_i32_339 : BitVec 32 := 9#32
  let c1_i32_340 : BitVec 32 := 1#32
  let v609 : BitVec 32 := Scalar.muli c9_i32_339 c1_i32_340
  let v610 : BitVec 32 := Scalar.addi c0_i32_341 v609
  v610.toNat
def k0_dev26 : Nat :=
  let c0_i32_345 : BitVec 32 := 0#32
  let c8_i32_343 : BitVec 32 := 8#32
  let c1_i32_344 : BitVec 32 := 1#32
  let v615 : BitVec 32 := Scalar.muli c8_i32_343 c1_i32_344
  let v616 : BitVec 32 := Scalar.addi c0_i32_345 v615
  v616.toNat
def k0_dev27 : Nat :=
  let c0_i32_349 : BitVec 32 := 0#32
  let c7_i32_347 : BitVec 32 := 7#32
  let c1_i32_348 : BitVec 32 := 1#32
  let v621 : BitVec 32 := Scalar.muli c7_i32_347 c1_i32_348
  let v622 : BitVec 32 := Scalar.addi c0_i32_349 v621
  v622.toNat
def k0_dev28 : Nat :=
  let c0_i32_353 : BitVec 32 := 0#32
  let c6_i32_351 : BitVec 32 := 6#32
  let c1_i32_352 : BitVec 32 := 1#32
  let v627 : BitVec 32 := Scalar.muli c6_i32_351 c1_i32_352
  let v628 : BitVec 32 := Scalar.addi c0_i32_353 v627
  v628.toNat
def k0_dev29 : Nat :=
  let c0_i32_357 : BitVec 32 := 0#32
  let c5_i32_355 : BitVec 32 := 5#32
  let c1_i32_356 : BitVec 32 := 1#32
  let v633 : BitVec 32 := Scalar.muli c5_i32_355 c1_i32_356
  let v634 : BitVec 32 := Scalar.addi c0_i32_357 v633
  v634.toNat
def k0_dev30 : Nat :=
  let c0_i32_361 : BitVec 32 := 0#32
  let c4_i32_359 : BitVec 32 := 4#32
  let c1_i32_360 : BitVec 32 := 1#32
  let v639 : BitVec 32 := Scalar.muli c4_i32_359 c1_i32_360
  let v640 : BitVec 32 := Scalar.addi c0_i32_361 v639
  v640.toNat
def k0_dev31 : Nat :=
  let c0_i32_366 : BitVec 32 := 0#32
  let c3_i32_364 : BitVec 32 := 3#32
  let c1_i32_365 : BitVec 32 := 1#32
  let v645 : BitVec 32 := Scalar.muli c3_i32_364 c1_i32_365
  let v646 : BitVec 32 := Scalar.addi c0_i32_366 v645
  v646.toNat
def k0_dev32 : Nat :=
  let c0_i32_371 : BitVec 32 := 0#32
  let c2_i32_369 : BitVec 32 := 2#32
  let c1_i32_370 : BitVec 32 := 1#32
  let v651 : BitVec 32 := Scalar.muli c2_i32_369 c1_i32_370
  let v652 : BitVec 32 := Scalar.addi c0_i32_371 v651
  v652.toNat
def k0_dev33 : Nat :=
  let c0_i32_376 : BitVec 32 := 0#32
  let c1_i32_374 : BitVec 32 := 1#32
  let c1_i32_375 : BitVec 32 := 1#32
  let v657 : BitVec 32 := Scalar.muli c1_i32_374 c1_i32_375
  let v658 : BitVec 32 := Scalar.addi c0_i32_376 v657
  v658.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_43 : BitVec 32 := 15#32
  let v65 : BitVec 1 := Scalar.cmpi .slt v2 c15_i32_43
  let v66 : BitVec 32 := Scalar.extui v65
  let c0_i32_44 : BitVec 32 := 0#32
  let v67 : BitVec 1 := Scalar.cmpi .ne v66 c0_i32_44
  v67

def k0_dev34 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_314 : BitVec 32 := 1#32
  let v573 : BitVec 32 := Scalar.addi v2 c1_i32_314
  let c1_i32_318 : BitVec 32 := 1#32
  let v574 : BitVec 32 := Scalar.muli v573 c1_i32_318
  let v575 : BitVec 32 := Scalar.addi c0_i32_319 v574
  v575.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v68 : BitVec 1 := Scalar.cmpi .sgt v2 c0_i32_45
  let v69 : BitVec 32 := Scalar.extui v68
  let c0_i32_46 : BitVec 32 := 0#32
  let v70 : BitVec 1 := Scalar.cmpi .ne v69 c0_i32_46
  v70

def k0_dev35 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_314 : BitVec 32 := 1#32
  let v573 : BitVec 32 := Scalar.subi v2 c1_i32_314
  let c1_i32_318 : BitVec 32 := 1#32
  let v574 : BitVec 32 := Scalar.muli v573 c1_i32_318
  let v575 : BitVec 32 := Scalar.addi c0_i32_319 v574
  v575.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_47 : BitVec 32 := 0#32
  let v71 : BitVec 1 := Scalar.cmpi .eq v2 c0_i32_47
  let v72 : BitVec 32 := Scalar.extui v71
  let c0_i32_48 : BitVec 32 := 0#32
  let v73 : BitVec 1 := Scalar.cmpi .ne v72 c0_i32_48
  v73

def k0_dev36 : Nat :=
  let c0_i32_317 : BitVec 32 := 0#32
  let c15_i32_315 : BitVec 32 := 15#32
  let c1_i32_316 : BitVec 32 := 1#32
  let v573 : BitVec 32 := Scalar.muli c15_i32_315 c1_i32_316
  let v574 : BitVec 32 := Scalar.addi c0_i32_317 v573
  v574.toNat
def k0_dev37 : Nat :=
  let c0_i32_321 : BitVec 32 := 0#32
  let c14_i32_319 : BitVec 32 := 14#32
  let c1_i32_320 : BitVec 32 := 1#32
  let v579 : BitVec 32 := Scalar.muli c14_i32_319 c1_i32_320
  let v580 : BitVec 32 := Scalar.addi c0_i32_321 v579
  v580.toNat
def k0_dev38 : Nat :=
  let c0_i32_325 : BitVec 32 := 0#32
  let c13_i32_323 : BitVec 32 := 13#32
  let c1_i32_324 : BitVec 32 := 1#32
  let v585 : BitVec 32 := Scalar.muli c13_i32_323 c1_i32_324
  let v586 : BitVec 32 := Scalar.addi c0_i32_325 v585
  v586.toNat
def k0_dev39 : Nat :=
  let c0_i32_329 : BitVec 32 := 0#32
  let c12_i32_327 : BitVec 32 := 12#32
  let c1_i32_328 : BitVec 32 := 1#32
  let v591 : BitVec 32 := Scalar.muli c12_i32_327 c1_i32_328
  let v592 : BitVec 32 := Scalar.addi c0_i32_329 v591
  v592.toNat
def k0_dev40 : Nat :=
  let c0_i32_333 : BitVec 32 := 0#32
  let c11_i32_331 : BitVec 32 := 11#32
  let c1_i32_332 : BitVec 32 := 1#32
  let v597 : BitVec 32 := Scalar.muli c11_i32_331 c1_i32_332
  let v598 : BitVec 32 := Scalar.addi c0_i32_333 v597
  v598.toNat
def k0_dev41 : Nat :=
  let c0_i32_337 : BitVec 32 := 0#32
  let c10_i32_335 : BitVec 32 := 10#32
  let c1_i32_336 : BitVec 32 := 1#32
  let v603 : BitVec 32 := Scalar.muli c10_i32_335 c1_i32_336
  let v604 : BitVec 32 := Scalar.addi c0_i32_337 v603
  v604.toNat
def k0_dev42 : Nat :=
  let c0_i32_341 : BitVec 32 := 0#32
  let c9_i32_339 : BitVec 32 := 9#32
  let c1_i32_340 : BitVec 32 := 1#32
  let v609 : BitVec 32 := Scalar.muli c9_i32_339 c1_i32_340
  let v610 : BitVec 32 := Scalar.addi c0_i32_341 v609
  v610.toNat
def k0_dev43 : Nat :=
  let c0_i32_345 : BitVec 32 := 0#32
  let c8_i32_343 : BitVec 32 := 8#32
  let c1_i32_344 : BitVec 32 := 1#32
  let v615 : BitVec 32 := Scalar.muli c8_i32_343 c1_i32_344
  let v616 : BitVec 32 := Scalar.addi c0_i32_345 v615
  v616.toNat
def k0_dev44 : Nat :=
  let c0_i32_349 : BitVec 32 := 0#32
  let c7_i32_347 : BitVec 32 := 7#32
  let c1_i32_348 : BitVec 32 := 1#32
  let v621 : BitVec 32 := Scalar.muli c7_i32_347 c1_i32_348
  let v622 : BitVec 32 := Scalar.addi c0_i32_349 v621
  v622.toNat
def k0_dev45 : Nat :=
  let c0_i32_353 : BitVec 32 := 0#32
  let c6_i32_351 : BitVec 32 := 6#32
  let c1_i32_352 : BitVec 32 := 1#32
  let v627 : BitVec 32 := Scalar.muli c6_i32_351 c1_i32_352
  let v628 : BitVec 32 := Scalar.addi c0_i32_353 v627
  v628.toNat
def k0_dev46 : Nat :=
  let c0_i32_357 : BitVec 32 := 0#32
  let c5_i32_355 : BitVec 32 := 5#32
  let c1_i32_356 : BitVec 32 := 1#32
  let v633 : BitVec 32 := Scalar.muli c5_i32_355 c1_i32_356
  let v634 : BitVec 32 := Scalar.addi c0_i32_357 v633
  v634.toNat
def k0_dev47 : Nat :=
  let c0_i32_361 : BitVec 32 := 0#32
  let c4_i32_359 : BitVec 32 := 4#32
  let c1_i32_360 : BitVec 32 := 1#32
  let v639 : BitVec 32 := Scalar.muli c4_i32_359 c1_i32_360
  let v640 : BitVec 32 := Scalar.addi c0_i32_361 v639
  v640.toNat
def k0_dev48 : Nat :=
  let c0_i32_366 : BitVec 32 := 0#32
  let c3_i32_364 : BitVec 32 := 3#32
  let c1_i32_365 : BitVec 32 := 1#32
  let v645 : BitVec 32 := Scalar.muli c3_i32_364 c1_i32_365
  let v646 : BitVec 32 := Scalar.addi c0_i32_366 v645
  v646.toNat
def k0_dev49 : Nat :=
  let c0_i32_371 : BitVec 32 := 0#32
  let c2_i32_369 : BitVec 32 := 2#32
  let c1_i32_370 : BitVec 32 := 1#32
  let v651 : BitVec 32 := Scalar.muli c2_i32_369 c1_i32_370
  let v652 : BitVec 32 := Scalar.addi c0_i32_371 v651
  v652.toNat
def k0_dev50 : Nat :=
  let c0_i32_376 : BitVec 32 := 0#32
  let c1_i32_374 : BitVec 32 := 1#32
  let c1_i32_375 : BitVec 32 := 1#32
  let v657 : BitVec 32 := Scalar.muli c1_i32_374 c1_i32_375
  let v658 : BitVec 32 := Scalar.addi c0_i32_376 v657
  v658.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_171 : BitVec 32 := 0#32
  let v289 : BitVec 1 := Scalar.cmpi .ne v2 c0_i32_171
  let v290 : BitVec 32 := Scalar.extui v289
  let c0_i32_172 : BitVec 32 := 0#32
  let v291 : BitVec 1 := Scalar.cmpi .ne v290 c0_i32_172
  v291

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_315 : BitVec 32 := 1#32
  let v574 : BitVec 32 := Scalar.subi v2 c1_i32_315
  ![v574.toNat]
def k0_off2 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_314 : BitVec 32 := 1#32
  let v573 : BitVec 32 := Scalar.subi v2 c1_i32_314
  let c0_i32_320 : BitVec 32 := 0#32
  let c0_i32_321 : BitVec 32 := 0#32
  let c0_i32_322 : BitVec 32 := 0#32
  ![v573.toNat, 0, 0, 0]
def k0_dev51 : Nat :=
  let c0_i32_319 : BitVec 32 := 0#32
  let c0_i32_317 : BitVec 32 := 0#32
  let c1_i32_318 : BitVec 32 := 1#32
  let v575 : BitVec 32 := Scalar.muli c0_i32_317 c1_i32_318
  let v576 : BitVec 32 := Scalar.addi c0_i32_319 v575
  v576.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x2048x512 : Shape := ⟨3, ![2, 2048, 512]⟩
abbrev S512x256 : Shape := ⟨2, ![512, 256]⟩
abbrev S2x2048x256 : Shape := ⟨3, ![2, 2048, 256]⟩
abbrev S256x512 : Shape := ⟨2, ![256, 512]⟩
abbrev S2x2048x4x64 : Shape := ⟨4, ![2, 2048, 4, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2x4x2048x2048 : Shape := ⟨4, ![2, 4, 2048, 2048]⟩
abbrev S1x1x2048x2048 : Shape := ⟨4, ![1, 1, 2048, 2048]⟩
abbrev S2x4x2048 : Shape := ⟨3, ![2, 4, 2048]⟩
abbrev S2x4x2048x1 : Shape := ⟨4, ![2, 4, 2048, 1]⟩
abbrev S1x1x2048x1 : Shape := ⟨4, ![1, 1, 2048, 1]⟩
abbrev S2x4x64x2048 : Shape := ⟨4, ![2, 4, 64, 2048]⟩

abbrev nBuf : Space → Nat
  | .hbm => 69
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S512x256, .f32⟩
  | .hbm, ⟨2, _⟩ => ⟨S2x2048x256, .f32⟩
  | .hbm, ⟨3, _⟩ => ⟨S2x2048x256, .f32⟩
  | .hbm, ⟨4, _⟩ => ⟨S256x512, .f32⟩
  | .hbm, ⟨5, _⟩ => ⟨S2x2048x4x64, .f32⟩
  | .hbm, ⟨6, _⟩ => ⟨S2x2048x4x64, .f32⟩
  | .hbm, ⟨7, _⟩ => ⟨S2x2048x256, .f32⟩
  | .hbm, ⟨8, _⟩ => ⟨S2x2048x4x64, .f32⟩
  | .hbm, ⟨9, _⟩ => ⟨S2048, .i32⟩
  | .hbm, ⟨10, _⟩ => ⟨S2048x1, .i32⟩
  | .hbm, ⟨11, _⟩ => ⟨S2048, .i32⟩
  | .hbm, ⟨12, _⟩ => ⟨S1x2048, .i32⟩
  | .hbm, ⟨13, _⟩ => ⟨S2048x2048, .i32⟩
  | .hbm, ⟨14, _⟩ => ⟨S2048x2048, .i32⟩
  | .hbm, ⟨15, _⟩ => ⟨S2048x2048, .i32⟩
  | .hbm, ⟨16, _⟩ => ⟨S2048x2048, .i32⟩
  | .hbm, ⟨17, _⟩ => ⟨S_, .i32⟩
  | .hbm, ⟨18, _⟩ => ⟨S2048x2048, .i32⟩
  | .hbm, ⟨19, _⟩ => ⟨S2048x2048, .i1⟩
  | .hbm, ⟨20, _⟩ => ⟨S_, .i32⟩
  | .hbm, ⟨21, _⟩ => ⟨S1x2048, .i32⟩
  | .hbm, ⟨22, _⟩ => ⟨S1x2048, .i1⟩
  | .hbm, ⟨23, _⟩ => ⟨S_, .i32⟩
  | .hbm, ⟨24, _⟩ => ⟨S2048x1, .i32⟩
  | .hbm, ⟨25, _⟩ => ⟨S2048x1, .i1⟩
  | .hbm, ⟨26, _⟩ => ⟨S2048x2048, .i1⟩
  | .hbm, ⟨27, _⟩ => ⟨S2048x2048, .i1⟩
  | .hbm, ⟨28, _⟩ => ⟨S2048x2048, .i1⟩
  | .hbm, ⟨29, _⟩ => ⟨S2048x2048, .i1⟩
  | .hbm, ⟨30, _⟩ => ⟨S2x4x2048x2048, .f32⟩
  | .hbm, ⟨31, _⟩ => ⟨S_, .f32⟩
  | .hbm, ⟨32, _⟩ => ⟨S2x4x2048x2048, .f32⟩
  | .hbm, ⟨33, _⟩ => ⟨S2x4x2048x2048, .f32⟩
  | .hbm, ⟨34, _⟩ => ⟨S1x1x2048x2048, .i1⟩
  | .hbm, ⟨35, _⟩ => ⟨S_, .f32⟩
  | .hbm, ⟨36, _⟩ => ⟨S_, .f32⟩
  | .hbm, ⟨37, _⟩ => ⟨S2x4x2048x2048, .i1⟩
  | .hbm, ⟨38, _⟩ => ⟨S2x4x2048x2048, .f32⟩
  | .hbm, ⟨39, _⟩ => ⟨S2x4x2048x2048, .f32⟩
  | .hbm, ⟨40, _⟩ => ⟨S_, .f32⟩
  | .hbm, ⟨41, _⟩ => ⟨S2x4x2048, .f32⟩
  | .hbm, ⟨42, _⟩ => ⟨S2x4x2048x1, .f32⟩
  | .hbm, ⟨43, _⟩ => ⟨S2x4x2048x2048, .f32⟩
  | .hbm, ⟨44, _⟩ => ⟨S2x4x2048x2048, .f32⟩
  | .hbm, ⟨45, _⟩ => ⟨S2x4x2048x2048, .f32⟩
  | .hbm, ⟨46, _⟩ => ⟨S_, .i1⟩
  | .hbm, ⟨47, _⟩ => ⟨S2048, .i1⟩
  | .hbm, ⟨48, _⟩ => ⟨S1x1x2048x1, .i1⟩
  | .hbm, ⟨49, _⟩ => ⟨S_, .f32⟩
  | .hbm, ⟨50, _⟩ => ⟨S2x4x2048, .f32⟩
  | .hbm, ⟨51, _⟩ => ⟨S2x4x2048x1, .f32⟩
  | .hbm, ⟨52, _⟩ => ⟨S_, .f32⟩
  | .hbm, ⟨53, _⟩ => ⟨S_, .f32⟩
  | .hbm, ⟨54, _⟩ => ⟨S2x4x2048x1, .i1⟩
  | .hbm, ⟨55, _⟩ => ⟨S2x4x2048x1, .f32⟩
  | .hbm, ⟨56, _⟩ => ⟨S2x4x2048x1, .f32⟩
  | .hbm, ⟨57, _⟩ => ⟨S2x4x2048x2048, .f32⟩
  | .hbm, ⟨58, _⟩ => ⟨S2x4x2048x2048, .f32⟩
  | .hbm, ⟨59, _⟩ => ⟨S1x1x2048x1, .i1⟩
  | .hbm, ⟨60, _⟩ => ⟨S_, .f32⟩
  | .hbm, ⟨61, _⟩ => ⟨S_, .f32⟩
  | .hbm, ⟨62, _⟩ => ⟨S2x4x2048x2048, .i1⟩
  | .hbm, ⟨63, _⟩ => ⟨S2x4x2048x2048, .f32⟩
  | .hbm, ⟨64, _⟩ => ⟨S2x4x2048x2048, .f32⟩
  | .hbm, ⟨65, _⟩ => ⟨S2x4x64x2048, .f32⟩
  | .hbm, ⟨66, _⟩ => ⟨S2x2048x4x64, .f32⟩
  | .hbm, ⟨67, _⟩ => ⟨S2x2048x256, .f32⟩
  | .hbm, ⟨68, _⟩ => ⟨S2x2048x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Proof.Cells.lean ====
/-
# 01_k — the cells of the exchange, who pays each of them, and what is on the way

Sixteen devices in a row. Every device has one barrier cell and fifty-two transfer cells. A cell's duties are named by
the device that pays them: a barrier cell is paid by each device that announces a free landing buffer, a transfer cell
by the device that started the transfer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

/-- The exchange's own ghost state: rounds whose duties are named by devices. -/
abbrev UB : Type := URounds (GSem nD τ sig) (Dev nD)
abbrev UU : Type := UR sig nD τ × UB

abbrev EP : Emb (UR sig nD τ) (MT nD τ sig Unit (Elt F) ℕ UU ℕ) := embL
abbrev ER : Emb UB (MT nD τ sig Unit (Elt F) ℕ UU ℕ) := embR

local notation "𝕄" => MT nD τ sig Unit (Elt F) ℕ UU ℕ

/-! ## The buffers and the cells -/

abbrev kvM : Memref sig .tc .vmem S2x128x512 .bf16 := Memref.whole cc0_scratch0
abbrev hbM : Memref sig .tc .vmem S2x2x128x512 .bf16 := Memref.whole cc0_scratch1
abbrev gqM : Memref sig .tc .vmem S2x32x256 .bf16 := Memref.whole cc0_scratch2
abbrev gkM : Memref sig .tc .vmem S2x2x32x256 .bf16 := Memref.whole cc0_scratch3
abbrev pwM : Memref sig .tc .vmem S2x32x384 .bf16 := Memref.whole cc0_scratch4
abbrev ppM : Memref sig .tc .vmem S15x2x32x384 .bf16 := Memref.whole cc0_scratch5

/-- The runtime's barrier semaphore. -/
abbrev barS : Sem sig := (SemArray.scalar (sig.barrier 0 rfl) : Sems sig S_).sem

/-- The launch's own semaphores: the fifty-two transfer semaphores after the six the staging uses. -/
def osem (k : Fin 52) : SemLoc sig := .dma (⟨k.val + 6, by have := k.isLt; show k.val + 6 < 58; omega⟩ : Fin 58)
/-- All the semaphores of the exchange: the barrier, then the launch's own. -/
def csem (k : Fin 53) : SemLoc sig := Fin.cases (.reg barS) osem k
/-- The cell of semaphore `k` on device `c`. -/
abbrev kcell (p : Dev nD × Fin 53) : GSem nD τ sig := ((p.1 : Thread nD τ), csem p.2)

/-- The index of a semaphore of the exchange (99 for a staging semaphore). -/
def kk : SemLoc sig → ℕ
  | .reg _ => 0
  | .dma s => if s.val < 6 then 99 else s.val - 5

theorem kk_csem (k : Fin 53) : kk (csem k) = k.val := by revert k; decide

theorem csem_injective : Function.Injective csem := fun a b h => Fin.ext (by rw [← kk_csem a, ← kk_csem b, h])

theorem kcell_injective : Function.Injective (kcell : Dev nD × Fin 53 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! Names of the cells' indices: the halo transfers to the right and to the left (sent, received), the global queries
(sent to device `j + 1`, received), the global keys and values (likewise), the partial results (sent, received from
device `j + 1`). -/
abbrev khs0 : Fin 53 := 1
abbrev khs1 : Fin 53 := 2
abbrev khr0 : Fin 53 := 3
abbrev khr1 : Fin 53 := 4
def kgqs (j : Fin 15) : Fin 53 := ⟨5 + j.val, by have := j.isLt; omega⟩
abbrev kgqr : Fin 53 := 20
def kgks (j : Fin 15) : Fin 53 := ⟨21 + j.val, by have := j.isLt; omega⟩
abbrev kgkr : Fin 53 := 36
abbrev kps : Fin 53 := 37
def kpr (j : Fin 15) : Fin 53 := ⟨38 + j.val, by have := j.isLt; omega⟩

/-! ## Who pays what -/

/-- Does device `d` pay a duty of cell `k` of device `c`? -/
def pays (d c : Dev nD) (k : ℕ) : Bool :=
  if k = 0 then (decide (d.val = 0 ∧ c.val ≠ 0) || decide (d.val ≠ 0 ∧ c.val = 0) || decide (d.val = c.val + 1 ∧ 1 ≤ c.val)
    || decide (d.val + 1 = c.val ∧ 2 ≤ c.val))
  else if k = 1 then decide (d = c ∧ c.val < 15)
  else if k = 2 then decide (d = c ∧ 0 < c.val)
  else if k = 3 then decide (d.val + 1 = c.val)
  else if k = 4 then decide (d.val = c.val + 1)
  else if k < 20 then decide (d = c ∧ c.val = 0)
  else if k = 20 then decide (d.val = 0 ∧ c.val ≠ 0)
  else if k < 36 then decide (d = c ∧ c.val = 0)
  else if k = 36 then decide (d.val = 0 ∧ c.val ≠ 0)
  else if k = 37 then decide (d = c ∧ c.val ≠ 0)
  else if k < 53 then decide (c.val = 0 ∧ d.val + 37 = k)
  else false

/-- The units one duty of cell `k` pays: one at the barrier, the transferred block's credit at a transfer cell. -/
def NH : ℕ := (kvM : Memref sig .tc .vmem S2x128x512 .bf16).view.dmaCredit
def NQ : ℕ := (gqM : Memref sig .tc .vmem S2x32x256 .bf16).view.dmaCredit
def NK : ℕ := (gkM : Memref sig .tc .vmem S2x2x32x256 .bf16).view.dmaCredit
def NP : ℕ := (pwM : Memref sig .tc .vmem S2x32x384 .bf16).view.dmaCredit

def amt (k : ℕ) : ℕ := if k = 0 then 1 else if k ≤ 4 then NH else if k ≤ 20 then NQ else if k ≤ 36 then NK else NP

theorem amt_pos (k : ℕ) : 0 < amt k := by
  unfold amt NH NQ NK NP
  (repeat' split) <;> first | exact Nat.one_pos | exact View.dmaCredit_pos _ (by decide)

/-! ## Contents -/

/-- What the six scratch buffers hold once written: the device's own keys and values, the global rows' queries, keys and
    values, the device's own partial results. The landing buffers' contents are made of these. -/
structure Cont (F : FTy → Type) where
  kv : Dev nD → (cc0_scratch0 : Ref sig .tc).ty.Contents (Elt F)
  gq : (cc0_scratch2 : Ref sig .tc).ty.Contents (Elt F)
  gk : (cc0_scratch3 : Ref sig .tc).ty.Contents (Elt F)
  pw : Dev nD → (cc0_scratch4 : Ref sig .tc).ty.Contents (Elt F)
  z0 : (cc0_scratch0 : Ref sig .tc).ty.Contents (Elt F)
  z1 : (cc0_scratch0 : Ref sig .tc).ty.Contents (Elt F)

/-- The last three coordinates of an index of a landing buffer. -/
def tlH (i : S2x2x128x512.Idx) : S2x128x512.Idx := fun | 0 => i 1 | 1 => i 2 | 2 => i 3
def tlP (i : S15x2x32x384.Idx) : S2x32x384.Idx := fun | 0 => i 1 | 1 => i 2 | 2 => i 3

namespace Cont
variable (C : Cont F)

/-- What device `c`'s lower halo slot receives: the previous device's block, zero on the first device. -/
def lo (c : Dev nD) : (cc0_scratch0 : Ref sig .tc).ty.Contents (Elt F) := if h : c.val = 0 then C.z0 else C.kv ⟨c.val - 1, by have := c.isLt; omega⟩
/-- What device `c`'s upper halo slot receives: the next device's block, zero on the last device. -/
def hi (c : Dev nD) : (cc0_scratch0 : Ref sig .tc).ty.Contents (Elt F) := if h : c.val < 15 then C.kv ⟨c.val + 1, by show c.val + 1 < 16; omega⟩ else C.z1

/-- The halo buffer of device `c`. -/
def halo (c : Dev nD) : (cc0_scratch1 : Ref sig .tc).ty.Contents (Elt F) :=
  fun (i : S2x2x128x512.Idx) => if (i 0).val = 0 then C.lo c (tlH i) else C.hi c (tlH i)

/-- The collected partial results on the first device: slot `j` is device `j + 1`'s. -/
def pp : (cc0_scratch5 : Ref sig .tc).ty.Contents (Elt F) :=
  fun (i : S15x2x32x384.Idx) => C.pw ⟨(i 0).val + 1, by have := (i 0).isLt; show _ < 16; change (i 0).val < 15 at this; omega⟩ (tlP i)

theorem lo_succ {c c' : Dev nD} (h : c.val + 1 = c'.val) : C.lo c' = C.kv c := by
  unfold lo; rw [dif_neg (by omega)]; congr 1; exact Fin.ext (by simp only; omega)
theorem hi_pred {c c' : Dev nD} (h : c.val = c'.val + 1) : C.hi c' = C.kv c := by
  have := c.isLt; change c.val < 16 at this
  unfold hi; rw [dif_pos (by omega)]; congr 1; exact Fin.ext h.symm

end Cont

/-! ## Slots of the landing buffers -/

abbrev hb0 : Memref sig .tc .vmem S2x128x512 .bf16 :=
  (hbM.slice (Rect.unit (s := S2x2x128x512) ![0, 0, 0, 0] S1x2x128x512.size inb_S2x2x128x512_S1x2x128x512_0_0_0_0) (fun _ => rfl)).squeeze S2x128x512 squeezes_S1x2x128x512_S2x128x512
abbrev hb1 : Memref sig .tc .vmem S2x128x512 .bf16 :=
  (hbM.slice (Rect.unit (s := S2x2x128x512) ![1, 0, 0, 0] S1x2x128x512.size inb_S2x2x128x512_S1x2x128x512_1_0_0_0) (fun _ => rfl)).squeeze S2x128x512 squeezes_S1x2x128x512_S2x128x512

theorem pp_inb (j : Fin 15) : ∀ a, (![j.val, 0, 0, 0] : Fin 4 → ℕ) a + S1x2x32x384.size a ≤ S15x2x32x384.size a := by revert j; decide

abbrev pps (j : Fin 15) : Memref sig .tc .vmem S2x32x384 .bf16 :=
  (ppM.slice (Rect.unit (s := S15x2x32x384) ![j.val, 0, 0, 0] S1x2x32x384.size (pp_inb j)) (fun _ => rfl)).squeeze S2x32x384 squeezes_S1x2x32x384_S2x32x384

/-- The elements of one slot of the halo buffer, and of the collected partial results. -/
def hset (s : Fin 2) : Finset S2x2x128x512.Idx := Finset.univ.filter fun i => (i 0).val = s.val
def pset (j : Fin 15) : Finset S15x2x32x384.Idx := Finset.univ.filter fun i => (i 0).val = j.val

theorem hb0_set : (hb0).view.set = hset 0 := by
  refine (View.set_reshape _ _).trans ?_
  rw [View.set_slice_whole]
  ext i
  rw [Rect.mem_set_unit, hset, Finset.mem_filter]
  have h1 : (i 1).val < 2 := (i 1).isLt; have h2 : (i 2).val < 128 := (i 2).isLt; have h3 : (i 3).val < 512 := (i 3).isLt
  constructor
  · intro h; have h0 : (i 0).val < 0 + 1 := (h 0).2; exact ⟨Finset.mem_univ _, by show (i 0).val = 0; omega⟩
  · rintro ⟨-, h⟩ a
    have h : (i 0).val = 0 := h
    fin_cases a
    · show 0 ≤ (i 0).val ∧ (i 0).val < 0 + 1; omega
    · show 0 ≤ (i 1).val ∧ (i 1).val < 0 + 2; omega
    · show 0 ≤ (i 2).val ∧ (i 2).val < 0 + 128; omega
    · show 0 ≤ (i 3).val ∧ (i 3).val < 0 + 512; omega
theorem hb1_set : (hb1).view.set = hset 1 := by
  refine (View.set_reshape _ _).trans ?_
  rw [View.set_slice_whole]
  ext i
  rw [Rect.mem_set_unit, hset, Finset.mem_filter]
  have h1 : (i 1).val < 2 := (i 1).isLt; have h2 : (i 2).val < 128 := (i 2).isLt; have h3 : (i 3).val < 512 := (i 3).isLt
  constructor
  · intro h; have h0 : 1 ≤ (i 0).val ∧ (i 0).val < 1 + 1 := h 0; exact ⟨Finset.mem_univ _, by show (i 0).val = 1; omega⟩
  · rintro ⟨-, h⟩ a
    have h : (i 0).val = 1 := h
    fin_cases a
    · show 1 ≤ (i 0).val ∧ (i 0).val < 1 + 1; omega
    · show 0 ≤ (i 1).val ∧ (i 1).val < 0 + 2; omega
    · show 0 ≤ (i 2).val ∧ (i 2).val < 0 + 128; omega
    · show 0 ≤ (i 3).val ∧ (i 3).val < 0 + 512; omega
theorem pps_set (j : Fin 15) : (pps j).view.set = pset j := by
  refine (View.set_reshape _ _).trans ?_
  rw [View.set_slice_whole]
  ext i
  rw [Rect.mem_set_unit, pset, Finset.mem_filter]
  have h1 : (i 1).val < 2 := (i 1).isLt; have h2 : (i 2).val < 32 := (i 2).isLt; have h3 : (i 3).val < 384 := (i 3).isLt
  constructor
  · intro h; have h0 : j.val ≤ (i 0).val ∧ (i 0).val < j.val + 1 := h 0; exact ⟨Finset.mem_univ _, by show (i 0).val = j.val; omega⟩
  · rintro ⟨-, h⟩ a
    have h : (i 0).val = j.val := h
    fin_cases a
    · show j.val ≤ (i 0).val ∧ (i 0).val < j.val + 1; omega
    · show 0 ≤ (i 1).val ∧ (i 1).val < 0 + 2; omega
    · show 0 ≤ (i 2).val ∧ (i 2).val < 0 + 32; omega
    · show 0 ≤ (i 3).val ∧ (i 3).val < 0 + 384; omega

/-! ## What a transfer into a slot leaves there -/

/-- Element `x` of a halo slot sits at slot, then `x`. -/
theorem hb0_emb (x : S2x128x512.Idx) (a : Fin 4) : ((hb0.view.emb x : S2x2x128x512.Idx) a).val = (![0, (x 0).val, (x 1).val, (x 2).val] : Fin 4 → ℕ) a := by
  have h : Shape.reshapeEquiv (s := S1x2x128x512) (s' := S2x128x512) (Shape.Squeezes.numel_eq squeezes_S1x2x128x512_S2x128x512) x = Fin.cons ⟨0, Nat.one_pos⟩ x :=
    Shape.reshapeEquiv_cons_one (d := ![2, 128, 512]) _ x
  show ![0, 0, 0, 0] a + 1 * (Shape.reshapeEquiv (s := S1x2x128x512) (s' := S2x128x512) (Shape.Squeezes.numel_eq squeezes_S1x2x128x512_S2x128x512) x a).val = _
  rw [h]; fin_cases a
  · show 0 + 1 * 0 = 0; omega
  · show 0 + 1 * (x 0).val = (x 0).val; omega
  · show 0 + 1 * (x 1).val = (x 1).val; omega
  · show 0 + 1 * (x 2).val = (x 2).val; omega
theorem hb1_emb (x : S2x128x512.Idx) (a : Fin 4) : ((hb1.view.emb x : S2x2x128x512.Idx) a).val = (![1, (x 0).val, (x 1).val, (x 2).val] : Fin 4 → ℕ) a := by
  have h : Shape.reshapeEquiv (s := S1x2x128x512) (s' := S2x128x512) (Shape.Squeezes.numel_eq squeezes_S1x2x128x512_S2x128x512) x = Fin.cons ⟨0, Nat.one_pos⟩ x :=
    Shape.reshapeEquiv_cons_one (d := ![2, 128, 512]) _ x
  show ![1, 0, 0, 0] a + 1 * (Shape.reshapeEquiv (s := S1x2x128x512) (s' := S2x128x512) (Shape.Squeezes.numel_eq squeezes_S1x2x128x512_S2x128x512) x a).val = _
  rw [h]; fin_cases a
  · show 1 + 1 * 0 = 1; omega
  · show 0 + 1 * (x 0).val = (x 0).val; omega
  · show 0 + 1 * (x 1).val = (x 1).val; omega
  · show 0 + 1 * (x 2).val = (x 2).val; omega
theorem pps_emb (j : Fin 15) (x : S2x32x384.Idx) (a : Fin 4) : (((pps j).view.emb x : S15x2x32x384.Idx) a).val = (![j.val, (x 0).val, (x 1).val, (x 2).val] : Fin 4 → ℕ) a := by
  have h : Shape.reshapeEquiv (s := S1x2x32x384) (s' := S2x32x384) (Shape.Squeezes.numel_eq squeezes_S1x2x32x384_S2x32x384) x = Fin.cons ⟨0, Nat.one_pos⟩ x :=
    Shape.reshapeEquiv_cons_one (d := ![2, 32, 384]) _ x
  show ![j.val, 0, 0, 0] a + 1 * (Shape.reshapeEquiv (s := S1x2x32x384) (s' := S2x32x384) (Shape.Squeezes.numel_eq squeezes_S1x2x32x384_S2x32x384) x a).val = _
  rw [h]; fin_cases a
  · show j.val + 1 * 0 = j.val; omega
  · show 0 + 1 * (x 0).val = (x 0).val; omega
  · show 0 + 1 * (x 1).val = (x 1).val; omega
  · show 0 + 1 * (x 2).val = (x 2).val; omega

/-- A block written whole into the lower halo slot of the next device is what that device's halo buffer holds there. -/
theorem hb0_landed (C : Cont F) {c c' : Dev nD} (h : c.val + 1 = c'.val) (fd : (cc0_scratch1 : Ref sig .tc).ty.Contents (Elt F)) :
    ∀ i ∈ hb0.view.set, hb0.view.write (Elt F) fd (kvM.view.read (Elt F) (C.kv c)) Finset.univ i = C.halo c' i := by
  intro i hi
  obtain ⟨x, -, rfl⟩ := Finset.mem_map.mp hi
  rw [View.write_emb_of_mem _ _ (Finset.mem_univ x)]
  show C.kv c x = C.halo c' (hb0.view.emb x)
  have h0 := hb0_emb x 0
  refine Eq.trans ?_ (if_pos h0).symm
  rw [C.lo_succ h]
  congr 1; funext a
  have h1 := hb0_emb x 1; have h2 := hb0_emb x 2; have h3 := hb0_emb x 3
  fin_cases a
  · exact Fin.ext h1.symm
  · exact Fin.ext h2.symm
  · exact Fin.ext h3.symm
theorem hb1_landed (C : Cont F) {c c' : Dev nD} (h : c.val = c'.val + 1) (fd : (cc0_scratch1 : Ref sig .tc).ty.Contents (Elt F)) :
    ∀ i ∈ hb1.view.set, hb1.view.write (Elt F) fd (kvM.view.read (Elt F) (C.kv c)) Finset.univ i = C.halo c' i := by
  intro i hi
  obtain ⟨x, -, rfl⟩ := Finset.mem_map.mp hi
  rw [View.write_emb_of_mem _ _ (Finset.mem_univ x)]
  show C.kv c x = C.halo c' (hb1.view.emb x)
  have h0 := hb1_emb x 0
  refine Eq.trans ?_ (if_neg (fun e => Nat.one_ne_zero (h0.symm.trans e))).symm
  rw [C.hi_pred h]
  congr 1; funext a
  have h1 := hb1_emb x 1; have h2 := hb1_emb x 2; have h3 := hb1_emb x 3
  fin_cases a
  · exact Fin.ext h1.symm
  · exact Fin.ext h2.symm
  · exact Fin.ext h3.symm
theorem pps_landed (C : Cont F) {c : Dev nD} {j : Fin 15} (h : c.val = j.val + 1) (fd : (cc0_scratch5 : Ref sig .tc).ty.Contents (Elt F)) :
    ∀ i ∈ (pps j).view.set, (pps j).view.write (Elt F) fd (pwM.view.read (Elt F) (C.pw c)) Finset.univ i = C.pp i := by
  intro i hi
  obtain ⟨x, -, rfl⟩ := Finset.mem_map.mp hi
  rw [View.write_emb_of_mem _ _ (Finset.mem_univ x)]
  show C.pw c x = C.pp ((pps j).view.emb x)
  have h0 := pps_emb j x 0
  have h1 := pps_emb j x 1; have h2 := pps_emb j x 2; have h3 := pps_emb j x 3
  unfold Cont.pp
  congr 1
  · congr 1; exact Fin.ext (by simp only; rw [h0]; exact h)
  funext a
  fin_cases a
  · exact Fin.ext h1.symm
  · exact Fin.ext h2.symm
  · exact Fin.ext h3.symm

end Cert.Exchange

end
-- ==== Proof.Schedule.lean ====
/-
# 01_k — the schedule of the exchange

One round. A barrier duty hands over the landing buffers the paying device announces; a transfer duty hands over what
the transfer moved (at the receiver) or read (at the sender).
-/
module

public import proofs.«01_k».proof.Proof.Cells

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

/-! ## Holdings -/

/-- Device `c` holds share `q` of the elements `S` of its buffer `b`, with contents `f`. -/
abbrev ptsOn (c : Dev nD) (b : Ref sig .tc) (S : Finset b.ty.Idx) (q : PosShare TreeShare) (f : b.ty.Contents (Elt F)) : sProp 𝕄 :=
  (((c : Thread nD τ).loc b) ↦[S]{q} (f : Buf (Elt F) ((c : Thread nD τ).loc b)))
abbrev pts (c : Dev nD) (b : Ref sig .tc) (q : PosShare TreeShare) (f : b.ty.Contents (Elt F)) : sProp 𝕄 :=
  (((c : Thread nD τ).loc b) ↦{q} (f : Buf (Elt F) ((c : Thread nD τ).loc b)))

/-- The share of a block that its `i`-th simultaneous transfer reads, and what is kept of `n` of them. -/
abbrev tok (i : ℕ) : PosShare TreeShare := Transfers.shareTokN fullShare i
abbrev kept (n : ℕ) : PosShare TreeShare := Transfers.shareDrop fullShare n

/-- Free landing buffers: a slot of the collected results on the first device, the global buffers, the halo slots. -/
def PP (c d : Dev nD) : sProp 𝕄 :=
  if h : d.val = 0 ∧ c.val ≠ 0 then iprop(∃ f, ptsOn d cc0_scratch5 (pset ⟨c.val - 1, by have := c.isLt; change c.val < 16 at this; omega⟩) fullShare f) else iprop(emp)
def GG (c d : Dev nD) : sProp 𝕄 :=
  if c.val = 0 ∧ d.val ≠ 0 then iprop((∃ f, pts d cc0_scratch2 fullShare f) ∗ (∃ f, pts d cc0_scratch3 fullShare f)) else iprop(emp)
def HL (c d : Dev nD) : sProp 𝕄 := if d.val + 1 = c.val then iprop(∃ f, ptsOn d cc0_scratch1 (hset 1) fullShare f) else iprop(emp)
def HR (c d : Dev nD) : sProp 𝕄 := if d.val = c.val + 1 then iprop(∃ f, ptsOn d cc0_scratch1 (hset 0) fullShare f) else iprop(emp)

/-- What device `d`'s barrier signal hands device `c`. -/
def barPay (c d : Dev nD) : sProp 𝕄 := iprop(PP c d ∗ GG c d ∗ HL c d ∗ HR c d)

variable (C : Cont F)

/-- What a transfer duty of cell `k` of device `c` hands over. -/
def xferPay (c : Dev nD) (k : ℕ) : sProp 𝕄 :=
  if k = 1 then pts c cc0_scratch0 (tok 0) (C.kv c)
  else if k = 2 then pts c cc0_scratch0 (tok 1) (C.kv c)
  else if k = 3 then ptsOn c cc0_scratch1 (hset 0) fullShare (C.halo c)
  else if k = 4 then ptsOn c cc0_scratch1 (hset 1) fullShare (C.halo c)
  else if k < 20 then pts c cc0_scratch2 (tok (k - 5)) C.gq
  else if k = 20 then pts c cc0_scratch2 fullShare C.gq
  else if k < 36 then pts c cc0_scratch3 (tok (k - 21)) C.gk
  else if k = 36 then pts c cc0_scratch3 fullShare C.gk
  else if k = 37 then pts c cc0_scratch4 fullShare (C.pw c)
  else if h : k - 38 < 15 then ptsOn c cc0_scratch5 (pset ⟨k - 38, h⟩) fullShare C.pp
  else iprop(emp)

/-- The schedule: round 0 only, on the TensorCores. -/
def sch : Rounds.Schedule (GSem nD τ sig) (Dev nD) 𝕄 where
  duties g r := if r = 0 ∧ g.1.2 = .tc then Finset.univ.filter (fun d => pays d g.1.1 (kk g.2) = true) else ∅
  unitless _ := False
  amount g _ _ := amt (kk g.2)
  payload g _ d := if kk g.2 = 0 then barPay g.1.1 d else xferPay C g.1.1 (kk g.2)
  amount_pos g _ _ _ := amt_pos _

instance PP_storable (c d) : BI.Storable (upEmb : UEmb _ 𝕄) (PP (F := F) c d) := by unfold PP; split <;> infer_instance
instance GG_storable (c d) : BI.Storable (upEmb : UEmb _ 𝕄) (GG (F := F) c d) := by unfold GG; split <;> infer_instance
instance HL_storable (c d) : BI.Storable (upEmb : UEmb _ 𝕄) (HL (F := F) c d) := by unfold HL; split <;> infer_instance
instance HR_storable (c d) : BI.Storable (upEmb : UEmb _ 𝕄) (HR (F := F) c d) := by unfold HR; split <;> infer_instance
instance barPay_storable (c d) : BI.Storable (upEmb : UEmb _ 𝕄) (barPay (F := F) c d) := by unfold barPay; infer_instance
instance xferPay_storable (c k) : BI.Storable (upEmb : UEmb _ 𝕄) (xferPay (F := F) C c k) := by
  unfold xferPay; (repeat' split) <;> infer_instance
instance sch_storable (g : GSem nD τ sig) (r : ℕ) (d : Dev nD) : BI.Storable (upEmb : UEmb _ 𝕄) ((sch (F := F) C).payload g r d) := by
  show BI.Storable upEmb (if kk g.2 = 0 then barPay g.1.1 d else xferPay C g.1.1 (kk g.2)); split <;> infer_instance

section Tables
variable (c : Dev nD) (k : Fin 53)

theorem duties_eq : (sch (F := F) C).duties (kcell (c, k)) 0 = Finset.univ.filter (fun d => pays d c k.val = true) := by
  dsimp only [sch]; rw [if_pos ⟨rfl, rfl⟩, kk_csem]
theorem mem_duties {d : Dev nD} (h : pays d c k.val = true) : d ∈ (sch (F := F) C).duties (kcell (c, k)) 0 := by
  rw [duties_eq]; exact Finset.mem_filter.mpr ⟨Finset.mem_univ _, h⟩
theorem duties_later (g : GSem nD τ sig) : ∀ r, 1 ≤ r → (sch (F := F) C).duties g r = ∅ :=
  fun r hr => by dsimp only [sch]; rw [if_neg fun h => by omega]
theorem amount_eq (d : Dev nD) : (sch (F := F) C).amount (kcell (c, k)) 0 d = amt k.val := by dsimp only [sch]; rw [kk_csem]
theorem payload_bar (d : Dev nD) : (sch (F := F) C).payload (kcell (c, 0)) 0 d = barPay c d := by
  dsimp only [sch]; rw [kk_csem]; exact if_pos rfl
theorem payload_xfer (d : Dev nD) (hk : k ≠ 0) : (sch (F := F) C).payload (kcell (c, k)) 0 d = xferPay C c k.val := by
  dsimp only [sch]; rw [kk_csem]; exact if_neg fun h => hk (Fin.ext h)
theorem expect_eq : (sch (F := F) C).expect (kcell (c, k)) 0 = (Finset.univ.filter (fun d : Dev nD => pays d c k.val = true)).card * amt k.val := by
  unfold Schedule.expect Schedule.amountOf
  rw [duties_eq, Finset.sum_congr rfl fun d _ => amount_eq C c k d, Finset.sum_const, smul_eq_mul]
end Tables

end Cert.Exchange

end
-- ==== Proof.Steps.lean ====
/-
# 01_k — one step of the exchange at a time

What a device owes, at which level each cell waits, and one rule for each kind of step: a barrier signal, a transfer
started, a wait.
-/
module

public import proofs.«01_k».proof.Proof.Schedule

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

/-! ## What is owed, and the levels -/

/-- What device `d` owes at the cells `k` of the devices `S`. -/
def OO (d : Dev nD) (k : Fin 53) (S : Finset (Dev nD)) : CellTallies nD τ sig Unit :=
  ∑ t ∈ S, if pays d t k.val = true then tallyAt (kcell (t, k)) () (amt k.val) else 0

/-- The levels: staging and departures 0, the barrier 1, the global queries 2, all else received 3. -/
def lvk (k : ℕ) : ℕ := if k = 0 then 1 else if k = 20 then 2 else if k = 3 ∨ k = 4 ∨ k = 36 ∨ (38 ≤ k ∧ k < 53) then 3 else 0

def L (g : GSem nD τ sig) : Finset Unit := if g.1.2 = .tc then {()} else ∅
def lv (g : GSem nD τ sig) (_ : Unit) : ℕ := lvk (kk g.2)

theorem L_of_ne (g : GSem nD τ sig) (h : g.1.2 ≠ .tc) : L g = ∅ := if_neg h
theorem L_tc (c : Dev nD) (sm : SemLoc sig) : L ((c : Thread nD τ), sm) = {()} := if_pos rfl

/-- Everything in `O` is owed at cells of level above `n`. -/
def Above (n : ℕ) (O : CellTallies nD τ sig Unit) : Prop := ∀ g u, 0 < O g u → ∃ t k, g = kcell (t, k) ∧ n < lvk k.val

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_OO {n : ℕ} (d : Dev nD) (k : Fin 53) (S : Finset (Dev nD)) (h : n < lvk k.val) : Above n (OO d k S) := by
  unfold OO
  induction S using Finset.induction_on with
  | empty => rw [Finset.sum_empty]; exact above_zero n
  | insert t S ht ih =>
    rw [Finset.sum_insert ht]
    refine above_add ?_ ih
    split
    · intro g u hg
      rw [tallyAt_apply] at hg
      by_cases hc : g = kcell (t, k) ∧ u = ()
      · exact ⟨t, k, hc.1, h⟩
      · rw [if_neg hc] at hg; exact absurd hg (Nat.lt_irrefl 0)
    · exact above_zero n

theorem OO_erase {d t : Dev nD} {k : Fin 53} {S : Finset (Dev nD)} (ht : t ∈ S) (h : pays d t k.val = true) :
    OO d k S = OO d k (S.erase t) + tallyAt (kcell (t, k)) () (amt k.val) := by
  unfold OO; rw [← Finset.sum_erase_add _ _ ht, if_pos h]
theorem OO_none {d : Dev nD} {k : Fin 53} {S : Finset (Dev nD)} (h : ∀ t ∈ S, pays d t k.val = false) : OO d k S = 0 :=
  Finset.sum_eq_zero fun t ht => by rw [h t ht]; rfl

theorem mayWait {k : Fin 53} {O : CellTallies nD τ sig Unit} (c : Dev nD) (h : Above (lvk k.val) O) :
    (levAts L lv : sProp 𝕄) ⊢ MayWait (c : Thread nD τ) (csem k) () O :=
  MayOwe.of_cut (L := L) (lev := lv) (lvk k.val) (fun p hp => by rw [Finset.mem_singleton.mp hp, L_tc]; exact Finset.mem_singleton_self _)
    (fun g u hg => by obtain ⟨t, k', rfl, -⟩ := h g u hg; exact Finset.mem_singleton_self _)
    (fun p hp => by rw [Finset.mem_singleton.mp hp]; show lvk (kk (csem k)) ≤ _; rw [kk_csem])
    (fun g u hg => by obtain ⟨t, k', rfl, h'⟩ := h g u hg; show _ < lvk (kk (csem k')); rw [kk_csem]; exact h')

variable (C : Cont F) (K : Dev nD × Fin 53 → ℕ)

/-- What every device knows throughout: every cell's invariant, that every cell has reached round 0, the levels. -/
def know : sProp 𝕄 :=
  iprop(bigSep Finset.univ (fun p => cellInv ER (sch (F := F) C) (K p) (kcell p)) ∗ bigSep Finset.univ (fun p : Dev nD × Fin 53 => reached (ER (F := F)) (kcell p) 0)
    ∗ (levAts L lv : sProp 𝕄))
instance know_persistent : BI.Persistent (know C K) := by unfold know; infer_instance

theorem rec_inv (p : Dev nD × Fin 53) : know C K ⊢ cellInv ER (sch (F := F) C) (K p) (kcell p) := by
  unfold know; iintro ⟨H, -, -⟩
  iapply (show bigSep Finset.univ (fun p => cellInv ER (sch (F := F) C) (K p) (kcell p)) ⊢ cellInv ER (sch (F := F) C) (K p) (kcell p) from bigSep_elim (Finset.mem_univ p))
  iexact H
theorem rec_reached (p : Dev nD × Fin 53) : know C K ⊢ reached (ER (F := F)) (kcell p) 0 := by
  unfold know; iintro ⟨-, H, -⟩
  iapply (show bigSep Finset.univ (fun p : Dev nD × Fin 53 => reached (ER (F := F)) (kcell p) 0) ⊢ reached (ER (F := F)) (kcell p) 0 from bigSep_elim (Finset.mem_univ p))
  iexact H
theorem rec_lev : know C K ⊢ (levAts L lv : sProp 𝕄) := by
  unfold know; iintro ⟨-, -, H⟩; iexact H

/-- Device `c` owes `O`, whatever it has waited for. -/
def ow (c : Dev nD) (O : CellTallies nD τ sig Unit) : sProp 𝕄 := iprop(∃ W, owes (c : Thread nD τ) O W)
/-- Device `d`'s tokens for the cells `k` of the devices `S`. -/
def TT (d : Dev nD) (k : Fin 53) (S : Finset (Dev nD)) : sProp 𝕄 :=
  bigSep S fun t => if pays d t k.val = true then dutyTok (ER (F := F)) (kcell (t, k)) 0 d else iprop(emp)
/-- What device `c` hands over with its signals to the devices `S`. -/
def give (c : Dev nD) (S : Finset (Dev nD)) : sProp 𝕄 := bigSep S fun t => if pays c t 0 = true then barPay t c else iprop(emp)

theorem TT_erase {d t : Dev nD} {k : Fin 53} {S : Finset (Dev nD)} (ht : t ∈ S) (h : pays d t k.val = true) :
    (TT d k S : sProp 𝕄) = iprop(dutyTok (ER (F := F)) (kcell (t, k)) 0 d ∗ TT d k (S.erase t)) := by
  unfold TT; rw [bigSep_erase ht, if_pos h]; rfl
theorem give_erase {c t : Dev nD} {S : Finset (Dev nD)} (ht : t ∈ S) (h : pays c t 0 = true) :
    (give c S : sProp 𝕄) = iprop(barPay t c ∗ give c (S.erase t)) := by
  unfold give; rw [bigSep_erase ht, if_pos h]; rfl

/-- Device `c` stands at the start of its cell `k`. -/
def at0 (c : Dev nD) (k : Fin 53) : sProp 𝕄 := atPos (ER (F := F)) (kcell (c, k)) 0 ∅ 0
/-- The credit of a transfer to come on cell `k` of device `c`. -/
def crd (c : Dev nD) (k : Fin 53) (n : ℕ) : sProp 𝕄 := cred (tallyAt (kcell (c, k)) () n)
/-- Cell `k` of device `c` is closed, its counter at zero. -/
def zer (c : Dev nD) (k : Fin 53) : sProp 𝕄 := semVal (kcell (c, k)) 0

variable [FloatOps F] [Named F]

abbrev 𝒱₀ : Variants := Variants.none

/-- A barrier signal from `c` to `t`. -/
theorem signal_step (c t : Dev nD) {S : Finset (Dev nD)} (ht : t ∈ S) (h : pays c t 0 = true) (O : CellTallies nD τ sig Unit)
    {n : ℕ} (hn : 1 = n) {α : Type} {Q : α → sProp 𝕄} {k : PUnit → Prog (TpuEff nD τ sig (Elt F) Λ₀ .tc) α} :
    iprop(know C K ∗ ow c (O + OO c 0 S) ∗ TT c 0 S ∗ give c S)
      ⊢ iprop(((ow c (O + OO c 0 (S.erase t)) ∗ TT c 0 (S.erase t) ∗ give c (S.erase t)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (t : Thread nD τ) barS n) k) Q) := by
  subst hn
  rw [TT_erase ht (show pays c t (0 : Fin 53).val = true from h), give_erase ht h]
  have hO : O + OO c 0 S = O + OO c 0 (S.erase t) + tallyAt ((t : Thread nD τ), .reg barS) () 1 := by
    rw [OO_erase ht (show pays c t (0 : Fin 53).val = true from h), ← add_assoc]; rfl
  iintro ⟨#HR, HO, ⟨Ht, HT⟩, ⟨Hg, HG⟩⟩ Hk
  unfold ow
  icases HO with ⟨%W, HO⟩
  iapply (Rounds.wp_signal 𝒱₀ ER (sch C) (c : Thread nD τ) none (dst := (t : Thread nD τ)) (κ := K (t, 0)) (r := 0)
      (d := c) (mem_duties C t 0 h) (amount_eq C t 0 c) () (O + OO c 0 (S.erase t)) hO) $$ [HO Ht Hg]
  · isplitr; · iapply (rec_inv C K (t, 0)); iexact HR
    isplitl [HO]; · iexact HO
    isplitl [Ht]; · iexact Ht
    isplitl [Hg]; · iapply (Entails.of_eq (show (sch (F := F) C).payload ((t : Thread nD τ), .reg barS) 0 c = barPay t c from payload_bar C t c).symm); iexact Hg
    iapply (rec_reached C K (t, 0)); iexact HR
  iintro HO
  iapply Hk
  isplitl [HO]; · iexists W; iexact HO
  isplitl [HT] <;> iassumption

/-- A wait on the barrier for all its duties: everything handed over arrives, and the cell closes. -/
theorem barWait_step (c : Dev nD) (O : CellTallies nD τ sig Unit) (hO : Above 1 O) {n : ℕ}
    (hn : n = (Finset.univ.filter (fun d : Dev nD => pays d c 0 = true)).card) {α : Type} {Q : α → sProp 𝕄} {k : PUnit → Prog (TpuEff nD τ sig (Elt F) Λ₀ .tc) α} :
    iprop(know C K ∗ ow c O ∗ at0 c 0 ∗ crd c 0 n)
      ⊢ iprop(((ow c O ∗ zer c 0 ∗ bigSep (Finset.univ.filter (fun d : Dev nD => pays d c 0 = true)) (fun d => barPay c d))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  have hexp : (sch (F := F) C).expect (kcell (c, 0)) 0 = n := by
    have e : (0 : Fin 53).val = 0 := rfl
    have e' : amt 0 = 1 := rfl
    rw [expect_eq C c 0, e, e', Nat.mul_one]; exact hn.symm
  iintro ⟨#HR, HO, Hat, Hc⟩ Hk
  unfold ow at0 crd zer
  icases HO with ⟨%W, HO⟩
  iapply (Rounds.wp_wait_rest_token 𝒱₀ ER (sch C) (c : Thread nD τ) none (κ := K (c, 0)) (sm := .reg barS)
      (wpE_semWait_eq 𝒱₀ (c : Thread nD τ) none Set.univ) (Set.mem_univ _) () (O := O) (W := W) (R := 0) (m := 0) (T := ∅)
      (by rw [Nat.zero_add]; exact hexp.symm)) $$ [Hc HO Hat]
  · isplitr; · iapply (rec_inv C K (c, 0)); iexact HR
    isplitl [Hc]; · iexact Hc
    isplitl [HO]; · iexact HO
    isplitr; · iapply (mayWait (k := 0) c hO); iapply (rec_lev C K); iexact HR
    iexact Hat
  iintro ⟨HO, Hat, -, Hpay⟩
  imod (Rounds.cell_close ER (sch C) (Set.mem_univ (K (c, 0))) (fun h => h) (R := 0 + 1) (duties_later C (kcell (c, 0)))) $$ [Hat] with Hz
  · isplitr; · iapply (rec_inv C K (c, 0)); iexact HR
    iexact Hat
  iapply Hk
  isplitl [HO]; · iexists _; iexact HO
  isplitl [Hz]; · iexact Hz
  iapply (Entails.of_eq (show bigSep ((sch (F := F) C).duties (kcell (c, 0)) 0 \ ∅) (fun d => (sch (F := F) C).payload (kcell (c, 0)) 0 d) = _ by
    rw [Finset.sdiff_empty, duties_eq C c 0]; exact bigSep_congr fun d _ => payload_bar C c d))
  iexact Hpay

/-- A wait on a transfer cell with one payer: what the transfer hands over arrives, and the cell closes. -/
theorem wait_step (c : Dev nD) (k₀ : Fin 53) (hk₀ : k₀ ≠ 0) (d : Dev nD) (hd : ∀ d', pays d' c k₀.val = true ↔ d' = d)
    (O : CellTallies nD τ sig Unit) (hO : Above (lvk k₀.val) O) {sem : DmaSem sig} (hs : csem k₀ = .dma sem)
    {s s' : Shape} {e e' : EltTy} {src : Memref sig .tc .vmem s e} {dst : Memref sig .tc .vmem s' e'} {h1 : src.view.WordExact} {h2 : dst.view.WordExact}
    {n : ℕ} (hn : n = amt k₀.val) (hc : amt k₀.val = dst.view.dmaCredit)
    {α : Type} {Q : α → sProp 𝕄} {k : PUnit → Prog (TpuEff nD τ sig (Elt F) Λ₀ .tc) α} :
    iprop(know C K ∗ ow c O ∗ at0 c k₀ ∗ crd c k₀ n)
      ⊢ iprop(((ow c O ∗ zer c k₀ ∗ xferPay C c k₀.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst h1 h2) k) Q) := by
  have hset : (Finset.univ.filter (fun d : Dev nD => pays d c k₀.val = true)) = {d} := by
    ext d'; rw [Finset.mem_filter, Finset.mem_singleton]; exact ⟨fun h => (hd d').mp h.2, fun h => ⟨Finset.mem_univ _, (hd d').mpr h⟩⟩
  have hcell : kcell (c, k₀) = ((c : Thread nD τ), .dma sem) := by unfold kcell; rw [hs]
  iintro ⟨#HR, HO, Hat, Hc⟩ Hk
  unfold ow at0 crd zer
  icases HO with ⟨%W, HO⟩
  ihave #HI := (rec_inv C K (c, k₀)) $$ HR
  ihave #HM := ((rec_lev C K).trans (mayWait (k := k₀) c hO)) $$ HR
  have hexp : (sch (F := F) C).expect (kcell (c, k₀)) 0 = dst.view.dmaCredit := by
    rw [expect_eq, hset, Finset.card_singleton, Nat.one_mul, hc]
  have hpay : bigSep ((sch (F := F) C).duties (kcell (c, k₀)) 0 \ ∅) (fun d => (sch (F := F) C).payload (kcell (c, k₀)) 0 d) = xferPay C c k₀.val := by
    rw [Finset.sdiff_empty, duties_eq C c k₀, hset, bigSep_singleton, payload_xfer C c k₀ d hk₀]
  rw [hn, hc, hs]
  rw [hcell] at hexp hpay ⊢
  iapply (Rounds.wp_wait_rest_token 𝒱₀ ER (sch C) (c : Thread nD τ) none (κ := K (c, k₀)) (sm := .dma sem)
      (wpE_waitDma2_eq 𝒱₀ (c : Thread nD τ) none Set.univ) (Set.mem_univ _) () (O := O) (W := W) (R := 0) (m := 0) (T := ∅)
      (by rw [Nat.zero_add, hexp])) $$ [Hc HO Hat]
  · isplitr; · iexact HI
    isplitl [Hc]; · iexact Hc
    isplitl [HO]; · iexact HO
    isplitr; · iexact HM
    iexact Hat
  iintro ⟨HO, Hat, -, Hpay⟩
  imod (Rounds.cell_close ER (sch C) (Set.mem_univ (K (c, k₀))) (fun h => h) (R := 0 + 1) (duties_later C ((c : Thread nD τ), .dma sem))) $$ [Hat] with Hz
  · isplitr; · iexact HI
    iexact Hat
  iapply Hk
  isplitl [HO]; · iexists _; iexact HO
  isplitl [Hz]; · iexact Hz
  iapply (Entails.of_eq hpay)
  iexact Hpay

/-- A transfer started by `c` to device `n`: its departure cell `ks` is `c`'s, its arrival cell `kr` is `n`'s. -/
theorem send_step (c n : Dev nD) (ks kr : Fin 53) (hks : ks ≠ 0) (hkr : kr ≠ 0) (hps : pays c c ks.val = true) (hpr : pays c n kr.val = true)
    {S : Finset (Dev nD)} (hnS : n ∈ S) (O : CellTallies nD τ sig Unit)
    {s : Shape} {e : EltTy} {src : Memref sig .tc .vmem s e} {dst : Memref sig (Dev.tc n : Thread nD τ).2.kind .vmem s e} {hsc : dst.view.ref.isScScratch = false}
    {sS sR : DmaSem sig} (hsS : csem ks = .dma sS) (hsR : csem kr = .dma sR)
    {hsrc : src.view.WordExact} {hdst : dst.view.WordExact} {hsem : DmaTarget.Typed .vmem (.dma sR) (.remote (Dev.tc n : Thread nD τ) dst (.dma sS) hsc)}
    (hN : amt kr.val = dst.view.amount (.dma sR)) (hN' : amt ks.val = amt kr.val)
    {q : PosShare TreeShare} {fs : Buf (Elt F) (src.view.loc (c : Thread nD τ))} {fd : Buf (Elt F) (dst.view.loc (n : Thread nD τ))}
    (hpay₁ : (src.view.loc (c : Thread nD τ) ↦[src.view.set]{q} fs : sProp 𝕄) ⊢ xferPay C c ks.val)
    (hpay₂ : (dst.view.loc (n : Thread nD τ) ↦[dst.view.set]{fullShare} (dst.view.write (Elt F) fd (src.view.read (Elt F) fs) Finset.univ) : sProp 𝕄) ⊢ xferPay C n kr.val)
    {α : Type} {Q : α → sProp 𝕄} {k : PUnit → Prog (TpuEff nD τ sig (Elt F) Λ₀ .tc) α} :
    iprop(know C K ∗ (src.view.loc (c : Thread nD τ) ↦[src.view.set]{q} fs) ∗ (dst.view.loc (n : Thread nD τ) ↦[dst.view.set]{fullShare} fd)
        ∗ ow c (O + OO c kr S) ∗ TT c kr S ∗ dutyTok (ER (F := F)) (kcell (c, ks)) 0 c)
      ⊢ iprop(((ow c (O + OO c kr (S.erase n)) ∗ TT c kr (S.erase n) ∗ crd c ks (amt ks.val)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  have hcs : kcell (c, ks) = ((c : Thread nD τ), .dma sS) := by unfold kcell; rw [hsS]
  have hcr : kcell (n, kr) = ((n : Thread nD τ), .dma sR) := by unfold kcell; rw [hsR]
  have ps := payload_xfer C c ks c hks
  have pr := payload_xfer C n kr c hkr
  have ms := mem_duties C c ks hps
  have mr := mem_duties C n kr hpr
  have aS := amount_eq C c ks c
  have ar := amount_eq C n kr c
  have hO := OO_erase (d := c) (k := kr) hnS hpr
  unfold crd
  rw [TT_erase hnS hpr]
  iintro ⟨#HR, Hsrc, Hdst, HO, ⟨Ht, HT⟩, Hts⟩ Hk
  unfold ow
  icases HO with ⟨%W, HO⟩
  ihave #HI1 := (rec_inv C K (c, ks)) $$ HR
  ihave #HI2 := (rec_inv C K (n, kr)) $$ HR
  ihave #HR1 := (rec_reached C K (c, ks)) $$ HR
  ihave #HR2 := (rec_reached C K (n, kr)) $$ HR
  rw [hcs] at ps ms aS ⊢
  rw [hcr] at pr mr ar hO ⊢
  have hO' : O + OO c kr S = O + OO c kr (S.erase n) + tallyAt ((n : Thread nD τ), .dma sR) () (amt kr.val) := by rw [hO, ← add_assoc]
  iapply (Rounds.wp_send_pointsTo 𝒱₀ ER (sch C) (c : Thread nD τ) none (κ₁ := K (c, ks)) (κ₂ := K (n, kr))
    (r₁ := 0) (r₂ := 0) (d₁ := c) (d₂ := c) (fd := fd) (q := q) (fs := fs)
    ms mr () () (amt kr.val) hN.symm (aS.trans hN') ar (O + OO c kr (S.erase n)) hO' (W := W)
    (by rw [ps]; exact hpay₁) (by rw [pr]; exact hpay₂)) $$ [Hsrc Hdst HO Ht Hts]
  · isplitr; · iexact HI1
    isplitr; · iexact HI2
    isplitl [Hsrc]; · iexact Hsrc
    isplitl [Hdst]; · iexact Hdst
    isplitl [HO]; · iexact HO
    isplitl [Hts]; · iexact Hts
    isplitr; · iexact HR1
    isplitl [Ht]; · iexact Ht
    iexact HR2
  iintro ⟨Hc, HO⟩
  iapply Hk
  isplitl [HO]; · iexists W; iexact HO
  isplitl [HT]; · iexact HT
  rw [hN']; iexact Hc

end Cert.Exchange

end
-- ==== Proof.Values.lean ====
module

public import proofs.«01_k».proof.Proof.Steps
public import proofs.«01_k».proof.Proof.Gen.KernelIdeal.Skeleton
public import Idealize.ShloMosaic.Lib.ValueIdxCore

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type}

local notation "𝕄" => MT nD τ sig Unit (Elt F) ℕ UU ℕ

/-- What one device reads while its body runs: the staged operands and what its scratch buffers hold when they are read,
    and the device's number as a word. -/
structure Env (F : FTy → Type) where
  x : (cc0_stg0_0 : Ref sig .tc).ty.Contents (Elt F)
  wq : (cc0_stg1_0 : Ref sig .tc).ty.Contents (Elt F)
  k : (cc0_stg2_0 : Ref sig .tc).ty.Contents (Elt F)
  v : (cc0_stg3_0 : Ref sig .tc).ty.Contents (Elt F)
  wo : (cc0_stg4_0 : Ref sig .tc).ty.Contents (Elt F)
  kv : (cc0_scratch0 : Ref sig .tc).ty.Contents (Elt F)
  hl : (cc0_scratch1 : Ref sig .tc).ty.Contents (Elt F)
  gq : (cc0_scratch2 : Ref sig .tc).ty.Contents (Elt F)
  gk : (cc0_scratch3 : Ref sig .tc).ty.Contents (Elt F)
  pw : (cc0_scratch4 : Ref sig .tc).ty.Contents (Elt F)
  pp : (cc0_scratch5 : Ref sig .tc).ty.Contents (Elt F)
  v2 : BitVec 32

variable [FloatOps F] [Named F]

/-! Each value the body computes, under its name in the body, as a function of what is read. -/

abbrev v2 (E : Env F) : BitVec 32 := E.v2
def v36 (E : Env F) : Vec F S1x128x512 .f32 :=
  View.readAt (Elt F) (Memref.whole cc0_stg0_0).view (Rect.unit (s := S2x128x512) ![0, 0, 0] S1x128x512.size inb_S2x128x512_S1x128x512_0_0_0).toLoadRect E.x
def v38 (E : Env F) : Vec F S512x256 .f32 :=
  View.readAt (Elt F) (Memref.whole cc0_stg1_0).view (Rect.unit (s := S512x256) ![0, 0] S512x256.size inb_S512x256_S512x256_0_0).toLoadRect E.wq
def v41 (E : Env F) : Vec F S1x128x512 .f32 :=
  View.readAt (Elt F) (Memref.whole cc0_stg0_0).view (Rect.unit (s := S2x128x512) ![1, 0, 0] S1x128x512.size inb_S2x128x512_S1x128x512_1_0_0).toLoadRect E.x
def v43 (E : Env F) : Vec F S512x256 .f32 :=
  View.readAt (Elt F) (Memref.whole cc0_stg1_0).view (Rect.unit (s := S512x256) ![0, 0] S512x256.size inb_S512x256_S512x256_0_0).toLoadRect E.wq
def v601 (E : Env F) : Vec F S1x32x256 .f32 :=
  View.readAt (Elt F) (Memref.whole cc0_stg3_0).view (Rect.unit (s := S2x128x256) ![1, 0, 0] S1x32x256.size inb_S2x128x256_S1x32x256_1_0_0).toLoadRect E.v
def v604 (E : Env F) : Vec F S1x1x32x256 .bf16 :=
  View.readAt (Elt F) (Memref.whole cc0_scratch3).view (Rect.unit (s := S2x2x32x256) ![1, 1, 0, 0] S1x1x32x256.size inb_S2x2x32x256_S1x1x32x256_1_1_0_0).toLoadRect E.gk
def v40 (E : Env F) : FVec F S128x256 .f32 :=
  k0_pay180 (v36 E) (v38 E)
def v45 (E : Env F) : FVec F S128x256 .f32 :=
  k0_pay181 (v41 E) (v43 E)
def v77 (E : Env F) : Vec F S1x32x256 .bf16 :=
  View.readAt (Elt F) (Memref.whole cc0_scratch2).view (Rect.unit (s := S2x32x256) ![0, 0, 0] S1x32x256.size inb_S2x32x256_S1x32x256_0_0_0).toLoadRect E.gq
def v80 (E : Env F) : Vec F S1x128x256 .f32 :=
  View.readAt (Elt F) (Memref.whole cc0_stg2_0).view (Rect.unit (s := S2x128x256) ![0, 0, 0] S1x128x256.size inb_S2x128x256_S1x128x256_0_0_0).toLoadRect E.k
def v84 (E : Env F) : Vec F S1x128x256 .f32 :=
  View.readAt (Elt F) (Memref.whole cc0_stg3_0).view (Rect.unit (s := S2x128x256) ![0, 0, 0] S1x128x256.size inb_S2x128x256_S1x128x256_0_0_0).toLoadRect E.v
def v87 (E : Env F) : FVec F S128x64 .bf16 :=
  k0_pay183 (v84 E)
def v90 (E : Env F) : FVec F S32x128 .f32 :=
  k0_pay184 (v77 E) (v80 E)
def v102 (E : Env F) : Vec F S1x32x256 .bf16 :=
  View.readAt (Elt F) (Memref.whole cc0_scratch2).view (Rect.unit (s := S2x32x256) ![0, 0, 0] S1x32x256.size inb_S2x32x256_S1x32x256_0_0_0).toLoadRect E.gq
def v105 (E : Env F) : Vec F S1x128x256 .f32 :=
  View.readAt (Elt F) (Memref.whole cc0_stg2_0).view (Rect.unit (s := S2x128x256) ![0, 0, 0] S1x128x256.size inb_S2x128x256_S1x128x256_0_0_0).toLoadRect E.k
def v109 (E : Env F) : Vec F S1x128x256 .f32 :=
  View.readAt (Elt F) (Memref.whole cc0_stg3_0).view (Rect.unit (s := S2x128x256) ![0, 0, 0] S1x128x256.size inb_S2x128x256_S1x128x256_0_0_0).toLoadRect E.v
def v127 (E : Env F) : Vec F S1x32x256 .bf16 :=
  View.readAt (Elt F) (Memref.whole cc0_scratch2).view (Rect.unit (s := S2x32x256) ![0, 0, 0] S1x32x256.size inb_S2x32x256_S1x32x256_0_0_0).toLoadRect E.gq
def v94 (E : Env F) : FVec F S32x1 .f32 :=
  k0_pay185 (v90 E)
def v99 (E : Env F) : FVec F S32x1 .f32 :=
  k0_pay187 (v90 E)
def v101 (E : Env F) : FVec F S32x64 .f32 :=
  k0_pay188 (v87 E) (v90 E)
def v119 (E : Env F) : FVec F S32x1 .f32 :=
  k0_pay190 (v102 E) (v105 E)
def v124 (E : Env F) : FVec F S32x1 .f32 :=
  k0_pay192 (v102 E) (v105 E)
def v126 (E : Env F) : FVec F S32x64 .f32 :=
  k0_pay193 (v102 E) (v105 E) (v109 E)
def v129 (E : Env F) : FVec F S32x64 .bf16 :=
  k0_pay194 (v127 E)
def v130 (E : Env F) : Vec F S1x128x256 .f32 :=
  View.readAt (Elt F) (Memref.whole cc0_stg2_0).view (Rect.unit (s := S2x128x256) ![0, 0, 0] S1x128x256.size inb_S2x128x256_S1x128x256_0_0_0).toLoadRect E.k
def v134 (E : Env F) : Vec F S1x128x256 .f32 :=
  View.readAt (Elt F) (Memref.whole cc0_stg3_0).view (Rect.unit (s := S2x128x256) ![0, 0, 0] S1x128x256.size inb_S2x128x256_S1x128x256_0_0_0).toLoadRect E.v
def v152 (E : Env F) : Vec F S1x32x256 .bf16 :=
  View.readAt (Elt F) (Memref.whole cc0_scratch2).view (Rect.unit (s := S2x32x256) ![0, 0, 0] S1x32x256.size inb_S2x32x256_S1x32x256_0_0_0).toLoadRect E.gq
def v155 (E : Env F) : Vec F S1x128x256 .f32 :=
  View.readAt (Elt F) (Memref.whole cc0_stg2_0).view (Rect.unit (s := S2x128x256) ![0, 0, 0] S1x128x256.size inb_S2x128x256_S1x128x256_0_0_0).toLoadRect E.k
def v159 (E : Env F) : Vec F S1x128x256 .f32 :=
  View.readAt (Elt F) (Memref.whole cc0_stg3_0).view (Rect.unit (s := S2x128x256) ![0, 0, 0] S1x128x256.size inb_S2x128x256_S1x128x256_0_0_0).toLoadRect E.v
def v144 (E : Env F) : FVec F S32x1 .f32 :=
  k0_pay196 (v129 E) (v130 E)
def v149 (E : Env F) : FVec F S32x1 .f32 :=
  k0_pay198 (v129 E) (v130 E)
def v151 (E : Env F) : FVec F S32x64 .f32 :=
  k0_pay199 (v129 E) (v130 E) (v134 E)
def v162 (E : Env F) : FVec F S128x64 .bf16 :=
  k0_pay200 (v159 E)
def v165 (E : Env F) : FVec F S32x128 .f32 :=
  k0_pay201 (v152 E) (v155 E)
def v168 (E : Env F) : FVec F S32x1 .bf16 :=
  k0_pay202 (v152 E) (v155 E)
def v183 (E : Env F) : Vec F S1x32x256 .bf16 :=
  View.readAt (Elt F) (Memref.whole cc0_scratch2).view (Rect.unit (s := S2x32x256) ![1, 0, 0] S1x32x256.size inb_S2x32x256_S1x32x256_1_0_0).toLoadRect E.gq
def v186 (E : Env F) : Vec F S1x128x256 .f32 :=
  View.readAt (Elt F) (Memref.whole cc0_stg2_0).view (Rect.unit (s := S2x128x256) ![1, 0, 0] S1x128x256.size inb_S2x128x256_S1x128x256_1_0_0).toLoadRect E.k
def v190 (E : Env F) : Vec F S1x128x256 .f32 :=
  View.readAt (Elt F) (Memref.whole cc0_stg3_0).view (Rect.unit (s := S2x128x256) ![1, 0, 0] S1x128x256.size inb_S2x128x256_S1x128x256_1_0_0).toLoadRect E.v
def v200 (E : Env F) : FVec F S32x1 .f32 :=
  k0_pay205 (v183 E) (v186 E)
def v205 (E : Env F) : FVec F S32x1 .f32 :=
  k0_pay207 (v183 E) (v186 E)
def v207 (E : Env F) : FVec F S32x64 .f32 :=
  k0_pay208 (v183 E) (v186 E) (v190 E)
def v208 (E : Env F) : Vec F S1x32x256 .bf16 :=
  View.readAt (Elt F) (Memref.whole cc0_scratch2).view (Rect.unit (s := S2x32x256) ![1, 0, 0] S1x32x256.size inb_S2x32x256_S1x32x256_1_0_0).toLoadRect E.gq
def v211 (E : Env F) : Vec F S1x128x256 .f32 :=
  View.readAt (Elt F) (Memref.whole cc0_stg2_0).view (Rect.unit (s := S2x128x256) ![1, 0, 0] S1x128x256.size inb_S2x128x256_S1x128x256_1_0_0).toLoadRect E.k
def v215 (E : Env F) : Vec F S1x128x256 .f32 :=
  View.readAt (Elt F) (Memref.whole cc0_stg3_0).view (Rect.unit (s := S2x128x256) ![1, 0, 0] S1x128x256.size inb_S2x128x256_S1x128x256_1_0_0).toLoadRect E.v
def v233 (E : Env F) : Vec F S1x32x256 .bf16 :=
  View.readAt (Elt F) (Memref.whole cc0_scratch2).view (Rect.unit (s := S2x32x256) ![1, 0, 0] S1x32x256.size inb_S2x32x256_S1x32x256_1_0_0).toLoadRect E.gq
def v236 (E : Env F) : Vec F S1x128x256 .f32 :=
  View.readAt (Elt F) (Memref.whole cc0_stg2_0).view (Rect.unit (s := S2x128x256) ![1, 0, 0] S1x128x256.size inb_S2x128x256_S1x128x256_1_0_0).toLoadRect E.k
def v240 (E : Env F) : Vec F S1x128x256 .f32 :=
  View.readAt (Elt F) (Memref.whole cc0_stg3_0).view (Rect.unit (s := S2x128x256) ![1, 0, 0] S1x128x256.size inb_S2x128x256_S1x128x256_1_0_0).toLoadRect E.v
def cst_148 (E : Env F) : FVec F S32x128 .f32 :=
  constant S32x128 .f32 0x00000000#32
def v225 (E : Env F) : FVec F S32x1 .f32 :=
  k0_pay210 (v208 E) (v211 E)
def v230 (E : Env F) : FVec F S32x1 .f32 :=
  k0_pay212 (v208 E) (v211 E)
def v232 (E : Env F) : FVec F S32x64 .f32 :=
  k0_pay213 (v208 E) (v211 E) (v215 E)
def v235 (E : Env F) : FVec F S32x64 .bf16 :=
  k0_pay214 (v233 E)
def v239 (E : Env F) : FVec F S128x64 .bf16 :=
  k0_pay215 (v236 E)
def v243 (E : Env F) : FVec F S128x64 .bf16 :=
  k0_pay216 (v240 E)
def v258 (E : Env F) : Vec F S1x32x256 .bf16 :=
  View.readAt (Elt F) (Memref.whole cc0_scratch2).view (Rect.unit (s := S2x32x256) ![1, 0, 0] S1x32x256.size inb_S2x32x256_S1x32x256_1_0_0).toLoadRect E.gq
def v261 (E : Env F) : Vec F S1x128x256 .f32 :=
  View.readAt (Elt F) (Memref.whole cc0_stg2_0).view (Rect.unit (s := S2x128x256) ![1, 0, 0] S1x128x256.size inb_S2x128x256_S1x128x256_1_0_0).toLoadRect E.k
def v265 (E : Env F) : Vec F S1x128x256 .f32 :=
  View.readAt (Elt F) (Memref.whole cc0_stg3_0).view (Rect.unit (s := S2x128x256) ![1, 0, 0] S1x128x256.size inb_S2x128x256_S1x128x256_1_0_0).toLoadRect E.v
def v284 (E : Env F) : FVec F S32x384 .f32 :=
  (k0_pay217 (v200 E) (v205 E) (v207 E) (v225 E) (v230 E) (v232 E) (v235 E) (v239 E) (v243 E) (cst_148 E) (v258 E) (v261 E) (v265 E))
def v302 (E : Env F) : IVec S128x512 32 :=
  iota .tc S128x512 32 [1] iota_S128x512_d1_w32
def v305 (E : Env F) : IVec S128x512 32 :=
  k0_pay219 (v2 E)
def v309 (E : Env F) : IVec S128x512 32 :=
  k0_pay220 (v2 E)
def v317 (E : Env F) : IVec S128x512 1 :=
  k0_pay221 (v2 E)
def v321 (E : Env F) : IVec S128x512 1 :=
  k0_pay222 (v2 E)
def v339 (E : Env F) : Vec F S1x1x128x512 .bf16 :=
  View.readAt (Elt F) (Memref.whole cc0_scratch1).view (Rect.unit (s := S2x2x128x512) ![0, 0, 0, 0] S1x1x128x512.size inb_S2x2x128x512_S1x1x128x512_0_0_0_0).toLoadRect E.hl
def v342 (E : Env F) : Vec F S1x128x256 .f32 :=
  View.readAt (Elt F) (Memref.whole cc0_stg2_0).view (Rect.unit (s := S2x128x256) ![0, 0, 0] S1x128x256.size inb_S2x128x256_S1x128x256_0_0_0).toLoadRect E.k
def v345 (E : Env F) : Vec F S1x1x128x512 .bf16 :=
  View.readAt (Elt F) (Memref.whole cc0_scratch1).view (Rect.unit (s := S2x2x128x512) ![1, 0, 0, 0] S1x1x128x512.size inb_S2x2x128x512_S1x1x128x512_1_0_0_0).toLoadRect E.hl
def v348 (E : Env F) : Vec F S1x1x32x256 .bf16 :=
  View.readAt (Elt F) (Memref.whole cc0_scratch3).view (Rect.unit (s := S2x2x32x256) ![0, 0, 0, 0] S1x1x32x256.size inb_S2x2x32x256_S1x1x32x256_0_0_0_0).toLoadRect E.gk
def v351 (E : Env F) : Vec F S1x1x128x512 .bf16 :=
  View.readAt (Elt F) (Memref.whole cc0_scratch1).view (Rect.unit (s := S2x2x128x512) ![0, 0, 0, 0] S1x1x128x512.size inb_S2x2x128x512_S1x1x128x512_0_0_0_0).toLoadRect E.hl
def v337 (E : Env F) : IVec S128x512 1 :=
  k0_pay223 (v2 E) (v302 E) (v305 E) (v309 E) (v317 E) (v321 E)
def v338 (E : Env F) : FVec F S96x256 .bf16 :=
  k0_pay224 (F := F)
def v350 (E : Env F) : FVec F S512x256 .bf16 :=
  k0_pay225 (v339 E) (v342 E) (v345 E) (v348 E)
def v353 (E : Env F) : FVec F S128x256 .bf16 :=
  k0_pay226 (v351 E)
def v354 (E : Env F) : Vec F S1x128x256 .f32 :=
  View.readAt (Elt F) (Memref.whole cc0_stg3_0).view (Rect.unit (s := S2x128x256) ![0, 0, 0] S1x128x256.size inb_S2x128x256_S1x128x256_0_0_0).toLoadRect E.v
def v357 (E : Env F) : Vec F S1x1x128x512 .bf16 :=
  View.readAt (Elt F) (Memref.whole cc0_scratch1).view (Rect.unit (s := S2x2x128x512) ![1, 0, 0, 0] S1x1x128x512.size inb_S2x2x128x512_S1x1x128x512_1_0_0_0).toLoadRect E.hl
def v360 (E : Env F) : Vec F S1x1x32x256 .bf16 :=
  View.readAt (Elt F) (Memref.whole cc0_scratch3).view (Rect.unit (s := S2x2x32x256) ![1, 0, 0, 0] S1x1x32x256.size inb_S2x2x32x256_S1x1x32x256_1_0_0_0).toLoadRect E.gk
def v362 (E : Env F) : FVec F S512x256 .bf16 :=
  k0_pay227 (v338 E) (v353 E) (v354 E) (v357 E) (v360 E)
def v382 (E : Env F) : FVec F S128x64 .f32 :=
  k0_pay228 (v40 E) (v337 E) (v338 E) (v350 E) (v353 E) (v354 E) (v357 E) (v360 E)
def v386 (E : Env F) : FVec F S512x64 .bf16 :=
  k0_pay229 (v338 E) (v353 E) (v354 E) (v357 E) (v360 E)
def v395 (E : Env F) : FVec F S128x512 .f32 :=
  k0_pay230 (v40 E) (v337 E) (v350 E)
def cst_239 (E : Env F) : FVec F S128x64 .f32 :=
  constant S128x64 .f32 0x00000000#32
def v402 (E : Env F) : FVec F S128x64 .f32 :=
  k0_pay231 (v386 E) (v395 E)
def v422 (E : Env F) : FVec F S128x64 .f32 :=
  k0_pay232 (v40 E) (v337 E) (v350 E) (v362 E)
def v426 (E : Env F) : FVec F S512x64 .bf16 :=
  k0_pay233 (v362 E)
def v441 (E : Env F) : FVec F S128x512 .bf16 :=
  k0_pay234 (v40 E) (v337 E) (v350 E)
def v444 (E : Env F) : Vec F S256x512 .f32 :=
  View.readAt (Elt F) (Memref.whole cc0_stg4_0).view (Rect.unit (s := S256x512) ![0, 0] S256x512.size inb_S256x512_S256x512_0_0).toLoadRect E.wo
def v450 (E : Env F) : Vec F S1x1x128x512 .bf16 :=
  View.readAt (Elt F) (Memref.whole cc0_scratch1).view (Rect.unit (s := S2x2x128x512) ![0, 1, 0, 0] S1x1x128x512.size inb_S2x2x128x512_S1x1x128x512_0_1_0_0).toLoadRect E.hl
def v453 (E : Env F) : Vec F S1x128x256 .f32 :=
  View.readAt (Elt F) (Memref.whole cc0_stg2_0).view (Rect.unit (s := S2x128x256) ![1, 0, 0] S1x128x256.size inb_S2x128x256_S1x128x256_1_0_0).toLoadRect E.k
def v456 (E : Env F) : Vec F S1x1x128x512 .bf16 :=
  View.readAt (Elt F) (Memref.whole cc0_scratch1).view (Rect.unit (s := S2x2x128x512) ![1, 1, 0, 0] S1x1x128x512.size inb_S2x2x128x512_S1x1x128x512_1_1_0_0).toLoadRect E.hl
def v459 (E : Env F) : Vec F S1x1x32x256 .bf16 :=
  View.readAt (Elt F) (Memref.whole cc0_scratch3).view (Rect.unit (s := S2x2x32x256) ![0, 1, 0, 0] S1x1x32x256.size inb_S2x2x32x256_S1x1x32x256_0_1_0_0).toLoadRect E.gk
def v462 (E : Env F) : Vec F S1x1x128x512 .bf16 :=
  View.readAt (Elt F) (Memref.whole cc0_scratch1).view (Rect.unit (s := S2x2x128x512) ![0, 1, 0, 0] S1x1x128x512.size inb_S2x2x128x512_S1x1x128x512_0_1_0_0).toLoadRect E.hl
def v465 (E : Env F) : Vec F S1x128x256 .f32 :=
  View.readAt (Elt F) (Memref.whole cc0_stg3_0).view (Rect.unit (s := S2x128x256) ![1, 0, 0] S1x128x256.size inb_S2x128x256_S1x128x256_1_0_0).toLoadRect E.v
def v468 (E : Env F) : Vec F S1x1x128x512 .bf16 :=
  View.readAt (Elt F) (Memref.whole cc0_scratch1).view (Rect.unit (s := S2x2x128x512) ![1, 1, 0, 0] S1x1x128x512.size inb_S2x2x128x512_S1x1x128x512_1_1_0_0).toLoadRect E.hl
def v461 (E : Env F) : FVec F S512x256 .bf16 :=
  k0_pay236 (v338 E) (v450 E) (v453 E) (v456 E) (v459 E)
def v464 (E : Env F) : FVec F S128x256 .bf16 :=
  k0_pay237 (v462 E)
def v467 (E : Env F) : FVec F S128x256 .bf16 :=
  k0_pay238 (v465 E)
def v471 (E : Env F) : Vec F S1x1x32x256 .bf16 :=
  View.readAt (Elt F) (Memref.whole cc0_scratch3).view (Rect.unit (s := S2x2x32x256) ![1, 1, 0, 0] S1x1x32x256.size inb_S2x2x32x256_S1x1x32x256_1_1_0_0).toLoadRect E.gk
def cst_287 (E : Env F) : FVec F S128x64 .f32 :=
  constant S128x64 .f32 0x00000000#32
def v473 (E : Env F) : FVec F S512x256 .bf16 :=
  k0_pay239 (v338 E) (v464 E) (v467 E) (v468 E) (v471 E)
def v493 (E : Env F) : FVec F S128x64 .f32 :=
  k0_pay240 (v45 E) (v337 E) (v338 E) (v461 E) (v464 E) (v467 E) (v468 E) (v471 E)
def v497 (E : Env F) : FVec F S512x64 .bf16 :=
  k0_pay241 (v338 E) (v464 E) (v467 E) (v468 E) (v471 E)
def v512 (E : Env F) : FVec F S128x512 .bf16 :=
  k0_pay242 (v45 E) (v337 E) (v461 E)
def v555 (E : Env F) : Vec F S256x512 .f32 :=
  View.readAt (Elt F) (Memref.whole cc0_stg4_0).view (Rect.unit (s := S256x512) ![0, 0] S256x512.size inb_S256x512_S256x512_0_0).toLoadRect E.wo
def v557 (E : Env F) : FVec F S128x512 .f32 :=
  (k0_pay243 (v45 E) (v337 E) (v461 E) (v473 E) (v493 E) (v497 E) (v512 E) (cst_287 E) (v555 E))
def v575 (E : Env F) : Vec F S1x32x256 .bf16 :=
  View.readAt (Elt F) (Memref.whole cc0_scratch2).view (Rect.unit (s := S2x32x256) ![0, 0, 0] S1x32x256.size inb_S2x32x256_S1x32x256_0_0_0).toLoadRect E.gq
def v578 (E : Env F) : Vec F S1x32x256 .f32 :=
  View.readAt (Elt F) (Memref.whole cc0_stg2_0).view (Rect.unit (s := S2x128x256) ![0, 0, 0] S1x32x256.size inb_S2x128x256_S1x32x256_0_0_0).toLoadRect E.k
def v581 (E : Env F) : Vec F S1x1x32x256 .bf16 :=
  View.readAt (Elt F) (Memref.whole cc0_scratch3).view (Rect.unit (s := S2x2x32x256) ![0, 0, 0, 0] S1x1x32x256.size inb_S2x2x32x256_S1x1x32x256_0_0_0_0).toLoadRect E.gk
def v584 (E : Env F) : Vec F S1x32x256 .f32 :=
  View.readAt (Elt F) (Memref.whole cc0_stg3_0).view (Rect.unit (s := S2x128x256) ![0, 0, 0] S1x32x256.size inb_S2x128x256_S1x32x256_0_0_0).toLoadRect E.v
def v595 (E : Env F) : Vec F S1x32x256 .f32 :=
  View.readAt (Elt F) (Memref.whole cc0_stg2_0).view (Rect.unit (s := S2x128x256) ![1, 0, 0] S1x32x256.size inb_S2x128x256_S1x32x256_1_0_0).toLoadRect E.k

/-- The packed keys and values: keys in the first 256 columns, values in the rest. -/
def kvF (k : (cc0_stg2_0 : Ref sig .tc).ty.Contents (Elt F)) (v : (cc0_stg3_0 : Ref sig .tc).ty.Contents (Elt F)) : (cc0_scratch0 : Ref sig .tc).ty.Contents (Elt F) :=
  fun (i : S2x128x512.Idx) => if h : (i 2).val < 256 then k0_pay176 (F := F) k (ix3 (i 0) (i 1) ⟨(i 2).val, h⟩)
    else k0_pay177 (F := F) v (ix3 (i 0) (i 1) ⟨(i 2).val - 256, by have : (i 2).val < 512 := (i 2).isLt; omega⟩)
/-- The zero halo slots of the first and the last device. -/
def z0F : (cc0_scratch0 : Ref sig .tc).ty.Contents (Elt F) := fun (i : S2x128x512.Idx) => k0_pay178 (F := F) (ix4 0 (i 0) (i 1) (i 2))
def z1F : (cc0_scratch0 : Ref sig .tc).ty.Contents (Elt F) := fun (i : S2x128x512.Idx) => k0_pay179 (F := F) (ix4 0 (i 0) (i 1) (i 2))
/-- The broadcast queries: the first 32 rows of each batch entry. -/
def gqF (E : Env F) : (cc0_scratch2 : Ref sig .tc).ty.Contents (Elt F) :=
  fun (i : S2x32x256.Idx) => if (i 0).val = 0 then k0_pay3 (v40 E) (ix3 0 (i 1) (i 2)) else k0_pay6 (v45 E) (ix3 0 (i 1) (i 2))
/-- The broadcast keys (first) and values (second). -/
def gkF (E : Env F) : (cc0_scratch3 : Ref sig .tc).ty.Contents (Elt F) :=
  fun (i : S2x2x32x256.Idx) =>
    if (i 1).val = 0 then (if (i 0).val = 0 then k0_pay4 (v578 E) (ix4 0 0 (i 2) (i 3)) else k0_pay5 (v584 E) (ix4 0 0 (i 2) (i 3)))
    else (if (i 0).val = 0 then k0_pay7 (v595 E) (ix4 0 0 (i 2) (i 3)) else k0_pay182 (v601 E) (ix4 0 0 (i 2) (i 3)))
/-- The partial result of the broadcast queries against the device's own keys and values. -/
def pwF (E : Env F) : (cc0_scratch4 : Ref sig .tc).ty.Contents (Elt F) :=
  fun (i : S2x32x384.Idx) => if (i 0).val = 0 then k0_pay203 (v94 E) (v99 E) (v101 E) (v119 E) (v124 E) (v126 E) (v144 E) (v149 E) (v151 E) (v162 E) (v165 E) (v168 E) (ix3 0 (i 1) (i 2))
    else k0_pay218 (v284 E) (ix3 0 (i 1) (i 2))
/-- The device's rows of the result, before the global rows are put in. -/
def obF (E : Env F) : (cc0_stg5_0 : Ref sig .tc).ty.Contents (Elt F) :=
  fun (i : S2x128x512.Idx) => if (i 0).val = 0 then k0_pay235 (v382 E) (v402 E) (v422 E) (v426 E) (v441 E) (cst_239 E) (v444 E) (ix3 0 (i 1) (i 2))
    else k0_pay1 (v557 E) (ix3 0 (i 1) (i 2))

end Cert.Exchange

end
-- ==== Proof.Signals.lean ====
module

public import proofs.«01_k».proof.Proof.Values

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

theorem cond1_iff (c : Dev nD) : k0_cond1 c = 1#1 ↔ c.val = 0 := by revert c; decide
theorem cond2_iff (c : Dev nD) : k0_cond2 c = 1#1 ↔ c.val ≠ 0 := by revert c; decide
theorem cond3_iff (c : Dev nD) : k0_cond3 c = 1#1 ↔ 1 < c.val := by revert c; decide
theorem cond4_iff (c : Dev nD) : k0_cond4 c = 1#1 ↔ (0 < c.val ∧ c.val < 15) := by revert c; decide

/-- The device a constant address names. -/
theorem dev1_eq (h : k0_dev1 < nD) : (⟨k0_dev1, h⟩ : Dev nD) = 1 := rfl
theorem dev2_eq (h : k0_dev2 < nD) : (⟨k0_dev2, h⟩ : Dev nD) = 2 := rfl
theorem dev3_eq (h : k0_dev3 < nD) : (⟨k0_dev3, h⟩ : Dev nD) = 3 := rfl
theorem dev4_eq (h : k0_dev4 < nD) : (⟨k0_dev4, h⟩ : Dev nD) = 4 := rfl
theorem dev5_eq (h : k0_dev5 < nD) : (⟨k0_dev5, h⟩ : Dev nD) = 5 := rfl
theorem dev6_eq (h : k0_dev6 < nD) : (⟨k0_dev6, h⟩ : Dev nD) = 6 := rfl
theorem dev7_eq (h : k0_dev7 < nD) : (⟨k0_dev7, h⟩ : Dev nD) = 7 := rfl
theorem dev8_eq (h : k0_dev8 < nD) : (⟨k0_dev8, h⟩ : Dev nD) = 8 := rfl
theorem dev9_eq (h : k0_dev9 < nD) : (⟨k0_dev9, h⟩ : Dev nD) = 9 := rfl
theorem dev10_eq (h : k0_dev10 < nD) : (⟨k0_dev10, h⟩ : Dev nD) = 10 := rfl
theorem dev11_eq (h : k0_dev11 < nD) : (⟨k0_dev11, h⟩ : Dev nD) = 11 := rfl
theorem dev12_eq (h : k0_dev12 < nD) : (⟨k0_dev12, h⟩ : Dev nD) = 12 := rfl
theorem dev13_eq (h : k0_dev13 < nD) : (⟨k0_dev13, h⟩ : Dev nD) = 13 := rfl
theorem dev14_eq (h : k0_dev14 < nD) : (⟨k0_dev14, h⟩ : Dev nD) = 14 := rfl
theorem dev15_eq (h : k0_dev15 < nD) : (⟨k0_dev15, h⟩ : Dev nD) = 15 := rfl
theorem dev16_eq (h : k0_dev16 < nD) : (⟨k0_dev16, h⟩ : Dev nD) = 0 := rfl
theorem dev17_eq (c : Dev nD) (h) (hc : 1 < c.val) : (⟨k0_dev17 c, h⟩ : Dev nD) = ⟨c.val - 1, by have := c.isLt; omega⟩ := by
  apply Fin.ext; show k0_dev17 c = c.val - 1; clear h; revert c; decide
theorem dev18_eq (c : Dev nD) (h) (hc : 0 < c.val ∧ c.val < 15) : (⟨k0_dev18 c, h⟩ : Dev nD) = ⟨c.val + 1, by show c.val + 1 < 16; omega⟩ := by
  apply Fin.ext; show k0_dev18 c = c.val + 1; clear h; revert c; decide

/-- The first device and the devices beyond the `i`-th. -/
def Ss (i : ℕ) : Finset (Dev nD) := Finset.univ.filter fun t => t.val = 0 ∨ i < t.val
theorem Ss_zero : Ss 0 = Finset.univ := by ext t; simp only [Ss, Finset.mem_filter, Finset.mem_univ, true_and, iff_true]; omega
theorem Ss_mem (t : Dev nD) (i : ℕ) (h : t.val = i + 1) : t ∈ Ss i := by simp [Ss]; omega
theorem Ss_erase (t : Dev nD) (i : ℕ) (h : t.val = i + 1) : (Ss i).erase t = Ss (i + 1) := by
  ext u; simp only [Ss, Finset.mem_erase, Finset.mem_filter, Finset.mem_univ, true_and, Fin.ext_iff, ne_eq]; omega
theorem pays_bar0 (t : Dev nD) (i : ℕ) (h : t.val = i + 1) : pays 0 t 0 = true := by
  have : t.val ≠ 0 := by omega
  simp [pays, this]

variable (C : Cont F) (K : Dev nD × Fin 53 → ℕ)

/-- What a device has still to do about the barrier signals to the devices of `S`. -/
abbrev sig0 (c : Dev nD) (O : CellTallies nD τ sig Unit) (S : Finset (Dev nD)) : sProp 𝕄 :=
  iprop(ow c (O + OO c 0 S) ∗ TT c 0 S ∗ give c S)

/-- The devices still to be signalled after each of the four groups of signals. -/
def Sg1 (c : Dev nD) : Finset (Dev nD) := if c.val = 0 then Ss 15 else Finset.univ
def Sg2 (c : Dev nD) : Finset (Dev nD) := if c.val = 0 then Ss 15 else Finset.univ.erase 0
def Sg3 (c : Dev nD) : Finset (Dev nD) := if h : 1 < c.val then (Sg2 c).erase ⟨c.val - 1, by have := c.isLt; omega⟩ else Sg2 c
def Sg4 (c : Dev nD) : Finset (Dev nD) := if h : 0 < c.val ∧ c.val < 15 then (Sg3 c).erase ⟨c.val + 1, by have := h.2; show c.val + 1 < 16; omega⟩ else Sg3 c

theorem Sg4_none : ∀ c : Dev nD, ∀ t ∈ Sg4 c, pays c t 0 = false := by decide

/-- One of the first device's signals. -/
theorem sig_first (t : Dev nD) (i : ℕ) (h : t.val = i + 1) (O : CellTallies nD τ sig Unit) {n : ℕ} (hn : 1 = n)
    {α : Type} {Q : α → sProp 𝕄} {k : PUnit → Prog (TpuEff nD τ sig (Elt F) Λ₀ .tc) α} :
    iprop(know C K ∗ sig0 0 O (Ss i)) ⊢ iprop((sig0 0 O (Ss (i + 1)) -∗ wp frame (wpE (defs₀ (F := F)) 𝒱₀ (((0 : Dev nD)) : Thread nD τ) none) Set.univ (k ⟨⟩) Q) -∗ wp frame (wpE (defs₀ (F := F)) 𝒱₀ (((0 : Dev nD)) : Thread nD τ) none) Set.univ (.op (.semSignal (t : Thread nD τ) barS n) k) Q) := by
  have := signal_step C K 0 t (S := Ss i) (Ss_mem t i h) (pays_bar0 t i h) O hn (Q := Q) (k := k)
  rw [Ss_erase t i h] at this
  exact this

theorem v3sem : (SemArray.scalar (sig.barrier 0 rfl) : Sems sig S_).sem = barS := rfl

set_option maxHeartbeats 2000000 in
/-- The first device signals every other one. -/
theorem seg1 (c : Dev nD) (O : CellTallies nD τ sig Unit) {α : Type} {Q : α → sProp 𝕄} (k : Prog (TpuEff nD τ sig (Elt F) Λ₀ .tc) α) :
    iprop(know C K ∗ sig0 c O Finset.univ) ⊢ iprop((sig0 c O (Sg1 c) -∗ wp frame (wpE (defs₀ (F := F)) 𝒱₀ (c : Thread nD τ) none) Set.univ k Q) -∗ wp frame (wpE (defs₀ (F := F)) 𝒱₀ (c : Thread nD τ) none) Set.univ
    (if k0_h1 : k0_cond1 c = 1#1 then do
        let v589 : BitVec 32 ← k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c (SemArray.scalar (sig.barrier 0 rfl) : Sems sig S_) k0_h1
        semSignalWord (⟨k0_dev9, k0_dev9_lt c k0_h1⟩ : Dev nD) (SemArray.scalar (sig.barrier 0 rfl) : Sems sig S_).sem 1#32
        semSignalWord (⟨k0_dev10, k0_dev10_lt c k0_h1⟩ : Dev nD) (SemArray.scalar (sig.barrier 0 rfl) : Sems sig S_).sem 1#32
        semSignalWord (⟨k0_dev11, k0_dev11_lt c k0_h1⟩ : Dev nD) (SemArray.scalar (sig.barrier 0 rfl) : Sems sig S_).sem 1#32
        semSignalWord (⟨k0_dev12, k0_dev12_lt c k0_h1⟩ : Dev nD) (SemArray.scalar (sig.barrier 0 rfl) : Sems sig S_).sem 1#32
        semSignalWord (⟨k0_dev13, k0_dev13_lt c k0_h1⟩ : Dev nD) (SemArray.scalar (sig.barrier 0 rfl) : Sems sig S_).sem 1#32
        semSignalWord (⟨k0_dev14, k0_dev14_lt c k0_h1⟩ : Dev nD) (SemArray.scalar (sig.barrier 0 rfl) : Sems sig S_).sem 1#32
        semSignalWord (⟨k0_dev15, k0_dev15_lt c k0_h1⟩ : Dev nD) (SemArray.scalar (sig.barrier 0 rfl) : Sems sig S_).sem 1#32
        k
      else k) Q) := by
  by_cases hc : c.val = 0
  · obtain rfl : c = 0 := Fin.ext hc
    rw [dif_pos ((cond1_iff 0).2 rfl)]
    simp only [k0_part1_eq_skeleton, k0_part1_skel, semSignalWord, Prog.lift, Prog.bind_op, Prog.bind_ret, Prog.pure_eq_ret, v3sem, dev1_eq, dev2_eq, dev3_eq, dev4_eq, dev5_eq, dev6_eq, dev7_eq, dev8_eq, dev9_eq, dev10_eq, dev11_eq, dev12_eq, dev13_eq, dev14_eq, dev15_eq]
    rw [← Ss_zero]
    iintro ⟨#Hk, H⟩ HQ
    iapply (sig_first C K 1 0 rfl O rfl) $$ [H]
    · isplitl []; iexact Hk; iexact H
    iintro H
    iapply (sig_first C K 2 1 rfl O rfl) $$ [H]
    · isplitl []; iexact Hk; iexact H
    iintro H
    iapply (sig_first C K 3 2 rfl O rfl) $$ [H]
    · isplitl []; iexact Hk; iexact H
    iintro H
    iapply (sig_first C K 4 3 rfl O rfl) $$ [H]
    · isplitl []; iexact Hk; iexact H
    iintro H
    iapply (sig_first C K 5 4 rfl O rfl) $$ [H]
    · isplitl []; iexact Hk; iexact H
    iintro H
    iapply (sig_first C K 6 5 rfl O rfl) $$ [H]
    · isplitl []; iexact Hk; iexact H
    iintro H
    iapply (sig_first C K 7 6 rfl O rfl) $$ [H]
    · isplitl []; iexact Hk; iexact H
    iintro H
    iapply (sig_first C K 8 7 rfl O rfl) $$ [H]
    · isplitl []; iexact Hk; iexact H
    iintro H
    iapply (sig_first C K 9 8 rfl O rfl) $$ [H]
    · isplitl []; iexact Hk; iexact H
    iintro H
    iapply (sig_first C K 10 9 rfl O rfl) $$ [H]
    · isplitl []; iexact Hk; iexact H
    iintro H
    iapply (sig_first C K 11 10 rfl O rfl) $$ [H]
    · isplitl []; iexact Hk; iexact H
    iintro H
    iapply (sig_first C K 12 11 rfl O rfl) $$ [H]
    · isplitl []; iexact Hk; iexact H
    iintro H
    iapply (sig_first C K 13 12 rfl O rfl) $$ [H]
    · isplitl []; iexact Hk; iexact H
    iintro H
    iapply (sig_first C K 14 13 rfl O rfl) $$ [H]
    · isplitl []; iexact Hk; iexact H
    iintro H
    iapply (sig_first C K 15 14 rfl O rfl) $$ [H]
    · isplitl []; iexact Hk; iexact H
    iintro H
    rw [show Sg1 (0 : Dev nD) = Ss (14 + 1) from rfl]
    iapply HQ; iexact H
  · rw [dif_neg (fun h => hc ((cond1_iff c).1 h))]
    unfold Sg1; rw [if_neg hc]
    iintro ⟨#Hk, H⟩ HQ
    iapply HQ; iexact H

/-- Every other device signals the first one. -/
theorem seg2 (c : Dev nD) (O : CellTallies nD τ sig Unit) {α : Type} {Q : α → sProp 𝕄} (k : Prog (TpuEff nD τ sig (Elt F) Λ₀ .tc) α) :
    iprop(know C K ∗ sig0 c O (Sg1 c)) ⊢ iprop((sig0 c O (Sg2 c) -∗ wp frame (wpE (defs₀ (F := F)) 𝒱₀ (c : Thread nD τ) none) Set.univ k Q) -∗ wp frame (wpE (defs₀ (F := F)) 𝒱₀ (c : Thread nD τ) none) Set.univ
    (if k0_h2 : k0_cond2 c = 1#1 then do
        semSignalWord (⟨k0_dev16, k0_dev16_lt c k0_h2⟩ : Dev nD) (SemArray.scalar (sig.barrier 0 rfl) : Sems sig S_).sem 1#32
        k
      else k) Q) := by
  unfold Sg1 Sg2
  by_cases hc : c.val = 0
  · rw [dif_neg (fun h => (cond2_iff c).1 h hc), if_pos hc, if_pos hc]
    iintro ⟨#Hk, H⟩ HQ
    iapply HQ; iexact H
  · rw [dif_pos ((cond2_iff c).2 hc), if_neg hc, if_neg hc]
    simp only [semSignalWord, Prog.lift, Prog.bind_op, Prog.bind_ret, Prog.pure_eq_ret, v3sem, dev16_eq]
    iintro ⟨#Hk, H⟩ HQ
    iapply (signal_step C K c 0 (S := Finset.univ) (Finset.mem_univ _) (by simp [pays, hc]) O rfl) $$ [H]
    · isplitl []; iexact Hk; iexact H
    iexact HQ

theorem mem3 (c : Dev nD) (hc : 1 < c.val) : (⟨c.val - 1, by have := c.isLt; omega⟩ : Dev nD) ∈ Sg2 c := by revert c; decide
theorem pays3 (c : Dev nD) (hc : 1 < c.val) : pays c ⟨c.val - 1, by have := c.isLt; omega⟩ 0 = true := by revert c; decide
/-- A device signals its predecessor. -/
theorem seg3 (c : Dev nD) (O : CellTallies nD τ sig Unit) {α : Type} {Q : α → sProp 𝕄} (k : Prog (TpuEff nD τ sig (Elt F) Λ₀ .tc) α) :
    iprop(know C K ∗ sig0 c O (Sg2 c)) ⊢ iprop((sig0 c O (Sg3 c) -∗ wp frame (wpE (defs₀ (F := F)) 𝒱₀ (c : Thread nD τ) none) Set.univ k Q) -∗ wp frame (wpE (defs₀ (F := F)) 𝒱₀ (c : Thread nD τ) none) Set.univ
    (if k0_h3 : k0_cond3 c = 1#1 then do
        semSignalWord (⟨k0_dev17 c, k0_dev17_lt c k0_h3⟩ : Dev nD) (SemArray.scalar (sig.barrier 0 rfl) : Sems sig S_).sem 1#32
        k
      else k) Q) := by
  by_cases hc : 1 < c.val
  · rw [dif_pos ((cond3_iff c).2 hc), show Sg3 c = (Sg2 c).erase ⟨c.val - 1, by have := c.isLt; omega⟩ by unfold Sg3; rw [dif_pos hc]]
    simp only [semSignalWord, Prog.lift, Prog.bind_op, Prog.bind_ret, Prog.pure_eq_ret, v3sem, dev17_eq c _ hc]
    iintro ⟨#Hk, H⟩ HQ
    iapply (signal_step C K c ⟨c.val - 1, by have := c.isLt; omega⟩ (S := Sg2 c) (mem3 c hc) (pays3 c hc) O rfl) $$ [H]
    · isplitl []; iexact Hk; iexact H
    iexact HQ
  · rw [dif_neg (fun h => hc ((cond3_iff c).1 h)), show Sg3 c = Sg2 c by unfold Sg3; rw [dif_neg hc]]
    iintro ⟨#Hk, H⟩ HQ
    iapply HQ; iexact H

theorem mem4 (c : Dev nD) (hc : 0 < c.val ∧ c.val < 15) : (⟨c.val + 1, by show c.val + 1 < 16; omega⟩ : Dev nD) ∈ Sg3 c := by revert c; decide
theorem pays4 (c : Dev nD) (hc : 0 < c.val ∧ c.val < 15) : pays c ⟨c.val + 1, by show c.val + 1 < 16; omega⟩ 0 = true := by revert c; decide
/-- A device signals its successor. -/
theorem seg4 (c : Dev nD) (O : CellTallies nD τ sig Unit) {α : Type} {Q : α → sProp 𝕄} (k : Prog (TpuEff nD τ sig (Elt F) Λ₀ .tc) α) :
    iprop(know C K ∗ sig0 c O (Sg3 c)) ⊢ iprop((sig0 c O (Sg4 c) -∗ wp frame (wpE (defs₀ (F := F)) 𝒱₀ (c : Thread nD τ) none) Set.univ k Q) -∗ wp frame (wpE (defs₀ (F := F)) 𝒱₀ (c : Thread nD τ) none) Set.univ
    (if k0_h4 : k0_cond4 c = 1#1 then do
        semSignalWord (⟨k0_dev18 c, k0_dev18_lt c k0_h4⟩ : Dev nD) (SemArray.scalar (sig.barrier 0 rfl) : Sems sig S_).sem 1#32
        k
      else k) Q) := by
  by_cases hc : 0 < c.val ∧ c.val < 15
  · rw [dif_pos ((cond4_iff c).2 hc), show Sg4 c = (Sg3 c).erase ⟨c.val + 1, by show c.val + 1 < 16; omega⟩ by unfold Sg4; rw [dif_pos hc]]
    simp only [semSignalWord, Prog.lift, Prog.bind_op, Prog.bind_ret, Prog.pure_eq_ret, v3sem, dev18_eq c _ hc]
    iintro ⟨#Hk, H⟩ HQ
    iapply (signal_step C K c ⟨c.val + 1, by show c.val + 1 < 16; omega⟩ (S := Sg3 c) (mem4 c hc) (pays4 c hc) O rfl) $$ [H]
    · isplitl []; iexact Hk; iexact H
    iexact HQ
  · rw [dif_neg (fun h => hc ((cond4_iff c).1 h)), show Sg4 c = Sg3 c by unfold Sg4; rw [dif_neg hc]]
    iintro ⟨#Hk, H⟩ HQ
    iapply HQ; iexact H

end Cert.Exchange

end
-- ==== Proof.Covers.lean ====
module

public import proofs.«01_k».proof.Proof.Signals

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

/-- Two pieces that cover a whole buffer leave the contents they both read off one function. -/
theorem writes_whole_eq {b : Ref sig .tc} (f G : b.ty.Contents (Elt F)) (L : List (View.Piece (Elt F) b.ty.shape b.ty.elt))
    (hG : ∀ p ∈ L, ∀ x : p.1.shape.Idx, p.2 x = G (p.1.emb x)) (hc : ∀ y : b.ty.shape.Idx, ∃ p ∈ L, y ∈ p.1.set) :
    (Memref.whole b).view.writes (Elt F) f L = G := by
  have h := fun y => View.read_writes_apply_of_pieces (v := (Memref.whole b).view) (f := f) G L hG y (hc y)
  exact funext h

theorem held_of (c : Dev nD) (b : Ref sig .tc) (q : PosShare TreeShare) (f : b.ty.Contents (Elt F)) :
    (pts c b q f : sProp 𝕄) ⊢ ((Memref.whole b).view.loc (c : Thread nD τ) ↦{q} f) := .rfl
theorem of_held (c : Dev nD) (b : Ref sig .tc) (q : PosShare TreeShare) (f : b.ty.Contents (Elt F)) :
    ((Memref.whole b).view.loc (c : Thread nD τ) ↦{q} f) ⊢ (pts c b q f : sProp 𝕄) := .rfl
theorem wp_dev (c : Dev nD) {α : Type} {Q : α → sProp 𝕄} {k : Dev nD → Prog (TpuEff nD τ sig (Elt F) Λ₀ .tc) α} :
    wp frame (wpE (defs₀ (F := F)) 𝒱₀ (c : Thread nD τ) none) Set.univ (k c) Q ⊢ wp frame (wpE (defs₀ (F := F)) 𝒱₀ (c : Thread nD τ) none) Set.univ (Prog.lift .deviceId >>= k) Q := by
  simp only [Prog.lift, Prog.bind_op, Prog.bind_ret, wp_deviceId]; exact .rfl

/-- The device's number as the body computes it. -/
abbrev wd (c : Dev nD) : BitVec 32 := Scalar.remsi (Scalar.divsi (Dev.word c) 1#32) 16#32

end Cert.Exchange

end
-- ==== Proof.MergeValues.lean ====
module

public import proofs.«01_k».proof.Proof.Values

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

/-! The merge of the partial results, on the first device. -/

def v663 (E : Env F) : Vec F S1x32x384 .bf16 :=
  View.readAt (Elt F) (Memref.whole cc0_scratch4).view (Rect.unit (s := S2x32x384) ![0, 0, 0] S1x32x384.size inb_S2x32x384_S1x32x384_0_0_0).toLoadRect E.pw
def v666 (E : Env F) : Vec F S1x1x32x384 .bf16 :=
  View.readAt (Elt F) (Memref.whole cc0_scratch5).view (Rect.unit (s := S15x2x32x384) ![0, 0, 0, 0] S1x1x32x384.size inb_S15x2x32x384_S1x1x32x384_0_0_0_0).toLoadRect E.pp
def v665 (E : Env F) : FVec F S32x384 .f32 :=
  k0_pay8 (v663 E)
def v668 (E : Env F) : FVec F S32x384 .f32 :=
  k0_pay9 (v666 E)
def v669 (E : Env F) : Vec F S1x1x32x384 .bf16 :=
  View.readAt (Elt F) (Memref.whole cc0_scratch5).view (Rect.unit (s := S15x2x32x384) ![1, 0, 0, 0] S1x1x32x384.size inb_S15x2x32x384_S1x1x32x384_1_0_0_0).toLoadRect E.pp
def v672 (E : Env F) : Vec F S1x1x32x384 .bf16 :=
  View.readAt (Elt F) (Memref.whole cc0_scratch5).view (Rect.unit (s := S15x2x32x384) ![2, 0, 0, 0] S1x1x32x384.size inb_S15x2x32x384_S1x1x32x384_2_0_0_0).toLoadRect E.pp
def v675 (E : Env F) : Vec F S1x1x32x384 .bf16 :=
  View.readAt (Elt F) (Memref.whole cc0_scratch5).view (Rect.unit (s := S15x2x32x384) ![3, 0, 0, 0] S1x1x32x384.size inb_S15x2x32x384_S1x1x32x384_3_0_0_0).toLoadRect E.pp
def v678 (E : Env F) : Vec F S1x1x32x384 .bf16 :=
  View.readAt (Elt F) (Memref.whole cc0_scratch5).view (Rect.unit (s := S15x2x32x384) ![4, 0, 0, 0] S1x1x32x384.size inb_S15x2x32x384_S1x1x32x384_4_0_0_0).toLoadRect E.pp
def v681 (E : Env F) : Vec F S1x1x32x384 .bf16 :=
  View.readAt (Elt F) (Memref.whole cc0_scratch5).view (Rect.unit (s := S15x2x32x384) ![5, 0, 0, 0] S1x1x32x384.size inb_S15x2x32x384_S1x1x32x384_5_0_0_0).toLoadRect E.pp
def v684 (E : Env F) : Vec F S1x1x32x384 .bf16 :=
  View.readAt (Elt F) (Memref.whole cc0_scratch5).view (Rect.unit (s := S15x2x32x384) ![6, 0, 0, 0] S1x1x32x384.size inb_S15x2x32x384_S1x1x32x384_6_0_0_0).toLoadRect E.pp
def v687 (E : Env F) : Vec F S1x1x32x384 .bf16 :=
  View.readAt (Elt F) (Memref.whole cc0_scratch5).view (Rect.unit (s := S15x2x32x384) ![7, 0, 0, 0] S1x1x32x384.size inb_S15x2x32x384_S1x1x32x384_7_0_0_0).toLoadRect E.pp
def v690 (E : Env F) : Vec F S1x1x32x384 .bf16 :=
  View.readAt (Elt F) (Memref.whole cc0_scratch5).view (Rect.unit (s := S15x2x32x384) ![8, 0, 0, 0] S1x1x32x384.size inb_S15x2x32x384_S1x1x32x384_8_0_0_0).toLoadRect E.pp
def v693 (E : Env F) : Vec F S1x1x32x384 .bf16 :=
  View.readAt (Elt F) (Memref.whole cc0_scratch5).view (Rect.unit (s := S15x2x32x384) ![9, 0, 0, 0] S1x1x32x384.size inb_S15x2x32x384_S1x1x32x384_9_0_0_0).toLoadRect E.pp
def v671 (E : Env F) : FVec F S32x384 .f32 :=
  k0_pay10 (v669 E)
def v674 (E : Env F) : FVec F S32x384 .f32 :=
  k0_pay11 (v672 E)
def v677 (E : Env F) : FVec F S32x384 .f32 :=
  k0_pay12 (v675 E)
def v680 (E : Env F) : FVec F S32x384 .f32 :=
  k0_pay13 (v678 E)
def v683 (E : Env F) : FVec F S32x384 .f32 :=
  k0_pay14 (v681 E)
def v686 (E : Env F) : FVec F S32x384 .f32 :=
  k0_pay15 (v684 E)
def v689 (E : Env F) : FVec F S32x384 .f32 :=
  k0_pay16 (v687 E)
def v692 (E : Env F) : FVec F S32x384 .f32 :=
  k0_pay17 (v690 E)
def v694 (E : Env F) : FVec F S32x384 .bf16 :=
  k0_pay18 (v693 E)
def v696 (E : Env F) : Vec F S1x1x32x384 .bf16 :=
  View.readAt (Elt F) (Memref.whole cc0_scratch5).view (Rect.unit (s := S15x2x32x384) ![10, 0, 0, 0] S1x1x32x384.size inb_S15x2x32x384_S1x1x32x384_10_0_0_0).toLoadRect E.pp
def v699 (E : Env F) : Vec F S1x1x32x384 .bf16 :=
  View.readAt (Elt F) (Memref.whole cc0_scratch5).view (Rect.unit (s := S15x2x32x384) ![11, 0, 0, 0] S1x1x32x384.size inb_S15x2x32x384_S1x1x32x384_11_0_0_0).toLoadRect E.pp
def v702 (E : Env F) : Vec F S1x1x32x384 .bf16 :=
  View.readAt (Elt F) (Memref.whole cc0_scratch5).view (Rect.unit (s := S15x2x32x384) ![12, 0, 0, 0] S1x1x32x384.size inb_S15x2x32x384_S1x1x32x384_12_0_0_0).toLoadRect E.pp
def v705 (E : Env F) : Vec F S1x1x32x384 .bf16 :=
  View.readAt (Elt F) (Memref.whole cc0_scratch5).view (Rect.unit (s := S15x2x32x384) ![13, 0, 0, 0] S1x1x32x384.size inb_S15x2x32x384_S1x1x32x384_13_0_0_0).toLoadRect E.pp
def v708 (E : Env F) : Vec F S1x1x32x384 .bf16 :=
  View.readAt (Elt F) (Memref.whole cc0_scratch5).view (Rect.unit (s := S15x2x32x384) ![14, 0, 0, 0] S1x1x32x384.size inb_S15x2x32x384_S1x1x32x384_14_0_0_0).toLoadRect E.pp
def v695 (E : Env F) : FVec F S32x384 .f32 :=
  k0_pay19 (v694 E)
def v698 (E : Env F) : FVec F S32x384 .f32 :=
  k0_pay20 (v696 E)
def v701 (E : Env F) : FVec F S32x384 .f32 :=
  k0_pay21 (v699 E)
def v704 (E : Env F) : FVec F S32x384 .f32 :=
  k0_pay22 (v702 E)
def v707 (E : Env F) : FVec F S32x384 .f32 :=
  k0_pay23 (v705 E)
def v710 (E : Env F) : FVec F S32x384 .f32 :=
  k0_pay24 (v708 E)
def v711 (E : Env F) : FVec F S32x4 .f32 :=
  k0_pay25 (v665 E)
def v712 (E : Env F) : FVec F S32x4 .f32 :=
  k0_pay26 (v668 E)
def v713 (E : Env F) : FVec F S32x4 .f32 :=
  k0_pay27 (v671 E)
def v714 (E : Env F) : FVec F S32x4 .f32 :=
  k0_pay28 (v674 E)
def v715 (E : Env F) : FVec F S32x4 .f32 :=
  k0_pay29 (v677 E)
def v716 (E : Env F) : FVec F S32x4 .f32 :=
  k0_pay30 (v680 E)
def v717 (E : Env F) : FVec F S32x4 .f32 :=
  k0_pay31 (v683 E)
def v718 (E : Env F) : FVec F S32x4 .f32 :=
  k0_pay32 (v686 E)
def v719 (E : Env F) : FVec F S32x4 .f32 :=
  k0_pay33 (v689 E)
def v720 (E : Env F) : FVec F S32x4 .f32 :=
  k0_pay34 (v692 E)
def v721 (E : Env F) : FVec F S32x4 .f32 :=
  k0_pay35 (v694 E)
def v722 (E : Env F) : FVec F S32x4 .f32 :=
  k0_pay36 (v696 E)
def v723 (E : Env F) : FVec F S32x4 .f32 :=
  k0_pay37 (v699 E)
def v724 (E : Env F) : FVec F S32x4 .f32 :=
  k0_pay38 (v702 E)
def v725 (E : Env F) : FVec F S32x4 .f32 :=
  k0_pay39 (v705 E)
def v726 (E : Env F) : FVec F S32x4 .f32 :=
  k0_pay40 (v708 E)
def v727 (E : Env F) : FVec F S32x4 .f32 :=
  k0_pay41 (v665 E)
def v728 (E : Env F) : FVec F S32x4 .f32 :=
  k0_pay42 (v668 E)
def v729 (E : Env F) : FVec F S32x4 .f32 :=
  k0_pay43 (v671 E)
def v730 (E : Env F) : FVec F S32x4 .f32 :=
  k0_pay44 (v674 E)
def v731 (E : Env F) : FVec F S32x4 .f32 :=
  k0_pay45 (v677 E)
def v732 (E : Env F) : FVec F S32x4 .f32 :=
  k0_pay46 (v680 E)
def v733 (E : Env F) : FVec F S32x4 .f32 :=
  k0_pay47 (v683 E)
def v734 (E : Env F) : FVec F S32x4 .f32 :=
  k0_pay48 (v686 E)
def v735 (E : Env F) : FVec F S32x4 .f32 :=
  k0_pay49 (v689 E)
def v736 (E : Env F) : FVec F S32x4 .f32 :=
  k0_pay50 (v692 E)
def v737 (E : Env F) : FVec F S32x4 .f32 :=
  k0_pay51 (v695 E)
def v738 (E : Env F) : FVec F S32x4 .f32 :=
  k0_pay52 (v698 E)
def v739 (E : Env F) : FVec F S32x4 .f32 :=
  k0_pay53 (v701 E)
def v740 (E : Env F) : FVec F S32x4 .f32 :=
  k0_pay54 (v704 E)
def v741 (E : Env F) : FVec F S32x4 .f32 :=
  k0_pay55 (v707 E)
def v742 (E : Env F) : FVec F S32x4 .f32 :=
  k0_pay56 (v710 E)
def v759 (E : Env F) : FVec F S32x4 .f32 :=
  k0_pay58 (v711 E) (v712 E) (v713 E) (v714 E) (v715 E) (v716 E) (v717 E) (v718 E) (v719 E) (v720 E) (v721 E) (v722 E) (v723 E) (v724 E) (v725 E) (v726 E)
def v761 (E : Env F) : FVec F S32x4 .f32 :=
  k0_pay59 (v711 E) (v712 E) (v713 E) (v714 E) (v715 E) (v716 E) (v717 E) (v718 E) (v719 E) (v720 E) (v721 E) (v722 E) (v723 E) (v724 E) (v725 E) (v726 E)
def v763 (E : Env F) : FVec F S32x4 .f32 :=
  k0_pay60 (v711 E) (v712 E) (v713 E) (v714 E) (v715 E) (v716 E) (v717 E) (v718 E) (v719 E) (v720 E) (v721 E) (v722 E) (v723 E) (v724 E) (v725 E) (v726 E)
def v765 (E : Env F) : FVec F S32x4 .f32 :=
  k0_pay61 (v711 E) (v712 E) (v713 E) (v714 E) (v715 E) (v716 E) (v717 E) (v718 E) (v719 E) (v720 E) (v721 E) (v722 E) (v723 E) (v724 E) (v725 E) (v726 E)
def v767 (E : Env F) : FVec F S32x4 .f32 :=
  k0_pay62 (v711 E) (v712 E) (v713 E) (v714 E) (v715 E) (v716 E) (v717 E) (v718 E) (v719 E) (v720 E) (v721 E) (v722 E) (v723 E) (v724 E) (v725 E) (v726 E)
def v769 (E : Env F) : FVec F S32x4 .f32 :=
  k0_pay63 (v711 E) (v712 E) (v713 E) (v714 E) (v715 E) (v716 E) (v717 E) (v718 E) (v719 E) (v720 E) (v721 E) (v722 E) (v723 E) (v724 E) (v725 E) (v726 E)
def v771 (E : Env F) : FVec F S32x4 .f32 :=
  k0_pay64 (v711 E) (v712 E) (v713 E) (v714 E) (v715 E) (v716 E) (v717 E) (v718 E) (v719 E) (v720 E) (v721 E) (v722 E) (v723 E) (v724 E) (v725 E) (v726 E)
def v773 (E : Env F) : FVec F S32x4 .f32 :=
  k0_pay65 (v711 E) (v712 E) (v713 E) (v714 E) (v715 E) (v716 E) (v717 E) (v718 E) (v719 E) (v720 E) (v721 E) (v722 E) (v723 E) (v724 E) (v725 E) (v726 E)
def v775 (E : Env F) : FVec F S32x4 .f32 :=
  k0_pay66 (v711 E) (v712 E) (v713 E) (v714 E) (v715 E) (v716 E) (v717 E) (v718 E) (v719 E) (v720 E) (v721 E) (v722 E) (v723 E) (v724 E) (v725 E) (v726 E)
def v777 (E : Env F) : FVec F S32x4 .f32 :=
  k0_pay67 (v711 E) (v712 E) (v713 E) (v714 E) (v715 E) (v716 E) (v717 E) (v718 E) (v719 E) (v720 E) (v721 E) (v722 E) (v723 E) (v724 E) (v725 E) (v726 E)
def v779 (E : Env F) : FVec F S32x4 .f32 :=
  k0_pay68 (v711 E) (v712 E) (v713 E) (v714 E) (v715 E) (v716 E) (v717 E) (v718 E) (v719 E) (v720 E) (v721 E) (v722 E) (v723 E) (v724 E) (v725 E) (v726 E)
def v781 (E : Env F) : FVec F S32x4 .f32 :=
  k0_pay69 (v711 E) (v712 E) (v713 E) (v714 E) (v715 E) (v716 E) (v717 E) (v718 E) (v719 E) (v720 E) (v721 E) (v722 E) (v723 E) (v724 E) (v725 E) (v726 E)
def v783 (E : Env F) : FVec F S32x4 .f32 :=
  k0_pay70 (v711 E) (v712 E) (v713 E) (v714 E) (v715 E) (v716 E) (v717 E) (v718 E) (v719 E) (v720 E) (v721 E) (v722 E) (v723 E) (v724 E) (v725 E) (v726 E)
def v785 (E : Env F) : FVec F S32x4 .f32 :=
  k0_pay71 (v711 E) (v712 E) (v713 E) (v714 E) (v715 E) (v716 E) (v717 E) (v718 E) (v719 E) (v720 E) (v721 E) (v722 E) (v723 E) (v724 E) (v725 E) (v726 E)
def v787 (E : Env F) : FVec F S32x4 .f32 :=
  k0_pay72 (v711 E) (v712 E) (v713 E) (v714 E) (v715 E) (v716 E) (v717 E) (v718 E) (v719 E) (v720 E) (v721 E) (v722 E) (v723 E) (v724 E) (v725 E) (v726 E)
def v789 (E : Env F) : FVec F S32x4 .f32 :=
  k0_pay73 (v711 E) (v712 E) (v713 E) (v714 E) (v715 E) (v716 E) (v717 E) (v718 E) (v719 E) (v720 E) (v721 E) (v722 E) (v723 E) (v724 E) (v725 E) (v726 E)
def v794 (E : Env F) : FVec F S32x4 .f32 :=
  k0_pay74 (v711 E) (v712 E) (v713 E) (v714 E) (v715 E) (v716 E) (v717 E) (v718 E) (v719 E) (v720 E) (v721 E) (v722 E) (v723 E) (v724 E) (v725 E) (v726 E) (v727 E) (v728 E) (v729 E)
def v820 (E : Env F) : FVec F S32x4 .f32 :=
  k0_pay75 (v730 E) (v731 E) (v732 E) (v733 E) (v734 E) (v735 E) (v736 E) (v737 E) (v738 E) (v739 E) (v740 E) (v741 E) (v742 E) (v765 E) (v767 E) (v769 E) (v771 E) (v773 E) (v775 E) (v777 E) (v779 E) (v781 E) (v783 E) (v785 E) (v787 E) (v789 E) (v794 E)
def v854 (E : Env F) : FVec F S32x64 .f32 :=
  k0_pay76 (v665 E) (v668 E) (v671 E) (v674 E) (v677 E) (v680 E) (v683 E) (v759 E) (v761 E) (v763 E) (v765 E) (v767 E) (v769 E) (v771 E)
def v902 (E : Env F) : FVec F S32x64 .f32 :=
  k0_pay77 (v686 E) (v689 E) (v692 E) (v695 E) (v698 E) (v701 E) (v704 E) (v707 E) (v710 E) (v773 E) (v775 E) (v777 E) (v779 E) (v781 E) (v783 E) (v785 E) (v787 E) (v789 E) (v820 E) (v854 E)
def v911 (E : Env F) : FVec F S32x64 .f32 :=
  k0_pay78 (v665 E) (v668 E) (v759 E) (v761 E)
def v912 (E : Env F) : FVec F S32x64 .f32 :=
  k0_pay79 (v671 E)
def v914 (E : Env F) : FVec F S32x64 .f32 :=
  k0_pay80 (v763 E)
def v971 (E : Env F) : FVec F S32x64 .f32 :=
  k0_pay81 (v674 E) (v677 E) (v680 E) (v683 E) (v686 E) (v689 E) (v692 E) (v695 E) (v698 E) (v701 E) (v704 E) (v765 E) (v767 E) (v769 E) (v771 E) (v773 E) (v775 E) (v777 E) (v779 E) (v781 E) (v783 E) (v785 E) (v911 E) (v912 E) (v914 E)
def v972 (E : Env F) : FVec F S32x64 .f32 :=
  k0_pay82 (v707 E)
def v974 (E : Env F) : FVec F S32x64 .f32 :=
  k0_pay83 (v787 E)
def v984 (E : Env F) : FVec F S32x64 .f32 :=
  k0_pay84 (v710 E) (v789 E) (v820 E) (v971 E) (v972 E) (v974 E)
def v1033 (E : Env F) : FVec F S32x64 .f32 :=
  k0_pay85 (v665 E) (v668 E) (v671 E) (v674 E) (v677 E) (v680 E) (v683 E) (v686 E) (v689 E) (v692 E) (v759 E) (v761 E) (v763 E) (v765 E) (v767 E) (v769 E) (v771 E) (v773 E) (v775 E) (v777 E)
def v1034 (E : Env F) : FVec F S32x64 .f32 :=
  k0_pay86 (v695 E)
def v1066 (E : Env F) : FVec F S32x64 .f32 :=
  k0_pay87 (v698 E) (v701 E) (v704 E) (v707 E) (v710 E) (v779 E) (v781 E) (v783 E) (v785 E) (v787 E) (v789 E) (v820 E) (v1033 E) (v1034 E)
def v1090 (E : Env F) : FVec F S32x64 .f32 :=
  k0_pay88 (v665 E) (v668 E) (v671 E) (v674 E) (v677 E) (v759 E) (v761 E) (v763 E) (v765 E) (v767 E)
def v1094 (E : Env F) : FVec F S32x64 .f32 :=
  k0_pay89 (v680 E) (v769 E)
def v1150 (E : Env F) : Vec F S256x512 .f32 :=
  View.readAt (Elt F) (Memref.whole cc0_stg4_0).view (Rect.unit (s := S256x512) ![0, 0] S256x512.size inb_S256x512_S256x512_0_0).toLoadRect E.wo
def cst_474 (E : Env F) : FVec F S32x512 .f32 :=
  constant S32x512 .f32 0x00000000#32
def v1149 (E : Env F) : FVec F S32x256 .f32 :=
  k0_pay90 (v683 E) (v686 E) (v689 E) (v692 E) (v695 E) (v698 E) (v701 E) (v704 E) (v707 E) (v710 E) (v771 E) (v773 E) (v775 E) (v777 E) (v779 E) (v781 E) (v783 E) (v785 E) (v787 E) (v789 E) (v820 E) (v902 E) (v984 E) (v1066 E) (v1090 E) (v1094 E)
def v1151 (E : Env F) : FVec F S256x512 .f32 :=
  k0_pay91 (v1150 E)
def v1156 (E : Env F) : Vec F S1x32x384 .bf16 :=
  View.readAt (Elt F) (Memref.whole cc0_scratch4).view (Rect.unit (s := S2x32x384) ![1, 0, 0] S1x32x384.size inb_S2x32x384_S1x32x384_1_0_0).toLoadRect E.pw
def v1159 (E : Env F) : Vec F S1x1x32x384 .bf16 :=
  View.readAt (Elt F) (Memref.whole cc0_scratch5).view (Rect.unit (s := S15x2x32x384) ![0, 1, 0, 0] S1x1x32x384.size inb_S15x2x32x384_S1x1x32x384_0_1_0_0).toLoadRect E.pp
def v1162 (E : Env F) : Vec F S1x1x32x384 .bf16 :=
  View.readAt (Elt F) (Memref.whole cc0_scratch5).view (Rect.unit (s := S15x2x32x384) ![1, 1, 0, 0] S1x1x32x384.size inb_S15x2x32x384_S1x1x32x384_1_1_0_0).toLoadRect E.pp
def v1165 (E : Env F) : Vec F S1x1x32x384 .bf16 :=
  View.readAt (Elt F) (Memref.whole cc0_scratch5).view (Rect.unit (s := S15x2x32x384) ![2, 1, 0, 0] S1x1x32x384.size inb_S15x2x32x384_S1x1x32x384_2_1_0_0).toLoadRect E.pp
def v1168 (E : Env F) : Vec F S1x1x32x384 .bf16 :=
  View.readAt (Elt F) (Memref.whole cc0_scratch5).view (Rect.unit (s := S15x2x32x384) ![3, 1, 0, 0] S1x1x32x384.size inb_S15x2x32x384_S1x1x32x384_3_1_0_0).toLoadRect E.pp
def v1171 (E : Env F) : Vec F S1x1x32x384 .bf16 :=
  View.readAt (Elt F) (Memref.whole cc0_scratch5).view (Rect.unit (s := S15x2x32x384) ![4, 1, 0, 0] S1x1x32x384.size inb_S15x2x32x384_S1x1x32x384_4_1_0_0).toLoadRect E.pp
def v1174 (E : Env F) : Vec F S1x1x32x384 .bf16 :=
  View.readAt (Elt F) (Memref.whole cc0_scratch5).view (Rect.unit (s := S15x2x32x384) ![5, 1, 0, 0] S1x1x32x384.size inb_S15x2x32x384_S1x1x32x384_5_1_0_0).toLoadRect E.pp
def v1158 (E : Env F) : FVec F S32x384 .f32 :=
  k0_pay93 (v1156 E)
def v1161 (E : Env F) : FVec F S32x384 .f32 :=
  k0_pay94 (v1159 E)
def v1164 (E : Env F) : FVec F S32x384 .f32 :=
  k0_pay95 (v1162 E)
def v1167 (E : Env F) : FVec F S32x384 .f32 :=
  k0_pay96 (v1165 E)
def v1170 (E : Env F) : FVec F S32x384 .f32 :=
  k0_pay97 (v1168 E)
def v1173 (E : Env F) : FVec F S32x384 .f32 :=
  k0_pay98 (v1171 E)
def v1176 (E : Env F) : FVec F S32x384 .f32 :=
  k0_pay99 (v1174 E)
def v1177 (E : Env F) : Vec F S1x1x32x384 .bf16 :=
  View.readAt (Elt F) (Memref.whole cc0_scratch5).view (Rect.unit (s := S15x2x32x384) ![6, 1, 0, 0] S1x1x32x384.size inb_S15x2x32x384_S1x1x32x384_6_1_0_0).toLoadRect E.pp
def v1180 (E : Env F) : Vec F S1x1x32x384 .bf16 :=
  View.readAt (Elt F) (Memref.whole cc0_scratch5).view (Rect.unit (s := S15x2x32x384) ![7, 1, 0, 0] S1x1x32x384.size inb_S15x2x32x384_S1x1x32x384_7_1_0_0).toLoadRect E.pp
def v1183 (E : Env F) : Vec F S1x1x32x384 .bf16 :=
  View.readAt (Elt F) (Memref.whole cc0_scratch5).view (Rect.unit (s := S15x2x32x384) ![8, 1, 0, 0] S1x1x32x384.size inb_S15x2x32x384_S1x1x32x384_8_1_0_0).toLoadRect E.pp
def v1186 (E : Env F) : Vec F S1x1x32x384 .bf16 :=
  View.readAt (Elt F) (Memref.whole cc0_scratch5).view (Rect.unit (s := S15x2x32x384) ![9, 1, 0, 0] S1x1x32x384.size inb_S15x2x32x384_S1x1x32x384_9_1_0_0).toLoadRect E.pp
def v1189 (E : Env F) : Vec F S1x1x32x384 .bf16 :=
  View.readAt (Elt F) (Memref.whole cc0_scratch5).view (Rect.unit (s := S15x2x32x384) ![10, 1, 0, 0] S1x1x32x384.size inb_S15x2x32x384_S1x1x32x384_10_1_0_0).toLoadRect E.pp
def v1192 (E : Env F) : Vec F S1x1x32x384 .bf16 :=
  View.readAt (Elt F) (Memref.whole cc0_scratch5).view (Rect.unit (s := S15x2x32x384) ![11, 1, 0, 0] S1x1x32x384.size inb_S15x2x32x384_S1x1x32x384_11_1_0_0).toLoadRect E.pp
def v1195 (E : Env F) : Vec F S1x1x32x384 .bf16 :=
  View.readAt (Elt F) (Memref.whole cc0_scratch5).view (Rect.unit (s := S15x2x32x384) ![12, 1, 0, 0] S1x1x32x384.size inb_S15x2x32x384_S1x1x32x384_12_1_0_0).toLoadRect E.pp
def v1198 (E : Env F) : Vec F S1x1x32x384 .bf16 :=
  View.readAt (Elt F) (Memref.whole cc0_scratch5).view (Rect.unit (s := S15x2x32x384) ![13, 1, 0, 0] S1x1x32x384.size inb_S15x2x32x384_S1x1x32x384_13_1_0_0).toLoadRect E.pp
def v1201 (E : Env F) : Vec F S1x1x32x384 .bf16 :=
  View.readAt (Elt F) (Memref.whole cc0_scratch5).view (Rect.unit (s := S15x2x32x384) ![14, 1, 0, 0] S1x1x32x384.size inb_S15x2x32x384_S1x1x32x384_14_1_0_0).toLoadRect E.pp
def v1179 (E : Env F) : FVec F S32x384 .f32 :=
  k0_pay100 (v1177 E)
def v1182 (E : Env F) : FVec F S32x384 .f32 :=
  k0_pay101 (v1180 E)
def v1185 (E : Env F) : FVec F S32x384 .f32 :=
  k0_pay102 (v1183 E)
def v1188 (E : Env F) : FVec F S32x384 .f32 :=
  k0_pay103 (v1186 E)
def v1191 (E : Env F) : FVec F S32x384 .f32 :=
  k0_pay104 (v1189 E)
def v1194 (E : Env F) : FVec F S32x384 .f32 :=
  k0_pay105 (v1192 E)
def v1197 (E : Env F) : FVec F S32x384 .f32 :=
  k0_pay106 (v1195 E)
def v1200 (E : Env F) : FVec F S32x384 .f32 :=
  k0_pay107 (v1198 E)
def v1203 (E : Env F) : FVec F S32x384 .f32 :=
  k0_pay108 (v1201 E)
def v1204 (E : Env F) : FVec F S32x4 .f32 :=
  k0_pay109 (v1158 E)
def v1211 (E : Env F) : FVec F S32x4 .f32 :=
  k0_pay116 (v1179 E)
def v1212 (E : Env F) : FVec F S32x4 .f32 :=
  k0_pay117 (v1182 E)
def v1213 (E : Env F) : FVec F S32x4 .f32 :=
  k0_pay118 (v1185 E)
def v1214 (E : Env F) : FVec F S32x4 .f32 :=
  k0_pay119 (v1188 E)
def v1215 (E : Env F) : FVec F S32x4 .f32 :=
  k0_pay120 (v1191 E)
def v1216 (E : Env F) : FVec F S32x4 .f32 :=
  k0_pay121 (v1194 E)
def v1217 (E : Env F) : FVec F S32x4 .f32 :=
  k0_pay122 (v1197 E)
def v1218 (E : Env F) : FVec F S32x4 .f32 :=
  k0_pay123 (v1200 E)
def v1219 (E : Env F) : FVec F S32x4 .f32 :=
  k0_pay124 (v1203 E)
def v1220 (E : Env F) : FVec F S32x4 .f32 :=
  k0_pay125 (v1158 E)
def v1221 (E : Env F) : FVec F S32x4 .f32 :=
  k0_pay126 (v1161 E)
def v1222 (E : Env F) : FVec F S32x4 .f32 :=
  k0_pay127 (v1164 E)
def v1223 (E : Env F) : FVec F S32x4 .f32 :=
  k0_pay128 (v1167 E)
def v1224 (E : Env F) : FVec F S32x4 .f32 :=
  k0_pay129 (v1170 E)
def v1225 (E : Env F) : FVec F S32x4 .f32 :=
  k0_pay130 (v1173 E)
def v1226 (E : Env F) : FVec F S32x4 .f32 :=
  k0_pay131 (v1176 E)
def v1227 (E : Env F) : FVec F S32x4 .f32 :=
  k0_pay132 (v1179 E)
def v1228 (E : Env F) : FVec F S32x4 .f32 :=
  k0_pay133 (v1182 E)
def v1229 (E : Env F) : FVec F S32x4 .f32 :=
  k0_pay134 (v1185 E)
def v1230 (E : Env F) : FVec F S32x4 .f32 :=
  k0_pay135 (v1188 E)
def v1231 (E : Env F) : FVec F S32x4 .f32 :=
  k0_pay136 (v1191 E)
def v1232 (E : Env F) : FVec F S32x4 .f32 :=
  k0_pay137 (v1194 E)
def v1233 (E : Env F) : FVec F S32x4 .f32 :=
  k0_pay138 (v1197 E)
def v1234 (E : Env F) : FVec F S32x4 .f32 :=
  k0_pay139 (v1200 E)
def v1235 (E : Env F) : FVec F S32x4 .f32 :=
  k0_pay140 (v1203 E)
def v1250 (E : Env F) : FVec F S32x4 .f32 :=
  k0_pay141 (v1161 E) (v1164 E) (v1167 E) (v1170 E) (v1173 E) (v1176 E) (v1179 E) (v1182 E) (v1185 E) (v1188 E) (v1191 E) (v1194 E) (v1197 E) (v1200 E) (v1203 E) (v1204 E)
def v1252 (E : Env F) : FVec F S32x4 .f32 :=
  k0_pay142 (v1161 E) (v1164 E) (v1167 E) (v1170 E) (v1173 E) (v1176 E) (v1179 E) (v1182 E) (v1185 E) (v1188 E) (v1191 E) (v1194 E) (v1197 E) (v1200 E) (v1203 E) (v1204 E)
def v1254 (E : Env F) : FVec F S32x4 .f32 :=
  k0_pay143 (v1161 E) (v1164 E) (v1167 E) (v1170 E) (v1173 E) (v1176 E) (v1179 E) (v1182 E) (v1185 E) (v1188 E) (v1191 E) (v1194 E) (v1197 E) (v1200 E) (v1203 E) (v1204 E)
def v1256 (E : Env F) : FVec F S32x4 .f32 :=
  k0_pay144 (v1161 E) (v1164 E) (v1167 E) (v1170 E) (v1173 E) (v1176 E) (v1179 E) (v1182 E) (v1185 E) (v1188 E) (v1191 E) (v1194 E) (v1197 E) (v1200 E) (v1203 E) (v1204 E)
def v1258 (E : Env F) : FVec F S32x4 .f32 :=
  k0_pay145 (v1161 E) (v1164 E) (v1167 E) (v1170 E) (v1173 E) (v1176 E) (v1179 E) (v1182 E) (v1185 E) (v1188 E) (v1191 E) (v1194 E) (v1197 E) (v1200 E) (v1203 E) (v1204 E)
def v1260 (E : Env F) : FVec F S32x4 .f32 :=
  k0_pay146 (v1161 E) (v1164 E) (v1167 E) (v1170 E) (v1173 E) (v1176 E) (v1179 E) (v1182 E) (v1185 E) (v1188 E) (v1191 E) (v1194 E) (v1197 E) (v1200 E) (v1203 E) (v1204 E)
def v1262 (E : Env F) : FVec F S32x4 .f32 :=
  k0_pay147 (v1161 E) (v1164 E) (v1167 E) (v1170 E) (v1173 E) (v1176 E) (v1179 E) (v1182 E) (v1185 E) (v1188 E) (v1191 E) (v1194 E) (v1197 E) (v1200 E) (v1203 E) (v1204 E)
def v1264 (E : Env F) : FVec F S32x4 .f32 :=
  k0_pay148 (v1161 E) (v1164 E) (v1167 E) (v1170 E) (v1173 E) (v1176 E) (v1179 E) (v1182 E) (v1185 E) (v1188 E) (v1191 E) (v1194 E) (v1197 E) (v1200 E) (v1203 E) (v1204 E)
def v1266 (E : Env F) : FVec F S32x4 .f32 :=
  k0_pay149 (v1211 E) (v1250 E)
def v1268 (E : Env F) : FVec F S32x4 .f32 :=
  k0_pay150 (v1212 E) (v1250 E)
def v1270 (E : Env F) : FVec F S32x4 .f32 :=
  k0_pay151 (v1213 E) (v1250 E)
def v1272 (E : Env F) : FVec F S32x4 .f32 :=
  k0_pay152 (v1214 E) (v1250 E)
def v1274 (E : Env F) : FVec F S32x4 .f32 :=
  k0_pay153 (v1215 E) (v1250 E)
def v1276 (E : Env F) : FVec F S32x4 .f32 :=
  k0_pay154 (v1216 E) (v1250 E)
def v1278 (E : Env F) : FVec F S32x4 .f32 :=
  k0_pay155 (v1217 E) (v1250 E)
def v1280 (E : Env F) : FVec F S32x4 .f32 :=
  k0_pay156 (v1218 E) (v1250 E)
def v1282 (E : Env F) : FVec F S32x4 .f32 :=
  k0_pay157 (v1219 E) (v1250 E)
def v1313 (E : Env F) : FVec F S32x4 .f32 :=
  k0_pay158 (v1211 E) (v1212 E) (v1213 E) (v1214 E) (v1215 E) (v1216 E) (v1217 E) (v1218 E) (v1219 E) (v1220 E) (v1221 E) (v1222 E) (v1223 E) (v1224 E) (v1225 E) (v1226 E) (v1227 E) (v1228 E) (v1229 E) (v1230 E) (v1231 E) (v1232 E) (v1233 E) (v1234 E) (v1235 E) (v1250 E) (v1252 E) (v1254 E) (v1256 E) (v1258 E) (v1260 E) (v1262 E) (v1264 E)
def v1322 (E : Env F) : FVec F S32x64 .f32 :=
  k0_pay159 (v1158 E) (v1161 E) (v1252 E) (v1254 E)
def v1323 (E : Env F) : FVec F S32x64 .f32 :=
  k0_pay160 (v1164 E)
def v1324 (E : Env F) : FVec F S32x1 .f32 :=
  k0_pay161 (v1256 E)
def v1382 (E : Env F) : FVec F S32x64 .f32 :=
  k0_pay162 (v1167 E) (v1170 E) (v1173 E) (v1176 E) (v1179 E) (v1182 E) (v1185 E) (v1188 E) (v1191 E) (v1194 E) (v1197 E) (v1258 E) (v1260 E) (v1262 E) (v1264 E) (v1266 E) (v1268 E) (v1270 E) (v1272 E) (v1274 E) (v1276 E) (v1278 E) (v1322 E) (v1323 E) (v1324 E)
def v1383 (E : Env F) : FVec F S32x64 .f32 :=
  k0_pay163 (v1200 E)
def v1384 (E : Env F) : FVec F S32x1 .f32 :=
  k0_pay164 (v1280 E)
def v1395 (E : Env F) : FVec F S32x64 .f32 :=
  k0_pay165 (v1203 E) (v1282 E) (v1313 E) (v1382 E) (v1383 E) (v1384 E)
def v1444 (E : Env F) : FVec F S32x64 .f32 :=
  k0_pay166 (v1158 E) (v1161 E) (v1164 E) (v1167 E) (v1170 E) (v1173 E) (v1176 E) (v1179 E) (v1182 E) (v1185 E) (v1252 E) (v1254 E) (v1256 E) (v1258 E) (v1260 E) (v1262 E) (v1264 E) (v1266 E) (v1268 E) (v1270 E)
def v1477 (E : Env F) : FVec F S32x64 .f32 :=
  k0_pay167 (v1188 E) (v1191 E) (v1194 E) (v1197 E) (v1200 E) (v1203 E) (v1272 E) (v1274 E) (v1276 E) (v1278 E) (v1280 E) (v1282 E) (v1313 E) (v1444 E)
def v1501 (E : Env F) : FVec F S32x64 .f32 :=
  k0_pay168 (v1158 E) (v1161 E) (v1164 E) (v1167 E) (v1170 E) (v1252 E) (v1254 E) (v1256 E) (v1258 E) (v1260 E)
def v1502 (E : Env F) : FVec F S32x64 .f32 :=
  k0_pay169 (v1173 E)
def v1504 (E : Env F) : FVec F S32x64 .f32 :=
  k0_pay170 (v1262 E)
def v1559 (E : Env F) : FVec F S32x64 .f32 :=
  k0_pay171 (v1176 E) (v1179 E) (v1182 E) (v1185 E) (v1188 E) (v1191 E) (v1194 E) (v1197 E) (v1200 E) (v1203 E) (v1264 E) (v1266 E) (v1268 E) (v1270 E) (v1272 E) (v1274 E) (v1276 E) (v1278 E) (v1280 E) (v1282 E) (v1313 E) (v1501 E) (v1502 E) (v1504 E)
def v1563 (E : Env F) : FVec F S32x64 .f32 :=
  k0_pay172 (v1158 E) (v1252 E)
def v1564 (E : Env F) : FVec F S32x64 .f32 :=
  k0_pay173 (v1161 E)
def v1623 (E : Env F) : FVec F S32x64 .f32 :=
  k0_pay174 (v1164 E) (v1167 E) (v1170 E) (v1173 E) (v1176 E) (v1179 E) (v1182 E) (v1185 E) (v1188 E) (v1191 E) (v1194 E) (v1254 E) (v1256 E) (v1258 E) (v1260 E) (v1262 E) (v1264 E) (v1266 E) (v1268 E) (v1270 E) (v1272 E) (v1274 E) (v1276 E) (v1563 E) (v1564 E)
def v1624 (E : Env F) : FVec F S32x64 .f32 :=
  k0_pay175 (v1197 E)
def v1643 (E : Env F) : Vec F S256x512 .f32 :=
  View.readAt (Elt F) (Memref.whole cc0_stg4_0).view (Rect.unit (s := S256x512) ![0, 0] S256x512.size inb_S256x512_S256x512_0_0).toLoadRect E.wo

/-- The first device's rows of the result: the global rows (the first 32) from the merged partial results. -/
def omF (E : Env F) : (cc0_stg5_0 : Ref sig .tc).ty.Contents (Elt F) :=
  fun (i : S2x128x512.Idx) => if h : (i 1).val < 32 then
      (if (i 0).val = 0 then (k0_pay92 (v1149 E) (v1151 E) (cst_474 E)) (ix3 0 ⟨(i 1).val, h⟩ (i 2)) else (k0_pay2 (v1200 E) (v1203 E) (v1278 E) (v1280 E) (v1282 E) (v1313 E) (v1395 E) (v1477 E) (v1559 E) (v1623 E) (v1624 E) (v1643 E)) (ix3 0 ⟨(i 1).val, h⟩ (i 2)))
    else obF E i

end Cert.Exchange

end
-- ==== Proof.WritesEq.lean ====
module

public import proofs.«01_k».proof.Proof.Covers
public import proofs.«01_k».proof.Proof.MergeValues

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

theorem eq_ix3 {n0 n1 n2 : ℕ} (x : (⟨3, ![n0, n1, n2]⟩ : Shape).Idx) (a : Fin n0) (b : Fin n1) (c : Fin n2)
    (h0 : (x 0).val = a.val) (h1 : (x 1).val = b.val) (h2 : (x 2).val = c.val) : x = ix3 a b c := by
  funext d
  match d with
  | ⟨0, _⟩ => exact Fin.ext h0
  | ⟨1, _⟩ => exact Fin.ext h1
  | ⟨2, _⟩ => exact Fin.ext h2
theorem eq_ix4 {n0 n1 n2 n3 : ℕ} (x : (⟨4, ![n0, n1, n2, n3]⟩ : Shape).Idx) (a : Fin n0) (b : Fin n1) (c : Fin n2) (d : Fin n3)
    (h0 : (x 0).val = a.val) (h1 : (x 1).val = b.val) (h2 : (x 2).val = c.val) (h3 : (x 3).val = d.val) : x = ix4 a b c d := by
  funext e
  match e with
  | ⟨0, _⟩ => exact Fin.ext h0
  | ⟨1, _⟩ => exact Fin.ext h1
  | ⟨2, _⟩ => exact Fin.ext h2
  | ⟨3, _⟩ => exact Fin.ext h3
theorem unit_val {s : Shape} (off size : Fin s.rank → ℕ) (inb) (x : (Rect.unit off size inb).shape.Idx) (a : Fin s.rank) :
    ((Rect.unit off size inb).emb x a).val = off a + (x a).val := by
  rw [Rect.emb_apply]; show off a + 1 * (x a).val = _; omega

/-- The packed keys and values, after the two stores. -/
theorem kv_writes (f : (cc0_scratch0 : Ref sig .tc).ty.Contents (Elt F)) (fk : (cc0_stg2_0 : Ref sig .tc).ty.Contents (Elt F)) (fv : (cc0_stg3_0 : Ref sig .tc).ty.Contents (Elt F)) :
    (Memref.whole cc0_scratch0).view.writes (Elt F) f [⟨Rect.unit (s := S2x128x512) ![0, 0, 256] S2x128x256.size inb_S2x128x512_S2x128x256_0_0_256, k0_pay177 fv⟩, ⟨Rect.unit (s := S2x128x512) ![0, 0, 0] S2x128x256.size inb_S2x128x512_S2x128x256_0_0_0, k0_pay176 fk⟩] = kvF fk fv := by
  apply writes_whole_eq
  · intro p hp
    simp only [List.mem_cons, List.not_mem_nil, or_false] at hp
    rcases hp with rfl | rfl
    · intro x
      change S2x128x256.Idx at x
      show k0_pay177 fv x = kvF fk fv ((Rect.unit (s := S2x128x512) ![0, 0, 256] S2x128x256.size inb_S2x128x512_S2x128x256_0_0_256).emb x)
      obtain ⟨y, hy⟩ : ∃ y : S2x128x512.Idx, y = (Rect.unit (s := S2x128x512) ![0, 0, 256] S2x128x256.size inb_S2x128x512_S2x128x256_0_0_256).emb x := ⟨_, rfl⟩
      rw [← hy]
      have e0 : (y 0).val = 0 + (x 0).val := by rw [hy]; exact unit_val (s := S2x128x512) ![0, 0, 256] S2x128x256.size inb_S2x128x512_S2x128x256_0_0_256 x 0
      have l0 : (x 0).val < 2 := (x 0).isLt
      have e1 : (y 1).val = 0 + (x 1).val := by rw [hy]; exact unit_val (s := S2x128x512) ![0, 0, 256] S2x128x256.size inb_S2x128x512_S2x128x256_0_0_256 x 1
      have l1 : (x 1).val < 128 := (x 1).isLt
      have e2 : (y 2).val = 256 + (x 2).val := by rw [hy]; exact unit_val (s := S2x128x512) ![0, 0, 256] S2x128x256.size inb_S2x128x512_S2x128x256_0_0_256 x 2
      have l2 : (x 2).val < 256 := (x 2).isLt
      clear hy; unfold kvF
      rw [dif_neg (by omega)]
      refine congrArg (k0_pay177 fv) (eq_ix3 x _ _ _ ?_ ?_ ?_) <;> (try dsimp only) <;> (try simp only [Fin.val_zero]) <;> omega
    · intro x
      change S2x128x256.Idx at x
      show k0_pay176 fk x = kvF fk fv ((Rect.unit (s := S2x128x512) ![0, 0, 0] S2x128x256.size inb_S2x128x512_S2x128x256_0_0_0).emb x)
      obtain ⟨y, hy⟩ : ∃ y : S2x128x512.Idx, y = (Rect.unit (s := S2x128x512) ![0, 0, 0] S2x128x256.size inb_S2x128x512_S2x128x256_0_0_0).emb x := ⟨_, rfl⟩
      rw [← hy]
      have e0 : (y 0).val = 0 + (x 0).val := by rw [hy]; exact unit_val (s := S2x128x512) ![0, 0, 0] S2x128x256.size inb_S2x128x512_S2x128x256_0_0_0 x 0
      have l0 : (x 0).val < 2 := (x 0).isLt
      have e1 : (y 1).val = 0 + (x 1).val := by rw [hy]; exact unit_val (s := S2x128x512) ![0, 0, 0] S2x128x256.size inb_S2x128x512_S2x128x256_0_0_0 x 1
      have l1 : (x 1).val < 128 := (x 1).isLt
      have e2 : (y 2).val = 0 + (x 2).val := by rw [hy]; exact unit_val (s := S2x128x512) ![0, 0, 0] S2x128x256.size inb_S2x128x512_S2x128x256_0_0_0 x 2
      have l2 : (x 2).val < 256 := (x 2).isLt
      clear hy; unfold kvF
      rw [dif_pos (by omega)]
      refine congrArg (k0_pay176 fk) (eq_ix3 x _ _ _ ?_ ?_ ?_) <;> (try dsimp only) <;> (try simp only [Fin.val_zero]) <;> omega
  · intro y
    have l0 : (y 0).val < 2 := (y 0).isLt
    have l1 : (y 1).val < 128 := (y 1).isLt
    have l2 : (y 2).val < 512 := (y 2).isLt
    by_cases h : (y 2).val < 256
    · refine ⟨_, List.mem_cons_of_mem _ (List.mem_cons_self), ?_⟩
      rw [Rect.mem_set_unit]; intro a
      match a with
      | ⟨0, _⟩ => exact (show 0 ≤ (y 0).val ∧ (y 0).val < 0 + 2 by omega)
      | ⟨1, _⟩ => exact (show 0 ≤ (y 1).val ∧ (y 1).val < 0 + 128 by omega)
      | ⟨2, _⟩ => exact (show 0 ≤ (y 2).val ∧ (y 2).val < 0 + 256 by omega)
    · refine ⟨_, List.mem_cons_self, ?_⟩
      rw [Rect.mem_set_unit]; intro a
      match a with
      | ⟨0, _⟩ => exact (show 0 ≤ (y 0).val ∧ (y 0).val < 0 + 2 by omega)
      | ⟨1, _⟩ => exact (show 0 ≤ (y 1).val ∧ (y 1).val < 0 + 128 by omega)
      | ⟨2, _⟩ => exact (show 256 ≤ (y 2).val ∧ (y 2).val < 256 + 256 by omega)

/-- The broadcast queries, after the two stores. -/
theorem gq_writes (f : (cc0_scratch2 : Ref sig .tc).ty.Contents (Elt F)) (E : Env F) :
    (Memref.whole cc0_scratch2).view.writes (Elt F) f [⟨Rect.unit (s := S2x32x256) ![1, 0, 0] S1x32x256.size inb_S2x32x256_S1x32x256_1_0_0, k0_pay6 (v45 E)⟩, ⟨Rect.unit (s := S2x32x256) ![0, 0, 0] S1x32x256.size inb_S2x32x256_S1x32x256_0_0_0, k0_pay3 (v40 E)⟩] = gqF E := by
  apply writes_whole_eq
  · intro p hp
    simp only [List.mem_cons, List.not_mem_nil, or_false] at hp
    rcases hp with rfl | rfl
    · intro x
      change S1x32x256.Idx at x
      show k0_pay6 (v45 E) x = gqF E ((Rect.unit (s := S2x32x256) ![1, 0, 0] S1x32x256.size inb_S2x32x256_S1x32x256_1_0_0).emb x)
      obtain ⟨y, hy⟩ : ∃ y : S2x32x256.Idx, y = (Rect.unit (s := S2x32x256) ![1, 0, 0] S1x32x256.size inb_S2x32x256_S1x32x256_1_0_0).emb x := ⟨_, rfl⟩
      rw [← hy]
      have e0 : (y 0).val = 1 + (x 0).val := by rw [hy]; exact unit_val (s := S2x32x256) ![1, 0, 0] S1x32x256.size inb_S2x32x256_S1x32x256_1_0_0 x 0
      have l0 : (x 0).val < 1 := (x 0).isLt
      have e1 : (y 1).val = 0 + (x 1).val := by rw [hy]; exact unit_val (s := S2x32x256) ![1, 0, 0] S1x32x256.size inb_S2x32x256_S1x32x256_1_0_0 x 1
      have l1 : (x 1).val < 32 := (x 1).isLt
      have e2 : (y 2).val = 0 + (x 2).val := by rw [hy]; exact unit_val (s := S2x32x256) ![1, 0, 0] S1x32x256.size inb_S2x32x256_S1x32x256_1_0_0 x 2
      have l2 : (x 2).val < 256 := (x 2).isLt
      clear hy; unfold gqF
      rw [if_neg (by omega)]
      refine congrArg (k0_pay6 (v45 E)) (eq_ix3 x _ _ _ ?_ ?_ ?_) <;> (try dsimp only) <;> (try simp only [Fin.val_zero]) <;> omega
    · intro x
      change S1x32x256.Idx at x
      show k0_pay3 (v40 E) x = gqF E ((Rect.unit (s := S2x32x256) ![0, 0, 0] S1x32x256.size inb_S2x32x256_S1x32x256_0_0_0).emb x)
      obtain ⟨y, hy⟩ : ∃ y : S2x32x256.Idx, y = (Rect.unit (s := S2x32x256) ![0, 0, 0] S1x32x256.size inb_S2x32x256_S1x32x256_0_0_0).emb x := ⟨_, rfl⟩
      rw [← hy]
      have e0 : (y 0).val = 0 + (x 0).val := by rw [hy]; exact unit_val (s := S2x32x256) ![0, 0, 0] S1x32x256.size inb_S2x32x256_S1x32x256_0_0_0 x 0
      have l0 : (x 0).val < 1 := (x 0).isLt
      have e1 : (y 1).val = 0 + (x 1).val := by rw [hy]; exact unit_val (s := S2x32x256) ![0, 0, 0] S1x32x256.size inb_S2x32x256_S1x32x256_0_0_0 x 1
      have l1 : (x 1).val < 32 := (x 1).isLt
      have e2 : (y 2).val = 0 + (x 2).val := by rw [hy]; exact unit_val (s := S2x32x256) ![0, 0, 0] S1x32x256.size inb_S2x32x256_S1x32x256_0_0_0 x 2
      have l2 : (x 2).val < 256 := (x 2).isLt
      clear hy; unfold gqF
      rw [if_pos (by omega)]
      refine congrArg (k0_pay3 (v40 E)) (eq_ix3 x _ _ _ ?_ ?_ ?_) <;> (try dsimp only) <;> (try simp only [Fin.val_zero]) <;> omega
  · intro y
    have l0 : (y 0).val < 2 := (y 0).isLt
    have l1 : (y 1).val < 32 := (y 1).isLt
    have l2 : (y 2).val < 256 := (y 2).isLt
    by_cases h : (y 0).val = 0
    · refine ⟨_, List.mem_cons_of_mem _ (List.mem_cons_self), ?_⟩
      rw [Rect.mem_set_unit]; intro a
      match a with
      | ⟨0, _⟩ => exact (show 0 ≤ (y 0).val ∧ (y 0).val < 0 + 1 by omega)
      | ⟨1, _⟩ => exact (show 0 ≤ (y 1).val ∧ (y 1).val < 0 + 32 by omega)
      | ⟨2, _⟩ => exact (show 0 ≤ (y 2).val ∧ (y 2).val < 0 + 256 by omega)
    · refine ⟨_, List.mem_cons_self, ?_⟩
      rw [Rect.mem_set_unit]; intro a
      match a with
      | ⟨0, _⟩ => exact (show 1 ≤ (y 0).val ∧ (y 0).val < 1 + 1 by omega)
      | ⟨1, _⟩ => exact (show 0 ≤ (y 1).val ∧ (y 1).val < 0 + 32 by omega)
      | ⟨2, _⟩ => exact (show 0 ≤ (y 2).val ∧ (y 2).val < 0 + 256 by omega)

/-- The partial result, after the two stores. -/
theorem pw_writes (f : (cc0_scratch4 : Ref sig .tc).ty.Contents (Elt F)) (E : Env F) :
    (Memref.whole cc0_scratch4).view.writes (Elt F) f [⟨Rect.unit (s := S2x32x384) ![1, 0, 0] S1x32x384.size inb_S2x32x384_S1x32x384_1_0_0, k0_pay218 (v284 E)⟩, ⟨Rect.unit (s := S2x32x384) ![0, 0, 0] S1x32x384.size inb_S2x32x384_S1x32x384_0_0_0, k0_pay203 (v94 E) (v99 E) (v101 E) (v119 E) (v124 E) (v126 E) (v144 E) (v149 E) (v151 E) (v162 E) (v165 E) (v168 E)⟩] = pwF E := by
  apply writes_whole_eq
  · intro p hp
    simp only [List.mem_cons, List.not_mem_nil, or_false] at hp
    rcases hp with rfl | rfl
    · intro x
      change S1x32x384.Idx at x
      show k0_pay218 (v284 E) x = pwF E ((Rect.unit (s := S2x32x384) ![1, 0, 0] S1x32x384.size inb_S2x32x384_S1x32x384_1_0_0).emb x)
      obtain ⟨y, hy⟩ : ∃ y : S2x32x384.Idx, y = (Rect.unit (s := S2x32x384) ![1, 0, 0] S1x32x384.size inb_S2x32x384_S1x32x384_1_0_0).emb x := ⟨_, rfl⟩
      rw [← hy]
      have e0 : (y 0).val = 1 + (x 0).val := by rw [hy]; exact unit_val (s := S2x32x384) ![1, 0, 0] S1x32x384.size inb_S2x32x384_S1x32x384_1_0_0 x 0
      have l0 : (x 0).val < 1 := (x 0).isLt
      have e1 : (y 1).val = 0 + (x 1).val := by rw [hy]; exact unit_val (s := S2x32x384) ![1, 0, 0] S1x32x384.size inb_S2x32x384_S1x32x384_1_0_0 x 1
      have l1 : (x 1).val < 32 := (x 1).isLt
      have e2 : (y 2).val = 0 + (x 2).val := by rw [hy]; exact unit_val (s := S2x32x384) ![1, 0, 0] S1x32x384.size inb_S2x32x384_S1x32x384_1_0_0 x 2
      have l2 : (x 2).val < 384 := (x 2).isLt
      clear hy; unfold pwF
      rw [if_neg (by omega)]
      refine congrArg (k0_pay218 (v284 E)) (eq_ix3 x _ _ _ ?_ ?_ ?_) <;> (try dsimp only) <;> (try simp only [Fin.val_zero]) <;> omega
    · intro x
      change S1x32x384.Idx at x
      show k0_pay203 (v94 E) (v99 E) (v101 E) (v119 E) (v124 E) (v126 E) (v144 E) (v149 E) (v151 E) (v162 E) (v165 E) (v168 E) x = pwF E ((Rect.unit (s := S2x32x384) ![0, 0, 0] S1x32x384.size inb_S2x32x384_S1x32x384_0_0_0).emb x)
      obtain ⟨y, hy⟩ : ∃ y : S2x32x384.Idx, y = (Rect.unit (s := S2x32x384) ![0, 0, 0] S1x32x384.size inb_S2x32x384_S1x32x384_0_0_0).emb x := ⟨_, rfl⟩
      rw [← hy]
      have e0 : (y 0).val = 0 + (x 0).val := by rw [hy]; exact unit_val (s := S2x32x384) ![0, 0, 0] S1x32x384.size inb_S2x32x384_S1x32x384_0_0_0 x 0
      have l0 : (x 0).val < 1 := (x 0).isLt
      have e1 : (y 1).val = 0 + (x 1).val := by rw [hy]; exact unit_val (s := S2x32x384) ![0, 0, 0] S1x32x384.size inb_S2x32x384_S1x32x384_0_0_0 x 1
      have l1 : (x 1).val < 32 := (x 1).isLt
      have e2 : (y 2).val = 0 + (x 2).val := by rw [hy]; exact unit_val (s := S2x32x384) ![0, 0, 0] S1x32x384.size inb_S2x32x384_S1x32x384_0_0_0 x 2
      have l2 : (x 2).val < 384 := (x 2).isLt
      clear hy; unfold pwF
      rw [if_pos (by omega)]
      refine congrArg (k0_pay203 (v94 E) (v99 E) (v101 E) (v119 E) (v124 E) (v126 E) (v144 E) (v149 E) (v151 E) (v162 E) (v165 E) (v168 E)) (eq_ix3 x _ _ _ ?_ ?_ ?_) <;> (try dsimp only) <;> (try simp only [Fin.val_zero]) <;> omega
  · intro y
    have l0 : (y 0).val < 2 := (y 0).isLt
    have l1 : (y 1).val < 32 := (y 1).isLt
    have l2 : (y 2).val < 384 := (y 2).isLt
    by_cases h : (y 0).val = 0
    · refine ⟨_, List.mem_cons_of_mem _ (List.mem_cons_self), ?_⟩
      rw [Rect.mem_set_unit]; intro a
      match a with
      | ⟨0, _⟩ => exact (show 0 ≤ (y 0).val ∧ (y 0).val < 0 + 1 by omega)
      | ⟨1, _⟩ => exact (show 0 ≤ (y 1).val ∧ (y 1).val < 0 + 32 by omega)
      | ⟨2, _⟩ => exact (show 0 ≤ (y 2).val ∧ (y 2).val < 0 + 384 by omega)
    · refine ⟨_, List.mem_cons_self, ?_⟩
      rw [Rect.mem_set_unit]; intro a
      match a with
      | ⟨0, _⟩ => exact (show 1 ≤ (y 0).val ∧ (y 0).val < 1 + 1 by omega)
      | ⟨1, _⟩ => exact (show 0 ≤ (y 1).val ∧ (y 1).val < 0 + 32 by omega)
      | ⟨2, _⟩ => exact (show 0 ≤ (y 2).val ∧ (y 2).val < 0 + 384 by omega)

/-- The rows of the result, after the two stores. -/
theorem ob_writes (f : (cc0_stg5_0 : Ref sig .tc).ty.Contents (Elt F)) (E : Env F) :
    (Memref.whole cc0_stg5_0).view.writes (Elt F) f [⟨Rect.unit (s := S2x128x512) ![1, 0, 0] S1x128x512.size inb_S2x128x512_S1x128x512_1_0_0, k0_pay1 (v557 E)⟩, ⟨Rect.unit (s := S2x128x512) ![0, 0, 0] S1x128x512.size inb_S2x128x512_S1x128x512_0_0_0, k0_pay235 (v382 E) (v402 E) (v422 E) (v426 E) (v441 E) (cst_239 E) (v444 E)⟩] = obF E := by
  apply writes_whole_eq
  · intro p hp
    simp only [List.mem_cons, List.not_mem_nil, or_false] at hp
    rcases hp with rfl | rfl
    · intro x
      change S1x128x512.Idx at x
      show k0_pay1 (v557 E) x = obF E ((Rect.unit (s := S2x128x512) ![1, 0, 0] S1x128x512.size inb_S2x128x512_S1x128x512_1_0_0).emb x)
      obtain ⟨y, hy⟩ : ∃ y : S2x128x512.Idx, y = (Rect.unit (s := S2x128x512) ![1, 0, 0] S1x128x512.size inb_S2x128x512_S1x128x512_1_0_0).emb x := ⟨_, rfl⟩
      rw [← hy]
      have e0 : (y 0).val = 1 + (x 0).val := by rw [hy]; exact unit_val (s := S2x128x512) ![1, 0, 0] S1x128x512.size inb_S2x128x512_S1x128x512_1_0_0 x 0
      have l0 : (x 0).val < 1 := (x 0).isLt
      have e1 : (y 1).val = 0 + (x 1).val := by rw [hy]; exact unit_val (s := S2x128x512) ![1, 0, 0] S1x128x512.size inb_S2x128x512_S1x128x512_1_0_0 x 1
      have l1 : (x 1).val < 128 := (x 1).isLt
      have e2 : (y 2).val = 0 + (x 2).val := by rw [hy]; exact unit_val (s := S2x128x512) ![1, 0, 0] S1x128x512.size inb_S2x128x512_S1x128x512_1_0_0 x 2
      have l2 : (x 2).val < 512 := (x 2).isLt
      clear hy; unfold obF
      rw [if_neg (by omega)]
      refine congrArg (k0_pay1 (v557 E)) (eq_ix3 x _ _ _ ?_ ?_ ?_) <;> (try dsimp only) <;> (try simp only [Fin.val_zero]) <;> omega
    · intro x
      change S1x128x512.Idx at x
      show k0_pay235 (v382 E) (v402 E) (v422 E) (v426 E) (v441 E) (cst_239 E) (v444 E) x = obF E ((Rect.unit (s := S2x128x512) ![0, 0, 0] S1x128x512.size inb_S2x128x512_S1x128x512_0_0_0).emb x)
      obtain ⟨y, hy⟩ : ∃ y : S2x128x512.Idx, y = (Rect.unit (s := S2x128x512) ![0, 0, 0] S1x128x512.size inb_S2x128x512_S1x128x512_0_0_0).emb x := ⟨_, rfl⟩
      rw [← hy]
      have e0 : (y 0).val = 0 + (x 0).val := by rw [hy]; exact unit_val (s := S2x128x512) ![0, 0, 0] S1x128x512.size inb_S2x128x512_S1x128x512_0_0_0 x 0
      have l0 : (x 0).val < 1 := (x 0).isLt
      have e1 : (y 1).val = 0 + (x 1).val := by rw [hy]; exact unit_val (s := S2x128x512) ![0, 0, 0] S1x128x512.size inb_S2x128x512_S1x128x512_0_0_0 x 1
      have l1 : (x 1).val < 128 := (x 1).isLt
      have e2 : (y 2).val = 0 + (x 2).val := by rw [hy]; exact unit_val (s := S2x128x512) ![0, 0, 0] S1x128x512.size inb_S2x128x512_S1x128x512_0_0_0 x 2
      have l2 : (x 2).val < 512 := (x 2).isLt
      clear hy; unfold obF
      rw [if_pos (by omega)]
      refine congrArg (k0_pay235 (v382 E) (v402 E) (v422 E) (v426 E) (v441 E) (cst_239 E) (v444 E)) (eq_ix3 x _ _ _ ?_ ?_ ?_) <;> (try dsimp only) <;> (try simp only [Fin.val_zero]) <;> omega
  · intro y
    have l0 : (y 0).val < 2 := (y 0).isLt
    have l1 : (y 1).val < 128 := (y 1).isLt
    have l2 : (y 2).val < 512 := (y 2).isLt
    by_cases h : (y 0).val = 0
    · refine ⟨_, List.mem_cons_of_mem _ (List.mem_cons_self), ?_⟩
      rw [Rect.mem_set_unit]; intro a
      match a with
      | ⟨0, _⟩ => exact (show 0 ≤ (y 0).val ∧ (y 0).val < 0 + 1 by omega)
      | ⟨1, _⟩ => exact (show 0 ≤ (y 1).val ∧ (y 1).val < 0 + 128 by omega)
      | ⟨2, _⟩ => exact (show 0 ≤ (y 2).val ∧ (y 2).val < 0 + 512 by omega)
    · refine ⟨_, List.mem_cons_self, ?_⟩
      rw [Rect.mem_set_unit]; intro a
      match a with
      | ⟨0, _⟩ => exact (show 1 ≤ (y 0).val ∧ (y 0).val < 1 + 1 by omega)
      | ⟨1, _⟩ => exact (show 0 ≤ (y 1).val ∧ (y 1).val < 0 + 128 by omega)
      | ⟨2, _⟩ => exact (show 0 ≤ (y 2).val ∧ (y 2).val < 0 + 512 by omega)

/-- The broadcast keys and values, after the four stores. -/
theorem gk_writes (f : (cc0_scratch3 : Ref sig .tc).ty.Contents (Elt F)) (E : Env F) :
    (Memref.whole cc0_scratch3).view.writes (Elt F) f [⟨Rect.unit (s := S2x2x32x256) ![1, 1, 0, 0] S1x1x32x256.size inb_S2x2x32x256_S1x1x32x256_1_1_0_0, k0_pay182 (v601 E)⟩, ⟨Rect.unit (s := S2x2x32x256) ![0, 1, 0, 0] S1x1x32x256.size inb_S2x2x32x256_S1x1x32x256_0_1_0_0, k0_pay7 (v595 E)⟩, ⟨Rect.unit (s := S2x2x32x256) ![1, 0, 0, 0] S1x1x32x256.size inb_S2x2x32x256_S1x1x32x256_1_0_0_0, k0_pay5 (v584 E)⟩, ⟨Rect.unit (s := S2x2x32x256) ![0, 0, 0, 0] S1x1x32x256.size inb_S2x2x32x256_S1x1x32x256_0_0_0_0, k0_pay4 (v578 E)⟩] = gkF E := by
  apply writes_whole_eq
  · intro p hp
    simp only [List.mem_cons, List.not_mem_nil, or_false] at hp
    rcases hp with rfl | rfl | rfl | rfl
    · intro x
      change S1x1x32x256.Idx at x
      show k0_pay182 (v601 E) x = gkF E ((Rect.unit (s := S2x2x32x256) ![1, 1, 0, 0] S1x1x32x256.size inb_S2x2x32x256_S1x1x32x256_1_1_0_0).emb x)
      obtain ⟨y, hy⟩ : ∃ y : S2x2x32x256.Idx, y = (Rect.unit (s := S2x2x32x256) ![1, 1, 0, 0] S1x1x32x256.size inb_S2x2x32x256_S1x1x32x256_1_1_0_0).emb x := ⟨_, rfl⟩
      rw [← hy]
      have e0 : (y 0).val = 1 + (x 0).val := by rw [hy]; exact unit_val (s := S2x2x32x256) ![1, 1, 0, 0] S1x1x32x256.size inb_S2x2x32x256_S1x1x32x256_1_1_0_0 x 0
      have l0 : (x 0).val < 1 := (x 0).isLt
      have e1 : (y 1).val = 1 + (x 1).val := by rw [hy]; exact unit_val (s := S2x2x32x256) ![1, 1, 0, 0] S1x1x32x256.size inb_S2x2x32x256_S1x1x32x256_1_1_0_0 x 1
      have l1 : (x 1).val < 1 := (x 1).isLt
      have e2 : (y 2).val = 0 + (x 2).val := by rw [hy]; exact unit_val (s := S2x2x32x256) ![1, 1, 0, 0] S1x1x32x256.size inb_S2x2x32x256_S1x1x32x256_1_1_0_0 x 2
      have l2 : (x 2).val < 32 := (x 2).isLt
      have e3 : (y 3).val = 0 + (x 3).val := by rw [hy]; exact unit_val (s := S2x2x32x256) ![1, 1, 0, 0] S1x1x32x256.size inb_S2x2x32x256_S1x1x32x256_1_1_0_0 x 3
      have l3 : (x 3).val < 256 := (x 3).isLt
      clear hy; unfold gkF
      rw [if_neg (by omega)]
      rw [if_neg (by omega)]
      refine congrArg (k0_pay182 (v601 E)) (eq_ix4 x _ _ _ _ ?_ ?_ ?_ ?_) <;> (try dsimp only) <;> (try simp only [Fin.val_zero]) <;> omega
    · intro x
      change S1x1x32x256.Idx at x
      show k0_pay7 (v595 E) x = gkF E ((Rect.unit (s := S2x2x32x256) ![0, 1, 0, 0] S1x1x32x256.size inb_S2x2x32x256_S1x1x32x256_0_1_0_0).emb x)
      obtain ⟨y, hy⟩ : ∃ y : S2x2x32x256.Idx, y = (Rect.unit (s := S2x2x32x256) ![0, 1, 0, 0] S1x1x32x256.size inb_S2x2x32x256_S1x1x32x256_0_1_0_0).emb x := ⟨_, rfl⟩
      rw [← hy]
      have e0 : (y 0).val = 0 + (x 0).val := by rw [hy]; exact unit_val (s := S2x2x32x256) ![0, 1, 0, 0] S1x1x32x256.size inb_S2x2x32x256_S1x1x32x256_0_1_0_0 x 0
      have l0 : (x 0).val < 1 := (x 0).isLt
      have e1 : (y 1).val = 1 + (x 1).val := by rw [hy]; exact unit_val (s := S2x2x32x256) ![0, 1, 0, 0] S1x1x32x256.size inb_S2x2x32x256_S1x1x32x256_0_1_0_0 x 1
      have l1 : (x 1).val < 1 := (x 1).isLt
      have e2 : (y 2).val = 0 + (x 2).val := by rw [hy]; exact unit_val (s := S2x2x32x256) ![0, 1, 0, 0] S1x1x32x256.size inb_S2x2x32x256_S1x1x32x256_0_1_0_0 x 2
      have l2 : (x 2).val < 32 := (x 2).isLt
      have e3 : (y 3).val = 0 + (x 3).val := by rw [hy]; exact unit_val (s := S2x2x32x256) ![0, 1, 0, 0] S1x1x32x256.size inb_S2x2x32x256_S1x1x32x256_0_1_0_0 x 3
      have l3 : (x 3).val < 256 := (x 3).isLt
      clear hy; unfold gkF
      rw [if_neg (by omega)]
      rw [if_pos (by omega)]
      refine congrArg (k0_pay7 (v595 E)) (eq_ix4 x _ _ _ _ ?_ ?_ ?_ ?_) <;> (try dsimp only) <;> (try simp only [Fin.val_zero]) <;> omega
    · intro x
      change S1x1x32x256.Idx at x
      show k0_pay5 (v584 E) x = gkF E ((Rect.unit (s := S2x2x32x256) ![1, 0, 0, 0] S1x1x32x256.size inb_S2x2x32x256_S1x1x32x256_1_0_0_0).emb x)
      obtain ⟨y, hy⟩ : ∃ y : S2x2x32x256.Idx, y = (Rect.unit (s := S2x2x32x256) ![1, 0, 0, 0] S1x1x32x256.size inb_S2x2x32x256_S1x1x32x256_1_0_0_0).emb x := ⟨_, rfl⟩
      rw [← hy]
      have e0 : (y 0).val = 1 + (x 0).val := by rw [hy]; exact unit_val (s := S2x2x32x256) ![1, 0, 0, 0] S1x1x32x256.size inb_S2x2x32x256_S1x1x32x256_1_0_0_0 x 0
      have l0 : (x 0).val < 1 := (x 0).isLt
      have e1 : (y 1).val = 0 + (x 1).val := by rw [hy]; exact unit_val (s := S2x2x32x256) ![1, 0, 0, 0] S1x1x32x256.size inb_S2x2x32x256_S1x1x32x256_1_0_0_0 x 1
      have l1 : (x 1).val < 1 := (x 1).isLt
      have e2 : (y 2).val = 0 + (x 2).val := by rw [hy]; exact unit_val (s := S2x2x32x256) ![1, 0, 0, 0] S1x1x32x256.size inb_S2x2x32x256_S1x1x32x256_1_0_0_0 x 2
      have l2 : (x 2).val < 32 := (x 2).isLt
      have e3 : (y 3).val = 0 + (x 3).val := by rw [hy]; exact unit_val (s := S2x2x32x256) ![1, 0, 0, 0] S1x1x32x256.size inb_S2x2x32x256_S1x1x32x256_1_0_0_0 x 3
      have l3 : (x 3).val < 256 := (x 3).isLt
      clear hy; unfold gkF
      rw [if_pos (by omega)]
      rw [if_neg (by omega)]
      refine congrArg (k0_pay5 (v584 E)) (eq_ix4 x _ _ _ _ ?_ ?_ ?_ ?_) <;> (try dsimp only) <;> (try simp only [Fin.val_zero]) <;> omega
    · intro x
      change S1x1x32x256.Idx at x
      show k0_pay4 (v578 E) x = gkF E ((Rect.unit (s := S2x2x32x256) ![0, 0, 0, 0] S1x1x32x256.size inb_S2x2x32x256_S1x1x32x256_0_0_0_0).emb x)
      obtain ⟨y, hy⟩ : ∃ y : S2x2x32x256.Idx, y = (Rect.unit (s := S2x2x32x256) ![0, 0, 0, 0] S1x1x32x256.size inb_S2x2x32x256_S1x1x32x256_0_0_0_0).emb x := ⟨_, rfl⟩
      rw [← hy]
      have e0 : (y 0).val = 0 + (x 0).val := by rw [hy]; exact unit_val (s := S2x2x32x256) ![0, 0, 0, 0] S1x1x32x256.size inb_S2x2x32x256_S1x1x32x256_0_0_0_0 x 0
      have l0 : (x 0).val < 1 := (x 0).isLt
      have e1 : (y 1).val = 0 + (x 1).val := by rw [hy]; exact unit_val (s := S2x2x32x256) ![0, 0, 0, 0] S1x1x32x256.size inb_S2x2x32x256_S1x1x32x256_0_0_0_0 x 1
      have l1 : (x 1).val < 1 := (x 1).isLt
      have e2 : (y 2).val = 0 + (x 2).val := by rw [hy]; exact unit_val (s := S2x2x32x256) ![0, 0, 0, 0] S1x1x32x256.size inb_S2x2x32x256_S1x1x32x256_0_0_0_0 x 2
      have l2 : (x 2).val < 32 := (x 2).isLt
      have e3 : (y 3).val = 0 + (x 3).val := by rw [hy]; exact unit_val (s := S2x2x32x256) ![0, 0, 0, 0] S1x1x32x256.size inb_S2x2x32x256_S1x1x32x256_0_0_0_0 x 3
      have l3 : (x 3).val < 256 := (x 3).isLt
      clear hy; unfold gkF
      rw [if_pos (by omega)]
      rw [if_pos (by omega)]
      refine congrArg (k0_pay4 (v578 E)) (eq_ix4 x _ _ _ _ ?_ ?_ ?_ ?_) <;> (try dsimp only) <;> (try simp only [Fin.val_zero]) <;> omega
  · intro y
    have l0 : (y 0).val < 2 := (y 0).isLt
    have l1 : (y 1).val < 2 := (y 1).isLt
    have l2 : (y 2).val < 32 := (y 2).isLt
    have l3 : (y 3).val < 256 := (y 3).isLt
    by_cases h : (y 1).val = 0 <;> by_cases h' : (y 0).val = 0
    · refine ⟨_, List.mem_cons_of_mem _ (List.mem_cons_of_mem _ (List.mem_cons_of_mem _ List.mem_cons_self)), ?_⟩
      rw [Rect.mem_set_unit]; intro a
      match a with
      | ⟨0, _⟩ => exact (show 0 ≤ (y 0).val ∧ (y 0).val < 0 + 1 by omega)
      | ⟨1, _⟩ => exact (show 0 ≤ (y 1).val ∧ (y 1).val < 0 + 1 by omega)
      | ⟨2, _⟩ => exact (show 0 ≤ (y 2).val ∧ (y 2).val < 0 + 32 by omega)
      | ⟨3, _⟩ => exact (show 0 ≤ (y 3).val ∧ (y 3).val < 0 + 256 by omega)
    · refine ⟨_, List.mem_cons_of_mem _ (List.mem_cons_of_mem _ List.mem_cons_self), ?_⟩
      rw [Rect.mem_set_unit]; intro a
      match a with
      | ⟨0, _⟩ => exact (show 1 ≤ (y 0).val ∧ (y 0).val < 1 + 1 by omega)
      | ⟨1, _⟩ => exact (show 0 ≤ (y 1).val ∧ (y 1).val < 0 + 1 by omega)
      | ⟨2, _⟩ => exact (show 0 ≤ (y 2).val ∧ (y 2).val < 0 + 32 by omega)
      | ⟨3, _⟩ => exact (show 0 ≤ (y 3).val ∧ (y 3).val < 0 + 256 by omega)
    · refine ⟨_, List.mem_cons_of_mem _ List.mem_cons_self, ?_⟩
      rw [Rect.mem_set_unit]; intro a
      match a with
      | ⟨0, _⟩ => exact (show 0 ≤ (y 0).val ∧ (y 0).val < 0 + 1 by omega)
      | ⟨1, _⟩ => exact (show 1 ≤ (y 1).val ∧ (y 1).val < 1 + 1 by omega)
      | ⟨2, _⟩ => exact (show 0 ≤ (y 2).val ∧ (y 2).val < 0 + 32 by omega)
      | ⟨3, _⟩ => exact (show 0 ≤ (y 3).val ∧ (y 3).val < 0 + 256 by omega)
    · refine ⟨_, List.mem_cons_self, ?_⟩
      rw [Rect.mem_set_unit]; intro a
      match a with
      | ⟨0, _⟩ => exact (show 1 ≤ (y 0).val ∧ (y 0).val < 1 + 1 by omega)
      | ⟨1, _⟩ => exact (show 1 ≤ (y 1).val ∧ (y 1).val < 1 + 1 by omega)
      | ⟨2, _⟩ => exact (show 0 ≤ (y 2).val ∧ (y 2).val < 0 + 32 by omega)
      | ⟨3, _⟩ => exact (show 0 ≤ (y 3).val ∧ (y 3).val < 0 + 256 by omega)

/-- Pieces written over known contents, whose function agrees with those contents off the pieces. -/
theorem writes_over_eq {b : Ref sig .tc} (f G : b.ty.Contents (Elt F)) (L : List (View.Piece (Elt F) b.ty.shape b.ty.elt))
    (hG : ∀ p ∈ L, ∀ x : p.1.shape.Idx, p.2 x = G (p.1.emb x)) (hc : ∀ y : b.ty.shape.Idx, (∃ p ∈ L, y ∈ p.1.set) ∨ G y = f y) :
    (Memref.whole b).view.writes (Elt F) f L = G := by
  refine funext fun y => ?_
  by_cases h : ∃ p ∈ L, y ∈ p.1.set
  · exact View.read_writes_apply_of_pieces (v := (Memref.whole b).view) (f := f) G L hG y h
  · rw [(hc y).resolve_left h]
    exact View.read_writes_apply_of_forall_not_mem (v := (Memref.whole b).view) (f := f) y L (fun p hp hy => h ⟨p, hp, hy⟩)

/-- The first device's rows of the result, after the two stores of the merged rows. -/
theorem om_writes (E : Env F) :
    (Memref.whole cc0_stg5_0).view.writes (Elt F) (obF E) [⟨Rect.unit (s := S2x128x512) ![1, 0, 0] S1x32x512.size inb_S2x128x512_S1x32x512_1_0_0, k0_pay2 (v1200 E) (v1203 E) (v1278 E) (v1280 E) (v1282 E) (v1313 E) (v1395 E) (v1477 E) (v1559 E) (v1623 E) (v1624 E) (v1643 E)⟩, ⟨Rect.unit (s := S2x128x512) ![0, 0, 0] S1x32x512.size inb_S2x128x512_S1x32x512_0_0_0, k0_pay92 (v1149 E) (v1151 E) (cst_474 E)⟩] = omF E := by
  apply writes_over_eq
  · intro p hp
    simp only [List.mem_cons, List.not_mem_nil, or_false] at hp
    rcases hp with rfl | rfl
    · intro x
      change S1x32x512.Idx at x
      show k0_pay2 (v1200 E) (v1203 E) (v1278 E) (v1280 E) (v1282 E) (v1313 E) (v1395 E) (v1477 E) (v1559 E) (v1623 E) (v1624 E) (v1643 E) x = omF E ((Rect.unit (s := S2x128x512) ![1, 0, 0] S1x32x512.size inb_S2x128x512_S1x32x512_1_0_0).emb x)
      obtain ⟨y, hy⟩ : ∃ y : S2x128x512.Idx, y = (Rect.unit (s := S2x128x512) ![1, 0, 0] S1x32x512.size inb_S2x128x512_S1x32x512_1_0_0).emb x := ⟨_, rfl⟩
      rw [← hy]
      have e0 : (y 0).val = 1 + (x 0).val := by rw [hy]; exact unit_val (s := S2x128x512) ![1, 0, 0] S1x32x512.size inb_S2x128x512_S1x32x512_1_0_0 x 0
      have l0 : (x 0).val < 1 := (x 0).isLt
      have e1 : (y 1).val = 0 + (x 1).val := by rw [hy]; exact unit_val (s := S2x128x512) ![1, 0, 0] S1x32x512.size inb_S2x128x512_S1x32x512_1_0_0 x 1
      have l1 : (x 1).val < 32 := (x 1).isLt
      have e2 : (y 2).val = 0 + (x 2).val := by rw [hy]; exact unit_val (s := S2x128x512) ![1, 0, 0] S1x32x512.size inb_S2x128x512_S1x32x512_1_0_0 x 2
      have l2 : (x 2).val < 512 := (x 2).isLt
      clear hy; unfold omF
      rw [dif_pos (by omega)]
      rw [if_neg (by omega)]
      refine congrArg (k0_pay2 (v1200 E) (v1203 E) (v1278 E) (v1280 E) (v1282 E) (v1313 E) (v1395 E) (v1477 E) (v1559 E) (v1623 E) (v1624 E) (v1643 E)) (eq_ix3 x _ _ _ ?_ ?_ ?_) <;> (try dsimp only) <;> (try simp only [Fin.val_zero]) <;> omega
    · intro x
      change S1x32x512.Idx at x
      show k0_pay92 (v1149 E) (v1151 E) (cst_474 E) x = omF E ((Rect.unit (s := S2x128x512) ![0, 0, 0] S1x32x512.size inb_S2x128x512_S1x32x512_0_0_0).emb x)
      obtain ⟨y, hy⟩ : ∃ y : S2x128x512.Idx, y = (Rect.unit (s := S2x128x512) ![0, 0, 0] S1x32x512.size inb_S2x128x512_S1x32x512_0_0_0).emb x := ⟨_, rfl⟩
      rw [← hy]
      have e0 : (y 0).val = 0 + (x 0).val := by rw [hy]; exact unit_val (s := S2x128x512) ![0, 0, 0] S1x32x512.size inb_S2x128x512_S1x32x512_0_0_0 x 0
      have l0 : (x 0).val < 1 := (x 0).isLt
      have e1 : (y 1).val = 0 + (x 1).val := by rw [hy]; exact unit_val (s := S2x128x512) ![0, 0, 0] S1x32x512.size inb_S2x128x512_S1x32x512_0_0_0 x 1
      have l1 : (x 1).val < 32 := (x 1).isLt
      have e2 : (y 2).val = 0 + (x 2).val := by rw [hy]; exact unit_val (s := S2x128x512) ![0, 0, 0] S1x32x512.size inb_S2x128x512_S1x32x512_0_0_0 x 2
      have l2 : (x 2).val < 512 := (x 2).isLt
      clear hy; unfold omF
      rw [dif_pos (by omega)]
      rw [if_pos (by omega)]
      refine congrArg (k0_pay92 (v1149 E) (v1151 E) (cst_474 E)) (eq_ix3 x _ _ _ ?_ ?_ ?_) <;> (try dsimp only) <;> (try simp only [Fin.val_zero]) <;> omega
  · intro y
    have l0 : (y 0).val < 2 := (y 0).isLt
    have l1 : (y 1).val < 128 := (y 1).isLt
    have l2 : (y 2).val < 512 := (y 2).isLt
    by_cases hy : (y 1).val < 32
    · left
      by_cases h : (y 0).val = 0
      · refine ⟨_, List.mem_cons_of_mem _ (List.mem_cons_self), ?_⟩
        rw [Rect.mem_set_unit]; intro a
        match a with
        | ⟨0, _⟩ => exact (show 0 ≤ (y 0).val ∧ (y 0).val < 0 + 1 by omega)
        | ⟨1, _⟩ => exact (show 0 ≤ (y 1).val ∧ (y 1).val < 0 + 32 by omega)
        | ⟨2, _⟩ => exact (show 0 ≤ (y 2).val ∧ (y 2).val < 0 + 512 by omega)
      · refine ⟨_, List.mem_cons_self, ?_⟩
        rw [Rect.mem_set_unit]; intro a
        match a with
        | ⟨0, _⟩ => exact (show 1 ≤ (y 0).val ∧ (y 0).val < 1 + 1 by omega)
        | ⟨1, _⟩ => exact (show 0 ≤ (y 1).val ∧ (y 1).val < 0 + 32 by omega)
        | ⟨2, _⟩ => exact (show 0 ≤ (y 2).val ∧ (y 2).val < 0 + 512 by omega)
    · right; unfold omF; rw [dif_neg hy]

end Cert.Exchange

end
-- ==== Proof.Zero.lean ====
module

public import proofs.«01_k».proof.Proof.WritesEq
public import proofs.«01_k».proof.Proof.Signals

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

/-! ## The body's conditions, as conditions on the device's place -/

theorem is0 (c : Dev nD) : (Scalar.cmpi .ne (Scalar.extui (Scalar.cmpi .eq (wd c) 0#32) : BitVec 32) 0#32) = 1#1 ↔ c.val = 0 := by revert c; decide
theorem is15 (c : Dev nD) : (Scalar.cmpi .ne (Scalar.extui (Scalar.cmpi .eq (wd c) 15#32) : BitVec 32) 0#32) = 1#1 ↔ c.val = 15 := by revert c; decide
theorem is1or15 (c : Dev nD) : (Scalar.cmpi .ne (Scalar.extui (Scalar.ori (Scalar.cmpi .eq (wd c) 1#32) (Scalar.cmpi .eq (wd c) 15#32)) : BitVec 32) 0#32) = 1#1 ↔ (c.val = 1 ∨ c.val = 15) := by revert c; decide
theorem ismid (c : Dev nD) : (Scalar.cmpi .ne (Scalar.extui (Scalar.andi (Scalar.cmpi .sgt (wd c) 1#32) (Scalar.cmpi .slt (wd c) 15#32)) : BitVec 32) 0#32) = 1#1 ↔ (1 < c.val ∧ c.val < 15) := by revert c; decide
theorem isne0 (c : Dev nD) : (Scalar.cmpi .ne (Scalar.extui (Scalar.cmpi .ne (wd c) 0#32) : BitVec 32) 0#32) = 1#1 ↔ c.val ≠ 0 := by revert c; decide
theorem isgt0 (c : Dev nD) : (Scalar.cmpi .ne (Scalar.extui (Scalar.cmpi .sgt (wd c) 0#32) : BitVec 32) 0#32) = 1#1 ↔ 0 < c.val := by revert c; decide
theorem islt15 (c : Dev nD) : (Scalar.cmpi .ne (Scalar.extui (Scalar.cmpi .slt (wd c) 15#32) : BitVec 32) 0#32) = 1#1 ↔ c.val < 15 := by revert c; decide
theorem cond11_iff (c : Dev nD) : k0_cond11 c = 1#1 ↔ c.val = 0 := by revert c; decide
theorem cond12_iff (c : Dev nD) : k0_cond12 c = 1#1 ↔ c.val < 15 := by revert c; decide
theorem cond13_iff (c : Dev nD) : k0_cond13 c = 1#1 ↔ 0 < c.val := by revert c; decide
theorem cond14_iff (c : Dev nD) : k0_cond14 c = 1#1 ↔ c.val = 0 := by revert c; decide
theorem cond16_iff (c : Dev nD) : k0_cond16 c = 1#1 ↔ c.val ≠ 0 := by revert c; decide

/-! ## The zeroed halo slots -/

theorem emb4 (off : Fin 4 → ℕ) (inb) (x : (Rect.unit (s := S2x2x128x512) off S1x2x128x512.size inb).shape.Idx) (a : Fin 4) :
    (((hbM.access (Rect.unit (s := S2x2x128x512) off S1x2x128x512.size inb)).emb x : S2x2x128x512.Idx) a).val = off a + (x a).val :=
  unit_val (s := S2x2x128x512) off S1x2x128x512.size inb x a

theorem zsub0 : (hbM.access (Rect.unit (s := S2x2x128x512) ![0, 0, 0, 0] S1x2x128x512.size inb_S2x2x128x512_S1x2x128x512_0_0_0_0)).setOn Finset.univ ⊆ hset 0 := by
  intro i hi
  obtain ⟨x, -, rfl⟩ := Finset.mem_map.mp hi
  refine Finset.mem_filter.mpr ⟨Finset.mem_univ _, ?_⟩
  have h0 := emb4 ![0, 0, 0, 0] inb_S2x2x128x512_S1x2x128x512_0_0_0_0 x 0
  have hx : (x 0).val < 1 := (x 0).isLt
  refine h0.trans ?_
  show 0 + (x 0).val = 0
  omega
theorem zsubL0 : hbM.view.setOn (Rect.unit (s := S2x2x128x512) ![0, 0, 0, 0] S1x2x128x512.size inb_S2x2x128x512_S1x2x128x512_0_0_0_0).toLoadRect.set ⊆ hset 0 := by
  refine Finset.Subset.trans (Eq.subset ?_) zsub0
  exact (View.set_slice (hbM.view) (Rect.unit (s := S2x2x128x512) ![0, 0, 0, 0] S1x2x128x512.size inb_S2x2x128x512_S1x2x128x512_0_0_0_0)).symm.trans rfl
/-- A slot once zeroed. -/
theorem zeroed0 (C : Cont F) (hz : C.z0 = z0F) {c : Dev nD} (hc : c.val = 0) (f : (cc0_scratch1 : Ref sig .tc).ty.Contents (Elt F)) :
    ∀ i ∈ hset 0, (hbM.access (Rect.unit (s := S2x2x128x512) ![0, 0, 0, 0] S1x2x128x512.size inb_S2x2x128x512_S1x2x128x512_0_0_0_0)).write (Elt F) f (k0_pay178 (F := F)) Finset.univ i = C.halo c i := by
  intro i hi
  have hi0 : (i 0).val = 0 := (Finset.mem_filter.mp hi).2
  let x : S1x2x128x512.Idx := ix4 0 (i 1) (i 2) (i 3)
  have hx : (hbM.access (Rect.unit (s := S2x2x128x512) ![0, 0, 0, 0] S1x2x128x512.size inb_S2x2x128x512_S1x2x128x512_0_0_0_0)).emb x = i := by
    funext a; apply Fin.ext
    refine (emb4 ![0, 0, 0, 0] inb_S2x2x128x512_S1x2x128x512_0_0_0_0 x a).trans ?_
    match a with
    | ⟨0, _⟩ => exact hi0.symm
    | ⟨1, _⟩ => exact Nat.zero_add _
    | ⟨2, _⟩ => exact Nat.zero_add _
    | ⟨3, _⟩ => exact Nat.zero_add _
  have hw := View.write_emb_of_mem (Val := Elt F) (v := hbM.access (Rect.unit (s := S2x2x128x512) ![0, 0, 0, 0] S1x2x128x512.size inb_S2x2x128x512_S1x2x128x512_0_0_0_0)) f (k0_pay178 (F := F)) (M := Finset.univ) (Finset.mem_univ x)
  rw [hx] at hw
  rw [hw]
  refine Eq.trans ?_ (if_pos (by omega)).symm
  have hl : C.lo c = z0F := by unfold Cont.lo; rw [dif_pos hc, hz]
  rw [hl]; rfl

/-- A halo slot that device `c` zeroes itself. -/
def zst0 (c : Dev nD) (f : (cc0_scratch1 : Ref sig .tc).ty.Contents (Elt F)) : sProp 𝕄 :=
  if c.val = 0 then ptsOn c cc0_scratch1 (hset 0) fullShare f else iprop(emp)

/-- The first device zeroes its lower halo slot. -/
theorem seg5 (C : Cont F) (hz : C.z0 = z0F) (c : Dev nD) (f) {α : Type} {Q : α → sProp 𝕄} (k : Prog (TpuEff nD τ sig (Elt F) Λ₀ .tc) α) :
    zst0 c f ⊢ iprop((zst0 c (C.halo c) -∗ wp frame (wpE (defs₀ (F := F)) 𝒱₀ (c : Thread nD τ) none) Set.univ k Q) -∗ wp frame (wpE (defs₀ (F := F)) 𝒱₀ (c : Thread nD τ) none) Set.univ
    (if k0_h5 : (Scalar.cmpi .ne (Scalar.extui (Scalar.cmpi .eq (wd c) 0#32) : BitVec 32) 0#32) = 1#1 then do
        let v574 : Vec F S1x2x128x512 .bf16 ← Prog.lift (.load (Memref.whole cc0_scratch1) (Rect.unit (s := S2x2x128x512) ![0, 0, 0, 0] S1x2x128x512.size inb_S2x2x128x512_S1x2x128x512_0_0_0_0).toLoadRect (View.loadsAt_vmem h_S1x2x128x512))
        Prog.lift (.store (Memref.whole cc0_scratch1) (Rect.unit (s := S2x2x128x512) ![0, 0, 0, 0] S1x2x128x512.size inb_S2x2x128x512_S1x2x128x512_0_0_0_0) (k0_pay178 (F := F)) Finset.univ (View.stores_vmem h_S1x2x128x512 ((Memref.isWhole_whole cc0_scratch1).storeExact_slice rfl _ packedbf16_S2x2x128x512_S1x2x128x512_0_0_0_0) (fun _ => rfl)) (.inl rfl))
        k
      else k) Q) := by
  by_cases hc : c.val = 0
  · rw [dif_pos ((is0 c).2 hc)]
    unfold zst0
    rw [if_pos hc, if_pos hc]
    simp only [Prog.lift, Prog.bind_op, Prog.bind_ret, Prog.pure_eq_ret]
    iintro H HQ
    iapply (wp_load 𝒱₀ (c : Thread nD τ) none Set.univ (m := hbM) (zsubL0)) $$ H
    iintro H
    iapply (wp_store 𝒱₀ (c : Thread nD τ) none Set.univ (m := hbM) (r := (Rect.unit (s := S2x2x128x512) ![0, 0, 0, 0] S1x2x128x512.size inb_S2x2x128x512_S1x2x128x512_0_0_0_0)) (Mk := Finset.univ) (zsub0)) $$ H
    iintro H
    iapply HQ
    ihave H := (Entails.of_eq (pointsTo_congr (zeroed0 C hz hc f))) $$ H
    iexact H
  · rw [dif_neg (fun h => hc ((is0 c).1 h))]
    unfold zst0
    rw [if_neg hc, if_neg hc]
    iintro H HQ
    iapply HQ
    iexact H

theorem zsub1 : (hbM.access (Rect.unit (s := S2x2x128x512) ![1, 0, 0, 0] S1x2x128x512.size inb_S2x2x128x512_S1x2x128x512_1_0_0_0)).setOn Finset.univ ⊆ hset 1 := by
  intro i hi
  obtain ⟨x, -, rfl⟩ := Finset.mem_map.mp hi
  refine Finset.mem_filter.mpr ⟨Finset.mem_univ _, ?_⟩
  have h0 := emb4 ![1, 0, 0, 0] inb_S2x2x128x512_S1x2x128x512_1_0_0_0 x 0
  have hx : (x 0).val < 1 := (x 0).isLt
  refine h0.trans ?_
  show 1 + (x 0).val = 1
  omega
theorem zsubL1 : hbM.view.setOn (Rect.unit (s := S2x2x128x512) ![1, 0, 0, 0] S1x2x128x512.size inb_S2x2x128x512_S1x2x128x512_1_0_0_0).toLoadRect.set ⊆ hset 1 := by
  refine Finset.Subset.trans (Eq.subset ?_) zsub1
  exact (View.set_slice (hbM.view) (Rect.unit (s := S2x2x128x512) ![1, 0, 0, 0] S1x2x128x512.size inb_S2x2x128x512_S1x2x128x512_1_0_0_0)).symm.trans rfl
/-- A slot once zeroed. -/
theorem zeroed1 (C : Cont F) (hz : C.z1 = z1F) {c : Dev nD} (hc : c.val = 15) (f : (cc0_scratch1 : Ref sig .tc).ty.Contents (Elt F)) :
    ∀ i ∈ hset 1, (hbM.access (Rect.unit (s := S2x2x128x512) ![1, 0, 0, 0] S1x2x128x512.size inb_S2x2x128x512_S1x2x128x512_1_0_0_0)).write (Elt F) f (k0_pay179 (F := F)) Finset.univ i = C.halo c i := by
  intro i hi
  have hi0 : (i 0).val = 1 := (Finset.mem_filter.mp hi).2
  let x : S1x2x128x512.Idx := ix4 0 (i 1) (i 2) (i 3)
  have hx : (hbM.access (Rect.unit (s := S2x2x128x512) ![1, 0, 0, 0] S1x2x128x512.size inb_S2x2x128x512_S1x2x128x512_1_0_0_0)).emb x = i := by
    funext a; apply Fin.ext
    refine (emb4 ![1, 0, 0, 0] inb_S2x2x128x512_S1x2x128x512_1_0_0_0 x a).trans ?_
    match a with
    | ⟨0, _⟩ => exact hi0.symm
    | ⟨1, _⟩ => exact Nat.zero_add _
    | ⟨2, _⟩ => exact Nat.zero_add _
    | ⟨3, _⟩ => exact Nat.zero_add _
  have hw := View.write_emb_of_mem (Val := Elt F) (v := hbM.access (Rect.unit (s := S2x2x128x512) ![1, 0, 0, 0] S1x2x128x512.size inb_S2x2x128x512_S1x2x128x512_1_0_0_0)) f (k0_pay179 (F := F)) (M := Finset.univ) (Finset.mem_univ x)
  rw [hx] at hw
  rw [hw]
  refine Eq.trans ?_ (if_neg (by omega)).symm
  have hl : C.hi c = z1F := by unfold Cont.hi; rw [dif_neg (by omega), hz]
  rw [hl]; rfl

/-- A halo slot that device `c` zeroes itself. -/
def zst1 (c : Dev nD) (f : (cc0_scratch1 : Ref sig .tc).ty.Contents (Elt F)) : sProp 𝕄 :=
  if c.val = 15 then ptsOn c cc0_scratch1 (hset 1) fullShare f else iprop(emp)

/-- The last device zeroes its upper halo slot. -/
theorem seg6 (C : Cont F) (hz : C.z1 = z1F) (c : Dev nD) (f) {α : Type} {Q : α → sProp 𝕄} (k : Prog (TpuEff nD τ sig (Elt F) Λ₀ .tc) α) :
    zst1 c f ⊢ iprop((zst1 c (C.halo c) -∗ wp frame (wpE (defs₀ (F := F)) 𝒱₀ (c : Thread nD τ) none) Set.univ k Q) -∗ wp frame (wpE (defs₀ (F := F)) 𝒱₀ (c : Thread nD τ) none) Set.univ
    (if k0_h6 : (Scalar.cmpi .ne (Scalar.extui (Scalar.cmpi .eq (wd c) 15#32) : BitVec 32) 0#32) = 1#1 then do
        let v574 : Vec F S1x2x128x512 .bf16 ← Prog.lift (.load (Memref.whole cc0_scratch1) (Rect.unit (s := S2x2x128x512) ![1, 0, 0, 0] S1x2x128x512.size inb_S2x2x128x512_S1x2x128x512_1_0_0_0).toLoadRect (View.loadsAt_vmem h_S1x2x128x512))
        Prog.lift (.store (Memref.whole cc0_scratch1) (Rect.unit (s := S2x2x128x512) ![1, 0, 0, 0] S1x2x128x512.size inb_S2x2x128x512_S1x2x128x512_1_0_0_0) (k0_pay179 (F := F)) Finset.univ (View.stores_vmem h_S1x2x128x512 ((Memref.isWhole_whole cc0_scratch1).storeExact_slice rfl _ packedbf16_S2x2x128x512_S1x2x128x512_1_0_0_0) (fun _ => rfl)) (.inl rfl))
        k
      else k) Q) := by
  by_cases hc : c.val = 15
  · rw [dif_pos ((is15 c).2 hc)]
    unfold zst1
    rw [if_pos hc, if_pos hc]
    simp only [Prog.lift, Prog.bind_op, Prog.bind_ret, Prog.pure_eq_ret]
    iintro H HQ
    iapply (wp_load 𝒱₀ (c : Thread nD τ) none Set.univ (m := hbM) (zsubL1)) $$ H
    iintro H
    iapply (wp_store 𝒱₀ (c : Thread nD τ) none Set.univ (m := hbM) (r := (Rect.unit (s := S2x2x128x512) ![1, 0, 0, 0] S1x2x128x512.size inb_S2x2x128x512_S1x2x128x512_1_0_0_0)) (Mk := Finset.univ) (zsub1)) $$ H
    iintro H
    iapply HQ
    ihave H := (Entails.of_eq (pointsTo_congr (zeroed1 C hz hc f))) $$ H
    iexact H
  · rw [dif_neg (fun h => hc ((is15 c).1 h))]
    unfold zst1
    rw [if_neg hc, if_neg hc]
    iintro H HQ
    iapply HQ
    iexact H

end Cert.Exchange

end
-- ==== Proof.Credits.lean ====
module

public import proofs.«01_k».proof.Proof.Covers

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

theorem credit_hb0 : (hb0).view.dmaCredit = ((kvM : Memref sig .tc .vmem S2x128x512 .bf16)).view.dmaCredit :=
  (View.dmaCredit_closed (hb0).view ⟨3, ![2, 128, 512]⟩ rfl (⟨7, by decide⟩) rfl _ (show sig.dmaCredit .tc (Kind.tc.table .vmem) ⟨7, by decide⟩ ⟨3, ![2, 128, 512]⟩ .bf16 = sig.dmaCredit .tc (Kind.tc.table .vmem) ⟨6, by decide⟩ ⟨3, ![2, 128, 512]⟩ .bf16 by decide +kernel)).trans
    (View.dmaCredit_closed ((kvM : Memref sig .tc .vmem S2x128x512 .bf16)).view ⟨3, ![2, 128, 512]⟩ rfl (⟨6, by decide⟩) rfl _ rfl).symm

theorem credit_hb1 : (hb1).view.dmaCredit = ((kvM : Memref sig .tc .vmem S2x128x512 .bf16)).view.dmaCredit :=
  (View.dmaCredit_closed (hb1).view ⟨3, ![2, 128, 512]⟩ rfl (⟨7, by decide⟩) rfl _ (show sig.dmaCredit .tc (Kind.tc.table .vmem) ⟨7, by decide⟩ ⟨3, ![2, 128, 512]⟩ .bf16 = sig.dmaCredit .tc (Kind.tc.table .vmem) ⟨6, by decide⟩ ⟨3, ![2, 128, 512]⟩ .bf16 by decide +kernel)).trans
    (View.dmaCredit_closed ((kvM : Memref sig .tc .vmem S2x128x512 .bf16)).view ⟨3, ![2, 128, 512]⟩ rfl (⟨6, by decide⟩) rfl _ rfl).symm

theorem credit_pps (j : Fin 15) : (pps j).view.dmaCredit = (pwM : Memref sig .tc .vmem S2x32x384 .bf16).view.dmaCredit := by
  exact (View.dmaCredit_closed ((pps j)).view ⟨3, ![2, 32, 384]⟩ rfl (⟨11, by decide⟩) rfl _ (show sig.dmaCredit .tc (Kind.tc.table .vmem) ⟨11, by decide⟩ ⟨3, ![2, 32, 384]⟩ .bf16 = sig.dmaCredit .tc (Kind.tc.table .vmem) ⟨10, by decide⟩ ⟨3, ![2, 32, 384]⟩ .bf16 by decide +kernel)).trans
    (View.dmaCredit_closed ((pwM : Memref sig .tc .vmem S2x32x384 .bf16)).view ⟨3, ![2, 32, 384]⟩ rfl (⟨10, by decide⟩) rfl _ rfl).symm

theorem amt3 : amt 3 = hb0.view.dmaCredit := credit_hb0.symm
theorem amt4 : amt 4 = hb1.view.dmaCredit := credit_hb1.symm
theorem amt_pr (j : Fin 15) : amt (kpr j).val = (pps j).view.dmaCredit := by
  rw [credit_pps]; unfold amt kpr; simp only; rw [if_neg (by omega), if_neg (by omega), if_neg (by omega), if_neg (by omega)]; rfl

end Cert.Exchange

end
-- ==== Proof.Waits.lean ====
module

public import proofs.«01_k».proof.Proof.Zero
public import proofs.«01_k».proof.Proof.Credits

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

variable (C : Cont F) (K : Dev nD × Fin 53 → ℕ)

/-- A cell no duty reaches is closed at once. -/
theorem close_step (c : Dev nD) (k : Fin 53) (h : ∀ d, pays d c k.val = false) :
    iprop(know C K ∗ at0 c k) ⊢ |={Set.univ}=> (zer c k : sProp 𝕄) := by
  iintro ⟨#HR, Hat⟩
  unfold at0 zer
  imod (Rounds.cell_close ER (sch C) (Set.mem_univ (K (c, k))) (fun h => h) (R := 0) (fun r hr => by
      rcases Nat.eq_zero_or_pos r with rfl | hr
      · rw [duties_eq, Finset.filter_eq_empty_iff]; intro d _; rw [h d]; simp
      · exact duties_later C (kcell (c, k)) r hr)) $$ [Hat] with Hz
  · isplitr; · iapply (rec_inv C K (c, k)); iexact HR
    iexact Hat
  imodintro
  iexact Hz

/-- A cell whose one transfer happens when `p` holds: before the wait, and after it. -/
def wIn (c : Dev nD) (k : Fin 53) (p : Prop) [Decidable p] : sProp 𝕄 := iprop(at0 c k ∗ if p then crd c k (amt k.val) else iprop(emp))
def wOut (c : Dev nD) (k : Fin 53) (p : Prop) [Decidable p] : sProp 𝕄 := iprop(zer c k ∗ if p then xferPay C c k.val else iprop(emp))

theorem payer_seg15 : ∀ c : Dev nD, (h : c.val ≠ 0) → ∀ d', pays d' c 20 = true ↔ d' = 0 := by decide
theorem nopayer_seg15 : ∀ c : Dev nD, ¬(c.val ≠ 0) → ∀ d', pays d' c 20 = false := by decide
/-- The broadcast queries arrive. -/
theorem seg15 (c : Dev nD) (O : CellTallies nD τ sig Unit) (hO : Above (lvk 20) O) {α : Type} {Q : α → sProp 𝕄} (k : Prog (TpuEff nD τ sig (Elt F) Λ₀ .tc) α) :
    iprop(know C K ∗ ow c O ∗ wIn c 20 (c.val ≠ 0)) ⊢ iprop((ow c O ∗ wOut C c 20 (c.val ≠ 0) -∗ wp frame (wpE (defs₀ (F := F)) 𝒱₀ (c : Thread nD τ) none) Set.univ k Q) -∗ wp frame (wpE (defs₀ (F := F)) 𝒱₀ (c : Thread nD τ) none) Set.univ
    (if k0_h15 : (Scalar.cmpi .ne (Scalar.extui (Scalar.cmpi .ne (wd c) 0#32) : BitVec 32) 0#32) = 1#1 then do
        let v575 : DmaSems sig S1 := cc0_scratch9.slice (Rect.unit (s := S1) ![0] S1.size inb_S1_S1_0)
        let v576 : DmaSems sig S_ := v575.squeeze S_ squeezes_S1_S_
        Prog.lift (.waitDma2 v576.sem (Memref.whole cc0_scratch2) (Memref.whole cc0_scratch2) (Memref.isWhole_whole cc0_scratch2).wordExact (Memref.isWhole_whole cc0_scratch2).wordExact)
        k
      else k) Q) := by
  unfold wIn wOut
  by_cases hc : c.val ≠ 0
  · rw [dif_pos ((isne0 c).2 hc), if_pos hc, if_pos hc]
    simp only [Prog.lift, Prog.bind_op, Prog.bind_ret, Prog.pure_eq_ret]
    iintro ⟨#Hk, HO, Hat, Hc⟩ HQ
    iapply (wait_step C K c 20 (by decide) (0 : Dev nD) (payer_seg15 c hc) O hO rfl rfl rfl) $$ [HO Hat Hc]
    · isplitl []; iexact Hk
      isplitl [HO]; iexact HO
      isplitl [Hat] <;> iassumption
    iintro ⟨HO, Hz, H⟩
    iapply HQ
    isplitl [HO]; iexact HO
    isplitl [Hz] <;> iassumption
  · rw [dif_neg (fun h => hc ((isne0 c).1 h)), if_neg hc, if_neg hc]
    iintro ⟨#Hk, HO, Hat, -⟩ HQ
    imod (close_step C K c 20 (nopayer_seg15 c hc)) $$ [Hat] with Hz
    · isplitl []; iexact Hk
      iexact Hat
    iapply HQ
    isplitl [HO]; iexact HO
    isplitl [Hz]; iexact Hz
    iempintro

theorem payer_seg17 : ∀ c : Dev nD, (h : 0 < c.val) → ∀ d', pays d' c 3 = true ↔ d' = ⟨c.val - 1, by have := c.isLt; omega⟩ := by decide
theorem nopayer_seg17 : ∀ c : Dev nD, ¬(0 < c.val) → ∀ d', pays d' c 3 = false := by decide
/-- The block from the previous device arrives. -/
theorem seg17 (c : Dev nD) (O : CellTallies nD τ sig Unit) (hO : Above (lvk 3) O) {α : Type} {Q : α → sProp 𝕄} (k : Prog (TpuEff nD τ sig (Elt F) Λ₀ .tc) α) :
    iprop(know C K ∗ ow c O ∗ wIn c 3 (0 < c.val)) ⊢ iprop((ow c O ∗ wOut C c 3 (0 < c.val) -∗ wp frame (wpE (defs₀ (F := F)) 𝒱₀ (c : Thread nD τ) none) Set.univ k Q) -∗ wp frame (wpE (defs₀ (F := F)) 𝒱₀ (c : Thread nD τ) none) Set.univ
    (if k0_h17 : (Scalar.cmpi .ne (Scalar.extui (Scalar.cmpi .sgt (wd c) 0#32) : BitVec 32) 0#32) = 1#1 then do
        let v575 : DmaSems sig S1 := cc0_scratch7.slice (Rect.unit (s := S2) ![0] S1.size inb_S2_S1_0)
        let v576 : DmaSems sig S_ := v575.squeeze S_ squeezes_S1_S_
        let v577 : Memref sig .tc .vmem S1x2x128x512 .bf16 := (Memref.whole cc0_scratch1).slice (Rect.unit (s := S2x2x128x512) ![0, 0, 0, 0] S1x2x128x512.size inb_S2x2x128x512_S1x2x128x512_0_0_0_0) (fun _ => rfl)
        let v578 : Memref sig .tc .vmem S2x128x512 .bf16 := v577.squeeze S2x128x512 squeezes_S1x2x128x512_S2x128x512
        Prog.lift (.waitDma2 v576.sem (Memref.whole cc0_scratch0) v578 (Memref.isWhole_whole cc0_scratch0).wordExact (((Memref.isWhole_whole cc0_scratch1).wordExact_slice rfl _ wordsbf16_S2x2x128x512_S1x2x128x512_0_0_0_0).reshape _ _))
        k
      else k) Q) := by
  unfold wIn wOut
  by_cases hc : 0 < c.val
  · rw [dif_pos ((isgt0 c).2 hc), if_pos hc, if_pos hc]
    simp only [Prog.lift, Prog.bind_op, Prog.bind_ret, Prog.pure_eq_ret]
    iintro ⟨#Hk, HO, Hat, Hc⟩ HQ
    iapply (wait_step C K c 3 (by decide) ⟨c.val - 1, by have := c.isLt; omega⟩ (payer_seg17 c hc) O hO rfl rfl amt3) $$ [HO Hat Hc]
    · isplitl []; iexact Hk
      isplitl [HO]; iexact HO
      isplitl [Hat] <;> iassumption
    iintro ⟨HO, Hz, H⟩
    iapply HQ
    isplitl [HO]; iexact HO
    isplitl [Hz] <;> iassumption
  · rw [dif_neg (fun h => hc ((isgt0 c).1 h)), if_neg hc, if_neg hc]
    iintro ⟨#Hk, HO, Hat, -⟩ HQ
    imod (close_step C K c 3 (nopayer_seg17 c hc)) $$ [Hat] with Hz
    · isplitl []; iexact Hk
      iexact Hat
    iapply HQ
    isplitl [HO]; iexact HO
    isplitl [Hz]; iexact Hz
    iempintro

theorem payer_seg18 : ∀ c : Dev nD, (h : c.val < 15) → ∀ d', pays d' c 4 = true ↔ d' = ⟨c.val + 1, by show c.val + 1 < 16; omega⟩ := by decide
theorem nopayer_seg18 : ∀ c : Dev nD, ¬(c.val < 15) → ∀ d', pays d' c 4 = false := by decide
/-- The block from the next device arrives. -/
theorem seg18 (c : Dev nD) (O : CellTallies nD τ sig Unit) (hO : Above (lvk 4) O) {α : Type} {Q : α → sProp 𝕄} (k : Prog (TpuEff nD τ sig (Elt F) Λ₀ .tc) α) :
    iprop(know C K ∗ ow c O ∗ wIn c 4 (c.val < 15)) ⊢ iprop((ow c O ∗ wOut C c 4 (c.val < 15) -∗ wp frame (wpE (defs₀ (F := F)) 𝒱₀ (c : Thread nD τ) none) Set.univ k Q) -∗ wp frame (wpE (defs₀ (F := F)) 𝒱₀ (c : Thread nD τ) none) Set.univ
    (if k0_h18 : (Scalar.cmpi .ne (Scalar.extui (Scalar.cmpi .slt (wd c) 15#32) : BitVec 32) 0#32) = 1#1 then do
        let v575 : DmaSems sig S1 := cc0_scratch7.slice (Rect.unit (s := S2) ![1] S1.size inb_S2_S1_1)
        let v576 : DmaSems sig S_ := v575.squeeze S_ squeezes_S1_S_
        let v577 : Memref sig .tc .vmem S1x2x128x512 .bf16 := (Memref.whole cc0_scratch1).slice (Rect.unit (s := S2x2x128x512) ![1, 0, 0, 0] S1x2x128x512.size inb_S2x2x128x512_S1x2x128x512_1_0_0_0) (fun _ => rfl)
        let v578 : Memref sig .tc .vmem S2x128x512 .bf16 := v577.squeeze S2x128x512 squeezes_S1x2x128x512_S2x128x512
        Prog.lift (.waitDma2 v576.sem (Memref.whole cc0_scratch0) v578 (Memref.isWhole_whole cc0_scratch0).wordExact (((Memref.isWhole_whole cc0_scratch1).wordExact_slice rfl _ wordsbf16_S2x2x128x512_S1x2x128x512_1_0_0_0).reshape _ _))
        k
      else k) Q) := by
  unfold wIn wOut
  by_cases hc : c.val < 15
  · rw [dif_pos ((islt15 c).2 hc), if_pos hc, if_pos hc]
    simp only [Prog.lift, Prog.bind_op, Prog.bind_ret, Prog.pure_eq_ret]
    iintro ⟨#Hk, HO, Hat, Hc⟩ HQ
    iapply (wait_step C K c 4 (by decide) ⟨c.val + 1, by show c.val + 1 < 16; omega⟩ (payer_seg18 c hc) O hO rfl rfl amt4) $$ [HO Hat Hc]
    · isplitl []; iexact Hk
      isplitl [HO]; iexact HO
      isplitl [Hat] <;> iassumption
    iintro ⟨HO, Hz, H⟩
    iapply HQ
    isplitl [HO]; iexact HO
    isplitl [Hz] <;> iassumption
  · rw [dif_neg (fun h => hc ((islt15 c).1 h)), if_neg hc, if_neg hc]
    iintro ⟨#Hk, HO, Hat, -⟩ HQ
    imod (close_step C K c 4 (nopayer_seg18 c hc)) $$ [Hat] with Hz
    · isplitl []; iexact Hk
      iexact Hat
    iapply HQ
    isplitl [HO]; iexact HO
    isplitl [Hz]; iexact Hz
    iempintro

theorem payer_seg19 : ∀ c : Dev nD, (h : c.val ≠ 0) → ∀ d', pays d' c 36 = true ↔ d' = 0 := by decide
theorem nopayer_seg19 : ∀ c : Dev nD, ¬(c.val ≠ 0) → ∀ d', pays d' c 36 = false := by decide
/-- The broadcast keys and values arrive. -/
theorem seg19 (c : Dev nD) (O : CellTallies nD τ sig Unit) (hO : Above (lvk 36) O) {α : Type} {Q : α → sProp 𝕄} (k : Prog (TpuEff nD τ sig (Elt F) Λ₀ .tc) α) :
    iprop(know C K ∗ ow c O ∗ wIn c 36 (c.val ≠ 0)) ⊢ iprop((ow c O ∗ wOut C c 36 (c.val ≠ 0) -∗ wp frame (wpE (defs₀ (F := F)) 𝒱₀ (c : Thread nD τ) none) Set.univ k Q) -∗ wp frame (wpE (defs₀ (F := F)) 𝒱₀ (c : Thread nD τ) none) Set.univ
    (if k0_h19 : (Scalar.cmpi .ne (Scalar.extui (Scalar.cmpi .ne (wd c) 0#32) : BitVec 32) 0#32) = 1#1 then do
        let v575 : DmaSems sig S1 := cc0_scratch11.slice (Rect.unit (s := S1) ![0] S1.size inb_S1_S1_0)
        let v576 : DmaSems sig S_ := v575.squeeze S_ squeezes_S1_S_
        Prog.lift (.waitDma2 v576.sem (Memref.whole cc0_scratch3) (Memref.whole cc0_scratch3) (Memref.isWhole_whole cc0_scratch3).wordExact (Memref.isWhole_whole cc0_scratch3).wordExact)
        k
      else k) Q) := by
  unfold wIn wOut
  by_cases hc : c.val ≠ 0
  · rw [dif_pos ((isne0 c).2 hc), if_pos hc, if_pos hc]
    simp only [Prog.lift, Prog.bind_op, Prog.bind_ret, Prog.pure_eq_ret]
    iintro ⟨#Hk, HO, Hat, Hc⟩ HQ
    iapply (wait_step C K c 36 (by decide) (0 : Dev nD) (payer_seg19 c hc) O hO rfl rfl rfl) $$ [HO Hat Hc]
    · isplitl []; iexact Hk
      isplitl [HO]; iexact HO
      isplitl [Hat] <;> iassumption
    iintro ⟨HO, Hz, H⟩
    iapply HQ
    isplitl [HO]; iexact HO
    isplitl [Hz] <;> iassumption
  · rw [dif_neg (fun h => hc ((isne0 c).1 h)), if_neg hc, if_neg hc]
    iintro ⟨#Hk, HO, Hat, -⟩ HQ
    imod (close_step C K c 36 (nopayer_seg19 c hc)) $$ [Hat] with Hz
    · isplitl []; iexact Hk
      iexact Hat
    iapply HQ
    isplitl [HO]; iexact HO
    isplitl [Hz]; iexact Hz
    iempintro

end Cert.Exchange

end
-- ==== Proof.Sends.lean ====
module

public import proofs.«01_k».proof.Proof.Waits

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

variable (C : Cont F) (K : Dev nD × Fin 53 → ℕ)

/-- The devices up to the `n`-th, and the first `n` simultaneous transfers. -/
def Us (n : ℕ) : Finset (Dev nD) := Finset.univ.filter fun t => t.val ≤ n
def Lo (n : ℕ) : Finset (Fin 15) := Finset.univ.filter fun j => j.val < n
theorem Us_top : Us 15 = Finset.univ := by ext t; have := t.isLt; simp only [Us, Finset.mem_filter, Finset.mem_univ, true_and, iff_true]; change t.val < 16 at this; omega
theorem Us_mem (t : Dev nD) (n : ℕ) (h : t.val = n + 1) : t ∈ Us (n + 1) := by simp only [Us, Finset.mem_filter, Finset.mem_univ, true_and]; omega
theorem Us_erase (t : Dev nD) (n : ℕ) (h : t.val = n + 1) : (Us (n + 1)).erase t = Us n := by
  ext u; simp only [Us, Finset.mem_erase, Finset.mem_filter, Finset.mem_univ, true_and, Fin.ext_iff, ne_eq]; omega
theorem Lo_top : Lo 15 = Finset.univ := by ext j; have := j.isLt; simp only [Lo, Finset.mem_filter, Finset.mem_univ, true_and, iff_true]; omega
theorem Lo_zero : Lo 0 = ∅ := by ext j; simp [Lo]
theorem Lo_mem (j : Fin 15) : j ∈ Lo (j.val + 1) := by simp [Lo]
theorem Lo_erase (j : Fin 15) : (Lo (j.val + 1)).erase j = Lo j.val := by
  ext u; simp only [Lo, Finset.mem_erase, Finset.mem_filter, Finset.mem_univ, true_and, Fin.ext_iff, ne_eq]; omega
theorem Lo_not (j : Fin 15) : j ∉ (Finset.univ \ Lo (j.val + 1)) := by simp [Lo]
theorem Lo_insert (j : Fin 15) : (Finset.univ \ Lo j.val) = insert j (Finset.univ \ Lo (j.val + 1)) := by
  ext u; simp only [Lo, Finset.mem_insert, Finset.mem_sdiff, Finset.mem_filter, Finset.mem_univ, true_and, Fin.ext_iff, not_lt]; omega
theorem sprop_perm (A B X D : sProp 𝕄) : iprop(A ∗ (B ∗ X) ∗ D) = iprop(B ∗ A ∗ X ∗ D) := by
  have h : iprop(A ∗ (B ∗ X) ∗ D) ⊢ iprop(B ∗ A ∗ X ∗ D) := by
    iintro ⟨HA, ⟨HB, HX⟩, HD⟩
    isplitl [HB]; · iexact HB
    isplitl [HA]; · iexact HA
    isplitl [HX] <;> iassumption
  have h' : iprop(B ∗ A ∗ X ∗ D) ⊢ iprop(A ∗ (B ∗ X) ∗ D) := by
    iintro ⟨HB, HA, HX, HD⟩
    isplitl [HA]; · iexact HA
    isplitl [HB HX]; · isplitl [HB] <;> iassumption
    iexact HD
  exact Entails.antisymm h h'
/-- The device the `j`-th of the simultaneous transfers goes to. -/
abbrev nx (j : Fin 15) : Dev nD := ⟨j.val + 1, by have := j.isLt; show j.val + 1 < 16; omega⟩
theorem dev19_eq (h : k0_dev19 < nD) : (⟨k0_dev19, h⟩ : Dev nD) = nx 14 := rfl
theorem dev20_eq (h : k0_dev20 < nD) : (⟨k0_dev20, h⟩ : Dev nD) = nx 13 := rfl
theorem dev21_eq (h : k0_dev21 < nD) : (⟨k0_dev21, h⟩ : Dev nD) = nx 12 := rfl
theorem dev22_eq (h : k0_dev22 < nD) : (⟨k0_dev22, h⟩ : Dev nD) = nx 11 := rfl
theorem dev23_eq (h : k0_dev23 < nD) : (⟨k0_dev23, h⟩ : Dev nD) = nx 10 := rfl
theorem dev24_eq (h : k0_dev24 < nD) : (⟨k0_dev24, h⟩ : Dev nD) = nx 9 := rfl
theorem dev25_eq (h : k0_dev25 < nD) : (⟨k0_dev25, h⟩ : Dev nD) = nx 8 := rfl
theorem dev26_eq (h : k0_dev26 < nD) : (⟨k0_dev26, h⟩ : Dev nD) = nx 7 := rfl
theorem dev27_eq (h : k0_dev27 < nD) : (⟨k0_dev27, h⟩ : Dev nD) = nx 6 := rfl
theorem dev28_eq (h : k0_dev28 < nD) : (⟨k0_dev28, h⟩ : Dev nD) = nx 5 := rfl
theorem dev29_eq (h : k0_dev29 < nD) : (⟨k0_dev29, h⟩ : Dev nD) = nx 4 := rfl
theorem dev30_eq (h : k0_dev30 < nD) : (⟨k0_dev30, h⟩ : Dev nD) = nx 3 := rfl
theorem dev31_eq (h : k0_dev31 < nD) : (⟨k0_dev31, h⟩ : Dev nD) = nx 2 := rfl
theorem dev32_eq (h : k0_dev32 < nD) : (⟨k0_dev32, h⟩ : Dev nD) = nx 1 := rfl
theorem dev33_eq (h : k0_dev33 < nD) : (⟨k0_dev33, h⟩ : Dev nD) = nx 0 := rfl
theorem dev36_eq (h : k0_dev36 < nD) : (⟨k0_dev36, h⟩ : Dev nD) = nx 14 := rfl
theorem dev37_eq (h : k0_dev37 < nD) : (⟨k0_dev37, h⟩ : Dev nD) = nx 13 := rfl
theorem dev38_eq (h : k0_dev38 < nD) : (⟨k0_dev38, h⟩ : Dev nD) = nx 12 := rfl
theorem dev39_eq (h : k0_dev39 < nD) : (⟨k0_dev39, h⟩ : Dev nD) = nx 11 := rfl
theorem dev40_eq (h : k0_dev40 < nD) : (⟨k0_dev40, h⟩ : Dev nD) = nx 10 := rfl
theorem dev41_eq (h : k0_dev41 < nD) : (⟨k0_dev41, h⟩ : Dev nD) = nx 9 := rfl
theorem dev42_eq (h : k0_dev42 < nD) : (⟨k0_dev42, h⟩ : Dev nD) = nx 8 := rfl
theorem dev43_eq (h : k0_dev43 < nD) : (⟨k0_dev43, h⟩ : Dev nD) = nx 7 := rfl
theorem dev44_eq (h : k0_dev44 < nD) : (⟨k0_dev44, h⟩ : Dev nD) = nx 6 := rfl
theorem dev45_eq (h : k0_dev45 < nD) : (⟨k0_dev45, h⟩ : Dev nD) = nx 5 := rfl
theorem dev46_eq (h : k0_dev46 < nD) : (⟨k0_dev46, h⟩ : Dev nD) = nx 4 := rfl
theorem dev47_eq (h : k0_dev47 < nD) : (⟨k0_dev47, h⟩ : Dev nD) = nx 3 := rfl
theorem dev48_eq (h : k0_dev48 < nD) : (⟨k0_dev48, h⟩ : Dev nD) = nx 2 := rfl
theorem dev49_eq (h : k0_dev49 < nD) : (⟨k0_dev49, h⟩ : Dev nD) = nx 1 := rfl
theorem dev50_eq (h : k0_dev50 < nD) : (⟨k0_dev50, h⟩ : Dev nD) = nx 0 := rfl
theorem dev51_eq (h : k0_dev51 < nD) : (⟨k0_dev51, h⟩ : Dev nD) = 0 := rfl
theorem dev34_eq (c : Dev nD) (h) (hc : c.val < 15) : (⟨k0_dev34 c, h⟩ : Dev nD) = ⟨c.val + 1, by show c.val + 1 < 16; omega⟩ := by
  apply Fin.ext; show k0_dev34 c = c.val + 1; clear h; revert c; decide
theorem dev35_eq (c : Dev nD) (h) (hc : 0 < c.val) : (⟨k0_dev35 c, h⟩ : Dev nD) = ⟨c.val - 1, by have := c.isLt; omega⟩ := by
  apply Fin.ext; show k0_dev35 c = c.val - 1; clear h; revert c; decide

theorem pays_qs (j : Fin 15) : pays 0 0 (kgqs j).val = true := by revert j; decide
theorem pays_qr (j : Fin 15) : pays 0 (nx j) 20 = true := by revert j; decide
theorem kgqs_ne (j : Fin 15) : kgqs j ≠ 0 := by revert j; decide
theorem amt_qs (j : Fin 15) : amt (kgqs j).val = NQ := by revert j; decide
theorem xfer_qs (j : Fin 15) : (xferPay C 0 (kgqs j).val : sProp 𝕄) = pts 0 cc0_scratch2 (tok j.val) C.gq := by
  have := j.isLt
  unfold xferPay kgqs; simp only
  rw [if_neg (by omega)]; rw [if_neg (by omega)]; rw [if_neg (by omega)]; rw [if_neg (by omega)]
  rw [if_pos (by omega), show 5 + j.val - 5 = j.val by omega]

/-- The first device's broadcast of the queries, `n` transfers of which are still to start. -/
def qbag (c : Dev nD) (n : ℕ) : sProp 𝕄 :=
  iprop(TT c 20 (Us n) ∗ bigSep (Lo n) (fun j => iprop(pts c cc0_scratch2 (tok j.val) C.gq ∗ dutyTok (ER (F := F)) (kcell (c, kgqs j)) 0 c ∗ ∃ f, pts (nx j) cc0_scratch2 fullShare f))
    ∗ bigSep (Finset.univ \ Lo n) (fun j => crd c (kgqs j) (amt (kgqs j).val)))

theorem qbag_succ (c : Dev nD) (j : Fin 15) : (qbag C c (j.val + 1) : sProp 𝕄)
    = iprop((pts c cc0_scratch2 (tok j.val) C.gq ∗ dutyTok (ER (F := F)) (kcell (c, kgqs j)) 0 c ∗ ∃ f, pts (nx j) cc0_scratch2 fullShare f)
      ∗ TT c 20 (Us (j.val + 1)) ∗ bigSep (Lo j.val) (fun j => iprop(pts c cc0_scratch2 (tok j.val) C.gq ∗ dutyTok (ER (F := F)) (kcell (c, kgqs j)) 0 c ∗ ∃ f, pts (nx j) cc0_scratch2 fullShare f))
      ∗ bigSep (Finset.univ \ Lo (j.val + 1)) (fun j => crd c (kgqs j) (amt (kgqs j).val))) := by
  unfold qbag
  rw [bigSep_erase (Lo_mem j), Lo_erase]
  exact sprop_perm _ _ _ _
theorem qbag_pred (c : Dev nD) (j : Fin 15) : (qbag C c j.val : sProp 𝕄)
    = iprop(TT c 20 (Us j.val) ∗ bigSep (Lo j.val) (fun j => iprop(pts c cc0_scratch2 (tok j.val) C.gq ∗ dutyTok (ER (F := F)) (kcell (c, kgqs j)) 0 c ∗ ∃ f, pts (nx j) cc0_scratch2 fullShare f))
      ∗ crd c (kgqs j) (amt (kgqs j).val) ∗ bigSep (Finset.univ \ Lo (j.val + 1)) (fun j => crd c (kgqs j) (amt (kgqs j).val))) := by
  unfold qbag
  rw [Lo_insert j, bigSep_insert (Lo_not j)]
  rfl

set_option maxHeartbeats 1000000 in
theorem sendq (j : Fin 15) (m n : ℕ) (hm : m = n + 1) (hn : j.val = n) (O : CellTallies nD τ sig Unit) {sS : DmaSem sig} (hsS : csem (kgqs j) = .dma sS) {sR : DmaSem sig} (hsR : csem 20 = .dma sR)
    {hsc : (gqM).view.ref.isScScratch = false} {hsrc : (gqM).view.WordExact} {hdst : (gqM).view.WordExact} {hsem : DmaTarget.Typed .vmem (.dma sR) (.remote (Dev.tc (nx j) : Thread nD τ) gqM (.dma sS) hsc)}
    {α : Type} {Q : α → sProp 𝕄} {k : PUnit → Prog (TpuEff nD τ sig (Elt F) Λ₀ .tc) α} :
    iprop(know C K ∗ ow 0 (O + OO 0 20 (Us m)) ∗ qbag C 0 m)
      ⊢ iprop((ow 0 (O + OO 0 20 (Us n)) ∗ qbag C 0 n -∗ wp frame (wpE (defs₀ (F := F)) 𝒱₀ (((0 : Dev nD)) : Thread nD τ) none) Set.univ (k ⟨⟩) Q)
          -∗ wp frame (wpE (defs₀ (F := F)) 𝒱₀ (((0 : Dev nD)) : Thread nD τ) none) Set.univ
              (.op (.enqueueDma gqM (.remote (Dev.tc (nx j) : Thread nD τ) gqM (.dma sS) hsc) (.dma sR) hsrc hdst hsem) k) Q) := by
  subst hm; subst hn
  have hb := qbag_succ C 0 j
  rw [hb, qbag_pred C 0 j]
  iintro ⟨#Hk, HO, ⟨⟨Hs, Hd, ⟨%f, Hf⟩⟩, HT, HL, HC⟩⟩ HQ
  have hst := send_step C K 0 (nx j) (kgqs j) 20 (kgqs_ne j) (by decide) (pays_qs j) (pays_qr j) (Us_mem (nx j) j.val rfl) O
    (src := gqM) (dst := gqM) (hsc := hsc) hsS hsR (hsrc := hsrc) (hdst := hdst) (hsem := hsem) rfl (amt_qs j)
    (q := tok j.val) (fs := C.gq) (fd := f) (by rw [xfer_qs, View.set_whole])
    (by
      rw [View.set_whole]
      exact Entails.of_eq (pointsTo_congr fun i _ => by
        show View.write (Elt F) (gqM).view f ((gqM).view.read (Elt F) C.gq) Finset.univ i = C.gq i
        exact congrFun (View.write_whole_univ (Val := Elt F) cc0_scratch2 f C.gq) i)) (Q := Q) (k := k)
  rw [Us_erase (nx j) j.val rfl, View.set_whole] at hst
  iapply hst $$ [HO HT Hs Hd Hf]
  · isplitl []; iexact Hk
    isplitl [Hs]; · iexact Hs
    isplitl [Hf]; · iexact Hf
    isplitl [HO]; · iexact HO
    isplitl [HT] <;> iassumption
  iintro ⟨HO, HT, Hc⟩
  iapply HQ
  isplitl [HO]; · iexact HO
  isplitl [HT]; · iexact HT
  isplitl [HL]; · iexact HL
  isplitl [Hc] <;> iassumption

theorem pays_ks (j : Fin 15) : pays 0 0 (kgks j).val = true := by revert j; decide
theorem pays_kr (j : Fin 15) : pays 0 (nx j) 36 = true := by revert j; decide
theorem kgks_ne (j : Fin 15) : kgks j ≠ 0 := by revert j; decide
theorem amt_ks (j : Fin 15) : amt (kgks j).val = NK := by revert j; decide
theorem xfer_ks (j : Fin 15) : (xferPay C 0 (kgks j).val : sProp 𝕄) = pts 0 cc0_scratch3 (tok j.val) C.gk := by
  have := j.isLt
  unfold xferPay kgks; simp only
  rw [if_neg (by omega)]; rw [if_neg (by omega)]; rw [if_neg (by omega)]; rw [if_neg (by omega)]; rw [if_neg (by omega)]; rw [if_neg (by omega)]
  rw [if_pos (by omega), show 21 + j.val - 21 = j.val by omega]

/-- The first device's broadcast of the keys and values, `n` transfers of which are still to start. -/
def kbag (c : Dev nD) (n : ℕ) : sProp 𝕄 :=
  iprop(TT c 36 (Us n) ∗ bigSep (Lo n) (fun j => iprop(pts c cc0_scratch3 (tok j.val) C.gk ∗ dutyTok (ER (F := F)) (kcell (c, kgks j)) 0 c ∗ ∃ f, pts (nx j) cc0_scratch3 fullShare f))
    ∗ bigSep (Finset.univ \ Lo n) (fun j => crd c (kgks j) (amt (kgks j).val)))

theorem kbag_succ (c : Dev nD) (j : Fin 15) : (kbag C c (j.val + 1) : sProp 𝕄)
    = iprop((pts c cc0_scratch3 (tok j.val) C.gk ∗ dutyTok (ER (F := F)) (kcell (c, kgks j)) 0 c ∗ ∃ f, pts (nx j) cc0_scratch3 fullShare f)
      ∗ TT c 36 (Us (j.val + 1)) ∗ bigSep (Lo j.val) (fun j => iprop(pts c cc0_scratch3 (tok j.val) C.gk ∗ dutyTok (ER (F := F)) (kcell (c, kgks j)) 0 c ∗ ∃ f, pts (nx j) cc0_scratch3 fullShare f))
      ∗ bigSep (Finset.univ \ Lo (j.val + 1)) (fun j => crd c (kgks j) (amt (kgks j).val))) := by
  unfold kbag
  rw [bigSep_erase (Lo_mem j), Lo_erase]
  exact sprop_perm _ _ _ _
theorem kbag_pred (c : Dev nD) (j : Fin 15) : (kbag C c j.val : sProp 𝕄)
    = iprop(TT c 36 (Us j.val) ∗ bigSep (Lo j.val) (fun j => iprop(pts c cc0_scratch3 (tok j.val) C.gk ∗ dutyTok (ER (F := F)) (kcell (c, kgks j)) 0 c ∗ ∃ f, pts (nx j) cc0_scratch3 fullShare f))
      ∗ crd c (kgks j) (amt (kgks j).val) ∗ bigSep (Finset.univ \ Lo (j.val + 1)) (fun j => crd c (kgks j) (amt (kgks j).val))) := by
  unfold kbag
  rw [Lo_insert j, bigSep_insert (Lo_not j)]
  rfl

set_option maxHeartbeats 1000000 in
theorem sendk (j : Fin 15) (m n : ℕ) (hm : m = n + 1) (hn : j.val = n) (O : CellTallies nD τ sig Unit) {sS : DmaSem sig} (hsS : csem (kgks j) = .dma sS) {sR : DmaSem sig} (hsR : csem 36 = .dma sR)
    {hsc : (gkM).view.ref.isScScratch = false} {hsrc : (gkM).view.WordExact} {hdst : (gkM).view.WordExact} {hsem : DmaTarget.Typed .vmem (.dma sR) (.remote (Dev.tc (nx j) : Thread nD τ) gkM (.dma sS) hsc)}
    {α : Type} {Q : α → sProp 𝕄} {k : PUnit → Prog (TpuEff nD τ sig (Elt F) Λ₀ .tc) α} :
    iprop(know C K ∗ ow 0 (O + OO 0 36 (Us m)) ∗ kbag C 0 m)
      ⊢ iprop((ow 0 (O + OO 0 36 (Us n)) ∗ kbag C 0 n -∗ wp frame (wpE (defs₀ (F := F)) 𝒱₀ (((0 : Dev nD)) : Thread nD τ) none) Set.univ (k ⟨⟩) Q)
          -∗ wp frame (wpE (defs₀ (F := F)) 𝒱₀ (((0 : Dev nD)) : Thread nD τ) none) Set.univ
              (.op (.enqueueDma gkM (.remote (Dev.tc (nx j) : Thread nD τ) gkM (.dma sS) hsc) (.dma sR) hsrc hdst hsem) k) Q) := by
  subst hm; subst hn
  have hb := kbag_succ C 0 j
  rw [hb, kbag_pred C 0 j]
  iintro ⟨#Hk, HO, ⟨⟨Hs, Hd, ⟨%f, Hf⟩⟩, HT, HL, HC⟩⟩ HQ
  have hst := send_step C K 0 (nx j) (kgks j) 36 (kgks_ne j) (by decide) (pays_ks j) (pays_kr j) (Us_mem (nx j) j.val rfl) O
    (src := gkM) (dst := gkM) (hsc := hsc) hsS hsR (hsrc := hsrc) (hdst := hdst) (hsem := hsem) rfl (amt_ks j)
    (q := tok j.val) (fs := C.gk) (fd := f) (by rw [xfer_ks, View.set_whole])
    (by
      rw [View.set_whole]
      exact Entails.of_eq (pointsTo_congr fun i _ => by
        show View.write (Elt F) (gkM).view f ((gkM).view.read (Elt F) C.gk) Finset.univ i = C.gk i
        exact congrFun (View.write_whole_univ (Val := Elt F) cc0_scratch3 f C.gk) i)) (Q := Q) (k := k)
  rw [Us_erase (nx j) j.val rfl, View.set_whole] at hst
  iapply hst $$ [HO HT Hs Hd Hf]
  · isplitl []; iexact Hk
    isplitl [Hs]; · iexact Hs
    isplitl [Hf]; · iexact Hf
    isplitl [HO]; · iexact HO
    isplitl [HT] <;> iassumption
  iintro ⟨HO, HT, Hc⟩
  iapply HQ
  isplitl [HO]; · iexact HO
  isplitl [HT]; · iexact HT
  isplitl [HL]; · iexact HL
  isplitl [Hc] <;> iassumption

theorem OO_qr_none : ∀ c : Dev nD, ¬(c.val = 0) → ∀ t ∈ Finset.univ, pays c t (20 : Fin 53).val = false := by decide
theorem OO_qr_done : ∀ t ∈ Us 0, pays 0 t (20 : Fin 53).val = false := by decide
def qst (c : Dev nD) (n : ℕ) : sProp 𝕄 := if c.val = 0 then qbag C c n else iprop(emp)
set_option maxHeartbeats 4000000 in
/-- The first device starts its 15 broadcasts. -/
theorem seg11 (c : Dev nD) (O : CellTallies nD τ sig Unit) {α : Type} {Q : α → sProp 𝕄} (k : Prog (TpuEff nD τ sig (Elt F) Λ₀ .tc) α) :
    iprop(know C K ∗ ow c (O + OO c 20 Finset.univ) ∗ qst C c 15) ⊢ iprop((ow c O ∗ qst C c 0 -∗ wp frame (wpE (defs₀ (F := F)) 𝒱₀ (c : Thread nD τ) none) Set.univ k Q) -∗ wp frame (wpE (defs₀ (F := F)) 𝒱₀ (c : Thread nD τ) none) Set.univ
    (if k0_h11 : k0_cond11 c = 1#1 then do
        k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c k0_h11
        k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c k0_h11
        k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c k0_h11
        k
      else k) Q) := by
  unfold qst
  by_cases hc : c.val = 0
  · obtain rfl : c = 0 := Fin.ext hc
    rw [dif_pos ((cond11_iff 0).2 rfl), if_pos hc, if_pos hc]
    simp only [k0_part3_eq_skeleton, k0_part3_skel, k0_part4_eq_skeleton, k0_part4_skel, k0_part5_eq_skeleton, k0_part5_skel, Prog.lift, Prog.bind_op, Prog.bind_ret, Prog.pure_eq_ret, dev19_eq, dev20_eq, dev21_eq, dev22_eq, dev23_eq, dev24_eq, dev25_eq, dev26_eq, dev27_eq, dev28_eq, dev29_eq, dev30_eq, dev31_eq, dev32_eq, dev33_eq]
    rw [← Us_top]
    iintro ⟨#Hk, HO, HB⟩ HQ
    iapply (sendq C K 14 15 14 rfl rfl O (sS := _) rfl (sR := _) rfl) $$ [HO HB]
    · isplitl []; iexact Hk
      isplitl [HO] <;> iassumption
    iintro ⟨HO, HB⟩
    iapply (sendq C K 13 14 13 rfl rfl O (sS := _) rfl (sR := _) rfl) $$ [HO HB]
    · isplitl []; iexact Hk
      isplitl [HO] <;> iassumption
    iintro ⟨HO, HB⟩
    iapply (sendq C K 12 13 12 rfl rfl O (sS := _) rfl (sR := _) rfl) $$ [HO HB]
    · isplitl []; iexact Hk
      isplitl [HO] <;> iassumption
    iintro ⟨HO, HB⟩
    iapply (sendq C K 11 12 11 rfl rfl O (sS := _) rfl (sR := _) rfl) $$ [HO HB]
    · isplitl []; iexact Hk
      isplitl [HO] <;> iassumption
    iintro ⟨HO, HB⟩
    iapply (sendq C K 10 11 10 rfl rfl O (sS := _) rfl (sR := _) rfl) $$ [HO HB]
    · isplitl []; iexact Hk
      isplitl [HO] <;> iassumption
    iintro ⟨HO, HB⟩
    iapply (sendq C K 9 10 9 rfl rfl O (sS := _) rfl (sR := _) rfl) $$ [HO HB]
    · isplitl []; iexact Hk
      isplitl [HO] <;> iassumption
    iintro ⟨HO, HB⟩
    iapply (sendq C K 8 9 8 rfl rfl O (sS := _) rfl (sR := _) rfl) $$ [HO HB]
    · isplitl []; iexact Hk
      isplitl [HO] <;> iassumption
    iintro ⟨HO, HB⟩
    iapply (sendq C K 7 8 7 rfl rfl O (sS := _) rfl (sR := _) rfl) $$ [HO HB]
    · isplitl []; iexact Hk
      isplitl [HO] <;> iassumption
    iintro ⟨HO, HB⟩
    iapply (sendq C K 6 7 6 rfl rfl O (sS := _) rfl (sR := _) rfl) $$ [HO HB]
    · isplitl []; iexact Hk
      isplitl [HO] <;> iassumption
    iintro ⟨HO, HB⟩
    iapply (sendq C K 5 6 5 rfl rfl O (sS := _) rfl (sR := _) rfl) $$ [HO HB]
    · isplitl []; iexact Hk
      isplitl [HO] <;> iassumption
    iintro ⟨HO, HB⟩
    iapply (sendq C K 4 5 4 rfl rfl O (sS := _) rfl (sR := _) rfl) $$ [HO HB]
    · isplitl []; iexact Hk
      isplitl [HO] <;> iassumption
    iintro ⟨HO, HB⟩
    iapply (sendq C K 3 4 3 rfl rfl O (sS := _) rfl (sR := _) rfl) $$ [HO HB]
    · isplitl []; iexact Hk
      isplitl [HO] <;> iassumption
    iintro ⟨HO, HB⟩
    iapply (sendq C K 2 3 2 rfl rfl O (sS := _) rfl (sR := _) rfl) $$ [HO HB]
    · isplitl []; iexact Hk
      isplitl [HO] <;> iassumption
    iintro ⟨HO, HB⟩
    iapply (sendq C K 1 2 1 rfl rfl O (sS := _) rfl (sR := _) rfl) $$ [HO HB]
    · isplitl []; iexact Hk
      isplitl [HO] <;> iassumption
    iintro ⟨HO, HB⟩
    iapply (sendq C K 0 1 0 rfl rfl O (sS := _) rfl (sR := _) rfl) $$ [HO HB]
    · isplitl []; iexact Hk
      isplitl [HO] <;> iassumption
    iintro ⟨HO, HB⟩
    iapply HQ
    isplitl [HO]
    · iapply (Entails.of_eq (show (ow 0 (O + OO 0 20 (Us 0)) : sProp 𝕄) = ow 0 O by rw [OO_none OO_qr_done, add_zero])); iexact HO
    iexact HB
  · rw [dif_neg (fun h => hc ((cond11_iff c).1 h)), if_neg hc, if_neg hc, OO_none (OO_qr_none c hc), add_zero]
    iintro ⟨-, HO, H⟩ HQ
    iapply HQ
    isplitl [HO] <;> iassumption

theorem OO_kr_none : ∀ c : Dev nD, ¬(c.val = 0) → ∀ t ∈ Finset.univ, pays c t (36 : Fin 53).val = false := by decide
theorem OO_kr_done : ∀ t ∈ Us 0, pays 0 t (36 : Fin 53).val = false := by decide
def kst (c : Dev nD) (n : ℕ) : sProp 𝕄 := if c.val = 0 then kbag C c n else iprop(emp)
set_option maxHeartbeats 4000000 in
/-- The first device starts its other 15 broadcasts. -/
theorem seg14 (c : Dev nD) (O : CellTallies nD τ sig Unit) {α : Type} {Q : α → sProp 𝕄} (k : Prog (TpuEff nD τ sig (Elt F) Λ₀ .tc) α) :
    iprop(know C K ∗ ow c (O + OO c 36 Finset.univ) ∗ kst C c 15) ⊢ iprop((ow c O ∗ kst C c 0 -∗ wp frame (wpE (defs₀ (F := F)) 𝒱₀ (c : Thread nD τ) none) Set.univ k Q) -∗ wp frame (wpE (defs₀ (F := F)) 𝒱₀ (c : Thread nD τ) none) Set.univ
    (if k0_h14 : k0_cond14 c = 1#1 then do
        k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c k0_h14
        k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c k0_h14
        k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c k0_h14
        k
      else k) Q) := by
  unfold kst
  by_cases hc : c.val = 0
  · obtain rfl : c = 0 := Fin.ext hc
    rw [dif_pos ((cond14_iff 0).2 rfl), if_pos hc, if_pos hc]
    simp only [k0_part6_eq_skeleton, k0_part6_skel, k0_part7_eq_skeleton, k0_part7_skel, k0_part8_eq_skeleton, k0_part8_skel, Prog.lift, Prog.bind_op, Prog.bind_ret, Prog.pure_eq_ret, dev36_eq, dev37_eq, dev38_eq, dev39_eq, dev40_eq, dev41_eq, dev42_eq, dev43_eq, dev44_eq, dev45_eq, dev46_eq, dev47_eq, dev48_eq, dev49_eq, dev50_eq]
    rw [← Us_top]
    iintro ⟨#Hk, HO, HB⟩ HQ
    iapply (sendk C K 14 15 14 rfl rfl O (sS := _) rfl (sR := _) rfl) $$ [HO HB]
    · isplitl []; iexact Hk
      isplitl [HO] <;> iassumption
    iintro ⟨HO, HB⟩
    iapply (sendk C K 13 14 13 rfl rfl O (sS := _) rfl (sR := _) rfl) $$ [HO HB]
    · isplitl []; iexact Hk
      isplitl [HO] <;> iassumption
    iintro ⟨HO, HB⟩
    iapply (sendk C K 12 13 12 rfl rfl O (sS := _) rfl (sR := _) rfl) $$ [HO HB]
    · isplitl []; iexact Hk
      isplitl [HO] <;> iassumption
    iintro ⟨HO, HB⟩
    iapply (sendk C K 11 12 11 rfl rfl O (sS := _) rfl (sR := _) rfl) $$ [HO HB]
    · isplitl []; iexact Hk
      isplitl [HO] <;> iassumption
    iintro ⟨HO, HB⟩
    iapply (sendk C K 10 11 10 rfl rfl O (sS := _) rfl (sR := _) rfl) $$ [HO HB]
    · isplitl []; iexact Hk
      isplitl [HO] <;> iassumption
    iintro ⟨HO, HB⟩
    iapply (sendk C K 9 10 9 rfl rfl O (sS := _) rfl (sR := _) rfl) $$ [HO HB]
    · isplitl []; iexact Hk
      isplitl [HO] <;> iassumption
    iintro ⟨HO, HB⟩
    iapply (sendk C K 8 9 8 rfl rfl O (sS := _) rfl (sR := _) rfl) $$ [HO HB]
    · isplitl []; iexact Hk
      isplitl [HO] <;> iassumption
    iintro ⟨HO, HB⟩
    iapply (sendk C K 7 8 7 rfl rfl O (sS := _) rfl (sR := _) rfl) $$ [HO HB]
    · isplitl []; iexact Hk
      isplitl [HO] <;> iassumption
    iintro ⟨HO, HB⟩
    iapply (sendk C K 6 7 6 rfl rfl O (sS := _) rfl (sR := _) rfl) $$ [HO HB]
    · isplitl []; iexact Hk
      isplitl [HO] <;> iassumption
    iintro ⟨HO, HB⟩
    iapply (sendk C K 5 6 5 rfl rfl O (sS := _) rfl (sR := _) rfl) $$ [HO HB]
    · isplitl []; iexact Hk
      isplitl [HO] <;> iassumption
    iintro ⟨HO, HB⟩
    iapply (sendk C K 4 5 4 rfl rfl O (sS := _) rfl (sR := _) rfl) $$ [HO HB]
    · isplitl []; iexact Hk
      isplitl [HO] <;> iassumption
    iintro ⟨HO, HB⟩
    iapply (sendk C K 3 4 3 rfl rfl O (sS := _) rfl (sR := _) rfl) $$ [HO HB]
    · isplitl []; iexact Hk
      isplitl [HO] <;> iassumption
    iintro ⟨HO, HB⟩
    iapply (sendk C K 2 3 2 rfl rfl O (sS := _) rfl (sR := _) rfl) $$ [HO HB]
    · isplitl []; iexact Hk
      isplitl [HO] <;> iassumption
    iintro ⟨HO, HB⟩
    iapply (sendk C K 1 2 1 rfl rfl O (sS := _) rfl (sR := _) rfl) $$ [HO HB]
    · isplitl []; iexact Hk
      isplitl [HO] <;> iassumption
    iintro ⟨HO, HB⟩
    iapply (sendk C K 0 1 0 rfl rfl O (sS := _) rfl (sR := _) rfl) $$ [HO HB]
    · isplitl []; iexact Hk
      isplitl [HO] <;> iassumption
    iintro ⟨HO, HB⟩
    iapply HQ
    isplitl [HO]
    · iapply (Entails.of_eq (show (ow 0 (O + OO 0 36 (Us 0)) : sProp 𝕄) = ow 0 O by rw [OO_none OO_kr_done, add_zero])); iexact HO
    iexact HB
  · rw [dif_neg (fun h => hc ((cond14_iff c).1 h)), if_neg hc, if_neg hc, OO_none (OO_kr_none c hc), add_zero]
    iintro ⟨-, HO, H⟩ HQ
    iapply HQ
    isplitl [HO] <;> iassumption

theorem OO_hr0_none : ∀ c : Dev nD, ¬(c.val < 15) → ∀ t ∈ Finset.univ, pays c t (3 : Fin 53).val = false := by decide
theorem OO_hr0_done : ∀ c : Dev nD, (h : c.val < 15) → ∀ t ∈ Finset.univ.erase (⟨c.val + 1, by show c.val + 1 < 16; omega⟩ : Dev nD), pays c t (3 : Fin 53).val = false := by decide
theorem pays_hr0s : ∀ c : Dev nD, (c.val < 15) → pays c c (1 : Fin 53).val = true := by decide
theorem pays_hr0r : ∀ c : Dev nD, (h : c.val < 15) → pays c ⟨c.val + 1, by show c.val + 1 < 16; omega⟩ (3 : Fin 53).val = true := by decide
/-- What the transfer of the device's own block to its next device takes. -/
def hr0st (c : Dev nD) : sProp 𝕄 :=
  if h : c.val < 15 then iprop(pts c cc0_scratch0 (tok 0) (C.kv c) ∗ (∃ f, ptsOn (⟨c.val + 1, by show c.val + 1 < 16; omega⟩ : Dev nD) cc0_scratch1 (hset 0) fullShare f) ∗ TT c 3 Finset.univ ∗ dutyTok (ER (F := F)) (kcell (c, 1)) 0 c) else iprop(emp)
theorem send_hr0 (c n : Dev nD) (hc : c.val < 15) (hn : n = ⟨c.val + 1, by show c.val + 1 < 16; omega⟩) (O : CellTallies nD τ sig Unit) (f : (cc0_scratch1 : Ref sig .tc).ty.Contents (Elt F)) {sS : DmaSem sig} (hsS : csem 1 = .dma sS) {sR : DmaSem sig} (hsR : csem 3 = .dma sR)
    {hsc : (hb0).view.ref.isScScratch = false} {hsrc : (kvM).view.WordExact} {hdst : (hb0).view.WordExact} {hsem : DmaTarget.Typed .vmem (.dma sR) (.remote (Dev.tc n : Thread nD τ) hb0 (.dma sS) hsc)}
    {α : Type} {Q : α → sProp 𝕄} {k : PUnit → Prog (TpuEff nD τ sig (Elt F) Λ₀ .tc) α} :
    iprop(know C K ∗ pts c cc0_scratch0 (tok 0) (C.kv c) ∗ ptsOn n cc0_scratch1 (hset 0) fullShare f ∗ ow c (O + OO c 3 Finset.univ) ∗ TT c 3 Finset.univ ∗ dutyTok (ER (F := F)) (kcell (c, 1)) 0 c)
      ⊢ iprop((ow c O ∗ TT c 3 (Finset.univ.erase n) ∗ crd c 1 (amt 1) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma kvM (.remote (Dev.tc n : Thread nD τ) hb0 (.dma sS) hsc) (.dma sR) hsrc hdst hsem) k) Q) := by
  have hst := send_step C K c n 1 3 (by decide) (by decide) (pays_hr0s c hc) (hn ▸ pays_hr0r c hc) (Finset.mem_univ _) O
      (src := kvM) (dst := hb0) (hsc := hsc) hsS hsR (hsrc := hsrc) (hdst := hdst) (hsem := hsem) amt3 rfl
      (q := tok 0) (fs := C.kv c) (fd := f) (by rw [View.set_whole]; exact .rfl)
      (by rw [pointsTo_congr (hb0_landed C (c := c) (c' := n) (by rw [hn] <;> (simp only; omega)) f), hb0_set]; exact .rfl) (Q := Q) (k := k)
  rw [OO_none (S := Finset.univ.erase n) (by subst hn; exact OO_hr0_done c hc), add_zero, View.set_whole, hb0_set] at hst
  exact hst
set_option maxHeartbeats 1000000 in
/-- The device's own block goes to its next device. -/
theorem seg12 (c : Dev nD) (O : CellTallies nD τ sig Unit) {α : Type} {Q : α → sProp 𝕄} (k : Prog (TpuEff nD τ sig (Elt F) Λ₀ .tc) α) :
    iprop(know C K ∗ ow c (O + OO c 3 Finset.univ) ∗ hr0st C c) ⊢ iprop((ow c O ∗ (if c.val < 15 then crd c 1 (amt 1) else iprop(emp)) -∗ wp frame (wpE (defs₀ (F := F)) 𝒱₀ (c : Thread nD τ) none) Set.univ k Q) -∗ wp frame (wpE (defs₀ (F := F)) 𝒱₀ (c : Thread nD τ) none) Set.univ
    (if k0_h12 : k0_cond12 c = 1#1 then do
        let v576 : DmaSems sig S1 := cc0_scratch6.slice (Rect.unit (s := S2) ![0] S1.size inb_S2_S1_0)
        let v577 : DmaSems sig S_ := v576.squeeze S_ squeezes_S1_S_
        let v578 : DmaSems sig S1 := cc0_scratch7.slice (Rect.unit (s := S2) ![0] S1.size inb_S2_S1_0)
        let v579 : DmaSems sig S_ := v578.squeeze S_ squeezes_S1_S_
        let v580 : Memref sig .tc .vmem S1x2x128x512 .bf16 := (Memref.whole cc0_scratch1).slice (Rect.unit (s := S2x2x128x512) ![0, 0, 0, 0] S1x2x128x512.size inb_S2x2x128x512_S1x2x128x512_0_0_0_0) (fun _ => rfl)
        let v581 : Memref sig .tc .vmem S2x128x512 .bf16 := v580.squeeze S2x128x512 squeezes_S1x2x128x512_S2x128x512
        Prog.lift (.enqueueDma (Memref.whole cc0_scratch0) (.remote (Dev.tc (⟨k0_dev34 c, k0_dev34_lt c k0_h12⟩ : Dev nD)) v581 (.dma v577.sem)) (.dma v579.sem) (Memref.isWhole_whole cc0_scratch0).wordExact (((Memref.isWhole_whole cc0_scratch1).wordExact_slice rfl _ wordsbf16_S2x2x128x512_S1x2x128x512_0_0_0_0).reshape _ _) ⟨⟨rfl, Or.inl rfl⟩, trivial⟩)
        k
      else k) Q) := by
  unfold hr0st
  by_cases hc : c.val < 15
  · rw [dif_pos ((cond12_iff c).2 hc), dif_pos hc, if_pos hc]
    simp only [Prog.lift, Prog.bind_op, Prog.bind_ret, Prog.pure_eq_ret]
    rw [dev34_eq c _ hc]
    iintro ⟨#Hk, HO, Hs, ⟨%f, Hf⟩, HT, Hd⟩ HQ
    iapply (send_hr0 C K c _ hc rfl O f (sS := _) rfl (sR := _) rfl) $$ [HO HT Hs Hd Hf]
    · isplitl []; iexact Hk
      isplitl [Hs]; · iexact Hs
      isplitl [Hf]; · iexact Hf
      isplitl [HO]; · iexact HO
      isplitl [HT] <;> iassumption
    iintro ⟨HO, -, Hc⟩
    iapply HQ
    isplitl [HO] <;> iassumption
  · rw [dif_neg (fun h => hc ((cond12_iff c).1 h)), dif_neg hc, if_neg hc, OO_none (OO_hr0_none c hc), add_zero]
    iintro ⟨-, HO, H⟩ HQ
    iapply HQ
    isplitl [HO] <;> iassumption

theorem OO_hr1_none : ∀ c : Dev nD, ¬(0 < c.val) → ∀ t ∈ Finset.univ, pays c t (4 : Fin 53).val = false := by decide
theorem OO_hr1_done : ∀ c : Dev nD, (h : 0 < c.val) → ∀ t ∈ Finset.univ.erase (⟨c.val - 1, by have := c.isLt; omega⟩ : Dev nD), pays c t (4 : Fin 53).val = false := by decide
theorem pays_hr1s : ∀ c : Dev nD, (0 < c.val) → pays c c (2 : Fin 53).val = true := by decide
theorem pays_hr1r : ∀ c : Dev nD, (h : 0 < c.val) → pays c ⟨c.val - 1, by have := c.isLt; omega⟩ (4 : Fin 53).val = true := by decide
/-- What the transfer of the device's own block to its previous device takes. -/
def hr1st (c : Dev nD) : sProp 𝕄 :=
  if h : 0 < c.val then iprop(pts c cc0_scratch0 (tok 1) (C.kv c) ∗ (∃ f, ptsOn (⟨c.val - 1, by have := c.isLt; omega⟩ : Dev nD) cc0_scratch1 (hset 1) fullShare f) ∗ TT c 4 Finset.univ ∗ dutyTok (ER (F := F)) (kcell (c, 2)) 0 c) else iprop(emp)
theorem send_hr1 (c n : Dev nD) (hc : 0 < c.val) (hn : n = ⟨c.val - 1, by have := c.isLt; omega⟩) (O : CellTallies nD τ sig Unit) (f : (cc0_scratch1 : Ref sig .tc).ty.Contents (Elt F)) {sS : DmaSem sig} (hsS : csem 2 = .dma sS) {sR : DmaSem sig} (hsR : csem 4 = .dma sR)
    {hsc : (hb1).view.ref.isScScratch = false} {hsrc : (kvM).view.WordExact} {hdst : (hb1).view.WordExact} {hsem : DmaTarget.Typed .vmem (.dma sR) (.remote (Dev.tc n : Thread nD τ) hb1 (.dma sS) hsc)}
    {α : Type} {Q : α → sProp 𝕄} {k : PUnit → Prog (TpuEff nD τ sig (Elt F) Λ₀ .tc) α} :
    iprop(know C K ∗ pts c cc0_scratch0 (tok 1) (C.kv c) ∗ ptsOn n cc0_scratch1 (hset 1) fullShare f ∗ ow c (O + OO c 4 Finset.univ) ∗ TT c 4 Finset.univ ∗ dutyTok (ER (F := F)) (kcell (c, 2)) 0 c)
      ⊢ iprop((ow c O ∗ TT c 4 (Finset.univ.erase n) ∗ crd c 2 (amt 2) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma kvM (.remote (Dev.tc n : Thread nD τ) hb1 (.dma sS) hsc) (.dma sR) hsrc hdst hsem) k) Q) := by
  have hst := send_step C K c n 2 4 (by decide) (by decide) (pays_hr1s c hc) (hn ▸ pays_hr1r c hc) (Finset.mem_univ _) O
      (src := kvM) (dst := hb1) (hsc := hsc) hsS hsR (hsrc := hsrc) (hdst := hdst) (hsem := hsem) amt4 rfl
      (q := tok 1) (fs := C.kv c) (fd := f) (by rw [View.set_whole]; exact .rfl)
      (by rw [pointsTo_congr (hb1_landed C (c := c) (c' := n) (by rw [hn] <;> (simp only; omega)) f), hb1_set]; exact .rfl) (Q := Q) (k := k)
  rw [OO_none (S := Finset.univ.erase n) (by subst hn; exact OO_hr1_done c hc), add_zero, View.set_whole, hb1_set] at hst
  exact hst
set_option maxHeartbeats 1000000 in
/-- The device's own block goes to its previous device. -/
theorem seg13 (c : Dev nD) (O : CellTallies nD τ sig Unit) {α : Type} {Q : α → sProp 𝕄} (k : Prog (TpuEff nD τ sig (Elt F) Λ₀ .tc) α) :
    iprop(know C K ∗ ow c (O + OO c 4 Finset.univ) ∗ hr1st C c) ⊢ iprop((ow c O ∗ (if 0 < c.val then crd c 2 (amt 2) else iprop(emp)) -∗ wp frame (wpE (defs₀ (F := F)) 𝒱₀ (c : Thread nD τ) none) Set.univ k Q) -∗ wp frame (wpE (defs₀ (F := F)) 𝒱₀ (c : Thread nD τ) none) Set.univ
    (if k0_h13 : k0_cond13 c = 1#1 then do
        let v576 : DmaSems sig S1 := cc0_scratch6.slice (Rect.unit (s := S2) ![1] S1.size inb_S2_S1_1)
        let v577 : DmaSems sig S_ := v576.squeeze S_ squeezes_S1_S_
        let v578 : DmaSems sig S1 := cc0_scratch7.slice (Rect.unit (s := S2) ![1] S1.size inb_S2_S1_1)
        let v579 : DmaSems sig S_ := v578.squeeze S_ squeezes_S1_S_
        let v580 : Memref sig .tc .vmem S1x2x128x512 .bf16 := (Memref.whole cc0_scratch1).slice (Rect.unit (s := S2x2x128x512) ![1, 0, 0, 0] S1x2x128x512.size inb_S2x2x128x512_S1x2x128x512_1_0_0_0) (fun _ => rfl)
        let v581 : Memref sig .tc .vmem S2x128x512 .bf16 := v580.squeeze S2x128x512 squeezes_S1x2x128x512_S2x128x512
        Prog.lift (.enqueueDma (Memref.whole cc0_scratch0) (.remote (Dev.tc (⟨k0_dev35 c, k0_dev35_lt c k0_h13⟩ : Dev nD)) v581 (.dma v577.sem)) (.dma v579.sem) (Memref.isWhole_whole cc0_scratch0).wordExact (((Memref.isWhole_whole cc0_scratch1).wordExact_slice rfl _ wordsbf16_S2x2x128x512_S1x2x128x512_1_0_0_0).reshape _ _) ⟨⟨rfl, Or.inl rfl⟩, trivial⟩)
        k
      else k) Q) := by
  unfold hr1st
  by_cases hc : 0 < c.val
  · rw [dif_pos ((cond13_iff c).2 hc), dif_pos hc, if_pos hc]
    simp only [Prog.lift, Prog.bind_op, Prog.bind_ret, Prog.pure_eq_ret]
    rw [dev35_eq c _ hc]
    iintro ⟨#Hk, HO, Hs, ⟨%f, Hf⟩, HT, Hd⟩ HQ
    iapply (send_hr1 C K c _ hc rfl O f (sS := _) rfl (sR := _) rfl) $$ [HO HT Hs Hd Hf]
    · isplitl []; iexact Hk
      isplitl [Hs]; · iexact Hs
      isplitl [Hf]; · iexact Hf
      isplitl [HO]; · iexact HO
      isplitl [HT] <;> iassumption
    iintro ⟨HO, -, Hc⟩
    iapply HQ
    isplitl [HO] <;> iassumption
  · rw [dif_neg (fun h => hc ((cond13_iff c).1 h)), dif_neg hc, if_neg hc, OO_none (OO_hr1_none c hc), add_zero]
    iintro ⟨-, HO, H⟩ HQ
    iapply HQ
    isplitl [HO] <;> iassumption

end Cert.Exchange

end
-- ==== Proof.Partial.lean ====
module

public import proofs.«01_k».proof.Proof.Sends

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

variable (C : Cont F) (K : Dev nD × Fin 53 → ℕ)

/-- The cell on the first device that device `c`'s partial result is sent to. -/
def prk (c : Dev nD) : Fin 53 := ⟨c.val + 37, by have := c.isLt; change c.val < 16 at this; omega⟩

theorem off1_eq : ∀ j : Fin 15, k0_off1 (nx j) = ![j.val] := by decide
theorem off2_eq : ∀ j : Fin 15, k0_off2 (nx j) = ![j.val, 0, 0, 0] := by decide
theorem csem_pr (j : Fin 15) (off : Fin 1 → ℕ) (hoff : off = ![j.val]) (inb) : csem (prk (nx j)) = .dma (((SemArray.slice cc0_scratch13 (Rect.unit (s := S15) off S1.size inb)).squeeze S_ squeezes_S1_S_).sem) := by
  subst hoff; revert inb; revert j; decide
theorem pays_ps : ∀ j : Fin 15, pays (nx j) (nx j) (37 : Fin 53).val = true := by decide
theorem pays_pr : ∀ j : Fin 15, pays (nx j) 0 (prk (nx j)).val = true := by decide
theorem OO_pr_done : ∀ j : Fin 15, ∀ t ∈ Finset.univ.erase (0 : Dev nD), pays (nx j) t (prk (nx j)).val = false := by decide
theorem OO_pr_none : ∀ c : Dev nD, c.val = 0 → ∀ t ∈ Finset.univ, pays c t (prk c).val = false := by decide
theorem prk_ne : ∀ c : Dev nD, prk c ≠ 0 := by decide
theorem prk_nx (j : Fin 15) : prk (nx j) = kpr j := Fin.ext (by unfold prk nx kpr; simp only; omega)
theorem amt_prk (j : Fin 15) : amt (prk (nx j)).val = (pps j).view.dmaCredit := by rw [prk_nx]; exact amt_pr j
theorem amt_ps (j : Fin 15) : amt 37 = amt (prk (nx j)).val := by revert j; decide
theorem xfer_pr (j : Fin 15) : (xferPay C 0 (prk (nx j)).val : sProp 𝕄) = ptsOn 0 cc0_scratch5 (pset j) fullShare C.pp := by
  have := j.isLt
  unfold xferPay prk nx; simp only
  rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]
  rw [dif_pos (by omega)]
  have e : (⟨j.val + 1 + 37 - 38, by omega⟩ : Fin 15) = j := Fin.ext (by simp only; omega)
  rw [e]

theorem send_pr (j : Fin 15) (off : Fin 4 → ℕ) (hoff : off = ![j.val, 0, 0, 0]) (inb) (hun) (O : CellTallies nD τ sig Unit) (f : (cc0_scratch5 : Ref sig .tc).ty.Contents (Elt F)) {sS : DmaSem sig} (hsS : csem 37 = .dma sS) {sR : DmaSem sig} (hsR : csem (prk (nx j)) = .dma sR)
    {hsc} {hsrc : (pwM).view.WordExact}
    {hdst : (((ppM.slice (Rect.unit (s := S15x2x32x384) off S1x2x32x384.size inb) hun).squeeze S2x32x384 squeezes_S1x2x32x384_S2x32x384)).view.WordExact}
    {hsem : DmaTarget.Typed .vmem (.dma sR) (.remote (Dev.tc (0 : Dev nD) : Thread nD τ) ((ppM.slice (Rect.unit (s := S15x2x32x384) off S1x2x32x384.size inb) hun).squeeze S2x32x384 squeezes_S1x2x32x384_S2x32x384) (.dma sS) hsc)}
    {α : Type} {Q : α → sProp 𝕄} {k : PUnit → Prog (TpuEff nD τ sig (Elt F) Λ₀ .tc) α} :
    iprop(know C K ∗ pts (nx j) cc0_scratch4 fullShare (C.pw (nx j)) ∗ ptsOn (0 : Dev nD) cc0_scratch5 (pset j) fullShare f ∗ ow (nx j) (O + OO (nx j) (prk (nx j)) Finset.univ) ∗ TT (nx j) (prk (nx j)) Finset.univ ∗ dutyTok (ER (F := F)) (kcell (nx j, 37)) 0 (nx j))
      ⊢ iprop((ow (nx j) O ∗ TT (nx j) (prk (nx j)) (Finset.univ.erase 0) ∗ crd (nx j) 37 (amt 37) -∗ wp frame (wpE (defs₀ (F := F)) 𝒱₀ (((nx j : Dev nD)) : Thread nD τ) none) Set.univ (k ⟨⟩) Q)
          -∗ wp frame (wpE (defs₀ (F := F)) 𝒱₀ (((nx j : Dev nD)) : Thread nD τ) none) Set.univ (.op (.enqueueDma pwM (.remote (Dev.tc (0 : Dev nD) : Thread nD τ) ((ppM.slice (Rect.unit (s := S15x2x32x384) off S1x2x32x384.size inb) hun).squeeze S2x32x384 squeezes_S1x2x32x384_S2x32x384) (.dma sS) hsc) (.dma sR) hsrc hdst hsem) k) Q) := by
  subst hoff
  have hst := send_step C K (nx j) 0 37 (prk (nx j)) (by decide) (prk_ne _) (pays_ps j) (pays_pr j) (Finset.mem_univ _) O
      (src := pwM) (dst := pps j) (hsc := hsc) hsS hsR (hsrc := hsrc) (hdst := hdst) (hsem := hsem) (amt_prk j) (amt_ps j)
      (q := fullShare) (fs := C.pw (nx j)) (fd := f) (by rw [View.set_whole]; exact .rfl)
      (by rw [pointsTo_congr (pps_landed C (c := nx j) (j := j) rfl f), pps_set, xfer_pr]) (Q := Q) (k := k)
  rw [OO_none (OO_pr_done j), add_zero, View.set_whole, pps_set] at hst
  exact hst

/-- What the transfer of the device's partial result takes. -/
def prst (c : Dev nD) (f : (cc0_scratch4 : Ref sig .tc).ty.Contents (Elt F)) : sProp 𝕄 :=
  iprop(pts c cc0_scratch4 fullShare f ∗ if h : c.val ≠ 0 then iprop((∃ f, ptsOn (0 : Dev nD) cc0_scratch5 (pset ⟨c.val - 1, by have := c.isLt; change c.val < 16 at this; omega⟩) fullShare f) ∗ TT c (prk c) Finset.univ ∗ dutyTok (ER (F := F)) (kcell (c, 37)) 0 c) else iprop(emp))
/-- And what is left of it. -/
def prout (c : Dev nD) : sProp 𝕄 := if c.val = 0 then pts c cc0_scratch4 fullShare (C.pw c) else crd c 37 (amt 37)

theorem eq_nx (c : Dev nD) (h : c.val ≠ 0) : ∃ j : Fin 15, c = nx j :=
  ⟨⟨c.val - 1, by have := c.isLt; change c.val < 16 at this; omega⟩, Fin.ext (by simp only; omega)⟩

set_option maxHeartbeats 1000000 in
/-- The device's partial result goes to the first device. -/
theorem seg16 (c : Dev nD) (O : CellTallies nD τ sig Unit) {α : Type} {Q : α → sProp 𝕄} (k : Prog (TpuEff nD τ sig (Elt F) Λ₀ .tc) α) :
    iprop(know C K ∗ ow c (O + OO c (prk c) Finset.univ) ∗ prst c (C.pw c)) ⊢ iprop((ow c O ∗ prout C c -∗ wp frame (wpE (defs₀ (F := F)) 𝒱₀ (c : Thread nD τ) none) Set.univ k Q) -∗ wp frame (wpE (defs₀ (F := F)) 𝒱₀ (c : Thread nD τ) none) Set.univ
    (if k0_h16 : k0_cond16 c = 1#1 then do
        let v577 : DmaSems sig S1 := cc0_scratch12.slice (Rect.unit (s := S1) ![0] S1.size inb_S1_S1_0)
        let v578 : DmaSems sig S_ := v577.squeeze S_ squeezes_S1_S_
        let v579 : DmaSems sig S1 := cc0_scratch13.slice (Rect.unit (s := S15) (k0_off1 c) S1.size (k0_off1_inb c k0_h16))
        let v580 : DmaSems sig S_ := v579.squeeze S_ squeezes_S1_S_
        let v581 : Memref sig .tc .vmem S1x2x32x384 .bf16 := (Memref.whole cc0_scratch5).slice (Rect.unit (s := S15x2x32x384) (k0_off2 c) S1x2x32x384.size (k0_off2_inb c k0_h16)) (fun _ => rfl)
        let v582 : Memref sig .tc .vmem S2x32x384 .bf16 := v581.squeeze S2x32x384 squeezes_S1x2x32x384_S2x32x384
        Prog.lift (.enqueueDma (Memref.whole cc0_scratch4) (.remote (Dev.tc (⟨k0_dev51, k0_dev51_lt c k0_h16⟩ : Dev nD)) v582 (.dma v578.sem)) (.dma v580.sem) (Memref.isWhole_whole cc0_scratch4).wordExact (((Memref.isWhole_whole cc0_scratch5).wordExact_slice rfl _ (k0_off2_wordsbf16 c k0_h16)).reshape _ _) ⟨⟨rfl, Or.inl rfl⟩, trivial⟩)
        k
      else k) Q) := by
  unfold prst prout
  by_cases hc : c.val ≠ 0
  · rw [dif_pos ((cond16_iff c).2 hc), dif_pos hc, if_neg hc]
    obtain ⟨j, rfl⟩ := eq_nx c hc
    simp only [Prog.lift, Prog.bind_op, Prog.bind_ret, Prog.pure_eq_ret]
    rw [dev51_eq]
    iintro ⟨#Hk, HO, Hs, ⟨%f, Hf⟩, HT, Hd⟩ HQ
    iapply (send_pr C K j (k0_off2 (nx j)) (off2_eq j) _ _ O f (sS := _) rfl (sR := _) (csem_pr j (k0_off1 (nx j)) (off1_eq j) _)) $$ [HO HT Hs Hd Hf]
    · isplitl []; iexact Hk
      isplitl [Hs]; iexact Hs
      isplitl [Hf]; iexact Hf
      isplitl [HO]; iexact HO
      isplitl [HT] <;> iassumption
    iintro ⟨HO, -, Hc⟩
    iapply HQ
    isplitl [HO] <;> iassumption
  · have h0 : c.val = 0 := not_not.mp hc
    rw [dif_neg (fun h => hc ((cond16_iff c).1 h)), dif_neg hc, if_pos h0, OO_none (OO_pr_none c h0), add_zero]
    iintro ⟨-, HO, H, -⟩ HQ
    iapply HQ
    isplitl [HO] <;> iassumption

end Cert.Exchange

end
-- ==== Proof.MergeParts.lean ====
module

public import proofs.«01_k».proof.Proof.Partial
public import proofs.«01_k».proof.Proof.MergeValues

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

set_option maxHeartbeats 2000000 in
/-- Step 13 of the body reads its buffers and leaves what it computed. -/
theorem part13_spec (c : Dev nD) (E : Env F) (hE : E.v2 = wd c) {q11 : PosShare TreeShare}  {Q : _ → sProp 𝕄} :
    iprop(pts c cc0_scratch5 q11 E.pp) ⊢ iprop((pts c cc0_scratch5 q11 E.pp -∗ Q ⟨(v671 E), (v674 E), (v677 E), (v680 E), (v683 E), (v686 E), (v689 E), (v692 E), (v694 E)⟩) -∗ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part13_eq_skeleton]
  unfold k0_part13_skel
  iintro H0 HQ
  ihave H0 := (held_of c cc0_scratch5 _ _) $$ H0
  sl_exec
  rw [wp_ret]
  imodintro
  try unfold v671
  try unfold v674
  try unfold v677
  try unfold v680
  try unfold v683
  try unfold v686
  try unfold v689
  try unfold v692
  try unfold v694
  try unfold v693
  try unfold v690
  try unfold v687
  try unfold v684
  try unfold v681
  try unfold v678
  try unfold v675
  try unfold v672
  try unfold v669
  try unfold v2
  try rw [hE]
  iapply HQ
  iexact H0

set_option maxHeartbeats 2000000 in
/-- Step 14 of the body reads its buffers and leaves what it computed. -/
theorem part14_spec (c : Dev nD) (E : Env F) (hE : E.v2 = wd c) {q11 : PosShare TreeShare}  {Q : _ → sProp 𝕄} :
    iprop(pts c cc0_scratch5 q11 E.pp) ⊢ iprop((pts c cc0_scratch5 q11 E.pp -∗ Q ⟨(v695 E), (v698 E), (v701 E), (v704 E), (v707 E), (v710 E), (v711 E), (v712 E), (v713 E), (v714 E), (v715 E), (v716 E), (v717 E), (v718 E), (v719 E), (v720 E), (v721 E), (v722 E), (v723 E), (v724 E), (v725 E), (v726 E), (v727 E), (v728 E), (v729 E), (v730 E), (v731 E), (v732 E), (v733 E), (v734 E)⟩) -∗ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v665 E) (v668 E) (v671 E) (v674 E) (v677 E) (v680 E) (v683 E) (v686 E) (v689 E) (v692 E) (v694 E)) Q) := by
  rw [k0_part14_eq_skeleton]
  unfold k0_part14_skel
  iintro H0 HQ
  ihave H0 := (held_of c cc0_scratch5 _ _) $$ H0
  sl_exec
  rw [wp_ret]
  imodintro
  try unfold v695
  try unfold v698
  try unfold v701
  try unfold v704
  try unfold v707
  try unfold v710
  try unfold v711
  try unfold v712
  try unfold v713
  try unfold v714
  try unfold v715
  try unfold v716
  try unfold v717
  try unfold v718
  try unfold v719
  try unfold v720
  try unfold v721
  try unfold v722
  try unfold v723
  try unfold v724
  try unfold v725
  try unfold v726
  try unfold v727
  try unfold v728
  try unfold v729
  try unfold v730
  try unfold v731
  try unfold v732
  try unfold v733
  try unfold v734
  try unfold v708
  try unfold v705
  try unfold v702
  try unfold v699
  try unfold v696
  try unfold v2
  try rw [hE]
  iapply HQ
  iexact H0

/-- Step 15 of the body only computes. -/
theorem part15_spec (c : Dev nD) (E : Env F) (hE : E.v2 = wd c) {Q : _ → sProp 𝕄} :
    Q ⟨(v735 E), (v736 E), (v737 E), (v738 E), (v739 E), (v740 E), (v741 E), (v742 E), (v759 E), (v761 E), (v763 E), (v765 E), (v767 E), (v769 E), (v771 E), (v773 E), (v775 E), (v777 E), (v779 E), (v781 E), (v783 E), (v785 E), (v787 E), (v789 E), (v794 E)⟩ ⊢ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v689 E) (v692 E) (v695 E) (v698 E) (v701 E) (v704 E) (v707 E) (v710 E) (v711 E) (v712 E) (v713 E) (v714 E) (v715 E) (v716 E) (v717 E) (v718 E) (v719 E) (v720 E) (v721 E) (v722 E) (v723 E) (v724 E) (v725 E) (v726 E) (v727 E) (v728 E) (v729 E)) Q := by
  rw [k0_part15_eq_skeleton]
  unfold k0_part15_skel
  iintro HQ
  dsimp only
  rw [Prog.pure_eq_ret, wp_ret]
  imodintro
  try unfold v735
  try unfold v736
  try unfold v737
  try unfold v738
  try unfold v739
  try unfold v740
  try unfold v741
  try unfold v742
  try unfold v759
  try unfold v761
  try unfold v763
  try unfold v765
  try unfold v767
  try unfold v769
  try unfold v771
  try unfold v773
  try unfold v775
  try unfold v777
  try unfold v779
  try unfold v781
  try unfold v783
  try unfold v785
  try unfold v787
  try unfold v789
  try unfold v794
  try unfold v2
  try rw [hE]
  iexact HQ

/-- Step 16 of the body only computes. -/
theorem part16_spec (c : Dev nD) (E : Env F) (hE : E.v2 = wd c) {Q : _ → sProp 𝕄} :
    Q ⟨(v820 E), (v854 E)⟩ ⊢ wp frame (wpE (defs₀ (F := F)) 𝒱₀ (c : Thread nD τ) none) Set.univ (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v665 E) (v668 E) (v671 E) (v674 E) (v677 E) (v680 E) (v683 E) (v730 E) (v731 E) (v732 E) (v733 E) (v734 E) (v735 E) (v736 E) (v737 E) (v738 E) (v739 E) (v740 E) (v741 E) (v742 E) (v759 E) (v761 E) (v763 E) (v765 E) (v767 E) (v769 E) (v771 E) (v773 E) (v775 E) (v777 E) (v779 E) (v781 E) (v783 E) (v785 E) (v787 E) (v789 E) (v794 E)) Q := by
  rw [k0_part16_eq_skeleton]
  unfold k0_part16_skel
  iintro HQ
  dsimp only
  rw [Prog.pure_eq_ret, wp_ret]
  imodintro
  try unfold v820
  try unfold v854
  try unfold v2
  try rw [hE]
  iexact HQ

/-- Step 17 of the body only computes. -/
theorem part17_spec (c : Dev nD) (E : Env F) (hE : E.v2 = wd c) {Q : _ → sProp 𝕄} :
    Q ⟨(v902 E), (v911 E), (v912 E), (v914 E)⟩ ⊢ wp frame (wpE (defs₀ (F := F)) 𝒱₀ (c : Thread nD τ) none) Set.univ (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v665 E) (v668 E) (v671 E) (v686 E) (v689 E) (v692 E) (v695 E) (v698 E) (v701 E) (v704 E) (v707 E) (v710 E) (v759 E) (v761 E) (v763 E) (v773 E) (v775 E) (v777 E) (v779 E) (v781 E) (v783 E) (v785 E) (v787 E) (v789 E) (v820 E) (v854 E)) Q := by
  rw [k0_part17_eq_skeleton]
  unfold k0_part17_skel
  iintro HQ
  dsimp only
  rw [Prog.pure_eq_ret, wp_ret]
  imodintro
  try unfold v902
  try unfold v911
  try unfold v912
  try unfold v914
  try unfold v2
  try rw [hE]
  iexact HQ

/-- Step 18 of the body only computes. -/
theorem part18_spec (c : Dev nD) (E : Env F) (hE : E.v2 = wd c) {Q : _ → sProp 𝕄} :
    Q ⟨(v971 E), (v972 E), (v974 E)⟩ ⊢ wp frame (wpE (defs₀ (F := F)) 𝒱₀ (c : Thread nD τ) none) Set.univ (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v674 E) (v677 E) (v680 E) (v683 E) (v686 E) (v689 E) (v692 E) (v695 E) (v698 E) (v701 E) (v704 E) (v707 E) (v765 E) (v767 E) (v769 E) (v771 E) (v773 E) (v775 E) (v777 E) (v779 E) (v781 E) (v783 E) (v785 E) (v787 E) (v911 E) (v912 E) (v914 E)) Q := by
  rw [k0_part18_eq_skeleton]
  unfold k0_part18_skel
  iintro HQ
  dsimp only
  rw [Prog.pure_eq_ret, wp_ret]
  imodintro
  try unfold v971
  try unfold v972
  try unfold v974
  try unfold v2
  try rw [hE]
  iexact HQ

/-- Step 19 of the body only computes. -/
theorem part19_spec (c : Dev nD) (E : Env F) (hE : E.v2 = wd c) {Q : _ → sProp 𝕄} :
    Q ⟨(v984 E), (v1033 E), (v1034 E)⟩ ⊢ wp frame (wpE (defs₀ (F := F)) 𝒱₀ (c : Thread nD τ) none) Set.univ (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v665 E) (v668 E) (v671 E) (v674 E) (v677 E) (v680 E) (v683 E) (v686 E) (v689 E) (v692 E) (v695 E) (v710 E) (v759 E) (v761 E) (v763 E) (v765 E) (v767 E) (v769 E) (v771 E) (v773 E) (v775 E) (v777 E) (v789 E) (v820 E) (v971 E) (v972 E) (v974 E)) Q := by
  rw [k0_part19_eq_skeleton]
  unfold k0_part19_skel
  iintro HQ
  dsimp only
  rw [Prog.pure_eq_ret, wp_ret]
  imodintro
  try unfold v984
  try unfold v1033
  try unfold v1034
  try unfold v2
  try rw [hE]
  iexact HQ

/-- Step 20 of the body only computes. -/
theorem part20_spec (c : Dev nD) (E : Env F) (hE : E.v2 = wd c) {Q : _ → sProp 𝕄} :
    Q ⟨(v1066 E), (v1090 E), (v1094 E)⟩ ⊢ wp frame (wpE (defs₀ (F := F)) 𝒱₀ (c : Thread nD τ) none) Set.univ (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v665 E) (v668 E) (v671 E) (v674 E) (v677 E) (v680 E) (v698 E) (v701 E) (v704 E) (v707 E) (v710 E) (v759 E) (v761 E) (v763 E) (v765 E) (v767 E) (v769 E) (v779 E) (v781 E) (v783 E) (v785 E) (v787 E) (v789 E) (v820 E) (v1033 E) (v1034 E)) Q := by
  rw [k0_part20_eq_skeleton]
  unfold k0_part20_skel
  iintro HQ
  dsimp only
  rw [Prog.pure_eq_ret, wp_ret]
  imodintro
  try unfold v1066
  try unfold v1090
  try unfold v1094
  try unfold v2
  try rw [hE]
  iexact HQ

set_option maxHeartbeats 2000000 in
/-- Step 21 of the body reads its buffers and leaves what it computed. -/
theorem part21_spec (c : Dev nD) (E : Env F) (hE : E.v2 = wd c) {q4 : PosShare TreeShare}  {Q : _ → sProp 𝕄} :
    iprop(pts c cc0_stg4_0 q4 E.wo) ⊢ iprop((pts c cc0_stg4_0 q4 E.wo -∗ Q ⟨(v1149 E), (v1151 E), (cst_474 E)⟩) -∗ wp frame (wpE (defs₀ (F := F)) 𝒱₀ (c : Thread nD τ) none) Set.univ (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v683 E) (v686 E) (v689 E) (v692 E) (v695 E) (v698 E) (v701 E) (v704 E) (v707 E) (v710 E) (v771 E) (v773 E) (v775 E) (v777 E) (v779 E) (v781 E) (v783 E) (v785 E) (v787 E) (v789 E) (v820 E) (v902 E) (v984 E) (v1066 E) (v1090 E) (v1094 E)) Q) := by
  rw [k0_part21_eq_skeleton]
  unfold k0_part21_skel
  iintro H0 HQ
  ihave H0 := (held_of c cc0_stg4_0 _ _) $$ H0
  sl_exec
  rw [wp_ret]
  imodintro
  try unfold part21_spec.sl.cst_474
  try unfold v1149
  try unfold v1151
  try unfold cst_474
  try unfold v1150
  try unfold v2
  try rw [hE]
  iapply HQ
  iexact H0

set_option maxHeartbeats 2000000 in
/-- Step 22 of the body reads its buffers and leaves what it computed. -/
theorem part22_spec (c : Dev nD) (E : Env F) (hE : E.v2 = wd c) {q10 q11 : PosShare TreeShare} (g5) {Q : _ → sProp 𝕄} :
    iprop(pts c cc0_scratch4 q10 E.pw ∗ pts c cc0_scratch5 q11 E.pp ∗ pts c cc0_stg5_0 fullShare g5) ⊢ iprop((pts c cc0_scratch4 q10 E.pw ∗ pts c cc0_scratch5 q11 E.pp ∗ pts c cc0_stg5_0 fullShare ((Memref.whole cc0_stg5_0).view.writes (Elt F) g5 [⟨(Rect.unit (s := S2x128x512) ![0, 0, 0] S1x32x512.size inb_S2x128x512_S1x32x512_0_0_0), (k0_pay92 (v1149 E) (v1151 E) (cst_474 E))⟩]) -∗ Q ⟨(v1158 E), (v1161 E), (v1164 E), (v1167 E), (v1170 E), (v1173 E), (v1176 E)⟩) -∗ wp frame (wpE (defs₀ (F := F)) 𝒱₀ (c : Thread nD τ) none) Set.univ (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v1149 E) (v1151 E) (cst_474 E)) Q) := by
  rw [k0_part22_eq_skeleton]
  unfold k0_part22_skel
  iintro ⟨H0, H1, H2⟩ HQ
  ihave H0 := (held_of c cc0_scratch4 _ _) $$ H0
  ihave H1 := (held_of c cc0_scratch5 _ _) $$ H1
  ihave H2 := (held_of c cc0_stg5_0 _ _) $$ H2
  sl_exec
  rw [wp_ret]
  imodintro
  try unfold v1158
  try unfold v1161
  try unfold v1164
  try unfold v1167
  try unfold v1170
  try unfold v1173
  try unfold v1176
  try unfold v1174
  try unfold v1171
  try unfold v1168
  try unfold v1165
  try unfold v1162
  try unfold v1159
  try unfold v1156
  try unfold v2
  try rw [hE]
  iapply HQ
  isplitl [H0]; · iexact H0
  isplitl [H1]; · iexact H1
  iexact H2

set_option maxHeartbeats 2000000 in
/-- Step 23 of the body reads its buffers and leaves what it computed. -/
theorem part23_spec (c : Dev nD) (E : Env F) (hE : E.v2 = wd c) {q11 : PosShare TreeShare}  {Q : _ → sProp 𝕄} :
    iprop(pts c cc0_scratch5 q11 E.pp) ⊢ iprop((pts c cc0_scratch5 q11 E.pp -∗ Q ⟨(v1179 E), (v1182 E), (v1185 E), (v1188 E), (v1191 E), (v1194 E), (v1197 E), (v1200 E), (v1203 E), (v1204 E)⟩) -∗ wp frame (wpE (defs₀ (F := F)) 𝒱₀ (c : Thread nD τ) none) Set.univ (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v1158 E)) Q) := by
  rw [k0_part23_eq_skeleton]
  unfold k0_part23_skel
  iintro H0 HQ
  ihave H0 := (held_of c cc0_scratch5 _ _) $$ H0
  sl_exec
  rw [wp_ret]
  imodintro
  try unfold v1179
  try unfold v1182
  try unfold v1185
  try unfold v1188
  try unfold v1191
  try unfold v1194
  try unfold v1197
  try unfold v1200
  try unfold v1203
  try unfold v1204
  try unfold v1201
  try unfold v1198
  try unfold v1195
  try unfold v1192
  try unfold v1189
  try unfold v1186
  try unfold v1183
  try unfold v1180
  try unfold v1177
  try unfold v2
  try rw [hE]
  iapply HQ
  iexact H0

/-- Step 24 of the body only computes. -/
theorem part24_spec (c : Dev nD) (E : Env F) (hE : E.v2 = wd c) {Q : _ → sProp 𝕄} :
    Q ⟨(v1211 E), (v1212 E), (v1213 E), (v1214 E), (v1215 E), (v1216 E), (v1217 E), (v1218 E), (v1219 E), (v1220 E), (v1221 E), (v1222 E), (v1223 E), (v1224 E), (v1225 E), (v1226 E), (v1227 E), (v1228 E), (v1229 E), (v1230 E), (v1231 E), (v1232 E), (v1233 E), (v1234 E), (v1235 E), (v1250 E), (v1252 E), (v1254 E), (v1256 E), (v1258 E), (v1260 E), (v1262 E), (v1264 E)⟩ ⊢ wp frame (wpE (defs₀ (F := F)) 𝒱₀ (c : Thread nD τ) none) Set.univ (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v1158 E) (v1161 E) (v1164 E) (v1167 E) (v1170 E) (v1173 E) (v1176 E) (v1179 E) (v1182 E) (v1185 E) (v1188 E) (v1191 E) (v1194 E) (v1197 E) (v1200 E) (v1203 E) (v1204 E)) Q := by
  rw [k0_part24_eq_skeleton]
  unfold k0_part24_skel
  iintro HQ
  dsimp only
  rw [Prog.pure_eq_ret, wp_ret]
  imodintro
  try unfold v1211
  try unfold v1212
  try unfold v1213
  try unfold v1214
  try unfold v1215
  try unfold v1216
  try unfold v1217
  try unfold v1218
  try unfold v1219
  try unfold v1220
  try unfold v1221
  try unfold v1222
  try unfold v1223
  try unfold v1224
  try unfold v1225
  try unfold v1226
  try unfold v1227
  try unfold v1228
  try unfold v1229
  try unfold v1230
  try unfold v1231
  try unfold v1232
  try unfold v1233
  try unfold v1234
  try unfold v1235
  try unfold v1250
  try unfold v1252
  try unfold v1254
  try unfold v1256
  try unfold v1258
  try unfold v1260
  try unfold v1262
  try unfold v1264
  try unfold v2
  try rw [hE]
  iexact HQ

/-- Step 25 of the body only computes. -/
theorem part25_spec (c : Dev nD) (E : Env F) (hE : E.v2 = wd c) {Q : _ → sProp 𝕄} :
    Q ⟨(v1266 E), (v1268 E), (v1270 E), (v1272 E), (v1274 E), (v1276 E), (v1278 E), (v1280 E), (v1282 E), (v1313 E), (v1322 E), (v1323 E), (v1324 E)⟩ ⊢ wp frame (wpE (defs₀ (F := F)) 𝒱₀ (c : Thread nD τ) none) Set.univ (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v1158 E) (v1161 E) (v1164 E) (v1211 E) (v1212 E) (v1213 E) (v1214 E) (v1215 E) (v1216 E) (v1217 E) (v1218 E) (v1219 E) (v1220 E) (v1221 E) (v1222 E) (v1223 E) (v1224 E) (v1225 E) (v1226 E) (v1227 E) (v1228 E) (v1229 E) (v1230 E) (v1231 E) (v1232 E) (v1233 E) (v1234 E) (v1235 E) (v1250 E) (v1252 E) (v1254 E) (v1256 E) (v1258 E) (v1260 E) (v1262 E) (v1264 E)) Q := by
  rw [k0_part25_eq_skeleton]
  unfold k0_part25_skel
  iintro HQ
  dsimp only
  rw [Prog.pure_eq_ret, wp_ret]
  imodintro
  try unfold v1266
  try unfold v1268
  try unfold v1270
  try unfold v1272
  try unfold v1274
  try unfold v1276
  try unfold v1278
  try unfold v1280
  try unfold v1282
  try unfold v1313
  try unfold v1322
  try unfold v1323
  try unfold v1324
  try unfold v2
  try rw [hE]
  iexact HQ

/-- Step 26 of the body only computes. -/
theorem part26_spec (c : Dev nD) (E : Env F) (hE : E.v2 = wd c) {Q : _ → sProp 𝕄} :
    Q ⟨(v1382 E), (v1383 E), (v1384 E)⟩ ⊢ wp frame (wpE (defs₀ (F := F)) 𝒱₀ (c : Thread nD τ) none) Set.univ (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v1167 E) (v1170 E) (v1173 E) (v1176 E) (v1179 E) (v1182 E) (v1185 E) (v1188 E) (v1191 E) (v1194 E) (v1197 E) (v1200 E) (v1258 E) (v1260 E) (v1262 E) (v1264 E) (v1266 E) (v1268 E) (v1270 E) (v1272 E) (v1274 E) (v1276 E) (v1278 E) (v1280 E) (v1322 E) (v1323 E) (v1324 E)) Q := by
  rw [k0_part26_eq_skeleton]
  unfold k0_part26_skel
  iintro HQ
  dsimp only
  rw [Prog.pure_eq_ret, wp_ret]
  imodintro
  try unfold v1382
  try unfold v1383
  try unfold v1384
  try unfold v2
  try rw [hE]
  iexact HQ

/-- Step 27 of the body only computes. -/
theorem part27_spec (c : Dev nD) (E : Env F) (hE : E.v2 = wd c) {Q : _ → sProp 𝕄} :
    Q ⟨(v1395 E), (v1444 E)⟩ ⊢ wp frame (wpE (defs₀ (F := F)) 𝒱₀ (c : Thread nD τ) none) Set.univ (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v1158 E) (v1161 E) (v1164 E) (v1167 E) (v1170 E) (v1173 E) (v1176 E) (v1179 E) (v1182 E) (v1185 E) (v1203 E) (v1252 E) (v1254 E) (v1256 E) (v1258 E) (v1260 E) (v1262 E) (v1264 E) (v1266 E) (v1268 E) (v1270 E) (v1282 E) (v1313 E) (v1382 E) (v1383 E) (v1384 E)) Q := by
  rw [k0_part27_eq_skeleton]
  unfold k0_part27_skel
  iintro HQ
  dsimp only
  rw [Prog.pure_eq_ret, wp_ret]
  imodintro
  try unfold v1395
  try unfold v1444
  try unfold v2
  try rw [hE]
  iexact HQ

/-- Step 28 of the body only computes. -/
theorem part28_spec (c : Dev nD) (E : Env F) (hE : E.v2 = wd c) {Q : _ → sProp 𝕄} :
    Q ⟨(v1477 E), (v1501 E), (v1502 E), (v1504 E)⟩ ⊢ wp frame (wpE (defs₀ (F := F)) 𝒱₀ (c : Thread nD τ) none) Set.univ (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v1158 E) (v1161 E) (v1164 E) (v1167 E) (v1170 E) (v1173 E) (v1188 E) (v1191 E) (v1194 E) (v1197 E) (v1200 E) (v1203 E) (v1252 E) (v1254 E) (v1256 E) (v1258 E) (v1260 E) (v1262 E) (v1272 E) (v1274 E) (v1276 E) (v1278 E) (v1280 E) (v1282 E) (v1313 E) (v1444 E)) Q := by
  rw [k0_part28_eq_skeleton]
  unfold k0_part28_skel
  iintro HQ
  dsimp only
  rw [Prog.pure_eq_ret, wp_ret]
  imodintro
  try unfold v1477
  try unfold v1501
  try unfold v1502
  try unfold v1504
  try unfold v2
  try rw [hE]
  iexact HQ

/-- Step 29 of the body only computes. -/
theorem part29_spec (c : Dev nD) (E : Env F) (hE : E.v2 = wd c) {Q : _ → sProp 𝕄} :
    Q ⟨(v1559 E), (v1563 E), (v1564 E)⟩ ⊢ wp frame (wpE (defs₀ (F := F)) 𝒱₀ (c : Thread nD τ) none) Set.univ (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v1158 E) (v1161 E) (v1176 E) (v1179 E) (v1182 E) (v1185 E) (v1188 E) (v1191 E) (v1194 E) (v1197 E) (v1200 E) (v1203 E) (v1252 E) (v1264 E) (v1266 E) (v1268 E) (v1270 E) (v1272 E) (v1274 E) (v1276 E) (v1278 E) (v1280 E) (v1282 E) (v1313 E) (v1501 E) (v1502 E) (v1504 E)) Q := by
  rw [k0_part29_eq_skeleton]
  unfold k0_part29_skel
  iintro HQ
  dsimp only
  rw [Prog.pure_eq_ret, wp_ret]
  imodintro
  try unfold v1559
  try unfold v1563
  try unfold v1564
  try unfold v2
  try rw [hE]
  iexact HQ

/-- Step 30 of the body only computes. -/
theorem part30_spec (c : Dev nD) (E : Env F) (hE : E.v2 = wd c) {Q : _ → sProp 𝕄} :
    Q ⟨(v1623 E), (v1624 E)⟩ ⊢ wp frame (wpE (defs₀ (F := F)) 𝒱₀ (c : Thread nD τ) none) Set.univ (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v1164 E) (v1167 E) (v1170 E) (v1173 E) (v1176 E) (v1179 E) (v1182 E) (v1185 E) (v1188 E) (v1191 E) (v1194 E) (v1197 E) (v1254 E) (v1256 E) (v1258 E) (v1260 E) (v1262 E) (v1264 E) (v1266 E) (v1268 E) (v1270 E) (v1272 E) (v1274 E) (v1276 E) (v1563 E) (v1564 E)) Q := by
  rw [k0_part30_eq_skeleton]
  unfold k0_part30_skel
  iintro HQ
  dsimp only
  rw [Prog.pure_eq_ret, wp_ret]
  imodintro
  try unfold v1623
  try unfold v1624
  try unfold v2
  try rw [hE]
  iexact HQ

end Cert.Exchange

end
-- ==== Proof.Finals.lean ====
module

public import proofs.«01_k».proof.Proof.MergeParts

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

variable (C : Cont F) (K : Dev nD × Fin 53 → ℕ)

/-- What a cell holds before its wait, and what the wait leaves. -/
def pre1 (c : Dev nD) (k : Fin 53) : sProp 𝕄 := iprop(at0 c k ∗ crd c k (amt k.val))
def post1 (c : Dev nD) (k : Fin 53) : sProp 𝕄 := iprop(zer c k ∗ xferPay C c k.val)
/-- Fifteen cells, the first `n` of which have been waited for. -/
def wb (c : Dev nD) (g : Fin 15 → Fin 53) (n : ℕ) : sProp 𝕄 :=
  iprop(bigSep (Finset.univ \ Lo n) (fun j => pre1 c (g j)) ∗ bigSep (Lo n) (fun j => post1 C c (g j)))

theorem Lo_succ (j : Fin 15) : Lo (j.val + 1) = insert j (Lo j.val) := by
  ext u; simp only [Lo, Finset.mem_insert, Finset.mem_filter, Finset.mem_univ, true_and, Fin.ext_iff]; omega
theorem Lo_not' (j : Fin 15) : j ∉ Lo j.val := by simp [Lo]
theorem Lo_not'' (j : Fin 15) : j ∉ (Finset.univ \ Lo (j.val + 1)) := by simp [Lo]

theorem wait_bag (c : Dev nD) (g : Fin 15 → Fin 53) (pd : Fin 15 → Dev nD) (hg : ∀ j, g j ≠ 0) (hd : ∀ j d', pays d' c (g j).val = true ↔ d' = pd j)
    (j : Fin 15) (m n : ℕ) (hm : m = j.val) (hn : n = j.val + 1) {sem : DmaSem sig} (hs : csem (g j) = .dma sem)
    {s s' : Shape} {e e' : EltTy} {src : Memref sig .tc .vmem s e} {dst : Memref sig .tc .vmem s' e'} {h1 : src.view.WordExact} {h2 : dst.view.WordExact}
    (hc : amt (g j).val = dst.view.dmaCredit)
    {α : Type} {Q : α → sProp 𝕄} {k : PUnit → Prog (TpuEff nD τ sig (Elt F) Λ₀ .tc) α} :
    iprop(know C K ∗ ow c 0 ∗ wb C c g m)
      ⊢ iprop((ow c 0 ∗ wb C c g n -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sem src dst h1 h2) k) Q) := by
  subst hm hn
  unfold wb
  rw [Lo_insert j, bigSep_insert (Lo_not'' j), Lo_succ j, bigSep_insert (Lo_not' j)]
  show iprop(know C K ∗ ow c 0 ∗ ((at0 c (g j) ∗ crd c (g j) (amt (g j).val)) ∗ bigSep _ _) ∗ bigSep _ _) ⊢ iprop((ow c 0 ∗ bigSep _ _ ∗ ((zer c (g j) ∗ xferPay C c (g j).val) ∗ bigSep _ _) -∗ _) -∗ _)
  iintro ⟨#Hk, HO, ⟨⟨Hat, Hc⟩, HA⟩, HB⟩ HQ
  iapply (wait_step C K c (g j) (hg j) (pd j) (hd j) 0 (above_zero _) hs rfl hc) $$ [HO Hat Hc]
  · isplitl []; iexact Hk
    isplitl [HO]; iexact HO
    isplitl [Hat] <;> iassumption
  iintro ⟨HO, Hz, H⟩
  iapply HQ
  isplitl [HO]; iexact HO
  isplitl [HA]; iexact HA
  isplitl [Hz H]; · isplitl [Hz] <;> iassumption
  iexact HB

theorem amt1 : amt 1 = kvM.view.dmaCredit := by decide +kernel
theorem amt37 : amt 37 = pwM.view.dmaCredit := by decide +kernel
theorem ld' (c : Dev nD) {s : Shape} {e : EltTy} (m : Memref sig .tc .vmem s e) (q : PosShare TreeShare) (f : Buf (Elt F) (m.view.loc (c : Thread nD τ))) {r : LoadRect s} {hl : m.view.LoadsAt r}
    {α : Type} {Q : α → sProp 𝕄} {k : (r.shape.Idx → Elt F e) → Prog (TpuEff nD τ sig (Elt F) Λ₀ .tc) α} :
    (m.view.loc (c : Thread nD τ) ↦{q} f : sProp 𝕄) ⊢ iprop(((m.view.loc (c : Thread nD τ) ↦{q} f) -∗ wp frame (wpE (defs₀ (F := F)) 𝒱₀ (c : Thread nD τ) none) Set.univ (k (m.view.readAt (Elt F) r f)) Q) -∗ wp frame (wpE (defs₀ (F := F)) 𝒱₀ (c : Thread nD τ) none) Set.univ (.op (.load m r hl) k) Q) := by
  exact wp_load 𝒱₀ (c : Thread nD τ) none Set.univ (m := m) (Finset.subset_univ _)

theorem hdq : ∀ j d', pays d' (0 : Dev nD) (kgqs j).val = true ↔ d' = 0 := by decide
theorem hdk : ∀ j d', pays d' (0 : Dev nD) (kgks j).val = true ↔ d' = 0 := by decide
theorem hdp : ∀ j d', pays d' (0 : Dev nD) (kpr j).val = true ↔ d' = nx j := by decide
theorem kpr_ne (j : Fin 15) : kpr j ≠ 0 := by revert j; decide

/-- The first device waits until broadcasts 0 to 4 have been read. -/
theorem part31_spec {Q : _ → sProp 𝕄} :
    iprop(know C K ∗ ow 0 0 ∗ wb C 0 kgqs 0 ∗ wb C 0 kgks 0) ⊢ iprop((ow 0 0 ∗ wb C 0 kgqs 5 ∗ wb C 0 kgks 5 -∗ Q ⟨⟩) -∗ wp frame (wpE (defs₀ (F := F)) 𝒱₀ ((0 : Dev nD) : Thread nD τ) none) Set.univ (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) Q) := by
  rw [k0_part31_eq_skeleton]
  unfold k0_part31_skel
  simp only [Prog.lift, Prog.bind_op, Prog.bind_ret, Prog.pure_eq_ret]
  iintro ⟨#Hk, HO, HA, HB⟩ HQ
  iapply (wait_bag C K 0 kgqs _ kgqs_ne hdq 0 0 1 rfl rfl rfl rfl) $$ [HO HA]
  · isplitl []; iexact Hk
    isplitl [HO] <;> iassumption
  iintro ⟨HO, HA⟩
  iapply (wait_bag C K 0 kgks _ kgks_ne hdk 0 0 1 rfl rfl rfl rfl) $$ [HO HB]
  · isplitl []; iexact Hk
    isplitl [HO] <;> iassumption
  iintro ⟨HO, HB⟩
  iapply (wait_bag C K 0 kgqs _ kgqs_ne hdq 1 1 2 rfl rfl rfl rfl) $$ [HO HA]
  · isplitl []; iexact Hk
    isplitl [HO] <;> iassumption
  iintro ⟨HO, HA⟩
  iapply (wait_bag C K 0 kgks _ kgks_ne hdk 1 1 2 rfl rfl rfl rfl) $$ [HO HB]
  · isplitl []; iexact Hk
    isplitl [HO] <;> iassumption
  iintro ⟨HO, HB⟩
  iapply (wait_bag C K 0 kgqs _ kgqs_ne hdq 2 2 3 rfl rfl rfl rfl) $$ [HO HA]
  · isplitl []; iexact Hk
    isplitl [HO] <;> iassumption
  iintro ⟨HO, HA⟩
  iapply (wait_bag C K 0 kgks _ kgks_ne hdk 2 2 3 rfl rfl rfl rfl) $$ [HO HB]
  · isplitl []; iexact Hk
    isplitl [HO] <;> iassumption
  iintro ⟨HO, HB⟩
  iapply (wait_bag C K 0 kgqs _ kgqs_ne hdq 3 3 4 rfl rfl rfl rfl) $$ [HO HA]
  · isplitl []; iexact Hk
    isplitl [HO] <;> iassumption
  iintro ⟨HO, HA⟩
  iapply (wait_bag C K 0 kgks _ kgks_ne hdk 3 3 4 rfl rfl rfl rfl) $$ [HO HB]
  · isplitl []; iexact Hk
    isplitl [HO] <;> iassumption
  iintro ⟨HO, HB⟩
  iapply (wait_bag C K 0 kgqs _ kgqs_ne hdq 4 4 5 rfl rfl rfl rfl) $$ [HO HA]
  · isplitl []; iexact Hk
    isplitl [HO] <;> iassumption
  iintro ⟨HO, HA⟩
  iapply (wait_bag C K 0 kgks _ kgks_ne hdk 4 4 5 rfl rfl rfl rfl) $$ [HO HB]
  · isplitl []; iexact Hk
    isplitl [HO] <;> iassumption
  iintro ⟨HO, HB⟩
  rw [wp_ret]
  imodintro
  iapply HQ
  isplitl [HO]; iexact HO
  isplitl [HA] <;> iassumption

/-- The first device waits until broadcasts 5 to 9 have been read. -/
theorem part32_spec {Q : _ → sProp 𝕄} :
    iprop(know C K ∗ ow 0 0 ∗ wb C 0 kgqs 5 ∗ wb C 0 kgks 5) ⊢ iprop((ow 0 0 ∗ wb C 0 kgqs 10 ∗ wb C 0 kgks 10 -∗ Q ⟨⟩) -∗ wp frame (wpE (defs₀ (F := F)) 𝒱₀ ((0 : Dev nD) : Thread nD τ) none) Set.univ (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) Q) := by
  rw [k0_part32_eq_skeleton]
  unfold k0_part32_skel
  simp only [Prog.lift, Prog.bind_op, Prog.bind_ret, Prog.pure_eq_ret]
  iintro ⟨#Hk, HO, HA, HB⟩ HQ
  iapply (wait_bag C K 0 kgqs _ kgqs_ne hdq 5 5 6 rfl rfl rfl rfl) $$ [HO HA]
  · isplitl []; iexact Hk
    isplitl [HO] <;> iassumption
  iintro ⟨HO, HA⟩
  iapply (wait_bag C K 0 kgks _ kgks_ne hdk 5 5 6 rfl rfl rfl rfl) $$ [HO HB]
  · isplitl []; iexact Hk
    isplitl [HO] <;> iassumption
  iintro ⟨HO, HB⟩
  iapply (wait_bag C K 0 kgqs _ kgqs_ne hdq 6 6 7 rfl rfl rfl rfl) $$ [HO HA]
  · isplitl []; iexact Hk
    isplitl [HO] <;> iassumption
  iintro ⟨HO, HA⟩
  iapply (wait_bag C K 0 kgks _ kgks_ne hdk 6 6 7 rfl rfl rfl rfl) $$ [HO HB]
  · isplitl []; iexact Hk
    isplitl [HO] <;> iassumption
  iintro ⟨HO, HB⟩
  iapply (wait_bag C K 0 kgqs _ kgqs_ne hdq 7 7 8 rfl rfl rfl rfl) $$ [HO HA]
  · isplitl []; iexact Hk
    isplitl [HO] <;> iassumption
  iintro ⟨HO, HA⟩
  iapply (wait_bag C K 0 kgks _ kgks_ne hdk 7 7 8 rfl rfl rfl rfl) $$ [HO HB]
  · isplitl []; iexact Hk
    isplitl [HO] <;> iassumption
  iintro ⟨HO, HB⟩
  iapply (wait_bag C K 0 kgqs _ kgqs_ne hdq 8 8 9 rfl rfl rfl rfl) $$ [HO HA]
  · isplitl []; iexact Hk
    isplitl [HO] <;> iassumption
  iintro ⟨HO, HA⟩
  iapply (wait_bag C K 0 kgks _ kgks_ne hdk 8 8 9 rfl rfl rfl rfl) $$ [HO HB]
  · isplitl []; iexact Hk
    isplitl [HO] <;> iassumption
  iintro ⟨HO, HB⟩
  iapply (wait_bag C K 0 kgqs _ kgqs_ne hdq 9 9 10 rfl rfl rfl rfl) $$ [HO HA]
  · isplitl []; iexact Hk
    isplitl [HO] <;> iassumption
  iintro ⟨HO, HA⟩
  iapply (wait_bag C K 0 kgks _ kgks_ne hdk 9 9 10 rfl rfl rfl rfl) $$ [HO HB]
  · isplitl []; iexact Hk
    isplitl [HO] <;> iassumption
  iintro ⟨HO, HB⟩
  rw [wp_ret]
  imodintro
  iapply HQ
  isplitl [HO]; iexact HO
  isplitl [HA] <;> iassumption

/-- The first device waits until broadcasts 10 to 14 have been read. -/
theorem part33_spec {Q : _ → sProp 𝕄} :
    iprop(know C K ∗ ow 0 0 ∗ wb C 0 kgqs 10 ∗ wb C 0 kgks 10) ⊢ iprop((ow 0 0 ∗ wb C 0 kgqs 15 ∗ wb C 0 kgks 15 -∗ Q ⟨⟩) -∗ wp frame (wpE (defs₀ (F := F)) 𝒱₀ ((0 : Dev nD) : Thread nD τ) none) Set.univ (k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) Q) := by
  rw [k0_part33_eq_skeleton]
  unfold k0_part33_skel
  simp only [Prog.lift, Prog.bind_op, Prog.bind_ret, Prog.pure_eq_ret]
  iintro ⟨#Hk, HO, HA, HB⟩ HQ
  iapply (wait_bag C K 0 kgqs _ kgqs_ne hdq 10 10 11 rfl rfl rfl rfl) $$ [HO HA]
  · isplitl []; iexact Hk
    isplitl [HO] <;> iassumption
  iintro ⟨HO, HA⟩
  iapply (wait_bag C K 0 kgks _ kgks_ne hdk 10 10 11 rfl rfl rfl rfl) $$ [HO HB]
  · isplitl []; iexact Hk
    isplitl [HO] <;> iassumption
  iintro ⟨HO, HB⟩
  iapply (wait_bag C K 0 kgqs _ kgqs_ne hdq 11 11 12 rfl rfl rfl rfl) $$ [HO HA]
  · isplitl []; iexact Hk
    isplitl [HO] <;> iassumption
  iintro ⟨HO, HA⟩
  iapply (wait_bag C K 0 kgks _ kgks_ne hdk 11 11 12 rfl rfl rfl rfl) $$ [HO HB]
  · isplitl []; iexact Hk
    isplitl [HO] <;> iassumption
  iintro ⟨HO, HB⟩
  iapply (wait_bag C K 0 kgqs _ kgqs_ne hdq 12 12 13 rfl rfl rfl rfl) $$ [HO HA]
  · isplitl []; iexact Hk
    isplitl [HO] <;> iassumption
  iintro ⟨HO, HA⟩
  iapply (wait_bag C K 0 kgks _ kgks_ne hdk 12 12 13 rfl rfl rfl rfl) $$ [HO HB]
  · isplitl []; iexact Hk
    isplitl [HO] <;> iassumption
  iintro ⟨HO, HB⟩
  iapply (wait_bag C K 0 kgqs _ kgqs_ne hdq 13 13 14 rfl rfl rfl rfl) $$ [HO HA]
  · isplitl []; iexact Hk
    isplitl [HO] <;> iassumption
  iintro ⟨HO, HA⟩
  iapply (wait_bag C K 0 kgks _ kgks_ne hdk 13 13 14 rfl rfl rfl rfl) $$ [HO HB]
  · isplitl []; iexact Hk
    isplitl [HO] <;> iassumption
  iintro ⟨HO, HB⟩
  iapply (wait_bag C K 0 kgqs _ kgqs_ne hdq 14 14 15 rfl rfl rfl rfl) $$ [HO HA]
  · isplitl []; iexact Hk
    isplitl [HO] <;> iassumption
  iintro ⟨HO, HA⟩
  iapply (wait_bag C K 0 kgks _ kgks_ne hdk 14 14 15 rfl rfl rfl rfl) $$ [HO HB]
  · isplitl []; iexact Hk
    isplitl [HO] <;> iassumption
  iintro ⟨HO, HB⟩
  rw [wp_ret]
  imodintro
  iapply HQ
  isplitl [HO]; iexact HO
  isplitl [HA] <;> iassumption

/-- The first device waits for partial results 0 to 3. -/
theorem part9_spec  {Q : _ → sProp 𝕄} :
    iprop(know C K ∗ ow 0 0 ∗ wb C 0 kpr 0) ⊢ iprop((ow 0 0 ∗ wb C 0 kpr 4 -∗ Q ⟨⟩) -∗ wp frame (wpE (defs₀ (F := F)) 𝒱₀ ((0 : Dev nD) : Thread nD τ) none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (wd 0)) Q) := by
  rw [k0_part9_eq_skeleton]
  unfold k0_part9_skel
  simp only [Prog.lift, Prog.bind_op, Prog.bind_ret, Prog.pure_eq_ret]
  iintro ⟨#Hk, HO, HA⟩ HQ
  iapply (wait_bag C K 0 kpr _ kpr_ne hdp 0 0 1 rfl rfl rfl (amt_pr 0)) $$ [HO HA]
  · isplitl []; iexact Hk
    isplitl [HO] <;> iassumption
  iintro ⟨HO, HA⟩
  iapply (wait_bag C K 0 kpr _ kpr_ne hdp 1 1 2 rfl rfl rfl (amt_pr 1)) $$ [HO HA]
  · isplitl []; iexact Hk
    isplitl [HO] <;> iassumption
  iintro ⟨HO, HA⟩
  iapply (wait_bag C K 0 kpr _ kpr_ne hdp 2 2 3 rfl rfl rfl (amt_pr 2)) $$ [HO HA]
  · isplitl []; iexact Hk
    isplitl [HO] <;> iassumption
  iintro ⟨HO, HA⟩
  iapply (wait_bag C K 0 kpr _ kpr_ne hdp 3 3 4 rfl rfl rfl (amt_pr 3)) $$ [HO HA]
  · isplitl []; iexact Hk
    isplitl [HO] <;> iassumption
  iintro ⟨HO, HA⟩
  rw [wp_ret]
  imodintro
  iapply HQ
  isplitl [HO] <;> iassumption

/-- The first device waits for partial results 4 to 7. -/
theorem part10_spec  {Q : _ → sProp 𝕄} :
    iprop(know C K ∗ ow 0 0 ∗ wb C 0 kpr 4) ⊢ iprop((ow 0 0 ∗ wb C 0 kpr 8 -∗ Q ⟨⟩) -∗ wp frame (wpE (defs₀ (F := F)) 𝒱₀ ((0 : Dev nD) : Thread nD τ) none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (wd 0)) Q) := by
  rw [k0_part10_eq_skeleton]
  unfold k0_part10_skel
  simp only [Prog.lift, Prog.bind_op, Prog.bind_ret, Prog.pure_eq_ret]
  iintro ⟨#Hk, HO, HA⟩ HQ
  iapply (wait_bag C K 0 kpr _ kpr_ne hdp 4 4 5 rfl rfl rfl (amt_pr 4)) $$ [HO HA]
  · isplitl []; iexact Hk
    isplitl [HO] <;> iassumption
  iintro ⟨HO, HA⟩
  iapply (wait_bag C K 0 kpr _ kpr_ne hdp 5 5 6 rfl rfl rfl (amt_pr 5)) $$ [HO HA]
  · isplitl []; iexact Hk
    isplitl [HO] <;> iassumption
  iintro ⟨HO, HA⟩
  iapply (wait_bag C K 0 kpr _ kpr_ne hdp 6 6 7 rfl rfl rfl (amt_pr 6)) $$ [HO HA]
  · isplitl []; iexact Hk
    isplitl [HO] <;> iassumption
  iintro ⟨HO, HA⟩
  iapply (wait_bag C K 0 kpr _ kpr_ne hdp 7 7 8 rfl rfl rfl (amt_pr 7)) $$ [HO HA]
  · isplitl []; iexact Hk
    isplitl [HO] <;> iassumption
  iintro ⟨HO, HA⟩
  rw [wp_ret]
  imodintro
  iapply HQ
  isplitl [HO] <;> iassumption

/-- The first device waits for partial results 8 to 11. -/
theorem part11_spec  {Q : _ → sProp 𝕄} :
    iprop(know C K ∗ ow 0 0 ∗ wb C 0 kpr 8) ⊢ iprop((ow 0 0 ∗ wb C 0 kpr 12 -∗ Q ⟨⟩) -∗ wp frame (wpE (defs₀ (F := F)) 𝒱₀ ((0 : Dev nD) : Thread nD τ) none) Set.univ (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (wd 0)) Q) := by
  rw [k0_part11_eq_skeleton]
  unfold k0_part11_skel
  simp only [Prog.lift, Prog.bind_op, Prog.bind_ret, Prog.pure_eq_ret]
  iintro ⟨#Hk, HO, HA⟩ HQ
  iapply (wait_bag C K 0 kpr _ kpr_ne hdp 8 8 9 rfl rfl rfl (amt_pr 8)) $$ [HO HA]
  · isplitl []; iexact Hk
    isplitl [HO] <;> iassumption
  iintro ⟨HO, HA⟩
  iapply (wait_bag C K 0 kpr _ kpr_ne hdp 9 9 10 rfl rfl rfl (amt_pr 9)) $$ [HO HA]
  · isplitl []; iexact Hk
    isplitl [HO] <;> iassumption
  iintro ⟨HO, HA⟩
  iapply (wait_bag C K 0 kpr _ kpr_ne hdp 10 10 11 rfl rfl rfl (amt_pr 10)) $$ [HO HA]
  · isplitl []; iexact Hk
    isplitl [HO] <;> iassumption
  iintro ⟨HO, HA⟩
  iapply (wait_bag C K 0 kpr _ kpr_ne hdp 11 11 12 rfl rfl rfl (amt_pr 11)) $$ [HO HA]
  · isplitl []; iexact Hk
    isplitl [HO] <;> iassumption
  iintro ⟨HO, HA⟩
  rw [wp_ret]
  imodintro
  iapply HQ
  isplitl [HO] <;> iassumption

theorem pset_disj : ∀ i ∈ (Finset.univ : Finset (Fin 15)), ∀ j ∈ (Finset.univ : Finset (Fin 15)), i ≠ j → Disjoint (pset i) (pset j) := by
  intro i _ j _ hij
  rw [Finset.disjoint_left]; intro x hi hj
  unfold pset at hi hj
  exact hij (Fin.ext ((Finset.mem_filter.mp hi).2.symm.trans (Finset.mem_filter.mp hj).2))
theorem pp_join (n : ℕ) (hn : n = 15) : (wb C 0 kpr n : sProp 𝕄) ⊢ iprop(bigSep Finset.univ (fun j => zer 0 (kpr j)) ∗ pts 0 cc0_scratch5 fullShare C.pp) := by
  subst hn
  unfold wb post1
  rw [Lo_top, Finset.sdiff_self, bigSep_empty]
  have h1 := bigSep_sep' (s := Finset.univ) (fun j : Fin 15 => (zer 0 (kpr j) : sProp 𝕄)) (fun j => (xferPay C 0 (kpr j).val : sProp 𝕄))
  have h2 : bigSep Finset.univ (fun j : Fin 15 => (xferPay C 0 (kpr j).val : sProp 𝕄)) = bigSep Finset.univ (fun j => ptsOn 0 cc0_scratch5 (pset j) fullShare C.pp) :=
    bigSep_congr (fun j _ => by rw [← prk_nx j]; exact xfer_pr C j)
  have h3 : bigSep Finset.univ (fun j : Fin 15 => (ptsOn 0 cc0_scratch5 (pset j) fullShare C.pp : sProp 𝕄)) = pts 0 cc0_scratch5 fullShare C.pp := by
    have hu : Finset.univ.biUnion (fun j : Fin 15 => pset j) = Finset.univ := by
      ext x; simp only [Finset.mem_biUnion, Finset.mem_univ, true_and, iff_true]
      exact ⟨x 0, by unfold pset; rw [Finset.mem_filter]; exact ⟨Finset.mem_univ _, rfl⟩⟩
    have hp := pointsTo_biUnion (nD := nD) (τ := τ) (sig := sig) (Ix := Unit) (Val := Elt F) (Name := ℕ) (U := UU) (Lvl := ℕ) (ℓ := ((0 : Dev nD) : Thread nD τ).loc cc0_scratch5) (q := fullShare) (f := C.pp) Finset.univ pset pset_disj
    rw [hu] at hp
    exact hp.symm
  rw [h2, h3] at h1
  iintro ⟨-, H⟩
  iapply (Entails.of_eq (h1 : _ = iprop(_ ∗ _)))
  iexact H

/-- The first device waits for partial results 12 to 14. -/
theorem part12_spec (E : Env F) (hpp : E.pp = C.pp) {Q : _ → sProp 𝕄} :
    iprop(know C K ∗ ow 0 0 ∗ wb C 0 kpr 12 ∗ pts 0 cc0_scratch4 fullShare E.pw) ⊢ iprop((ow 0 0 ∗ bigSep Finset.univ (fun j => zer 0 (kpr j)) ∗ pts 0 cc0_scratch5 fullShare E.pp ∗ pts 0 cc0_scratch4 fullShare E.pw -∗ Q ⟨v665 E, v668 E⟩) -∗ wp frame (wpE (defs₀ (F := F)) 𝒱₀ ((0 : Dev nD) : Thread nD τ) none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (wd 0)) Q) := by
  rw [k0_part12_eq_skeleton]
  unfold k0_part12_skel
  simp only [Prog.lift, Prog.bind_op, Prog.bind_ret, Prog.pure_eq_ret]
  iintro ⟨#Hk, HO, HA, HP⟩ HQ
  iapply (wait_bag C K 0 kpr _ kpr_ne hdp 12 12 13 rfl rfl rfl (amt_pr 12)) $$ [HO HA]
  · isplitl []; iexact Hk
    isplitl [HO] <;> iassumption
  iintro ⟨HO, HA⟩
  iapply (wait_bag C K 0 kpr _ kpr_ne hdp 13 13 14 rfl rfl rfl (amt_pr 13)) $$ [HO HA]
  · isplitl []; iexact Hk
    isplitl [HO] <;> iassumption
  iintro ⟨HO, HA⟩
  iapply (wait_bag C K 0 kpr _ kpr_ne hdp 14 14 15 rfl rfl rfl (amt_pr 14)) $$ [HO HA]
  · isplitl []; iexact Hk
    isplitl [HO] <;> iassumption
  iintro ⟨HO, HA⟩
  ihave HA := (pp_join C _ rfl) $$ HA
  icases HA with ⟨HZ, HA⟩
  iapply (ld' 0 (Memref.whole cc0_scratch4) fullShare E.pw) $$ [HP]
  · iexact HP
  iintro HP
  iapply (ld' 0 (Memref.whole cc0_scratch5) fullShare E.pp) $$ [HA]
  · rw [hpp]; iexact HA
  iintro HA
  rw [wp_ret]
  imodintro
  unfold v665 v668 v663 v666
  iapply HQ
  isplitl [HO]; iexact HO
  isplitl [HZ]; iexact HZ
  isplitl [HA] <;> iassumption

theorem payer_seg21 : ∀ c : Dev nD, (h : c.val < 15) → ∀ d', pays d' c 1 = true ↔ d' = c := by decide
theorem nopayer_seg21 : ∀ c : Dev nD, ¬(c.val < 15) → ∀ d', pays d' c 1 = false := by decide
/-- The transfer to the next device has been read. -/
theorem seg21 (c : Dev nD) {α : Type} {Q : α → sProp 𝕄} (k : Prog (TpuEff nD τ sig (Elt F) Λ₀ .tc) α) :
    iprop(know C K ∗ ow c 0 ∗ wIn c 1 (c.val < 15)) ⊢ iprop((ow c 0 ∗ wOut C c 1 (c.val < 15) -∗ wp frame (wpE (defs₀ (F := F)) 𝒱₀ (c : Thread nD τ) none) Set.univ k Q) -∗ wp frame (wpE (defs₀ (F := F)) 𝒱₀ (c : Thread nD τ) none) Set.univ
    (if k0_h21 : (Scalar.cmpi .ne (Scalar.extui (Scalar.cmpi .slt (wd c) 15#32) : BitVec 32) 0#32) = 1#1 then do
        let v573 : DmaSems sig S1 := cc0_scratch6.slice (Rect.unit (s := S2) ![0] S1.size inb_S2_S1_0)
        let v574 : DmaSems sig S_ := v573.squeeze S_ squeezes_S1_S_
        let v575 : Memref sig .tc .vmem S1x2x128x512 .bf16 := (Memref.whole cc0_scratch1).slice (Rect.unit (s := S2x2x128x512) ![0, 0, 0, 0] S1x2x128x512.size inb_S2x2x128x512_S1x2x128x512_0_0_0_0) (fun _ => rfl)
        let v576 : Memref sig .tc .vmem S2x128x512 .bf16 := v575.squeeze S2x128x512 squeezes_S1x2x128x512_S2x128x512
        Prog.lift (.waitDma2 v574.sem v576 (Memref.whole cc0_scratch0) (((Memref.isWhole_whole cc0_scratch1).wordExact_slice rfl _ wordsbf16_S2x2x128x512_S1x2x128x512_0_0_0_0).reshape _ _) (Memref.isWhole_whole cc0_scratch0).wordExact)
        k
      else k) Q) := by
  unfold wIn wOut
  by_cases hc : c.val < 15
  · rw [dif_pos ((islt15 c).2 hc), if_pos hc, if_pos hc]
    simp only [Prog.lift, Prog.bind_op, Prog.bind_ret, Prog.pure_eq_ret]
    iintro ⟨#Hk, HO, Hat, Hc⟩ HQ
    iapply (wait_step C K c 1 (by decide) c (payer_seg21 c hc) 0 (above_zero _) rfl rfl amt1) $$ [HO Hat Hc]
    · isplitl []; iexact Hk
      isplitl [HO]; iexact HO
      isplitl [Hat] <;> iassumption
    iintro ⟨HO, Hz, H⟩
    iapply HQ
    isplitl [HO]; iexact HO
    isplitl [Hz] <;> iassumption
  · rw [dif_neg (fun h => hc ((islt15 c).1 h)), if_neg hc, if_neg hc]
    iintro ⟨#Hk, HO, Hat, -⟩ HQ
    imod (close_step C K c 1 (nopayer_seg21 c hc)) $$ [Hat] with Hz
    · isplitl []; iexact Hk
      iexact Hat
    iapply HQ
    isplitl [HO]; iexact HO
    isplitl [Hz]; iexact Hz
    iempintro

theorem payer_seg22 : ∀ c : Dev nD, (h : 0 < c.val) → ∀ d', pays d' c 2 = true ↔ d' = c := by decide
theorem nopayer_seg22 : ∀ c : Dev nD, ¬(0 < c.val) → ∀ d', pays d' c 2 = false := by decide
theorem payer_ps : ∀ c : Dev nD, (h : 0 < c.val) → ∀ d', pays d' c 37 = true ↔ d' = c := by decide
theorem nopayer_ps : ∀ c : Dev nD, ¬(0 < c.val) → ∀ d', pays d' c 37 = false := by decide
/-- The transfers to the previous device and to the first device have been read. -/
theorem seg22 (c : Dev nD) {α : Type} {Q : α → sProp 𝕄} (k : Prog (TpuEff nD τ sig (Elt F) Λ₀ .tc) α) :
    iprop(know C K ∗ ow c 0 ∗ wIn c 2 (0 < c.val) ∗ wIn c 37 (0 < c.val)) ⊢ iprop((ow c 0 ∗ wOut C c 2 (0 < c.val) ∗ wOut C c 37 (0 < c.val) -∗ wp frame (wpE (defs₀ (F := F)) 𝒱₀ (c : Thread nD τ) none) Set.univ k Q) -∗ wp frame (wpE (defs₀ (F := F)) 𝒱₀ (c : Thread nD τ) none) Set.univ
    (if k0_h22 : (Scalar.cmpi .ne (Scalar.extui (Scalar.cmpi .sgt (wd c) 0#32) : BitVec 32) 0#32) = 1#1 then do
        let v573 : DmaSems sig S1 := cc0_scratch6.slice (Rect.unit (s := S2) ![1] S1.size inb_S2_S1_1)
        let v574 : DmaSems sig S_ := v573.squeeze S_ squeezes_S1_S_
        let v575 : Memref sig .tc .vmem S1x2x128x512 .bf16 := (Memref.whole cc0_scratch1).slice (Rect.unit (s := S2x2x128x512) ![1, 0, 0, 0] S1x2x128x512.size inb_S2x2x128x512_S1x2x128x512_1_0_0_0) (fun _ => rfl)
        let v576 : Memref sig .tc .vmem S2x128x512 .bf16 := v575.squeeze S2x128x512 squeezes_S1x2x128x512_S2x128x512
        Prog.lift (.waitDma2 v574.sem v576 (Memref.whole cc0_scratch0) (((Memref.isWhole_whole cc0_scratch1).wordExact_slice rfl _ wordsbf16_S2x2x128x512_S1x2x128x512_1_0_0_0).reshape _ _) (Memref.isWhole_whole cc0_scratch0).wordExact)
        let v577 : DmaSems sig S1 := cc0_scratch12.slice (Rect.unit (s := S1) ![0] S1.size inb_S1_S1_0)
        let v578 : DmaSems sig S_ := v577.squeeze S_ squeezes_S1_S_
        let v579 : Memref sig .tc .vmem S1x2x32x384 .bf16 := (Memref.whole cc0_scratch5).slice (Rect.unit (s := S15x2x32x384) ![0, 0, 0, 0] S1x2x32x384.size inb_S15x2x32x384_S1x2x32x384_0_0_0_0) (fun _ => rfl)
        let v580 : Memref sig .tc .vmem S2x32x384 .bf16 := v579.squeeze S2x32x384 squeezes_S1x2x32x384_S2x32x384
        Prog.lift (.waitDma2 v578.sem v580 (Memref.whole cc0_scratch4) (((Memref.isWhole_whole cc0_scratch5).wordExact_slice rfl _ wordsbf16_S15x2x32x384_S1x2x32x384_0_0_0_0).reshape _ _) (Memref.isWhole_whole cc0_scratch4).wordExact)
        k
      else k) Q) := by
  unfold wIn wOut
  by_cases hc : 0 < c.val
  · rw [dif_pos ((isgt0 c).2 hc), if_pos hc, if_pos hc, if_pos hc, if_pos hc]
    simp only [Prog.lift, Prog.bind_op, Prog.bind_ret, Prog.pure_eq_ret]
    iintro ⟨#Hk, HO, ⟨Hat, Hc⟩, Hat', Hc'⟩ HQ
    iapply (wait_step C K c 2 (by decide) c (payer_seg22 c hc) 0 (above_zero _) rfl rfl amt1) $$ [HO Hat Hc]
    · isplitl []; iexact Hk
      isplitl [HO]; iexact HO
      isplitl [Hat] <;> iassumption
    iintro ⟨HO, Hz, H⟩
    iapply (wait_step C K c 37 (by decide) c (payer_ps c hc) 0 (above_zero _) rfl rfl amt37) $$ [HO Hat' Hc']
    · isplitl []; iexact Hk
      isplitl [HO]; iexact HO
      isplitl [Hat'] <;> iassumption
    iintro ⟨HO, Hz', H'⟩
    iapply HQ
    isplitl [HO]; iexact HO
    isplitl [Hz H]; · isplitl [Hz] <;> iassumption
    isplitl [Hz'] <;> iassumption
  · rw [dif_neg (fun h => hc ((isgt0 c).1 h)), if_neg hc, if_neg hc, if_neg hc, if_neg hc]
    iintro ⟨#Hk, HO, ⟨Hat, -⟩, Hat', -⟩ HQ
    imod (close_step C K c 2 (nopayer_seg22 c hc)) $$ [Hat] with Hz
    · isplitl []; iexact Hk
      iexact Hat
    imod (close_step C K c 37 (nopayer_ps c hc)) $$ [Hat'] with Hz'
    · isplitl []; iexact Hk
      iexact Hat'
    iapply HQ
    isplitl [HO]; iexact HO
    isplitl [Hz]; · isplitl [Hz]; iexact Hz
                    iempintro
    isplitl [Hz']; iexact Hz'
    iempintro

end Cert.Exchange

end
-- ==== Proof.Opening.lean ====
module

public import proofs.«01_k».proof.Proof.Zero

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

/-- A load from a buffer held whole. -/
theorem ld (c : Dev nD) {s : Shape} {e : EltTy} (m : Memref sig .tc .vmem s e) (q : PosShare TreeShare) (f : Buf (Elt F) (m.view.loc (c : Thread nD τ))) {r : LoadRect s} {hl : m.view.LoadsAt r}
    {α : Type} {Q : α → sProp 𝕄} {k : (r.shape.Idx → Elt F e) → Prog (TpuEff nD τ sig (Elt F) Λ₀ .tc) α} :
    (m.view.loc (c : Thread nD τ) ↦{q} f : sProp 𝕄) ⊢ iprop(((m.view.loc (c : Thread nD τ) ↦{q} f) -∗ wp frame (wpE (defs₀ (F := F)) 𝒱₀ (c : Thread nD τ) none) Set.univ (k (m.view.readAt (Elt F) r f)) Q) -∗ wp frame (wpE (defs₀ (F := F)) 𝒱₀ (c : Thread nD τ) none) Set.univ (Prog.lift (.load m r hl) >>= k) Q) := by
  simp only [Prog.lift, Prog.bind_op, Prog.bind_ret]
  exact wp_load 𝒱₀ (c : Thread nD τ) none Set.univ (m := m) (Finset.subset_univ _)
theorem hz3 : (![0, 0, 0] : Fin 3 → ℕ) = fun _ => 0 := by funext a; fin_cases a <;> rfl
theorem kv_writes' (f : (cc0_scratch0 : Ref sig .tc).ty.Contents (Elt F)) (fk : (cc0_stg2_0 : Ref sig .tc).ty.Contents (Elt F)) (fv : (cc0_stg3_0 : Ref sig .tc).ty.Contents (Elt F)) :
    (Memref.whole cc0_scratch0).view.writes (Elt F) f [⟨Rect.unit (s := S2x128x512) ![0, 0, 256] S2x128x256.size inb_S2x128x512_S2x128x256_0_0_256, k0_pay177 (View.readAt (Elt F) (Memref.whole cc0_stg3_0).view (Rect.unit (s := S2x128x256) ![0, 0, 0] S2x128x256.size inb_S2x128x256_S2x128x256_0_0_0).toLoadRect fv)⟩,
      ⟨Rect.unit (s := S2x128x512) ![0, 0, 0] S2x128x256.size inb_S2x128x512_S2x128x256_0_0_0, k0_pay176 (View.readAt (Elt F) (Memref.whole cc0_stg2_0).view (Rect.unit (s := S2x128x256) ![0, 0, 0] S2x128x256.size inb_S2x128x256_S2x128x256_0_0_0).toLoadRect fk)⟩] = kvF fk fv := by
  refine Eq.trans ?_ (kv_writes f fk fv)
  congr 1
  have e2 : View.readAt (Elt F) (Memref.whole cc0_stg2_0).view (Rect.unit (s := S2x128x256) ![0, 0, 0] S2x128x256.size inb_S2x128x256_S2x128x256_0_0_0).toLoadRect fk = fk :=
    Memref.readAt_unit_zero (Elt F) cc0_stg2_0 hz3 _ fk
  have e3 : View.readAt (Elt F) (Memref.whole cc0_stg3_0).view (Rect.unit (s := S2x128x256) ![0, 0, 0] S2x128x256.size inb_S2x128x256_S2x128x256_0_0_0).toLoadRect fv = fv :=
    Memref.readAt_unit_zero (Elt F) cc0_stg3_0 hz3 _ fv
  exact congrArg₂ (fun a b => [(⟨Rect.unit (s := S2x128x512) ![0, 0, 256] S2x128x256.size inb_S2x128x512_S2x128x256_0_0_256, k0_pay177 a⟩ : View.Piece (Elt F) S2x128x512 .bf16), ⟨Rect.unit (s := S2x128x512) ![0, 0, 0] S2x128x256.size inb_S2x128x512_S2x128x256_0_0_0, k0_pay176 b⟩]) e3 e2

/-- The device's blocks are read, its own keys and values packed, and its barrier signals sent. -/
theorem part34_spec (C : Cont F) (K : Dev nD × Fin 53 → ℕ) (c : Dev nD) (O : CellTallies nD τ sig Unit) (f fk fv) {Q} :
    iprop(know C K ∗ sig0 c O Finset.univ ∗ pts c cc0_scratch0 fullShare f ∗ pts c cc0_stg2_0 fullShare fk ∗ pts c cc0_stg3_0 fullShare fv)
    ⊢ iprop((ow c O ∗ pts c cc0_scratch0 fullShare (kvF fk fv) ∗ pts c cc0_stg2_0 fullShare fk ∗ pts c cc0_stg3_0 fullShare fv -∗ Q ⟨c, wd c, SemArray.scalar (sig.barrier 0 rfl)⟩)
      -∗ wp frame (wpE (defs₀ (F := F)) 𝒱₀ (c : Thread nD τ) none) Set.univ (k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) Q) := by
  rw [k0_part34_eq_skeleton]
  unfold k0_part34_skel
  iintro ⟨#Hk, HS, Hkv, HK, HV⟩ HQ
  iapply wp_dev
  dsimp only
  iapply (seg1 C K c O _) $$ [HS]
  · isplitl []; iexact Hk; iexact HS
  iintro HS
  iapply (seg2 C K c O _) $$ [HS]
  · isplitl []; iexact Hk; iexact HS
  iintro HS
  iapply (seg3 C K c O _) $$ [HS]
  · isplitl []; iexact Hk; iexact HS
  iintro HS
  iapply (seg4 C K c O _) $$ [HS]
  · isplitl []; iexact Hk; iexact HS
  iintro ⟨HS, -, -⟩
  rw [OO_none (Sg4_none c), add_zero]
  ihave Hkv := (held_of c _ _ _) $$ Hkv
  ihave HK := (held_of c _ _ _) $$ HK
  ihave HV := (held_of c _ _ _) $$ HV
  sl_exec
  rw [wp_ret]
  imodintro
  iapply HQ
  isplitl [HS]; · iexact HS
  isplitl [Hkv]; · iapply (Entails.of_eq (congrArg (fun g => (pts c cc0_scratch0 fullShare g : sProp 𝕄)) (kv_writes' f fk fv))); iexact Hkv
  isplitl [HK] <;> iassumption

/-- The first device's broadcast buffers. -/
def gst (c : Dev nD) (f : (cc0_scratch2 : Ref sig .tc).ty.Contents (Elt F)) (g : (cc0_scratch3 : Ref sig .tc).ty.Contents (Elt F)) : sProp 𝕄 :=
  if c.val = 0 then iprop(pts c cc0_scratch2 fullShare f ∗ pts c cc0_scratch3 fullShare g) else iprop(emp)

set_option maxHeartbeats 1000000 in
/-- The first device fills its broadcast buffers. -/
theorem seg7 (c : Dev nD) (E : Env F) (f g) {α : Type} {Q : α → sProp 𝕄} (k : Prog (TpuEff nD τ sig (Elt F) Λ₀ .tc) α) :
    iprop(gst c f g ∗ pts c cc0_stg2_0 fullShare E.k ∗ pts c cc0_stg3_0 fullShare E.v)
    ⊢ iprop((gst c (gqF E) (gkF E) ∗ pts c cc0_stg2_0 fullShare E.k ∗ pts c cc0_stg3_0 fullShare E.v -∗ wp frame (wpE (defs₀ (F := F)) 𝒱₀ (c : Thread nD τ) none) Set.univ k Q) -∗ wp frame (wpE (defs₀ (F := F)) 𝒱₀ (c : Thread nD τ) none) Set.univ
    (if k0_h7 : (Scalar.cmpi .ne (Scalar.extui (Scalar.cmpi .eq (wd c) 0#32) : BitVec 32) 0#32) = 1#1 then do
        k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (k0_pay180 (v36 E) (v38 E)) (k0_pay181 (v41 E) (v43 E))
        let v601 : Vec F S1x32x256 .f32 ← Prog.lift (.load (Memref.whole cc0_stg3_0) (Rect.unit (s := S2x128x256) ![1, 0, 0] S1x32x256.size inb_S2x128x256_S1x32x256_1_0_0).toLoadRect (View.loadsAt_vmem h_S1x32x256))
        let v604 : Vec F S1x1x32x256 .bf16 ← Prog.lift (.load (Memref.whole cc0_scratch3) (Rect.unit (s := S2x2x32x256) ![1, 1, 0, 0] S1x1x32x256.size inb_S2x2x32x256_S1x1x32x256_1_1_0_0).toLoadRect (View.loadsAt_vmem h_S1x1x32x256))
        Prog.lift (.store (Memref.whole cc0_scratch3) (Rect.unit (s := S2x2x32x256) ![1, 1, 0, 0] S1x1x32x256.size inb_S2x2x32x256_S1x1x32x256_1_1_0_0) (k0_pay182 v601) Finset.univ (View.stores_vmem h_S1x1x32x256 ((Memref.isWhole_whole cc0_scratch3).storeExact_slice rfl _ packedbf16_S2x2x32x256_S1x1x32x256_1_1_0_0) (fun _ => rfl)) (.inl rfl))
        k
      else k) Q) := by
  by_cases hc : c.val = 0
  · rw [dif_pos ((is0 c).2 hc)]
    unfold gst
    rw [if_pos hc, if_pos hc, k0_part2_eq_skeleton]
    unfold k0_part2_skel
    iintro ⟨⟨Hq, Hg⟩, HK, HV⟩ HQ
    ihave Hq := (held_of c _ _ _) $$ Hq
    ihave Hg := (held_of c _ _ _) $$ Hg
    ihave HK := (held_of c _ _ _) $$ HK
    ihave HV := (held_of c _ _ _) $$ HV
    sl_exec
    iapply HQ
    isplitl [Hq Hg]
    · isplitl [Hq]
      · iapply (Entails.of_eq (congrArg (fun g => (pts c cc0_scratch2 fullShare g : sProp 𝕄)) (gq_writes f E))); iexact Hq
      · iapply (Entails.of_eq (congrArg (fun g => (pts c cc0_scratch3 fullShare g : sProp 𝕄)) (gk_writes g E))); iexact Hg
    isplitl [HK] <;> iassumption
  · rw [dif_neg (fun h => hc ((is0 c).1 h))]
    unfold gst
    rw [if_neg hc, if_neg hc]
    iintro H HQ
    iapply HQ
    iexact H

/-- How many signals device `c` waits for. -/
def nbar (c : Dev nD) : ℕ := (Finset.univ.filter (fun d : Dev nD => pays d c 0 = true)).card
theorem nbar_eq : ∀ c : Dev nD, nbar c = if c.val = 0 then 15 else if c.val = 1 ∨ c.val = 15 then 2 else 3 := by decide
/-- The barrier before and after the wait. -/
def barSt (c : Dev nD) (p : Prop) [Decidable p] : sProp 𝕄 :=
  if p then iprop(zer c 0 ∗ bigSep (Finset.univ.filter (fun d : Dev nD => pays d c 0 = true)) (fun d => barPay c d)) else iprop(at0 c 0 ∗ crd c 0 (nbar c))

theorem barSt_congr (c : Dev nD) (p q : Prop) [Decidable p] [Decidable q] (h : p ↔ q) : (barSt c p : sProp 𝕄) = barSt c q := by
  unfold barSt
  by_cases hp : p
  · rw [if_pos hp, if_pos (h.1 hp)]
  · rw [if_neg hp, if_neg (fun hq => hp (h.2 hq))]

/-- The first device waits for the others. -/
theorem seg8 (C : Cont F) (K : Dev nD × Fin 53 → ℕ) (c : Dev nD) (O : CellTallies nD τ sig Unit) (hO : Above 1 O) {α : Type} {Q : α → sProp 𝕄} (k : Prog (TpuEff nD τ sig (Elt F) Λ₀ .tc) α) :
    iprop(know C K ∗ ow c O ∗ barSt c (False)) ⊢ iprop((ow c O ∗ barSt c (c.val = 0) -∗ wp frame (wpE (defs₀ (F := F)) 𝒱₀ (c : Thread nD τ) none) Set.univ k Q) -∗ wp frame (wpE (defs₀ (F := F)) 𝒱₀ (c : Thread nD τ) none) Set.univ
    (if k0_h8 : (Scalar.cmpi .ne (Scalar.extui (Scalar.cmpi .eq (wd c) 0#32) : BitVec 32) 0#32) = 1#1 then do
        semWaitWord (SemArray.scalar (sig.barrier 0 rfl) : Sems sig S_).sem 15#32
        k
      else k) Q) := by
  by_cases hc : c.val = 0
  · rw [dif_pos ((is0 c).2 hc)]
    unfold barSt
    rw [if_neg (by first | omega | exact fun h => h), if_pos (by first | trivial | omega)]
    simp only [semWaitWord, Prog.lift, Prog.bind_op, Prog.bind_ret, Prog.pure_eq_ret, v3sem]
    have hn : nbar c = 15 := by rw [nbar_eq]; rw [if_pos (by omega)]
    iintro ⟨#Hk, HO, Hat, Hc⟩ HQ
    iapply (barWait_step C K c O hO (n := 15) (hn.symm.trans rfl)) $$ [HO Hat Hc]
    · isplitl []; iexact Hk
      isplitl [HO]; iexact HO
      isplitl [Hat]; iexact Hat
      rw [hn]; iexact Hc
    iintro ⟨HO, H⟩
    iapply HQ
    isplitl [HO] <;> iassumption
  · rw [dif_neg (fun h => hc ((is0 c).1 h))]
    have e : (False) ↔ (c.val = 0) := by have := c.isLt; change c.val < 16 at this; constructor <;> intro h <;> first | trivial | omega | exact h.elim
    iintro ⟨-, HO, H⟩ HQ
    iapply HQ
    isplitl [HO]; · iexact HO
    iapply (Entails.of_eq (barSt_congr (F := F) c _ _ e)); iexact H

/-- The second and the last device wait for the first and their one neighbour. -/
theorem seg9 (C : Cont F) (K : Dev nD × Fin 53 → ℕ) (c : Dev nD) (O : CellTallies nD τ sig Unit) (hO : Above 1 O) {α : Type} {Q : α → sProp 𝕄} (k : Prog (TpuEff nD τ sig (Elt F) Λ₀ .tc) α) :
    iprop(know C K ∗ ow c O ∗ barSt c (c.val = 0)) ⊢ iprop((ow c O ∗ barSt c (c.val = 0 ∨ c.val = 1 ∨ c.val = 15) -∗ wp frame (wpE (defs₀ (F := F)) 𝒱₀ (c : Thread nD τ) none) Set.univ k Q) -∗ wp frame (wpE (defs₀ (F := F)) 𝒱₀ (c : Thread nD τ) none) Set.univ
    (if k0_h9 : (Scalar.cmpi .ne (Scalar.extui (Scalar.ori (Scalar.cmpi .eq (wd c) 1#32) (Scalar.cmpi .eq (wd c) 15#32)) : BitVec 32) 0#32) = 1#1 then do
        semWaitWord (SemArray.scalar (sig.barrier 0 rfl) : Sems sig S_).sem 2#32
        k
      else k) Q) := by
  by_cases hc : (c.val = 1 ∨ c.val = 15)
  · rw [dif_pos ((is1or15 c).2 hc)]
    unfold barSt
    rw [if_neg (by first | omega | exact fun h => h), if_pos (by first | trivial | omega)]
    simp only [semWaitWord, Prog.lift, Prog.bind_op, Prog.bind_ret, Prog.pure_eq_ret, v3sem]
    have hn : nbar c = 2 := by rw [nbar_eq]; rw [if_neg (by omega), if_pos (by omega)]
    iintro ⟨#Hk, HO, Hat, Hc⟩ HQ
    iapply (barWait_step C K c O hO (n := 2) (hn.symm.trans rfl)) $$ [HO Hat Hc]
    · isplitl []; iexact Hk
      isplitl [HO]; iexact HO
      isplitl [Hat]; iexact Hat
      rw [hn]; iexact Hc
    iintro ⟨HO, H⟩
    iapply HQ
    isplitl [HO] <;> iassumption
  · rw [dif_neg (fun h => hc ((is1or15 c).1 h))]
    have e : (c.val = 0) ↔ (c.val = 0 ∨ c.val = 1 ∨ c.val = 15) := by have := c.isLt; change c.val < 16 at this; constructor <;> intro h <;> first | trivial | omega | exact h.elim
    iintro ⟨-, HO, H⟩ HQ
    iapply HQ
    isplitl [HO]; · iexact HO
    iapply (Entails.of_eq (barSt_congr (F := F) c _ _ e)); iexact H

/-- The other devices wait for the first and their two neighbours. -/
theorem seg10 (C : Cont F) (K : Dev nD × Fin 53 → ℕ) (c : Dev nD) (O : CellTallies nD τ sig Unit) (hO : Above 1 O) {α : Type} {Q : α → sProp 𝕄} (k : Prog (TpuEff nD τ sig (Elt F) Λ₀ .tc) α) :
    iprop(know C K ∗ ow c O ∗ barSt c (c.val = 0 ∨ c.val = 1 ∨ c.val = 15)) ⊢ iprop((ow c O ∗ barSt c (True) -∗ wp frame (wpE (defs₀ (F := F)) 𝒱₀ (c : Thread nD τ) none) Set.univ k Q) -∗ wp frame (wpE (defs₀ (F := F)) 𝒱₀ (c : Thread nD τ) none) Set.univ
    (if k0_h10 : (Scalar.cmpi .ne (Scalar.extui (Scalar.andi (Scalar.cmpi .sgt (wd c) 1#32) (Scalar.cmpi .slt (wd c) 15#32)) : BitVec 32) 0#32) = 1#1 then do
        semWaitWord (SemArray.scalar (sig.barrier 0 rfl) : Sems sig S_).sem 3#32
        k
      else k) Q) := by
  by_cases hc : (1 < c.val ∧ c.val < 15)
  · rw [dif_pos ((ismid c).2 hc)]
    unfold barSt
    rw [if_neg (by first | omega | exact fun h => h), if_pos (by first | trivial | omega)]
    simp only [semWaitWord, Prog.lift, Prog.bind_op, Prog.bind_ret, Prog.pure_eq_ret, v3sem]
    have hn : nbar c = 3 := by rw [nbar_eq]; rw [if_neg (by omega), if_neg (by omega)]
    iintro ⟨#Hk, HO, Hat, Hc⟩ HQ
    iapply (barWait_step C K c O hO (n := 3) (hn.symm.trans rfl)) $$ [HO Hat Hc]
    · isplitl []; iexact Hk
      isplitl [HO]; iexact HO
      isplitl [Hat]; iexact Hat
      rw [hn]; iexact Hc
    iintro ⟨HO, H⟩
    iapply HQ
    isplitl [HO] <;> iassumption
  · rw [dif_neg (fun h => hc ((ismid c).1 h))]
    have e : (c.val = 0 ∨ c.val = 1 ∨ c.val = 15) ↔ (True) := by have := c.isLt; change c.val < 16 at this; constructor <;> intro h <;> first | trivial | omega | exact h.elim
    iintro ⟨-, HO, H⟩ HQ
    iapply HQ
    isplitl [HO]; · iexact HO
    iapply (Entails.of_eq (barSt_congr (F := F) c _ _ e)); iexact H

set_option maxHeartbeats 2000000 in
/-- The first and the last device zero a halo slot, the queries are computed, the first device fills its broadcast buffers, and three devices wait. -/
theorem part35_spec (C : Cont F) (K : Dev nD × Fin 53 → ℕ) (hz0 : C.z0 = z0F) (hz1 : C.z1 = z1F) (c : Dev nD) (O : CellTallies nD τ sig Unit) (hO : Above 1 O) (E : Env F) (hE : E.v2 = wd c) (f0 f1 f g) {Q} :
    iprop(know C K ∗ ow c O ∗ barSt c False ∗ zst0 c f0 ∗ zst1 c f1 ∗ gst c f g ∗ pts c cc0_stg0_0 fullShare E.x ∗ pts c cc0_stg1_0 fullShare E.wq ∗ pts c cc0_stg2_0 fullShare E.k ∗ pts c cc0_stg3_0 fullShare E.v)
    ⊢ iprop((ow c O ∗ barSt c (c.val = 0 ∨ c.val = 1 ∨ c.val = 15) ∗ zst0 c (C.halo c) ∗ zst1 c (C.halo c) ∗ gst c (gqF E) (gkF E) ∗ pts c cc0_stg0_0 fullShare E.x ∗ pts c cc0_stg1_0 fullShare E.wq ∗ pts c cc0_stg2_0 fullShare E.k ∗ pts c cc0_stg3_0 fullShare E.v
        -∗ Q ⟨v40 E, v45 E, Scalar.andi (Scalar.cmpi .sgt (wd c) 1#32) (Scalar.cmpi .slt (wd c) 15#32)⟩)
      -∗ wp frame (wpE (defs₀ (F := F)) 𝒱₀ (c : Thread nD τ) none) Set.univ (k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (wd c) (SemArray.scalar (sig.barrier 0 rfl) : Sems sig S_)) Q) := by
  rw [k0_part35_eq_skeleton]
  unfold k0_part35_skel
  iintro ⟨#Hk, HO, HB, H0, H1, HG, HX, HWq, HK, HV⟩ HQ
  dsimp only
  iapply (seg5 C hz0 c _ _) $$ [H0]
  · iexact H0
  iintro H0
  iapply (seg6 C hz1 c _ _) $$ [H1]
  · iexact H1
  iintro H1
  iapply (ld c (Memref.whole cc0_stg0_0) fullShare E.x) $$ [HX]
  · iexact HX
  iintro HX
  iapply (ld c (Memref.whole cc0_stg1_0) fullShare E.wq) $$ [HWq]
  · iexact HWq
  iintro HWq
  iapply (ld c (Memref.whole cc0_stg0_0) fullShare E.x) $$ [HX]
  · iexact HX
  iintro HX
  iapply (ld c (Memref.whole cc0_stg1_0) fullShare E.wq) $$ [HWq]
  · iexact HWq
  iintro HWq
  iapply (seg7 c E _ _ _) $$ [HG HK HV]
  · isplitl [HG]; iexact HG
    isplitl [HK] <;> iassumption
  iintro ⟨HG, HK, HV⟩
  iapply (seg8 C K c O hO _) $$ [HO HB]
  · isplitl []; iexact Hk
    isplitl [HO] <;> iassumption
  iintro ⟨HO, HB⟩
  iapply (seg9 C K c O hO _) $$ [HO HB]
  · isplitl []; iexact Hk
    isplitl [HO] <;> iassumption
  iintro ⟨HO, HB⟩
  rw [Prog.pure_eq_ret, wp_ret]
  imodintro
  unfold v40 v45 v36 v38 v41 v43
  iapply HQ
  isplitl [HO]; · iexact HO
  isplitl [HB]; · iexact HB
  isplitl [H0]; · iexact H0
  isplitl [H1]; · iexact H1
  isplitl [HG]; · iexact HG
  isplitl [HX]; · iexact HX
  isplitl [HWq]; · iexact HWq
  isplitl [HK] <;> iassumption

end Cert.Exchange

end
-- ==== Proof.Regroup.lean ====
module

public import proofs.«01_k».proof.Proof.Finals
public import proofs.«01_k».proof.Proof.Opening

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

variable (C : Cont F) (K : Dev nD × Fin 53 → ℕ)

/-! What the barrier's signals bring. -/

def PPs (c : Dev nD) : sProp 𝕄 := if h : c.val ≠ 0 then iprop(∃ f, ptsOn (0 : Dev nD) cc0_scratch5 (pset ⟨c.val - 1, by have := c.isLt; change c.val < 16 at this; omega⟩) fullShare f) else iprop(emp)
def GQ (c : Dev nD) : sProp 𝕄 := if c.val = 0 then bigSep Finset.univ (fun j : Fin 15 => iprop(∃ f, pts (nx j) cc0_scratch2 fullShare f)) else iprop(emp)
def GK (c : Dev nD) : sProp 𝕄 := if c.val = 0 then bigSep Finset.univ (fun j : Fin 15 => iprop(∃ f, pts (nx j) cc0_scratch3 fullShare f)) else iprop(emp)
def HLs (c : Dev nD) : sProp 𝕄 := if h : 0 < c.val then iprop(∃ f, ptsOn (⟨c.val - 1, by have := c.isLt; omega⟩ : Dev nD) cc0_scratch1 (hset 1) fullShare f) else iprop(emp)
def HRs (c : Dev nD) : sProp 𝕄 := if h : c.val < 15 then iprop(∃ f, ptsOn (⟨c.val + 1, by show c.val + 1 < 16; omega⟩ : Dev nD) cc0_scratch1 (hset 0) fullShare f) else iprop(emp)

abbrev nxE : Fin 15 ↪ Dev nD := ⟨nx, fun a b h => by have := congrArg Fin.val h; simp only at this; exact Fin.ext (by omega)⟩

theorem pp_get (c : Dev nD) : (bigSep (Finset.univ.filter (fun d : Dev nD => pays d c 0 = true)) (fun d => PP c d) : sProp 𝕄) ⊢ PPs c := by
  unfold PPs
  split
  · next h =>
    have hm : (0 : Dev nD) ∈ Finset.univ.filter (fun d : Dev nD => pays d c 0 = true) := by
      rw [Finset.mem_filter]; exact ⟨Finset.mem_univ _, by revert c; decide⟩
    refine (show bigSep _ _ ⊢ PP c 0 from bigSep_elim hm).trans ?_
    unfold PP
    rw [dif_pos ⟨rfl, h⟩]
  · iintro -; iempintro
theorem hl_get (c : Dev nD) : (bigSep (Finset.univ.filter (fun d : Dev nD => pays d c 0 = true)) (fun d => HL c d) : sProp 𝕄) ⊢ HLs c := by
  unfold HLs
  split
  · next h =>
    have hm : (⟨c.val - 1, by have := c.isLt; omega⟩ : Dev nD) ∈ Finset.univ.filter (fun d : Dev nD => pays d c 0 = true) := by
      rw [Finset.mem_filter]; exact ⟨Finset.mem_univ _, by revert c; decide⟩
    refine (show bigSep _ _ ⊢ HL c _ from bigSep_elim hm).trans ?_
    unfold HL
    rw [if_pos (show c.val - 1 + 1 = c.val by omega)]
  · iintro -; iempintro
theorem hr_get (c : Dev nD) : (bigSep (Finset.univ.filter (fun d : Dev nD => pays d c 0 = true)) (fun d => HR c d) : sProp 𝕄) ⊢ HRs c := by
  unfold HRs
  split
  · next h =>
    have hm : (⟨c.val + 1, by show c.val + 1 < 16; omega⟩ : Dev nD) ∈ Finset.univ.filter (fun d : Dev nD => pays d c 0 = true) := by
      rw [Finset.mem_filter]; exact ⟨Finset.mem_univ _, by revert c; decide⟩
    refine (show bigSep _ _ ⊢ HR c _ from bigSep_elim hm).trans ?_
    unfold HR
    rw [if_pos rfl]
  · iintro -; iempintro
theorem gg_get (c : Dev nD) : (bigSep (Finset.univ.filter (fun d : Dev nD => pays d c 0 = true)) (fun d => GG c d) : sProp 𝕄) ⊢ iprop(GQ c ∗ GK c) := by
  unfold GQ GK
  by_cases h : c.val = 0
  · rw [if_pos h, if_pos h]
    have hm : Finset.univ.map nxE ⊆ Finset.univ.filter (fun d : Dev nD => pays d c 0 = true) := by
      intro d hd
      obtain ⟨j, -, rfl⟩ := Finset.mem_map.mp hd
      rw [Finset.mem_filter]; exact ⟨Finset.mem_univ _, by have : c = 0 := Fin.ext h; subst this; revert j; decide⟩
    refine (show bigSep _ _ ⊢ bigSep (Finset.univ.map nxE) (fun d => GG c d) from bigSep_subset hm).trans ?_
    rw [show (bigSep (Finset.univ.map nxE) (fun d => GG c d) : sProp 𝕄) = bigSep Finset.univ (fun j : Fin 15 => GG c (nx j)) from bigSep_map _]
    refine (show _ ⊢ bigSep Finset.univ (fun j : Fin 15 => iprop((∃ f, pts (nx j) cc0_scratch2 fullShare f) ∗ (∃ f, pts (nx j) cc0_scratch3 fullShare f))) from bigSep_mono (fun j _ => ?_)).trans ?_
    · unfold GG
      rw [if_pos ⟨h, by simp⟩]
      exact (show iprop((∃ f, pts (nx j) cc0_scratch2 fullShare f) ∗ ∃ f, pts (nx j) cc0_scratch3 fullShare f) ⊢ iprop((∃ f, pts (nx j) cc0_scratch2 fullShare f) ∗ ∃ f, pts (nx j) cc0_scratch3 fullShare f) from .rfl)
    · exact Entails.of_eq (bigSep_sep' _ _ _)
  · rw [if_neg h, if_neg h]; iintro -; isplitl [] <;> iempintro

theorem bar_gets (c : Dev nD) : (barSt c True : sProp 𝕄) ⊢ iprop(zer c 0 ∗ PPs c ∗ (GQ c ∗ GK c) ∗ HLs c ∗ HRs c) := by
  unfold barSt
  rw [if_pos trivial]
  have h1 : (bigSep (Finset.univ.filter (fun d : Dev nD => pays d c 0 = true)) (fun d => barPay c d) : sProp 𝕄)
      = iprop(bigSep (Finset.univ.filter (fun d : Dev nD => pays d c 0 = true)) (fun d => PP c d) ∗ bigSep (Finset.univ.filter (fun d : Dev nD => pays d c 0 = true)) (fun d => GG c d)
        ∗ bigSep (Finset.univ.filter (fun d : Dev nD => pays d c 0 = true)) (fun d => HL c d) ∗ bigSep (Finset.univ.filter (fun d : Dev nD => pays d c 0 = true)) (fun d => HR c d)) := by
    refine (show _ = iprop(_ ∗ _) from bigSep_sep' _ _ _).trans ?_
    congr 1
    refine (show _ = iprop(_ ∗ _) from bigSep_sep' _ _ _).trans ?_
    congr 1
    exact bigSep_sep' _ _ _
  rw [h1]
  iintro ⟨Hz, HP, HG, HL, HR⟩
  isplitl [Hz]; iexact Hz
  isplitl [HP]; iapply (pp_get c); iexact HP
  isplitl [HG]; iapply (gg_get c); iexact HG
  isplitl [HL]; iapply (hl_get c); iexact HL
  iapply (hr_get c); iexact HR

theorem toks15 (c : Dev nD) (b : Ref sig .tc) (f : b.ty.Contents (Elt F)) :
    (pts c b fullShare f : sProp 𝕄) ⊢ iprop(pts c b (kept 15) f ∗ bigSep Finset.univ (fun j : Fin 15 => pts c b (tok j.val) f)) := by
  refine (Transfers.pointsTo_toks_range fullShare 15).1.trans ?_
  rw [show Finset.range 15 = Finset.univ.map (Fin.valEmbedding (n := 15)) from by decide,
    show (bigSep (Finset.univ.map (Fin.valEmbedding (n := 15))) (fun i => (c : Thread nD τ).loc b ↦[Finset.univ]{Transfers.shareTokN fullShare i} f : ℕ → sProp 𝕄)) = bigSep Finset.univ (fun j : Fin 15 => pts c b (tok j.val) f) from bigSep_map _]
theorem toks2 (c : Dev nD) (b : Ref sig .tc) (f : b.ty.Contents (Elt F)) :
    (pts c b fullShare f : sProp 𝕄) = iprop(pts c b (kept 2) f ∗ pts c b (tok 0) f ∗ pts c b (tok 1) f) := by
  refine (Entails.antisymm (Transfers.pointsTo_toks_range fullShare 2).1 (Transfers.pointsTo_toks_range fullShare 2).2).trans ?_
  congr 1
  rw [show Finset.range 2 = insert 0 {1} from by decide, bigSep_insert (by decide), bigSep_singleton]
  rfl

def dq (c : Dev nD) : sProp 𝕄 := if c.val = 0 then bigSep Finset.univ (fun j : Fin 15 => dutyTok (ER (F := F)) (kcell (c, kgqs j)) 0 c) else iprop(emp)
def dk (c : Dev nD) : sProp 𝕄 := if c.val = 0 then bigSep Finset.univ (fun j : Fin 15 => dutyTok (ER (F := F)) (kcell (c, kgks j)) 0 c) else iprop(emp)
def d1 (c : Dev nD) : sProp 𝕄 := if c.val < 15 then dutyTok (ER (F := F)) (kcell (c, 1)) 0 c else iprop(emp)
def d2 (c : Dev nD) : sProp 𝕄 := if 0 < c.val then dutyTok (ER (F := F)) (kcell (c, 2)) 0 c else iprop(emp)
def d37 (c : Dev nD) : sProp 𝕄 := if c.val ≠ 0 then dutyTok (ER (F := F)) (kcell (c, 37)) 0 c else iprop(emp)
def kp0 (c : Dev nD) (b : Ref sig .tc) (f : b.ty.Contents (Elt F)) : sProp 𝕄 := if c.val = 0 then pts c b (kept 15) f else iprop(emp)
def fl0 (c : Dev nD) (b : Ref sig .tc) (f : b.ty.Contents (Elt F)) : sProp 𝕄 := if c.val = 0 then pts c b fullShare f else iprop(emp)

theorem q_intro (c : Dev nD) : iprop(fl0 c cc0_scratch2 C.gq ∗ TT c 20 Finset.univ ∗ dq c ∗ GQ c) ⊢ iprop(qst C c 15 ∗ kp0 c cc0_scratch2 C.gq) := by
  unfold fl0 dq GQ qst kp0
  by_cases h : c.val = 0
  · rw [if_pos h, if_pos h, if_pos h, if_pos h, if_pos h]
    unfold qbag
    rw [Us_top, Lo_top, Finset.sdiff_self, bigSep_empty]
    have e : (bigSep Finset.univ (fun j : Fin 15 => iprop(pts c cc0_scratch2 (tok j.val) C.gq ∗ dutyTok (ER (F := F)) (kcell (c, kgqs j)) 0 c ∗ ∃ f, pts (nx j) cc0_scratch2 fullShare f)) : sProp 𝕄)
      = iprop(bigSep Finset.univ (fun j : Fin 15 => pts c cc0_scratch2 (tok j.val) C.gq) ∗ bigSep Finset.univ (fun j : Fin 15 => dutyTok (ER (F := F)) (kcell (c, kgqs j)) 0 c) ∗ bigSep Finset.univ (fun j : Fin 15 => iprop(∃ f, pts (nx j) cc0_scratch2 fullShare f))) := by
      refine (show _ = iprop(_ ∗ _) from bigSep_sep' _ _ _).trans ?_
      congr 1
      exact bigSep_sep' _ _ _
    rw [e]
    iintro ⟨HF, HT, HD, HG⟩
    ihave HF := (toks15 c cc0_scratch2 C.gq) $$ HF
    icases HF with ⟨Hk, Ht⟩
    isplitr [Hk]
    · isplitl [HT]; iexact HT
      isplitl
      · isplitl [Ht]; iexact Ht
        isplitl [HD] <;> iassumption
      iempintro
    iexact Hk
  · rw [if_neg h, if_neg h, if_neg h, if_neg h, if_neg h]
    iintro -; isplitl [] <;> iempintro

theorem k_intro (c : Dev nD) : iprop(fl0 c cc0_scratch3 C.gk ∗ TT c 36 Finset.univ ∗ dk c ∗ GK c) ⊢ iprop(kst C c 15 ∗ kp0 c cc0_scratch3 C.gk) := by
  unfold fl0 dk GK kst kp0
  by_cases h : c.val = 0
  · rw [if_pos h, if_pos h, if_pos h, if_pos h, if_pos h]
    unfold kbag
    rw [Us_top, Lo_top, Finset.sdiff_self, bigSep_empty]
    have e : (bigSep Finset.univ (fun j : Fin 15 => iprop(pts c cc0_scratch3 (tok j.val) C.gk ∗ dutyTok (ER (F := F)) (kcell (c, kgks j)) 0 c ∗ ∃ f, pts (nx j) cc0_scratch3 fullShare f)) : sProp 𝕄)
      = iprop(bigSep Finset.univ (fun j : Fin 15 => pts c cc0_scratch3 (tok j.val) C.gk) ∗ bigSep Finset.univ (fun j : Fin 15 => dutyTok (ER (F := F)) (kcell (c, kgks j)) 0 c) ∗ bigSep Finset.univ (fun j : Fin 15 => iprop(∃ f, pts (nx j) cc0_scratch3 fullShare f))) := by
      refine (show _ = iprop(_ ∗ _) from bigSep_sep' _ _ _).trans ?_
      congr 1
      exact bigSep_sep' _ _ _
    rw [e]
    iintro ⟨HF, HT, HD, HG⟩
    ihave HF := (toks15 c cc0_scratch3 C.gk) $$ HF
    icases HF with ⟨Hk, Ht⟩
    isplitr [Hk]
    · isplitl [HT]; iexact HT
      isplitl
      · isplitl [Ht]; iexact Ht
        isplitl [HD] <;> iassumption
      iempintro
    iexact Hk
  · rw [if_neg h, if_neg h, if_neg h, if_neg h, if_neg h]
    iintro -; isplitl [] <;> iempintro

theorem hr0_intro (c : Dev nD) : iprop(pts c cc0_scratch0 (tok 0) (C.kv c) ∗ TT c 3 Finset.univ ∗ d1 c ∗ HRs c) ⊢ iprop(hr0st C c ∗ if c.val < 15 then iprop(emp) else pts c cc0_scratch0 (tok 0) (C.kv c)) := by
  unfold hr0st d1 HRs
  by_cases h : c.val < 15
  · rw [dif_pos h, dif_pos h, if_pos h, if_pos h]
    iintro ⟨HF, HT, HD, HG⟩
    isplitl
    · isplitl [HF]; iexact HF
      isplitl [HG]; iexact HG
      isplitl [HT] <;> iassumption
    iempintro
  · rw [dif_neg h, dif_neg h, if_neg h, if_neg h]
    iintro ⟨HF, -⟩
    isplitl []; iempintro
    iexact HF

theorem hr1_intro (c : Dev nD) : iprop(pts c cc0_scratch0 (tok 1) (C.kv c) ∗ TT c 4 Finset.univ ∗ d2 c ∗ HLs c) ⊢ iprop(hr1st C c ∗ if 0 < c.val then iprop(emp) else pts c cc0_scratch0 (tok 1) (C.kv c)) := by
  unfold hr1st d2 HLs
  by_cases h : 0 < c.val
  · rw [dif_pos h, dif_pos h, if_pos h, if_pos h]
    iintro ⟨HF, HT, HD, HG⟩
    isplitl
    · isplitl [HF]; iexact HF
      isplitl [HG]; iexact HG
      isplitl [HT] <;> iassumption
    iempintro
  · rw [dif_neg h, dif_neg h, if_neg h, if_neg h]
    iintro ⟨HF, -⟩
    isplitl []; iempintro
    iexact HF

theorem pr_intro (c : Dev nD) : iprop(pts c cc0_scratch4 fullShare (C.pw c) ∗ TT c (prk c) Finset.univ ∗ d37 c ∗ PPs c) ⊢ prst c (C.pw c) := by
  unfold prst d37 PPs
  by_cases h : c.val ≠ 0
  · rw [dif_pos h, dif_pos h, if_pos h]
    iintro ⟨HF, HT, HD, HG⟩
    isplitl [HF]; iexact HF
    isplitl [HG]; iexact HG
    isplitl [HT] <;> iassumption
  · rw [dif_neg h, dif_neg h, if_neg h]
    iintro ⟨HF, -⟩
    isplitl [HF]; iexact HF
    iempintro

end Cert.Exchange

end
-- ==== Proof.Parts.lean ====
module

public import proofs.«01_k».proof.Proof.Partial

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

set_option maxHeartbeats 2000000 in
/-- Step 37 of the body reads its buffers and leaves what it computed. -/
theorem part37_spec (c : Dev nD) (E : Env F) (hE : E.v2 = wd c) {q2 q3 q8 : PosShare TreeShare}  {Q : _ → sProp 𝕄} :
    iprop(pts c cc0_stg2_0 q2 E.k ∗ pts c cc0_stg3_0 q3 E.v ∗ pts c cc0_scratch2 q8 E.gq) ⊢ iprop((pts c cc0_stg2_0 q2 E.k ∗ pts c cc0_stg3_0 q3 E.v ∗ pts c cc0_scratch2 q8 E.gq -∗ Q ⟨(v94 E), (v99 E), (v101 E), (v119 E), (v124 E), (v126 E), (v129 E)⟩) -∗ wp frame (wpE (defs₀ (F := F)) 𝒱₀ (c : Thread nD τ) none) Set.univ (k0_part37 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v87 E) (v90 E)) Q) := by
  rw [k0_part37_eq_skeleton]
  unfold k0_part37_skel
  iintro ⟨H0, H1, H2⟩ HQ
  ihave H0 := (held_of c cc0_stg2_0 _ _) $$ H0
  ihave H1 := (held_of c cc0_stg3_0 _ _) $$ H1
  ihave H2 := (held_of c cc0_scratch2 _ _) $$ H2
  sl_exec
  rw [wp_ret]
  imodintro
  try unfold v94
  try unfold v99
  try unfold v101
  try unfold v119
  try unfold v124
  try unfold v126
  try unfold v129
  try unfold v127
  try unfold v109
  try unfold v105
  try unfold v102
  try unfold v2
  try rw [hE]
  iapply HQ
  isplitl [H0]; · iexact H0
  isplitl [H1]; · iexact H1
  iexact H2

set_option maxHeartbeats 2000000 in
/-- Step 38 of the body reads its buffers and leaves what it computed. -/
theorem part38_spec (c : Dev nD) (E : Env F) (hE : E.v2 = wd c) {q2 q3 q8 : PosShare TreeShare}  {Q : _ → sProp 𝕄} :
    iprop(pts c cc0_stg2_0 q2 E.k ∗ pts c cc0_stg3_0 q3 E.v ∗ pts c cc0_scratch2 q8 E.gq) ⊢ iprop((pts c cc0_stg2_0 q2 E.k ∗ pts c cc0_stg3_0 q3 E.v ∗ pts c cc0_scratch2 q8 E.gq -∗ Q ⟨(v144 E), (v149 E), (v151 E), (v162 E), (v165 E), (v168 E)⟩) -∗ wp frame (wpE (defs₀ (F := F)) 𝒱₀ (c : Thread nD τ) none) Set.univ (k0_part38 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v129 E)) Q) := by
  rw [k0_part38_eq_skeleton]
  unfold k0_part38_skel
  iintro ⟨H0, H1, H2⟩ HQ
  ihave H0 := (held_of c cc0_stg2_0 _ _) $$ H0
  ihave H1 := (held_of c cc0_stg3_0 _ _) $$ H1
  ihave H2 := (held_of c cc0_scratch2 _ _) $$ H2
  sl_exec
  rw [wp_ret]
  imodintro
  try unfold v144
  try unfold v149
  try unfold v151
  try unfold v162
  try unfold v165
  try unfold v168
  try unfold v159
  try unfold v155
  try unfold v152
  try unfold v134
  try unfold v130
  try unfold v2
  try rw [hE]
  iapply HQ
  isplitl [H0]; · iexact H0
  isplitl [H1]; · iexact H1
  iexact H2

set_option maxHeartbeats 2000000 in
/-- Step 39 of the body reads its buffers and leaves what it computed. -/
theorem part39_spec (c : Dev nD) (E : Env F) (hE : E.v2 = wd c) {q2 q3 q8 : PosShare TreeShare} (g10) {Q : _ → sProp 𝕄} :
    iprop(pts c cc0_stg2_0 q2 E.k ∗ pts c cc0_stg3_0 q3 E.v ∗ pts c cc0_scratch2 q8 E.gq ∗ pts c cc0_scratch4 fullShare g10) ⊢ iprop((pts c cc0_stg2_0 q2 E.k ∗ pts c cc0_stg3_0 q3 E.v ∗ pts c cc0_scratch2 q8 E.gq ∗ pts c cc0_scratch4 fullShare ((Memref.whole cc0_scratch4).view.writes (Elt F) g10 [⟨(Rect.unit (s := S2x32x384) ![0, 0, 0] S1x32x384.size inb_S2x32x384_S1x32x384_0_0_0), (k0_pay203 (v94 E) (v99 E) (v101 E) (v119 E) (v124 E) (v126 E) (v144 E) (v149 E) (v151 E) (v162 E) (v165 E) (v168 E))⟩]) -∗ Q ⟨(v200 E), (v205 E), (v207 E)⟩) -∗ wp frame (wpE (defs₀ (F := F)) 𝒱₀ (c : Thread nD τ) none) Set.univ (k0_part39 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v94 E) (v99 E) (v101 E) (v119 E) (v124 E) (v126 E) (v144 E) (v149 E) (v151 E) (v162 E) (v165 E) (v168 E)) Q) := by
  rw [k0_part39_eq_skeleton]
  unfold k0_part39_skel
  iintro ⟨H0, H1, H2, H3⟩ HQ
  ihave H0 := (held_of c cc0_stg2_0 _ _) $$ H0
  ihave H1 := (held_of c cc0_stg3_0 _ _) $$ H1
  ihave H2 := (held_of c cc0_scratch2 _ _) $$ H2
  ihave H3 := (held_of c cc0_scratch4 _ _) $$ H3
  sl_exec
  rw [wp_ret]
  imodintro
  try unfold v200
  try unfold v205
  try unfold v207
  try unfold v190
  try unfold v186
  try unfold v183
  try unfold v180
  try unfold v2
  try rw [hE]
  iapply HQ
  isplitl [H0]; · iexact H0
  isplitl [H1]; · iexact H1
  isplitl [H2]; · iexact H2
  iexact H3

set_option maxHeartbeats 2000000 in
/-- Step 40 of the body reads its buffers and leaves what it computed. -/
theorem part40_spec (c : Dev nD) (E : Env F) (hE : E.v2 = wd c) {q2 q3 q8 : PosShare TreeShare}  {Q : _ → sProp 𝕄} :
    iprop(pts c cc0_stg2_0 q2 E.k ∗ pts c cc0_stg3_0 q3 E.v ∗ pts c cc0_scratch2 q8 E.gq) ⊢ iprop((pts c cc0_stg2_0 q2 E.k ∗ pts c cc0_stg3_0 q3 E.v ∗ pts c cc0_scratch2 q8 E.gq -∗ Q ⟨(v225 E), (v230 E), (v232 E), (v235 E), (v239 E), (v243 E), (cst_148 E)⟩) -∗ wp frame (wpE (defs₀ (F := F)) 𝒱₀ (c : Thread nD τ) none) Set.univ (k0_part40 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part40_eq_skeleton]
  unfold k0_part40_skel
  iintro ⟨H0, H1, H2⟩ HQ
  ihave H0 := (held_of c cc0_stg2_0 _ _) $$ H0
  ihave H1 := (held_of c cc0_stg3_0 _ _) $$ H1
  ihave H2 := (held_of c cc0_scratch2 _ _) $$ H2
  sl_exec
  rw [wp_ret]
  imodintro
  try unfold part40_spec.sl.cst_148
  try unfold v225
  try unfold v230
  try unfold v232
  try unfold v235
  try unfold v239
  try unfold v243
  try unfold cst_148
  try unfold v240
  try unfold v236
  try unfold v233
  try unfold v215
  try unfold v211
  try unfold v208
  try unfold v2
  try rw [hE]
  iapply HQ
  isplitl [H0]; · iexact H0
  isplitl [H1]; · iexact H1
  iexact H2

set_option maxHeartbeats 2000000 in
/-- Step 41 of the body reads its buffers and leaves what it computed. -/
theorem part41_spec (c : Dev nD) (E : Env F) (hE : E.v2 = wd c) {q2 q3 q8 : PosShare TreeShare}  {Q : _ → sProp 𝕄} :
    iprop(pts c cc0_stg2_0 q2 E.k ∗ pts c cc0_stg3_0 q3 E.v ∗ pts c cc0_scratch2 q8 E.gq) ⊢ iprop((pts c cc0_stg2_0 q2 E.k ∗ pts c cc0_stg3_0 q3 E.v ∗ pts c cc0_scratch2 q8 E.gq -∗ Q (v284 E)) -∗ wp frame (wpE (defs₀ (F := F)) 𝒱₀ (c : Thread nD τ) none) Set.univ (k0_part41 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v200 E) (v205 E) (v207 E) (v225 E) (v230 E) (v232 E) (v235 E) (v239 E) (v243 E) (cst_148 E)) Q) := by
  rw [k0_part41_eq_skeleton]
  unfold k0_part41_skel
  iintro ⟨H0, H1, H2⟩ HQ
  ihave H0 := (held_of c cc0_stg2_0 _ _) $$ H0
  ihave H1 := (held_of c cc0_stg3_0 _ _) $$ H1
  ihave H2 := (held_of c cc0_scratch2 _ _) $$ H2
  sl_exec
  rw [wp_ret]
  imodintro
  try unfold v284
  try unfold v265
  try unfold v261
  try unfold v258
  try unfold v2
  try rw [hE]
  iapply HQ
  isplitl [H0]; · iexact H0
  isplitl [H1]; · iexact H1
  iexact H2

set_option maxHeartbeats 2000000 in
/-- Step 43 of the body reads its buffers and leaves what it computed. -/
theorem part43_spec (c : Dev nD) (E : Env F) (hE : E.v2 = wd c) {q2 q7 q9 : PosShare TreeShare}  {Q : _ → sProp 𝕄} :
    iprop(pts c cc0_stg2_0 q2 E.k ∗ pts c cc0_scratch1 q7 E.hl ∗ pts c cc0_scratch3 q9 E.gk) ⊢ iprop((pts c cc0_stg2_0 q2 E.k ∗ pts c cc0_scratch1 q7 E.hl ∗ pts c cc0_scratch3 q9 E.gk -∗ Q ⟨(v337 E), (v338 E), (v350 E), (v353 E)⟩) -∗ wp frame (wpE (defs₀ (F := F)) 𝒱₀ (c : Thread nD τ) none) Set.univ (k0_part43 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (wd c) (v302 E) (v305 E) (v309 E) (v317 E) (v321 E)) Q) := by
  rw [k0_part43_eq_skeleton]
  unfold k0_part43_skel
  iintro ⟨H0, H1, H2⟩ HQ
  ihave H0 := (held_of c cc0_stg2_0 _ _) $$ H0
  ihave H1 := (held_of c cc0_scratch1 _ _) $$ H1
  ihave H2 := (held_of c cc0_scratch3 _ _) $$ H2
  sl_exec
  rw [wp_ret]
  imodintro
  try unfold v337
  try unfold v338
  try unfold v350
  try unfold v353
  try unfold v351
  try unfold v348
  try unfold v345
  try unfold v342
  try unfold v339
  try unfold v2
  try rw [hE]
  iapply HQ
  isplitl [H0]; · iexact H0
  isplitl [H1]; · iexact H1
  iexact H2

set_option maxHeartbeats 2000000 in
/-- Step 44 of the body reads its buffers and leaves what it computed. -/
theorem part44_spec (c : Dev nD) (E : Env F) (hE : E.v2 = wd c) {q3 q7 q9 : PosShare TreeShare}  {Q : _ → sProp 𝕄} :
    iprop(pts c cc0_stg3_0 q3 E.v ∗ pts c cc0_scratch1 q7 E.hl ∗ pts c cc0_scratch3 q9 E.gk) ⊢ iprop((pts c cc0_stg3_0 q3 E.v ∗ pts c cc0_scratch1 q7 E.hl ∗ pts c cc0_scratch3 q9 E.gk -∗ Q ⟨(v362 E), (v382 E), (v386 E), (v395 E)⟩) -∗ wp frame (wpE (defs₀ (F := F)) 𝒱₀ (c : Thread nD τ) none) Set.univ (k0_part44 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v40 E) (v337 E) (v338 E) (v350 E) (v353 E)) Q) := by
  rw [k0_part44_eq_skeleton]
  unfold k0_part44_skel
  iintro ⟨H0, H1, H2⟩ HQ
  ihave H0 := (held_of c cc0_stg3_0 _ _) $$ H0
  ihave H1 := (held_of c cc0_scratch1 _ _) $$ H1
  ihave H2 := (held_of c cc0_scratch3 _ _) $$ H2
  sl_exec
  rw [wp_ret]
  imodintro
  try unfold v362
  try unfold v382
  try unfold v386
  try unfold v395
  try unfold v360
  try unfold v357
  try unfold v354
  try unfold v2
  try rw [hE]
  iapply HQ
  isplitl [H0]; · iexact H0
  isplitl [H1]; · iexact H1
  iexact H2

/-- Step 45 of the body only computes. -/
theorem part45_spec (c : Dev nD) (E : Env F) (hE : E.v2 = wd c) {Q : _ → sProp 𝕄} :
    Q ⟨(v402 E), (v422 E), (v426 E), (v441 E), (cst_239 E)⟩ ⊢ wp frame (wpE (defs₀ (F := F)) 𝒱₀ (c : Thread nD τ) none) Set.univ (k0_part45 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v40 E) (v337 E) (v350 E) (v362 E) (v386 E) (v395 E)) Q := by
  rw [k0_part45_eq_skeleton]
  unfold k0_part45_skel
  iintro HQ
  dsimp only
  rw [Prog.pure_eq_ret, wp_ret]
  imodintro
  try unfold part45_spec.sl.cst_239
  try unfold v402
  try unfold v422
  try unfold v426
  try unfold v441
  try unfold cst_239
  try unfold v2
  try rw [hE]
  iexact HQ

set_option maxHeartbeats 2000000 in
/-- Step 46 of the body reads its buffers and leaves what it computed. -/
theorem part46_spec (c : Dev nD) (E : Env F) (hE : E.v2 = wd c) {q2 q3 q4 q7 q9 : PosShare TreeShare} (g5) {Q : _ → sProp 𝕄} :
    iprop(pts c cc0_stg2_0 q2 E.k ∗ pts c cc0_stg3_0 q3 E.v ∗ pts c cc0_stg4_0 q4 E.wo ∗ pts c cc0_scratch1 q7 E.hl ∗ pts c cc0_scratch3 q9 E.gk ∗ pts c cc0_stg5_0 fullShare g5) ⊢ iprop((pts c cc0_stg2_0 q2 E.k ∗ pts c cc0_stg3_0 q3 E.v ∗ pts c cc0_stg4_0 q4 E.wo ∗ pts c cc0_scratch1 q7 E.hl ∗ pts c cc0_scratch3 q9 E.gk ∗ pts c cc0_stg5_0 fullShare ((Memref.whole cc0_stg5_0).view.writes (Elt F) g5 [⟨(Rect.unit (s := S2x128x512) ![0, 0, 0] S1x128x512.size inb_S2x128x512_S1x128x512_0_0_0), (k0_pay235 (v382 E) (v402 E) (v422 E) (v426 E) (v441 E) (cst_239 E) (v444 E))⟩]) -∗ Q ⟨(v461 E), (v464 E), (v467 E), (v468 E)⟩) -∗ wp frame (wpE (defs₀ (F := F)) 𝒱₀ (c : Thread nD τ) none) Set.univ (k0_part46 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v338 E) (v382 E) (v402 E) (v422 E) (v426 E) (v441 E) (cst_239 E)) Q) := by
  rw [k0_part46_eq_skeleton]
  unfold k0_part46_skel
  iintro ⟨H0, H1, H2, H3, H4, H5⟩ HQ
  ihave H0 := (held_of c cc0_stg2_0 _ _) $$ H0
  ihave H1 := (held_of c cc0_stg3_0 _ _) $$ H1
  ihave H2 := (held_of c cc0_stg4_0 _ _) $$ H2
  ihave H3 := (held_of c cc0_scratch1 _ _) $$ H3
  ihave H4 := (held_of c cc0_scratch3 _ _) $$ H4
  ihave H5 := (held_of c cc0_stg5_0 _ _) $$ H5
  sl_exec
  rw [wp_ret]
  imodintro
  try unfold v461
  try unfold v464
  try unfold v467
  try unfold v468
  try unfold v465
  try unfold v462
  try unfold v459
  try unfold v456
  try unfold v453
  try unfold v450
  try unfold v444
  try unfold v2
  try rw [hE]
  iapply HQ
  isplitl [H0]; · iexact H0
  isplitl [H1]; · iexact H1
  isplitl [H2]; · iexact H2
  isplitl [H3]; · iexact H3
  isplitl [H4]; · iexact H4
  iexact H5

set_option maxHeartbeats 2000000 in
/-- Step 47 of the body reads its buffers and leaves what it computed. -/
theorem part47_spec (c : Dev nD) (E : Env F) (hE : E.v2 = wd c) {q9 : PosShare TreeShare}  {Q : _ → sProp 𝕄} :
    iprop(pts c cc0_scratch3 q9 E.gk) ⊢ iprop((pts c cc0_scratch3 q9 E.gk -∗ Q ⟨(v473 E), (v493 E), (v497 E), (v512 E), (cst_287 E)⟩) -∗ wp frame (wpE (defs₀ (F := F)) 𝒱₀ (c : Thread nD τ) none) Set.univ (k0_part47 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v45 E) (v337 E) (v338 E) (v461 E) (v464 E) (v467 E) (v468 E)) Q) := by
  rw [k0_part47_eq_skeleton]
  unfold k0_part47_skel
  iintro H0 HQ
  ihave H0 := (held_of c cc0_scratch3 _ _) $$ H0
  sl_exec
  rw [wp_ret]
  imodintro
  try unfold part47_spec.sl.cst_287
  try unfold v473
  try unfold v493
  try unfold v497
  try unfold v512
  try unfold cst_287
  try unfold v471
  try unfold v2
  try rw [hE]
  iapply HQ
  iexact H0

set_option maxHeartbeats 2000000 in
/-- Step 48 of the body reads its buffers and leaves what it computed. -/
theorem part48_spec (c : Dev nD) (E : Env F) (hE : E.v2 = wd c) {q4 : PosShare TreeShare}  {Q : _ → sProp 𝕄} :
    iprop(pts c cc0_stg4_0 q4 E.wo) ⊢ iprop((pts c cc0_stg4_0 q4 E.wo -∗ Q (v557 E)) -∗ wp frame (wpE (defs₀ (F := F)) 𝒱₀ (c : Thread nD τ) none) Set.univ (k0_part48 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (v45 E) (v337 E) (v461 E) (v473 E) (v493 E) (v497 E) (v512 E) (cst_287 E)) Q) := by
  rw [k0_part48_eq_skeleton]
  unfold k0_part48_skel
  iintro H0 HQ
  ihave H0 := (held_of c cc0_stg4_0 _ _) $$ H0
  sl_exec
  rw [wp_ret]
  imodintro
  try unfold v557
  try unfold v555
  try unfold v2
  try rw [hE]
  iapply HQ
  iexact H0

end Cert.Exchange

end
-- ==== Proof.Middle.lean ====
module

public import proofs.«01_k».proof.Proof.Regroup
public import proofs.«01_k».proof.Proof.Parts
public import proofs.«01_k».proof.Proof.WritesEq

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

variable (C : Cont F) (K : Dev nD × Fin 53 → ℕ)

/-- The share of a broadcast buffer the device may read: the first device keeps a part until its transfers are done. -/
def shG (c : Dev nD) : PosShare TreeShare := if c.val = 0 then kept 15 else fullShare

theorem got_q (c : Dev nD) : iprop(kp0 c cc0_scratch2 C.gq ∗ wOut C c 20 (c.val ≠ 0)) ⊢ iprop(zer c 20 ∗ pts c cc0_scratch2 (shG c) C.gq) := by
  unfold kp0 wOut shG
  by_cases h : c.val = 0
  · rw [if_pos h, if_pos h, if_neg (not_not.mpr h)]
    iintro ⟨H, Hz, -⟩; isplitl [Hz] <;> iassumption
  · rw [if_neg h, if_neg h, if_pos h, show (xferPay C c (20 : Fin 53).val : sProp 𝕄) = pts c cc0_scratch2 fullShare C.gq from rfl]
    iintro ⟨-, Hz, H⟩; isplitl [Hz]; iexact Hz
    iexact H
theorem got_k (c : Dev nD) : iprop(kp0 c cc0_scratch3 C.gk ∗ wOut C c 36 (c.val ≠ 0)) ⊢ iprop(zer c 36 ∗ pts c cc0_scratch3 (shG c) C.gk) := by
  unfold kp0 wOut shG
  by_cases h : c.val = 0
  · rw [if_pos h, if_pos h, if_neg (not_not.mpr h)]
    iintro ⟨H, Hz, -⟩; isplitl [Hz] <;> iassumption
  · rw [if_neg h, if_neg h, if_pos h, show (xferPay C c (36 : Fin 53).val : sProp 𝕄) = pts c cc0_scratch3 fullShare C.gk from rfl]
    iintro ⟨-, Hz, H⟩; isplitl [Hz]; iexact Hz
    iexact H

theorem fl0_of_gst (c : Dev nD) (f g) : (gst c f g : sProp 𝕄) ⊢ iprop(fl0 c cc0_scratch2 f ∗ fl0 c cc0_scratch3 g) := by
  unfold gst fl0
  by_cases h : c.val = 0
  · rw [if_pos h, if_pos h, if_pos h]
  · rw [if_neg h, if_neg h, if_neg h]; iintro -; isplitl [] <;> iempintro

theorem above_mono {n m : ℕ} (h : n ≤ m) {O : CellTallies nD τ sig Unit} (hO : Above m O) : Above n O := fun g u hg => by
  obtain ⟨t, k, e, hk⟩ := hO g u hg; exact ⟨t, k, e, lt_of_le_of_lt h hk⟩

/-- A store at the head of a program. -/
theorem stw (c : Dev nD) {s : Shape} {e : EltTy} (m : Memref sig .tc .vmem s e) {f : Buf (Elt F) (m.view.loc (c : Thread nD τ))} {r : Rect s} {w : r.shape.Idx → Elt F e} {hl hx}
    {α : Type} {Q : α → sProp 𝕄} {k : PUnit → Prog (TpuEff nD τ sig (Elt F) Λ₀ .tc) α} :
    (m.view.loc (c : Thread nD τ) ↦{fullShare} f : sProp 𝕄) ⊢ iprop(((m.view.loc (c : Thread nD τ) ↦{fullShare} (m.view.writes (Elt F) f [⟨r, w⟩])) -∗ wp frame (wpE (defs₀ (F := F)) 𝒱₀ (c : Thread nD τ) none) Set.univ (k ⟨⟩) Q) -∗ wp frame (wpE (defs₀ (F := F)) 𝒱₀ (c : Thread nD τ) none) Set.univ (Prog.lift (.store m r w Finset.univ hl hx) >>= k) Q) := by
  simp only [Prog.lift, Prog.bind_op, Prog.bind_ret]
  exact wp_store 𝒱₀ (c : Thread nD τ) none Set.univ (m := m) (r := r) (Mk := Finset.univ) (Finset.subset_univ _)

theorem hl1_intro (c : Dev nD) (A B A' B' : sProp 𝕄) : iprop((if c.val < 15 then A else iprop(emp)) ∗ (if 0 < c.val then B else iprop(emp)) ∗ (if c.val < 15 then iprop(emp) else A') ∗ (if 0 < c.val then iprop(emp) else B')) ⊢ iprop((if c.val < 15 then A else A') ∗ (if 0 < c.val then B else B')) := by
  by_cases h : c.val < 15 <;> by_cases h' : 0 < c.val
  · rw [if_pos h, if_pos h', if_pos h, if_pos h', if_pos h, if_pos h']; iintro ⟨H1, H2, -, -⟩; isplitl [H1] <;> iassumption
  · rw [if_pos h, if_neg h', if_pos h, if_neg h', if_pos h, if_neg h']; iintro ⟨H1, -, -, H2⟩; isplitl [H1] <;> iassumption
  · rw [if_neg h, if_pos h', if_neg h, if_pos h', if_neg h, if_pos h']; iintro ⟨-, H2, H1, -⟩; isplitl [H1] <;> iassumption
  · rw [if_neg h, if_neg h', if_neg h, if_neg h', if_neg h, if_neg h']; iintro ⟨-, -, H1, H2⟩; isplitl [H1] <;> iassumption

/-- What is left of the device's tokens of the halo sends. -/
def hl1 (c : Dev nD) : sProp 𝕄 := iprop((if c.val < 15 then crd c 1 (amt 1) else pts c cc0_scratch0 (tok 0) (C.kv c)) ∗ (if 0 < c.val then crd c 2 (amt 2) else pts c cc0_scratch0 (tok 1) (C.kv c)))

set_option maxHeartbeats 2000000 in
/-- The barrier is passed and the broadcasts and the halo transfers start; the broadcast queries arrive. -/
theorem part36_spec (c : Dev nD) (E : Env F) (hgq : E.gq = C.gq) (O : CellTallies nD τ sig Unit) (hO : Above 2 O) {Q : _ → sProp 𝕄} :
    iprop(know C K ∗ ow c ((((O + OO c 36 Finset.univ) + OO c 4 Finset.univ) + OO c 3 Finset.univ) + OO c 20 Finset.univ) ∗ barSt c (c.val = 0 ∨ c.val = 1 ∨ c.val = 15) ∗ gst c C.gq C.gk
      ∗ (TT c 20 Finset.univ ∗ dq c) ∗ (TT c 36 Finset.univ ∗ dk c) ∗ (TT c 3 Finset.univ ∗ d1 c) ∗ (TT c 4 Finset.univ ∗ d2 c) ∗ wIn c 20 (c.val ≠ 0)
      ∗ pts c cc0_scratch0 fullShare (C.kv c) ∗ pts c cc0_stg2_0 fullShare E.k ∗ pts c cc0_stg3_0 fullShare E.v)
    ⊢ iprop((ow c O ∗ zer c 0 ∗ PPs c ∗ qst C c 0 ∗ kst C c 0 ∗ hl1 C c ∗ zer c 20 ∗ kp0 c cc0_scratch3 C.gk ∗ pts c cc0_scratch2 (shG c) E.gq ∗ pts c cc0_scratch0 (kept 2) (C.kv c) ∗ pts c cc0_stg2_0 fullShare E.k ∗ pts c cc0_stg3_0 fullShare E.v -∗ Q ⟨v87 E, v90 E⟩)
      -∗ wp frame (wpE (defs₀ (F := F)) 𝒱₀ (c : Thread nD τ) none) Set.univ (k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c (wd c) (SemArray.scalar (sig.barrier 0 rfl) : Sems sig S_) (Scalar.andi (Scalar.cmpi .sgt (wd c) 1#32) (Scalar.cmpi .slt (wd c) 15#32))) Q) := by
  rw [k0_part36_eq_skeleton]
  unfold k0_part36_skel
  iintro ⟨#Hk, HO, HB, HG, ⟨HT20, HD20⟩, ⟨HT36, HD36⟩, ⟨HT3, HD3⟩, ⟨HT4, HD4⟩, HW, Hkv, HK, HV⟩ HQ
  dsimp only
  iapply (seg10 C K c _ (above_add (above_add (above_add (above_add (above_mono (by decide) hO) (above_OO c 36 _ (by decide))) (above_OO c 4 _ (by decide))) (above_OO c 3 _ (by decide))) (above_OO c 20 _ (by decide))) _) $$ [HO HB]
  · isplitl []; iexact Hk
    isplitl [HO] <;> iassumption
  iintro ⟨HO, HB⟩
  ihave HB := (bar_gets c) $$ HB
  icases HB with ⟨Hz0, HP, ⟨HGQ, HGK⟩, HHL, HHR⟩
  ihave HG := (fl0_of_gst c _ _) $$ HG
  icases HG with ⟨HG2, HG3⟩
  ihave HS := (q_intro C c) $$ [HG2 HT20 HD20 HGQ]
  · isplitl [HG2]; iexact HG2
    isplitl [HT20]; iexact HT20
    isplitl [HD20] <;> iassumption
  icases HS with ⟨HS, HG2⟩
  iapply (seg11 C K c _ _) $$ [HO HS]
  · isplitl []; iexact Hk
    isplitl [HO] <;> iassumption
  iintro ⟨HO, HSq⟩
  ihave Hkv := (Entails.of_eq (toks2 c cc0_scratch0 (C.kv c))) $$ Hkv
  icases Hkv with ⟨Hkv, Hk0, Hk1⟩
  ihave H0 := (hr0_intro C c) $$ [Hk0 HT3 HD3 HHR]
  · isplitl [Hk0]; iexact Hk0
    isplitl [HT3]; iexact HT3
    isplitl [HD3] <;> iassumption
  icases H0 with ⟨H0, HR0⟩
  iapply (seg12 C K c _ _) $$ [HO H0]
  · isplitl []; iexact Hk
    isplitl [HO] <;> iassumption
  iintro ⟨HO, Hc1⟩
  ihave H1 := (hr1_intro C c) $$ [Hk1 HT4 HD4 HHL]
  · isplitl [Hk1]; iexact Hk1
    isplitl [HT4]; iexact HT4
    isplitl [HD4] <;> iassumption
  icases H1 with ⟨H1, HR1⟩
  iapply (seg13 C K c _ _) $$ [HO H1]
  · isplitl []; iexact Hk
    isplitl [HO] <;> iassumption
  iintro ⟨HO, Hc2⟩
  ihave HS := (k_intro C c) $$ [HG3 HT36 HD36 HGK]
  · isplitl [HG3]; iexact HG3
    isplitl [HT36]; iexact HT36
    isplitl [HD36] <;> iassumption
  icases HS with ⟨HS, HG3⟩
  iapply (seg14 C K c _ _) $$ [HO HS]
  · isplitl []; iexact Hk
    isplitl [HO] <;> iassumption
  iintro ⟨HO, HSk⟩
  iapply (seg15 C K c _ hO _) $$ [HO HW]
  · isplitl []; iexact Hk
    isplitl [HO] <;> iassumption
  iintro ⟨HO, HW⟩
  ihave HW := (got_q C c) $$ [HG2 HW]
  · isplitl [HG2] <;> iassumption
  icases HW with ⟨Hz20, HG2⟩
  rw [← hgq]
  iapply (ld c (Memref.whole cc0_scratch2) (shG c) E.gq) $$ [HG2]
  · iexact HG2
  iintro HG2
  iapply (ld c (Memref.whole cc0_stg2_0) fullShare E.k) $$ [HK]
  · iexact HK
  iintro HK
  iapply (ld c (Memref.whole cc0_stg3_0) fullShare E.v) $$ [HV]
  · iexact HV
  iintro HV
  rw [Prog.pure_eq_ret, wp_ret]
  imodintro
  unfold v87 v90 v84 v80 v77
  iapply HQ
  isplitl [HO]; iexact HO
  isplitl [Hz0]; iexact Hz0
  isplitl [HP]; iexact HP
  isplitl [HSq]; iexact HSq
  isplitl [HSk]; iexact HSk
  isplitl [Hc1 Hc2 HR0 HR1]
  · unfold hl1
    iapply (hl1_intro c _ _ _ _)
    isplitl [Hc1]; iexact Hc1
    isplitl [Hc2]; iexact Hc2
    isplitl [HR0] <;> iassumption
  isplitl [Hz20]; iexact Hz20
  isplitl [HG3]; iexact HG3
  isplitl [HG2]; iexact HG2
  isplitl [Hkv]; iexact Hkv
  isplitl [HK] <;> iassumption

theorem halo_join (c : Dev nD) : iprop(zst0 c (C.halo c) ∗ zst1 c (C.halo c) ∗ wOut C c 3 (0 < c.val) ∗ wOut C c 4 (c.val < 15)) ⊢ iprop(zer c 3 ∗ zer c 4 ∗ pts c cc0_scratch1 fullShare (C.halo c)) := by
  unfold zst0 zst1 wOut
  have hj : (iprop(ptsOn c cc0_scratch1 (hset 0) fullShare (C.halo c) ∗ ptsOn c cc0_scratch1 (hset 1) fullShare (C.halo c)) : sProp 𝕄) ⊢ pts c cc0_scratch1 fullShare (C.halo c) := by
    have hd : Disjoint (hset 0) (hset 1) := by
      rw [Finset.disjoint_left]; intro x hi hj
      unfold hset at hi hj
      exact absurd ((Finset.mem_filter.mp hi).2.symm.trans (Finset.mem_filter.mp hj).2) (by decide)
    have hu : hset 0 ∪ hset 1 = Finset.univ := by
      ext x
      simp only [Finset.mem_union, Finset.mem_univ, iff_true]
      unfold hset
      simp only [Finset.mem_filter, Finset.mem_univ, true_and]
      have := (x 0).isLt
      change (x 0).val < 2 at this
      change (x 0).val = 0 ∨ (x 0).val = 1
      omega
    have := pointsTo_union (nD := nD) (τ := τ) (sig := sig) (Ix := Unit) (Val := Elt F) (Name := ℕ) (U := UU) (Lvl := ℕ) (ℓ := (c : Thread nD τ).loc cc0_scratch1) (q := fullShare) (f := C.halo c) hd
    rw [hu] at this
    exact this.2
  have x3 : (xferPay C c (3 : Fin 53).val : sProp 𝕄) = ptsOn c cc0_scratch1 (hset 0) fullShare (C.halo c) := rfl
  have x4 : (xferPay C c (4 : Fin 53).val : sProp 𝕄) = ptsOn c cc0_scratch1 (hset 1) fullShare (C.halo c) := rfl
  rw [x3, x4]
  have hlt := c.isLt
  change c.val < 16 at hlt
  by_cases h0 : c.val = 0
  · rw [if_pos h0, if_neg (by omega : ¬ c.val = 15), if_neg (by omega : ¬ 0 < c.val), if_pos (by omega : c.val < 15)]
    iintro ⟨H0, -, ⟨Hz, -⟩, Hz', H1⟩
    isplitl [Hz]; iexact Hz
    isplitl [Hz']; iexact Hz'
    iapply hj; isplitl [H0] <;> iassumption
  · by_cases h1 : c.val = 15
    · rw [if_neg h0, if_pos h1, if_pos (by omega : 0 < c.val), if_neg (by omega : ¬ c.val < 15)]
      iintro ⟨-, H1, ⟨Hz, H0⟩, Hz', -⟩
      isplitl [Hz]; iexact Hz
      isplitl [Hz']; iexact Hz'
      iapply hj; isplitl [H0] <;> iassumption
    · rw [if_neg h0, if_neg h1, if_pos (by omega : 0 < c.val), if_pos (by omega : c.val < 15)]
      iintro ⟨-, -, ⟨Hz, H0⟩, Hz', H1⟩
      isplitl [Hz]; iexact Hz
      isplitl [Hz']; iexact Hz'
      iapply hj; isplitl [H0] <;> iassumption

set_option maxHeartbeats 2000000 in
/-- The partial result is complete and leaves; the halo blocks and the broadcast keys and values arrive. -/
theorem part42_spec (c : Dev nD) (E : Env F) (hE : E.v2 = wd c) (hpw : C.pw c = pwF E) (hgk : E.gk = C.gk) (hhl : E.hl = C.halo c) (g : (cc0_scratch4 : Ref sig .tc).ty.Contents (Elt F)) {Q : _ → sProp 𝕄} :
    iprop(know C K ∗ ow c (0 + OO c (prk c) Finset.univ) ∗ (TT c (prk c) Finset.univ ∗ d37 c ∗ PPs c) ∗ (wIn c 3 (0 < c.val) ∗ wIn c 4 (c.val < 15) ∗ wIn c 36 (c.val ≠ 0)) ∗ zst0 c (C.halo c) ∗ zst1 c (C.halo c) ∗ kp0 c cc0_scratch3 C.gk
      ∗ pts c cc0_scratch4 fullShare ((Memref.whole cc0_scratch4).view.writes (Elt F) g [⟨Rect.unit (s := S2x32x384) ![0, 0, 0] S1x32x384.size inb_S2x32x384_S1x32x384_0_0_0, (k0_pay203 (v94 E) (v99 E) (v101 E) (v119 E) (v124 E) (v126 E) (v144 E) (v149 E) (v151 E) (v162 E) (v165 E) (v168 E))⟩]))
    ⊢ iprop((ow c 0 ∗ (zer c 3 ∗ zer c 4 ∗ zer c 36) ∗ prout C c ∗ pts c cc0_scratch1 fullShare E.hl ∗ pts c cc0_scratch3 (shG c) E.gk -∗ Q ⟨v302 E, v305 E, v309 E, v317 E, v321 E⟩)
      -∗ wp frame (wpE (defs₀ (F := F)) 𝒱₀ (c : Thread nD τ) none) Set.univ (k0_part42 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c (wd c) (v284 E)) Q) := by
  rw [k0_part42_eq_skeleton]
  unfold k0_part42_skel
  iintro ⟨#Hk, HO, HD, ⟨HW3, HW4, HW36⟩, HZ0, HZ1, HG3, HP⟩ HQ
  dsimp only
  iapply (ld c (Memref.whole cc0_scratch4) fullShare _) $$ [HP]
  · iexact HP
  iintro HP
  iapply (stw c (Memref.whole cc0_scratch4)) $$ [HP]
  · iexact HP
  iintro HP
  ihave HP := (Entails.of_eq (congrArg (fun g => (pts c cc0_scratch4 fullShare g : sProp 𝕄)) ((pw_writes g E).trans hpw.symm))) $$ [HP]
  · iexact HP
  ihave HP := (pr_intro C c) $$ [HP HD]
  · isplitl [HP] <;> iassumption
  iapply (seg16 C K c 0 _) $$ [HO HP]
  · isplitl []; iexact Hk
    isplitl [HO] <;> iassumption
  iintro ⟨HO, HP⟩
  iapply (seg17 C K c 0 (above_zero _) _) $$ [HO HW3]
  · isplitl []; iexact Hk
    isplitl [HO] <;> iassumption
  iintro ⟨HO, HW3⟩
  iapply (seg18 C K c 0 (above_zero _) _) $$ [HO HW4]
  · isplitl []; iexact Hk
    isplitl [HO] <;> iassumption
  iintro ⟨HO, HW4⟩
  iapply (seg19 C K c 0 (above_zero _) _) $$ [HO HW36]
  · isplitl []; iexact Hk
    isplitl [HO] <;> iassumption
  iintro ⟨HO, HW36⟩
  ihave HH := (halo_join C c) $$ [HZ0 HZ1 HW3 HW4]
  · isplitl [HZ0]; iexact HZ0
    isplitl [HZ1]; iexact HZ1
    isplitl [HW3] <;> iassumption
  icases HH with ⟨Hz3, Hz4, HH⟩
  ihave HG := (got_k C c) $$ [HG3 HW36]
  · isplitl [HG3] <;> iassumption
  icases HG with ⟨Hz36, HG⟩
  rw [Prog.pure_eq_ret, wp_ret]
  imodintro
  rw [hgk, hhl]
  unfold v302 v305 v309 v317 v321 v2
  rw [hE]
  iapply HQ
  isplitl [HO]; iexact HO
  isplitl [Hz3 Hz4 Hz36]; · isplitl [Hz3]; iexact Hz3
                            isplitl [Hz4] <;> iassumption
  isplitl [HP]; iexact HP
  isplitl [HH] <;> iassumption

end Cert.Exchange

end
-- ==== Proof.Merge.lean ====
module

public import proofs.«01_k».proof.Proof.Middle

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

variable (C : Cont F) (K : Dev nD × Fin 53 → ℕ)

/-- The output block: on the first device the merged rows stand over its first rows. -/
def oc (c : Dev nD) (E : Env F) : (cc0_stg5_0 : Ref sig .tc).ty.Contents (Elt F) := if c.val = 0 then omF E else obF E

theorem close_all {I : Type} [DecidableEq I] (S : Finset I) (c : Dev nD) (g : I → Fin 53) (h : ∀ i ∈ S, ∀ d, pays d c (g i).val = false) :
    iprop(know C K ∗ bigSep S (fun i => at0 c (g i))) ⊢ |={Set.univ}=> (bigSep S (fun i => zer c (g i)) : sProp 𝕄) := by
  induction S using Finset.induction_on with
  | empty =>
    rw [bigSep_empty, bigSep_empty]; iintro ⟨-, H⟩; imodintro; iexact H
  | insert i S hi ih =>
    rw [bigSep_insert hi, bigSep_insert hi]
    show iprop(know C K ∗ (at0 c (g i) ∗ bigSep _ _)) ⊢ |={Set.univ}=> iprop(zer c (g i) ∗ bigSep _ _)
    iintro ⟨#Hk, Ha, HS⟩
    imod (close_step C K c (g i) (h i (Finset.mem_insert_self _ _))) $$ [Ha] with Hz
    · isplitl []; iexact Hk
      iexact Ha
    imod (ih (fun j hj => h j (Finset.mem_insert_of_mem hj))) $$ [HS] with HS
    · isplitl []; iexact Hk
      iexact HS
    imodintro
    isplitl [Hz] <;> iassumption

theorem wb_intro (c : Dev nD) (g : Fin 15 → Fin 53) : iprop(bigSep Finset.univ (fun j => at0 c (g j)) ∗ bigSep Finset.univ (fun j => crd c (g j) (amt (g j).val))) ⊢ (wb C c g 0 : sProp 𝕄) := by
  unfold wb
  rw [Lo_zero, bigSep_empty, Finset.sdiff_empty]
  have := bigSep_sep' (Finset.univ : Finset (Fin 15)) (fun j => (at0 c (g j) : sProp 𝕄)) (fun j => (crd c (g j) (amt (g j).val) : sProp 𝕄))
  iintro H
  isplitl [H]
  · iapply (Entails.of_eq (this : _ = iprop(_ ∗ _)).symm); iexact H
  iempintro
theorem nopay_pr : ∀ c : Dev nD, c.val ≠ 0 → ∀ j ∈ (Finset.univ : Finset (Fin 15)), ∀ d, pays d c (kpr j).val = false := by decide
theorem nopay_gq : ∀ c : Dev nD, c.val ≠ 0 → ∀ j ∈ (Finset.univ : Finset (Fin 15)), ∀ d, pays d c (kgqs j).val = false := by decide
theorem nopay_gk : ∀ c : Dev nD, c.val ≠ 0 → ∀ j ∈ (Finset.univ : Finset (Fin 15)), ∀ d, pays d c (kgks j).val = false := by decide

/-- The credits of the first device's cells. -/
def cs0 (c : Dev nD) (g : Fin 15 → Fin 53) : sProp 𝕄 := if c.val = 0 then bigSep Finset.univ (fun j => crd c (g j) (amt (g j).val)) else iprop(emp)

set_option maxHeartbeats 8000000 in
/-- The first device collects the partial results and merges them into its first rows. -/
theorem seg20 (c : Dev nD) (E : Env F) (hE : E.v2 = wd c) (hpw : C.pw c = E.pw) (hpp : E.pp = C.pp) {α : Type} {Q : α → sProp 𝕄} (k : Prog (TpuEff nD τ sig (Elt F) Λ₀ .tc) α) :
    iprop(know C K ∗ ow c 0 ∗ bigSep Finset.univ (fun j => at0 c (kpr j)) ∗ cs0 c kpr ∗ prout C c ∗ pts c cc0_stg4_0 fullShare E.wo ∗ pts c cc0_stg5_0 fullShare (obF E))
    ⊢ iprop((ow c 0 ∗ bigSep Finset.univ (fun j => zer c (kpr j)) ∗ fl0 c cc0_scratch5 C.pp ∗ prout C c ∗ pts c cc0_stg4_0 fullShare E.wo ∗ pts c cc0_stg5_0 fullShare (oc c E) -∗ wp frame (wpE (defs₀ (F := F)) 𝒱₀ (c : Thread nD τ) none) Set.univ k Q) -∗ wp frame (wpE (defs₀ (F := F)) 𝒱₀ (c : Thread nD τ) none) Set.univ
    (if k0_h20 : (Scalar.cmpi .ne (Scalar.extui (Scalar.cmpi .eq (wd c) 0#32) : BitVec 32) 0#32) = 1#1 then do
        k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (wd c)
        k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (wd c)
        k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (wd c)
        let ⟨v665, v668⟩ : Σ' (v665 : FVec F S32x384 .f32), FVec F S32x384 .f32 ← k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (wd c)
        let ⟨v671, v674, v677, v680, v683, v686, v689, v692, v694⟩ : Σ' (v671 : FVec F S32x384 .f32) (v674 : FVec F S32x384 .f32) (v677 : FVec F S32x384 .f32) (v680 : FVec F S32x384 .f32) (v683 : FVec F S32x384 .f32) (v686 : FVec F S32x384 .f32) (v689 : FVec F S32x384 .f32) (v692 : FVec F S32x384 .f32), FVec F S32x384 .bf16 ← k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13
        let ⟨v695, v698, v701, v704, v707, v710, v711, v712, v713, v714, v715, v716, v717, v718, v719, v720, v721, v722, v723, v724, v725, v726, v727, v728, v729, v730, v731, v732, v733, v734⟩ : Σ' (v695 : FVec F S32x384 .f32) (v698 : FVec F S32x384 .f32) (v701 : FVec F S32x384 .f32) (v704 : FVec F S32x384 .f32) (v707 : FVec F S32x384 .f32) (v710 : FVec F S32x384 .f32) (v711 : FVec F S32x4 .f32) (v712 : FVec F S32x4 .f32) (v713 : FVec F S32x4 .f32) (v714 : FVec F S32x4 .f32) (v715 : FVec F S32x4 .f32) (v716 : FVec F S32x4 .f32) (v717 : FVec F S32x4 .f32) (v718 : FVec F S32x4 .f32) (v719 : FVec F S32x4 .f32) (v720 : FVec F S32x4 .f32) (v721 : FVec F S32x4 .f32) (v722 : FVec F S32x4 .f32) (v723 : FVec F S32x4 .f32) (v724 : FVec F S32x4 .f32) (v725 : FVec F S32x4 .f32) (v726 : FVec F S32x4 .f32) (v727 : FVec F S32x4 .f32) (v728 : FVec F S32x4 .f32) (v729 : FVec F S32x4 .f32) (v730 : FVec F S32x4 .f32) (v731 : FVec F S32x4 .f32) (v732 : FVec F S32x4 .f32) (v733 : FVec F S32x4 .f32), FVec F S32x4 .f32 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v665 v668 v671 v674 v677 v680 v683 v686 v689 v692 v694
        let ⟨v735, v736, v737, v738, v739, v740, v741, v742, v759, v761, v763, v765, v767, v769, v771, v773, v775, v777, v779, v781, v783, v785, v787, v789, v794⟩ : Σ' (v735 : FVec F S32x4 .f32) (v736 : FVec F S32x4 .f32) (v737 : FVec F S32x4 .f32) (v738 : FVec F S32x4 .f32) (v739 : FVec F S32x4 .f32) (v740 : FVec F S32x4 .f32) (v741 : FVec F S32x4 .f32) (v742 : FVec F S32x4 .f32) (v759 : FVec F S32x4 .f32) (v761 : FVec F S32x4 .f32) (v763 : FVec F S32x4 .f32) (v765 : FVec F S32x4 .f32) (v767 : FVec F S32x4 .f32) (v769 : FVec F S32x4 .f32) (v771 : FVec F S32x4 .f32) (v773 : FVec F S32x4 .f32) (v775 : FVec F S32x4 .f32) (v777 : FVec F S32x4 .f32) (v779 : FVec F S32x4 .f32) (v781 : FVec F S32x4 .f32) (v783 : FVec F S32x4 .f32) (v785 : FVec F S32x4 .f32) (v787 : FVec F S32x4 .f32) (v789 : FVec F S32x4 .f32), FVec F S32x4 .f32 ← k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v689 v692 v695 v698 v701 v704 v707 v710 v711 v712 v713 v714 v715 v716 v717 v718 v719 v720 v721 v722 v723 v724 v725 v726 v727 v728 v729
        let ⟨v820, v854⟩ : Σ' (v820 : FVec F S32x4 .f32), FVec F S32x64 .f32 ← k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v665 v668 v671 v674 v677 v680 v683 v730 v731 v732 v733 v734 v735 v736 v737 v738 v739 v740 v741 v742 v759 v761 v763 v765 v767 v769 v771 v773 v775 v777 v779 v781 v783 v785 v787 v789 v794
        let ⟨v902, v911, v912, v914⟩ : Σ' (v902 : FVec F S32x64 .f32) (v911 : FVec F S32x64 .f32) (v912 : FVec F S32x64 .f32), FVec F S32x64 .f32 ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v665 v668 v671 v686 v689 v692 v695 v698 v701 v704 v707 v710 v759 v761 v763 v773 v775 v777 v779 v781 v783 v785 v787 v789 v820 v854
        let ⟨v971, v972, v974⟩ : Σ' (v971 : FVec F S32x64 .f32) (v972 : FVec F S32x64 .f32), FVec F S32x64 .f32 ← k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v674 v677 v680 v683 v686 v689 v692 v695 v698 v701 v704 v707 v765 v767 v769 v771 v773 v775 v777 v779 v781 v783 v785 v787 v911 v912 v914
        let ⟨v984, v1033, v1034⟩ : Σ' (v984 : FVec F S32x64 .f32) (v1033 : FVec F S32x64 .f32), FVec F S32x64 .f32 ← k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v665 v668 v671 v674 v677 v680 v683 v686 v689 v692 v695 v710 v759 v761 v763 v765 v767 v769 v771 v773 v775 v777 v789 v820 v971 v972 v974
        let ⟨v1066, v1090, v1094⟩ : Σ' (v1066 : FVec F S32x64 .f32) (v1090 : FVec F S32x64 .f32), FVec F S32x64 .f32 ← k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v665 v668 v671 v674 v677 v680 v698 v701 v704 v707 v710 v759 v761 v763 v765 v767 v769 v779 v781 v783 v785 v787 v789 v820 v1033 v1034
        let ⟨v1149, v1151, cst_474⟩ : Σ' (v1149 : FVec F S32x256 .f32) (v1151 : FVec F S256x512 .f32), FVec F S32x512 .f32 ← k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v683 v686 v689 v692 v695 v698 v701 v704 v707 v710 v771 v773 v775 v777 v779 v781 v783 v785 v787 v789 v820 v902 v984 v1066 v1090 v1094
        let ⟨v1158, v1161, v1164, v1167, v1170, v1173, v1176⟩ : Σ' (v1158 : FVec F S32x384 .f32) (v1161 : FVec F S32x384 .f32) (v1164 : FVec F S32x384 .f32) (v1167 : FVec F S32x384 .f32) (v1170 : FVec F S32x384 .f32) (v1173 : FVec F S32x384 .f32), FVec F S32x384 .f32 ← k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v1149 v1151 cst_474
        let ⟨v1179, v1182, v1185, v1188, v1191, v1194, v1197, v1200, v1203, v1204⟩ : Σ' (v1179 : FVec F S32x384 .f32) (v1182 : FVec F S32x384 .f32) (v1185 : FVec F S32x384 .f32) (v1188 : FVec F S32x384 .f32) (v1191 : FVec F S32x384 .f32) (v1194 : FVec F S32x384 .f32) (v1197 : FVec F S32x384 .f32) (v1200 : FVec F S32x384 .f32) (v1203 : FVec F S32x384 .f32), FVec F S32x4 .f32 ← k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v1158
        let ⟨v1211, v1212, v1213, v1214, v1215, v1216, v1217, v1218, v1219, v1220, v1221, v1222, v1223, v1224, v1225, v1226, v1227, v1228, v1229, v1230, v1231, v1232, v1233, v1234, v1235, v1250, v1252, v1254, v1256, v1258, v1260, v1262, v1264⟩ : Σ' (v1211 : FVec F S32x4 .f32) (v1212 : FVec F S32x4 .f32) (v1213 : FVec F S32x4 .f32) (v1214 : FVec F S32x4 .f32) (v1215 : FVec F S32x4 .f32) (v1216 : FVec F S32x4 .f32) (v1217 : FVec F S32x4 .f32) (v1218 : FVec F S32x4 .f32) (v1219 : FVec F S32x4 .f32) (v1220 : FVec F S32x4 .f32) (v1221 : FVec F S32x4 .f32) (v1222 : FVec F S32x4 .f32) (v1223 : FVec F S32x4 .f32) (v1224 : FVec F S32x4 .f32) (v1225 : FVec F S32x4 .f32) (v1226 : FVec F S32x4 .f32) (v1227 : FVec F S32x4 .f32) (v1228 : FVec F S32x4 .f32) (v1229 : FVec F S32x4 .f32) (v1230 : FVec F S32x4 .f32) (v1231 : FVec F S32x4 .f32) (v1232 : FVec F S32x4 .f32) (v1233 : FVec F S32x4 .f32) (v1234 : FVec F S32x4 .f32) (v1235 : FVec F S32x4 .f32) (v1250 : FVec F S32x4 .f32) (v1252 : FVec F S32x4 .f32) (v1254 : FVec F S32x4 .f32) (v1256 : FVec F S32x4 .f32) (v1258 : FVec F S32x4 .f32) (v1260 : FVec F S32x4 .f32) (v1262 : FVec F S32x4 .f32), FVec F S32x4 .f32 ← k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v1158 v1161 v1164 v1167 v1170 v1173 v1176 v1179 v1182 v1185 v1188 v1191 v1194 v1197 v1200 v1203 v1204
        let ⟨v1266, v1268, v1270, v1272, v1274, v1276, v1278, v1280, v1282, v1313, v1322, v1323, v1324⟩ : Σ' (v1266 : FVec F S32x4 .f32) (v1268 : FVec F S32x4 .f32) (v1270 : FVec F S32x4 .f32) (v1272 : FVec F S32x4 .f32) (v1274 : FVec F S32x4 .f32) (v1276 : FVec F S32x4 .f32) (v1278 : FVec F S32x4 .f32) (v1280 : FVec F S32x4 .f32) (v1282 : FVec F S32x4 .f32) (v1313 : FVec F S32x4 .f32) (v1322 : FVec F S32x64 .f32) (v1323 : FVec F S32x64 .f32), FVec F S32x1 .f32 ← k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v1158 v1161 v1164 v1211 v1212 v1213 v1214 v1215 v1216 v1217 v1218 v1219 v1220 v1221 v1222 v1223 v1224 v1225 v1226 v1227 v1228 v1229 v1230 v1231 v1232 v1233 v1234 v1235 v1250 v1252 v1254 v1256 v1258 v1260 v1262 v1264
        let ⟨v1382, v1383, v1384⟩ : Σ' (v1382 : FVec F S32x64 .f32) (v1383 : FVec F S32x64 .f32), FVec F S32x1 .f32 ← k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v1167 v1170 v1173 v1176 v1179 v1182 v1185 v1188 v1191 v1194 v1197 v1200 v1258 v1260 v1262 v1264 v1266 v1268 v1270 v1272 v1274 v1276 v1278 v1280 v1322 v1323 v1324
        let ⟨v1395, v1444⟩ : Σ' (v1395 : FVec F S32x64 .f32), FVec F S32x64 .f32 ← k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v1158 v1161 v1164 v1167 v1170 v1173 v1176 v1179 v1182 v1185 v1203 v1252 v1254 v1256 v1258 v1260 v1262 v1264 v1266 v1268 v1270 v1282 v1313 v1382 v1383 v1384
        let ⟨v1477, v1501, v1502, v1504⟩ : Σ' (v1477 : FVec F S32x64 .f32) (v1501 : FVec F S32x64 .f32) (v1502 : FVec F S32x64 .f32), FVec F S32x64 .f32 ← k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v1158 v1161 v1164 v1167 v1170 v1173 v1188 v1191 v1194 v1197 v1200 v1203 v1252 v1254 v1256 v1258 v1260 v1262 v1272 v1274 v1276 v1278 v1280 v1282 v1313 v1444
        let ⟨v1559, v1563, v1564⟩ : Σ' (v1559 : FVec F S32x64 .f32) (v1563 : FVec F S32x64 .f32), FVec F S32x64 .f32 ← k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v1158 v1161 v1176 v1179 v1182 v1185 v1188 v1191 v1194 v1197 v1200 v1203 v1252 v1264 v1266 v1268 v1270 v1272 v1274 v1276 v1278 v1280 v1282 v1313 v1501 v1502 v1504
        let ⟨v1623, v1624⟩ : Σ' (v1623 : FVec F S32x64 .f32), FVec F S32x64 .f32 ← k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v1164 v1167 v1170 v1173 v1176 v1179 v1182 v1185 v1188 v1191 v1194 v1197 v1254 v1256 v1258 v1260 v1262 v1264 v1266 v1268 v1270 v1272 v1274 v1276 v1563 v1564
        let v1643 : Vec F S256x512 .f32 ← Prog.lift (.load (Memref.whole cc0_stg4_0) (Rect.unit (s := S256x512) ![0, 0] S256x512.size inb_S256x512_S256x512_0_0).toLoadRect (View.loadsAt_vmem h_S256x512))
        let v1646 : Vec F S1x32x512 .f32 ← Prog.lift (.load (Memref.whole cc0_stg5_0) (Rect.unit (s := S2x128x512) ![1, 0, 0] S1x32x512.size inb_S2x128x512_S1x32x512_1_0_0).toLoadRect (View.loadsAt_vmem h_S1x32x512))
        Prog.lift (.store (Memref.whole cc0_stg5_0) (Rect.unit (s := S2x128x512) ![1, 0, 0] S1x32x512.size inb_S2x128x512_S1x32x512_1_0_0) (k0_pay2 v1200 v1203 v1278 v1280 v1282 v1313 v1395 v1477 v1559 v1623 v1624 v1643) Finset.univ (View.stores_vmem_bits_univ h_S1x32x512 rfl) (.inl rfl))
        k
      else k) Q) := by
  unfold cs0 fl0 prout oc
  by_cases hc : c.val = 0
  · obtain rfl : c = 0 := Fin.ext hc
    rw [dif_pos ((is0 0).2 rfl), if_pos hc, if_pos hc, if_pos hc, if_pos hc, hpw]
    iintro ⟨#Hk, HO, HA, HC, Harg10, Harg4, Harg5⟩ HQ
    ihave HW := (wb_intro C 0 kpr) $$ [HA HC]
    · isplitl [HA] <;> iassumption
    rw [wp_bind]
    iapply (part9_spec C K) $$ [HO HW]
    · isplitl []; iexact Hk
      isplitl [HO] <;> iassumption
    iintro ⟨HO, HW⟩
    try dsimp only
    rw [wp_bind]
    iapply (part10_spec C K) $$ [HO HW]
    · isplitl []; iexact Hk
      isplitl [HO] <;> iassumption
    iintro ⟨HO, HW⟩
    try dsimp only
    rw [wp_bind]
    iapply (part11_spec C K) $$ [HO HW]
    · isplitl []; iexact Hk
      isplitl [HO] <;> iassumption
    iintro ⟨HO, HW⟩
    try dsimp only
    rw [wp_bind]
    iapply (part12_spec C K E hpp) $$ [HO HW Harg10]
    · isplitl []; iexact Hk
      isplitl [HO]; iexact HO
      isplitl [HW] <;> iassumption
    iintro ⟨HO, Hz, Harg11, Harg10⟩
    try dsimp only
    rw [wp_bind]
    iapply (part13_spec 0 E hE) $$ [Harg11]
    · iexact Harg11
    iintro Harg11
    try dsimp only
    rw [wp_bind]
    iapply (part14_spec 0 E hE) $$ [Harg11]
    · iexact Harg11
    iintro Harg11
    try dsimp only
    rw [wp_bind]
    iapply (part15_spec 0 E hE)
    try dsimp only
    rw [wp_bind]
    iapply (part16_spec 0 E hE)
    try dsimp only
    rw [wp_bind]
    iapply (part17_spec 0 E hE)
    try dsimp only
    rw [wp_bind]
    iapply (part18_spec 0 E hE)
    try dsimp only
    rw [wp_bind]
    iapply (part19_spec 0 E hE)
    try dsimp only
    rw [wp_bind]
    iapply (part20_spec 0 E hE)
    try dsimp only
    rw [wp_bind]
    iapply (part21_spec 0 E hE) $$ [Harg4]
    · iexact Harg4
    iintro Harg4
    try dsimp only
    rw [wp_bind]
    iapply (part22_spec 0 E hE _) $$ [Harg10 Harg11 Harg5]
    · isplitl [Harg10]; iexact Harg10
      isplitl [Harg11] <;> iassumption
    iintro ⟨Harg10, Harg11, Harg5⟩
    try dsimp only
    rw [wp_bind]
    iapply (part23_spec 0 E hE) $$ [Harg11]
    · iexact Harg11
    iintro Harg11
    try dsimp only
    rw [wp_bind]
    iapply (part24_spec 0 E hE)
    try dsimp only
    rw [wp_bind]
    iapply (part25_spec 0 E hE)
    try dsimp only
    rw [wp_bind]
    iapply (part26_spec 0 E hE)
    try dsimp only
    rw [wp_bind]
    iapply (part27_spec 0 E hE)
    try dsimp only
    rw [wp_bind]
    iapply (part28_spec 0 E hE)
    try dsimp only
    rw [wp_bind]
    iapply (part29_spec 0 E hE)
    try dsimp only
    rw [wp_bind]
    iapply (part30_spec 0 E hE)
    try dsimp only
    iapply (ld 0 (Memref.whole cc0_stg4_0) fullShare E.wo) $$ [Harg4]
    · iexact Harg4
    iintro Harg4
    iapply (ld 0 (Memref.whole cc0_stg5_0) fullShare _) $$ [Harg5]
    · iexact Harg5
    iintro Harg5
    iapply (stw 0 (Memref.whole cc0_stg5_0)) $$ [Harg5]
    · iexact Harg5
    iintro Harg5
    ihave Harg5 := (Entails.of_eq (congrArg (fun g => (pts 0 cc0_stg5_0 fullShare g : sProp 𝕄)) (om_writes E))) $$ [Harg5]
    · unfold v1643; iexact Harg5
    iapply HQ
    isplitl [HO]; iexact HO
    isplitl [Hz]; iexact Hz
    isplitl [Harg11]; rw [← hpp]; iexact Harg11
    isplitl [Harg10]; iexact Harg10
    isplitl [Harg4] <;> iassumption
  · rw [dif_neg (fun h => hc ((is0 c).1 h)), if_neg hc, if_neg hc, if_neg hc, if_neg hc]
    iintro ⟨#Hk, HO, HA, -, HP, H4, H5⟩ HQ
    imod (close_all C K Finset.univ c kpr (nopay_pr c hc)) $$ [HA] with Hz
    · isplitl []; iexact Hk
      iexact HA
    iapply HQ
    isplitl [HO]; iexact HO
    isplitl [Hz]; iexact Hz
    isplitl []; iempintro
    isplitl [HP]; iexact HP
    isplitl [H4] <;> iassumption

/-- What the waits for the first device's broadcasts give back. -/
def back (c : Dev nD) (g : Fin 15 → Fin 53) : sProp 𝕄 := if c.val = 0 then bigSep Finset.univ (fun j => xferPay C c (g j).val) else iprop(emp)
theorem wb_out (c : Dev nD) (g : Fin 15 → Fin 53) (n : ℕ) (hn : n = 15) : (wb C c g n : sProp 𝕄) ⊢ iprop(bigSep Finset.univ (fun j => zer c (g j)) ∗ bigSep Finset.univ (fun j => xferPay C c (g j).val)) := by
  subst hn
  unfold wb post1
  rw [Lo_top, Finset.sdiff_self, bigSep_empty]
  have := bigSep_sep' (Finset.univ : Finset (Fin 15)) (fun j => (zer c (g j) : sProp 𝕄)) (fun j => (xferPay C c (g j).val : sProp 𝕄))
  iintro ⟨-, H⟩
  iapply (Entails.of_eq (this : _ = iprop(_ ∗ _))); iexact H

set_option maxHeartbeats 2000000 in
/-- The first device waits until its broadcasts have been read. -/
theorem seg23 (c : Dev nD) {α : Type} {Q : α → sProp 𝕄} (k : Prog (TpuEff nD τ sig (Elt F) Λ₀ .tc) α) :
    iprop(know C K ∗ ow c 0 ∗ (bigSep Finset.univ (fun j => at0 c (kgqs j)) ∗ cs0 c kgqs) ∗ (bigSep Finset.univ (fun j => at0 c (kgks j)) ∗ cs0 c kgks))
    ⊢ iprop((ow c 0 ∗ (bigSep Finset.univ (fun j => zer c (kgqs j)) ∗ back C c kgqs) ∗ (bigSep Finset.univ (fun j => zer c (kgks j)) ∗ back C c kgks) -∗ wp frame (wpE (defs₀ (F := F)) 𝒱₀ (c : Thread nD τ) none) Set.univ k Q) -∗ wp frame (wpE (defs₀ (F := F)) 𝒱₀ (c : Thread nD τ) none) Set.univ
    (if k0_h23 : (Scalar.cmpi .ne (Scalar.extui (Scalar.cmpi .eq (wd c) 0#32) : BitVec 32) 0#32) = 1#1 then do
        k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13
        k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13
        k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13
        k
      else k) Q) := by
  unfold cs0 back
  by_cases hc : c.val = 0
  · obtain rfl : c = 0 := Fin.ext hc
    rw [dif_pos ((is0 0).2 rfl), if_pos hc, if_pos hc, if_pos hc, if_pos hc]
    iintro ⟨#Hk, HO, HA, HB⟩ HQ
    ihave HA := (wb_intro C 0 kgqs) $$ HA
    ihave HB := (wb_intro C 0 kgks) $$ HB
    rw [wp_bind]
    iapply (part31_spec C K) $$ [HO HA HB]
    · isplitl []; iexact Hk
      isplitl [HO]; iexact HO
      isplitl [HA] <;> iassumption
    iintro ⟨HO, HA, HB⟩
    try dsimp only
    rw [wp_bind]
    iapply (part32_spec C K) $$ [HO HA HB]
    · isplitl []; iexact Hk
      isplitl [HO]; iexact HO
      isplitl [HA] <;> iassumption
    iintro ⟨HO, HA, HB⟩
    try dsimp only
    rw [wp_bind]
    iapply (part33_spec C K) $$ [HO HA HB]
    · isplitl []; iexact Hk
      isplitl [HO]; iexact HO
      isplitl [HA] <;> iassumption
    iintro ⟨HO, HA, HB⟩
    try dsimp only
    iapply HQ
    isplitl [HO]; iexact HO
    isplitl [HA]; iapply (wb_out C 0 kgqs _ rfl); iexact HA
    iapply (wb_out C 0 kgks _ rfl); iexact HB
  · rw [dif_neg (fun h => hc ((is0 c).1 h)), if_neg hc, if_neg hc, if_neg hc, if_neg hc]
    iintro ⟨#Hk, HO, ⟨HA, -⟩, HB, -⟩ HQ
    imod (close_all C K Finset.univ c kgqs (nopay_gq c hc)) $$ [HA] with Hz
    · isplitl []; iexact Hk
      iexact HA
    imod (close_all C K Finset.univ c kgks (nopay_gk c hc)) $$ [HB] with Hz'
    · isplitl []; iexact Hk
      iexact HB
    iapply HQ
    isplitl [HO]; iexact HO
    isplitl [Hz]
    · isplitl [Hz]; iexact Hz
      iempintro
    isplitl [Hz']; iexact Hz'
    iempintro

end Cert.Exchange

end
-- ==== Proof.Body.lean ====
module

public import proofs.«01_k».proof.Proof.Merge

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

variable (C : Cont F) (K : Dev nD × Fin 53 → ℕ)

/-- What the device owes beyond its barrier signals. -/
abbrev Osend (c : Dev nD) : CellTallies nD τ sig Unit := ((((0 + OO c (prk c) Finset.univ) + OO c 36 Finset.univ) + OO c 4 Finset.univ) + OO c 3 Finset.univ) + OO c 20 Finset.univ

theorem above_prk (c : Dev nD) : Above 2 (0 + OO c (prk c) Finset.univ) := by
  by_cases h : c.val = 0
  · rw [OO_none (OO_pr_none c h), add_zero]; exact above_zero _
  · exact above_add (above_zero _) (above_OO c _ _ (by revert c; decide))
theorem above_send (c : Dev nD) : Above 1 (Osend c) := above_add (above_add (above_add (above_add (above_mono (by decide) (above_prk c)) (above_OO c 36 _ (by decide))) (above_OO c 4 _ (by decide))) (above_OO c 3 _ (by decide))) (above_OO c 20 _ (by decide))

theorem kv_back (c : Dev nD) : iprop(pts c cc0_scratch0 (kept 2) (C.kv c) ∗ ((if c.val < 15 then iprop(emp) else pts c cc0_scratch0 (tok 0) (C.kv c)) ∗ (if 0 < c.val then iprop(emp) else pts c cc0_scratch0 (tok 1) (C.kv c)))
      ∗ (if c.val < 15 then xferPay C c (1 : Fin 53).val else iprop(emp)) ∗ (if 0 < c.val then xferPay C c (2 : Fin 53).val else iprop(emp))) ⊢ pts c cc0_scratch0 fullShare (C.kv c) := by
  rw [toks2 c cc0_scratch0 (C.kv c), show (xferPay C c (1 : Fin 53).val : sProp 𝕄) = pts c cc0_scratch0 (tok 0) (C.kv c) from rfl, show (xferPay C c (2 : Fin 53).val : sProp 𝕄) = pts c cc0_scratch0 (tok 1) (C.kv c) from rfl]
  by_cases h : c.val < 15 <;> by_cases h' : 0 < c.val
  · rw [if_pos h, if_pos h', if_pos h, if_pos h']; iintro ⟨H, ⟨-, -⟩, H1, H2⟩; isplitl [H]; iexact H
    isplitl [H1] <;> iassumption
  · rw [if_pos h, if_neg h', if_pos h, if_neg h']; iintro ⟨H, ⟨-, H2⟩, H1, -⟩; isplitl [H]; iexact H
    isplitl [H1] <;> iassumption
  · rw [if_neg h, if_pos h', if_neg h, if_pos h']; iintro ⟨H, ⟨H1, -⟩, -, H2⟩; isplitl [H]; iexact H
    isplitl [H1] <;> iassumption
  · rw [if_neg h, if_neg h', if_neg h, if_neg h']; iintro ⟨H, ⟨H1, H2⟩, -, -⟩; isplitl [H]; iexact H
    isplitl [H1] <;> iassumption

theorem hl1_split (c : Dev nD) : (hl1 C c : sProp 𝕄) ⊢ iprop((if c.val < 15 then crd c 1 (amt (1 : Fin 53).val) else iprop(emp)) ∗ (if 0 < c.val then crd c 2 (amt (2 : Fin 53).val) else iprop(emp))
    ∗ ((if c.val < 15 then iprop(emp) else pts c cc0_scratch0 (tok 0) (C.kv c)) ∗ (if 0 < c.val then iprop(emp) else pts c cc0_scratch0 (tok 1) (C.kv c)))) := by
  rw [show (1 : Fin 53).val = 1 from rfl, show (2 : Fin 53).val = 2 from rfl]
  unfold hl1
  by_cases h : c.val < 15 <;> by_cases h' : 0 < c.val
  · rw [if_pos h, if_pos h', if_pos h, if_pos h', if_pos h, if_pos h']; iintro ⟨H1, H2⟩; isplitl [H1]; iexact H1
    isplitl [H2]; iexact H2
    isplitl [] <;> iempintro
  · rw [if_pos h, if_neg h', if_pos h, if_neg h', if_pos h, if_neg h']; iintro ⟨H1, H2⟩; isplitl [H1]; iexact H1
    isplitl []; iempintro
    isplitl []; iempintro
    iexact H2
  · rw [if_neg h, if_pos h', if_neg h, if_pos h', if_neg h, if_pos h']; iintro ⟨H1, H2⟩; isplitl []; iempintro
    isplitl [H2]; iexact H2
    isplitl [H1]; iexact H1
    iempintro
  · rw [if_neg h, if_neg h', if_neg h, if_neg h', if_neg h, if_neg h']; iintro ⟨H1, H2⟩; isplitl []; iempintro
    isplitl []; iempintro
    isplitl [H1] <;> iassumption

theorem prout_split (c : Dev nD) : (prout C c : sProp 𝕄) ⊢ iprop(fl0 c cc0_scratch4 (C.pw c) ∗ (if 0 < c.val then crd c 37 (amt (37 : Fin 53).val) else iprop(emp))) := by
  rw [show (37 : Fin 53).val = 37 from rfl]
  unfold prout fl0
  by_cases h : c.val = 0
  · rw [if_pos h, if_pos h, if_neg (by omega)]; iintro H; isplitl [H]; iexact H
    iempintro
  · rw [if_neg h, if_neg h, if_pos (by omega)]; iintro H; isplitl []; iempintro
    iexact H
theorem pw_back (c : Dev nD) : iprop(fl0 c cc0_scratch4 (C.pw c) ∗ (if 0 < c.val then xferPay C c (37 : Fin 53).val else iprop(emp))) ⊢ pts c cc0_scratch4 fullShare (C.pw c) := by
  unfold fl0
  rw [show (xferPay C c (37 : Fin 53).val : sProp 𝕄) = pts c cc0_scratch4 fullShare (C.pw c) from rfl]
  by_cases h : c.val = 0
  · rw [if_pos h, if_neg (by omega)]; iintro ⟨H, -⟩; iexact H
  · rw [if_neg h, if_pos (by omega)]; iintro ⟨-, H⟩; iexact H

theorem toks15_back (c : Dev nD) (b : Ref sig .tc) (f : b.ty.Contents (Elt F)) :
    iprop(pts c b (kept 15) f ∗ bigSep Finset.univ (fun j : Fin 15 => pts c b (tok j.val) f)) ⊢ (pts c b fullShare f : sProp 𝕄) := by
  refine BIBase.Entails.trans ?_ (Transfers.pointsTo_toks_range fullShare 15).2
  rw [show Finset.range 15 = Finset.univ.map (Fin.valEmbedding (n := 15)) from by decide,
    show (bigSep (Finset.univ.map (Fin.valEmbedding (n := 15))) (fun i => (c : Thread nD τ).loc b ↦[Finset.univ]{Transfers.shareTokN fullShare i} f : ℕ → sProp 𝕄)) = bigSep Finset.univ (fun j : Fin 15 => pts c b (tok j.val) f) from bigSep_map _]

theorem q_back (c : Dev nD) : iprop(pts c cc0_scratch2 (shG c) C.gq ∗ back C c kgqs) ⊢ pts c cc0_scratch2 fullShare C.gq := by
  unfold shG back
  by_cases h : c.val = 0
  · obtain rfl : c = 0 := Fin.ext h
    rw [if_pos h, if_pos h, show bigSep Finset.univ (fun j => (xferPay C 0 (kgqs j).val : sProp 𝕄)) = bigSep Finset.univ (fun j : Fin 15 => pts 0 cc0_scratch2 (tok j.val) C.gq) from bigSep_congr (fun j _ => xfer_qs C j)]
    exact toks15_back 0 cc0_scratch2 C.gq
  · rw [if_neg h, if_neg h]; iintro ⟨H, -⟩; iexact H
theorem qst_out (c : Dev nD) : (qst C c 0 : sProp 𝕄) ⊢ cs0 c kgqs := by
  unfold qst cs0 qbag
  by_cases h : c.val = 0
  · rw [if_pos h, if_pos h, Lo_zero, Finset.sdiff_empty]; iintro ⟨-, -, H⟩; iexact H
  · rw [if_neg h, if_neg h]

theorem k_back (c : Dev nD) : iprop(pts c cc0_scratch3 (shG c) C.gk ∗ back C c kgks) ⊢ pts c cc0_scratch3 fullShare C.gk := by
  unfold shG back
  by_cases h : c.val = 0
  · obtain rfl : c = 0 := Fin.ext h
    rw [if_pos h, if_pos h, show bigSep Finset.univ (fun j => (xferPay C 0 (kgks j).val : sProp 𝕄)) = bigSep Finset.univ (fun j : Fin 15 => pts 0 cc0_scratch3 (tok j.val) C.gk) from bigSep_congr (fun j _ => xfer_ks C j)]
    exact toks15_back 0 cc0_scratch3 C.gk
  · rw [if_neg h, if_neg h]; iintro ⟨H, -⟩; iexact H
theorem kst_out (c : Dev nD) : (kst C c 0 : sProp 𝕄) ⊢ cs0 c kgks := by
  unfold kst cs0 kbag
  by_cases h : c.val = 0
  · rw [if_pos h, if_pos h, Lo_zero, Finset.sdiff_empty]; iintro ⟨-, -, H⟩; iexact H
  · rw [if_neg h, if_neg h]

/-- The cells of device `c`, all closed. -/
def zers (c : Dev nD) : sProp 𝕄 := iprop(zer c 0 ∗ zer c 1 ∗ zer c 2 ∗ zer c 3 ∗ zer c 4 ∗ bigSep Finset.univ (fun j => zer c (kgqs j)) ∗ zer c 20 ∗ bigSep Finset.univ (fun j => zer c (kgks j)) ∗ zer c 36 ∗ zer c 37 ∗ bigSep Finset.univ (fun j => zer c (kpr j)))

/-- The body's ghost state on device `c`: what it owes, its tokens, its cells' positions and credits, what its signals hand over. -/
def tokIn (c : Dev nD) : sProp 𝕄 :=
  iprop((TT c 20 Finset.univ ∗ dq c) ∗ (TT c 36 Finset.univ ∗ dk c) ∗ (TT c 3 Finset.univ ∗ d1 c) ∗ (TT c 4 Finset.univ ∗ d2 c) ∗ (TT c (prk c) Finset.univ ∗ d37 c))
def atIn (c : Dev nD) : sProp 𝕄 :=
  iprop(at0 c 1 ∗ at0 c 2 ∗ at0 c 37 ∗ bigSep Finset.univ (fun j => at0 c (kpr j)) ∗ bigSep Finset.univ (fun j => at0 c (kgqs j)) ∗ bigSep Finset.univ (fun j => at0 c (kgks j)))
def wtIn (c : Dev nD) : sProp 𝕄 :=
  iprop((at0 c 0 ∗ crd c 0 (nbar c)) ∗ cs0 c kpr ∗ wIn c 3 (0 < c.val) ∗ wIn c 4 (c.val < 15) ∗ wIn c 20 (c.val ≠ 0) ∗ wIn c 36 (c.val ≠ 0))
def bufIn (c : Dev nD) : sProp 𝕄 :=
  iprop((∃ f, pts c cc0_scratch0 fullShare f) ∗ (∃ f, zst0 c f) ∗ (∃ f, zst1 c f) ∗ (∃ f g, gst c f g) ∗ (∃ f, pts c cc0_scratch4 fullShare f) ∗ ∃ f, pts c cc0_stg5_0 fullShare f)
def bufOut (c : Dev nD) (E : Env F) : sProp 𝕄 :=
  iprop(pts c cc0_scratch0 fullShare (C.kv c) ∗ pts c cc0_scratch1 fullShare E.hl ∗ pts c cc0_scratch2 fullShare C.gq ∗ pts c cc0_scratch3 fullShare C.gk ∗ pts c cc0_scratch4 fullShare (C.pw c) ∗ fl0 c cc0_scratch5 C.pp ∗ pts c cc0_stg5_0 fullShare (oc c E))

/-- The contents fit device `c`'s own computation. -/
structure Fits (c : Dev nD) (E : Env F) : Prop where
  v2 : E.v2 = wd c
  kv : C.kv c = kvF E.k E.v
  ekv : E.kv = C.kv c
  hl : E.hl = C.halo c
  gq : E.gq = C.gq
  gk : E.gk = C.gk
  gq0 : c.val = 0 → C.gq = gqF E
  gk0 : c.val = 0 → C.gk = gkF E
  pw : C.pw c = pwF E
  epw : C.pw c = E.pw
  pp : E.pp = C.pp
  z0 : C.z0 = z0F
  z1 : C.z1 = z1F

theorem gst_fit (c : Dev nD) (E : Env F) (h : Fits C c E) : (gst c (gqF E) (gkF E) : sProp 𝕄) = gst c C.gq C.gk := by
  unfold gst
  by_cases h0 : c.val = 0
  · rw [if_pos h0, if_pos h0, h.gq0 h0, h.gk0 h0]
  · rw [if_neg h0, if_neg h0]

set_option maxHeartbeats 8000000 in
/-- The whole body at a symbolic device. -/
theorem body_spec (c : Dev nD) (E : Env F) (h : Fits C c E) {Q : PUnit → sProp 𝕄} :
    iprop(know C K ∗ sig0 c (Osend c) Finset.univ ∗ tokIn c ∗ atIn c ∗ wtIn c ∗ bufIn c ∗ pts c cc0_stg0_0 fullShare E.x ∗ pts c cc0_stg1_0 fullShare E.wq ∗ pts c cc0_stg2_0 fullShare E.k ∗ pts c cc0_stg3_0 fullShare E.v ∗ pts c cc0_stg4_0 fullShare E.wo)
    ⊢ iprop((ow c 0 ∗ zers c ∗ bufOut C c E ∗ pts c cc0_stg0_0 fullShare E.x ∗ pts c cc0_stg1_0 fullShare E.wq ∗ pts c cc0_stg2_0 fullShare E.k ∗ pts c cc0_stg3_0 fullShare E.v ∗ pts c cc0_stg4_0 fullShare E.wo -∗ Q ⟨⟩) -∗ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) Q) := by
  have hE := h.v2
  rw [cc0_body_eq_skeleton]
  unfold cc0_body_skel
  unfold tokIn atIn wtIn bufIn
  iintro ⟨#Hk, HS, ⟨HT20, HT36, HT3, HT4, HTP⟩, ⟨Ha1, Ha2, Ha37, Hapr, Hagq, Hagk⟩, ⟨HB, Hcs, HW3, HW4, HW20, HW36⟩, ⟨⟨%f0, Harg6⟩, ⟨%f10, HZ0⟩, ⟨%f11, HZ1⟩, ⟨%f2, %f3, HG⟩, ⟨%f4, Harg10⟩, %f5, Harg5⟩, Harg0, Harg1, Harg2, Harg3, Harg4⟩ HQ
  rw [wp_bind]
  iapply (part34_spec C K c (Osend c) f0 E.k E.v) $$ [HS Harg6 Harg2 Harg3]
  · isplitl []; iexact Hk
    isplitl [HS]; iexact HS
    isplitl [Harg6]; iexact Harg6
    isplitl [Harg2] <;> iassumption
  iintro ⟨HO, Harg6, Harg2, Harg3⟩
  dsimp only
  rw [← h.kv]
  ihave HB := (show iprop(at0 c 0 ∗ crd c 0 (nbar c)) ⊢ barSt c False from by unfold barSt; rw [if_neg not_false]) $$ HB
  rw [wp_bind]
  iapply (part35_spec C K h.z0 h.z1 c (Osend c) (above_send c) E hE f10 f11 f2 f3) $$ [HO HB HZ0 HZ1 HG Harg0 Harg1 Harg2 Harg3]
  · isplitl []; iexact Hk
    isplitl [HO]; iexact HO
    isplitl [HB]; iexact HB
    isplitl [HZ0]; iexact HZ0
    isplitl [HZ1]; iexact HZ1
    isplitl [HG]; iexact HG
    isplitl [Harg0]; iexact Harg0
    isplitl [Harg1]; iexact Harg1
    isplitl [Harg2] <;> iassumption
  iintro ⟨HO, HB, HZ0, HZ1, HG, Harg0, Harg1, Harg2, Harg3⟩
  dsimp only
  ihave HG := (Entails.of_eq (gst_fit C c E h)) $$ HG
  rw [wp_bind]
  iapply (part36_spec C K c E h.gq (0 + OO c (prk c) Finset.univ) (above_prk c)) $$ [HO HB HG HT20 HT36 HT3 HT4 HW20 Harg6 Harg2 Harg3]
  · isplitl []; iexact Hk
    isplitl [HO]; iexact HO
    isplitl [HB]; iexact HB
    isplitl [HG]; iexact HG
    isplitl [HT20]; iexact HT20
    isplitl [HT36]; iexact HT36
    isplitl [HT3]; iexact HT3
    isplitl [HT4]; iexact HT4
    isplitl [HW20]; iexact HW20
    isplitl [Harg6]; iexact Harg6
    isplitl [Harg2] <;> iassumption
  iintro ⟨HO, Hz0, HP, HSq, HSk, Hl, Hz20, HG3, Harg8, Harg6, Harg2, Harg3⟩
  dsimp only
  rw [← h.ekv]
  rw [wp_bind]
  iapply (part37_spec c E hE) $$ [Harg2 Harg3 Harg8]
  · isplitl [Harg2]; iexact Harg2
    isplitl [Harg3] <;> iassumption
  iintro ⟨Harg2, Harg3, Harg8⟩
  try dsimp only
  rw [wp_bind]
  iapply (part38_spec c E hE) $$ [Harg2 Harg3 Harg8]
  · isplitl [Harg2]; iexact Harg2
    isplitl [Harg3] <;> iassumption
  iintro ⟨Harg2, Harg3, Harg8⟩
  try dsimp only
  rw [wp_bind]
  iapply (part39_spec c E hE _) $$ [Harg2 Harg3 Harg8 Harg10]
  · isplitl [Harg2]; iexact Harg2
    isplitl [Harg3]; iexact Harg3
    isplitl [Harg8] <;> iassumption
  iintro ⟨Harg2, Harg3, Harg8, Harg10⟩
  try dsimp only
  rw [wp_bind]
  iapply (part40_spec c E hE) $$ [Harg2 Harg3 Harg8]
  · isplitl [Harg2]; iexact Harg2
    isplitl [Harg3] <;> iassumption
  iintro ⟨Harg2, Harg3, Harg8⟩
  try dsimp only
  rw [wp_bind]
  iapply (part41_spec c E hE) $$ [Harg2 Harg3 Harg8]
  · isplitl [Harg2]; iexact Harg2
    isplitl [Harg3] <;> iassumption
  iintro ⟨Harg2, Harg3, Harg8⟩
  try dsimp only
  rw [wp_bind]
  icases HTP with ⟨HTP, Hd37⟩
  iapply (part42_spec C K c E hE h.pw h.gk h.hl f4) $$ [HO HTP Hd37 HP HW3 HW4 HW36 HZ0 HZ1 HG3 Harg10]
  · isplitl []; iexact Hk
    isplitl [HO]; iexact HO
    isplitl [HTP Hd37 HP]; · isplitl [HTP]; iexact HTP
                             isplitl [Hd37] <;> iassumption
    isplitl [HW3 HW4 HW36]; · isplitl [HW3]; iexact HW3
                              isplitl [HW4] <;> iassumption
    isplitl [HZ0]; iexact HZ0
    isplitl [HZ1]; iexact HZ1
    isplitl [HG3] <;> iassumption
  iintro ⟨HO, ⟨Hz3, Hz4, Hz36⟩, HPR, Harg7, Harg9⟩
  dsimp only
  rw [wp_bind]
  iapply (part43_spec c E hE) $$ [Harg2 Harg7 Harg9]
  · isplitl [Harg2]; iexact Harg2
    isplitl [Harg7] <;> iassumption
  iintro ⟨Harg2, Harg7, Harg9⟩
  try dsimp only
  rw [wp_bind]
  iapply (part44_spec c E hE) $$ [Harg3 Harg7 Harg9]
  · isplitl [Harg3]; iexact Harg3
    isplitl [Harg7] <;> iassumption
  iintro ⟨Harg3, Harg7, Harg9⟩
  try dsimp only
  rw [wp_bind]
  iapply (part45_spec c E hE)
  try dsimp only
  rw [wp_bind]
  iapply (part46_spec c E hE _) $$ [Harg2 Harg3 Harg4 Harg7 Harg9 Harg5]
  · isplitl [Harg2]; iexact Harg2
    isplitl [Harg3]; iexact Harg3
    isplitl [Harg4]; iexact Harg4
    isplitl [Harg7]; iexact Harg7
    isplitl [Harg9] <;> iassumption
  iintro ⟨Harg2, Harg3, Harg4, Harg7, Harg9, Harg5⟩
  try dsimp only
  rw [wp_bind]
  iapply (part47_spec c E hE) $$ [Harg9]
  · iexact Harg9
  iintro Harg9
  try dsimp only
  rw [wp_bind]
  iapply (part48_spec c E hE) $$ [Harg4]
  · iexact Harg4
  iintro Harg4
  try dsimp only
  iapply (ld c (Memref.whole cc0_stg5_0) fullShare _) $$ [Harg5]
  · iexact Harg5
  iintro Harg5
  iapply (stw c (Memref.whole cc0_stg5_0)) $$ [Harg5]
  · iexact Harg5
  iintro Harg5
  ihave Harg5 := (Entails.of_eq (congrArg (fun g => (pts c cc0_stg5_0 fullShare g : sProp 𝕄)) (ob_writes f5 E))) $$ [Harg5]
  · iexact Harg5
  iapply (seg20 C K c E hE h.epw h.pp _) $$ [HO Hapr Hcs HPR Harg4 Harg5]
  · isplitl []; iexact Hk
    isplitl [HO]; iexact HO
    isplitl [Hapr]; iexact Hapr
    isplitl [Hcs]; iexact Hcs
    isplitl [HPR]; iexact HPR
    isplitl [Harg4] <;> iassumption
  iintro ⟨HO, Hzpr, Harg11, HPR, Harg4, Harg5⟩
  ihave Hl := (hl1_split C c) $$ Hl
  icases Hl with ⟨Hc1, Hc2, Hl⟩
  iapply (seg21 C K c _) $$ [HO Ha1 Hc1]
  · isplitl []; iexact Hk
    isplitl [HO]; iexact HO
    unfold wIn
    isplitl [Ha1] <;> iassumption
  iintro ⟨HO, HW1⟩
  ihave HPR := (prout_split C c) $$ HPR
  icases HPR with ⟨HPR, Hc37⟩
  iapply (seg22 C K c _) $$ [HO Ha2 Hc2 Ha37 Hc37]
  · isplitl []; iexact Hk
    isplitl [HO]; iexact HO
    unfold wIn
    isplitl [Ha2 Hc2]; · isplitl [Ha2] <;> iassumption
    isplitl [Ha37] <;> iassumption
  iintro ⟨HO, HW2, HW37⟩
  ihave HSq := (qst_out C c) $$ HSq
  ihave HSk := (kst_out C c) $$ HSk
  iapply (seg23 C K c _) $$ [HO Hagq HSq Hagk HSk]
  · isplitl []; iexact Hk
    isplitl [HO]; iexact HO
    isplitl [Hagq HSq]; · isplitl [Hagq] <;> iassumption
    isplitl [Hagk] <;> iassumption
  iintro ⟨HO, ⟨Hzgq, Hbq⟩, Hzgk, Hbk⟩
  unfold wOut
  icases HW1 with ⟨Hz1, HX1⟩
  icases HW2 with ⟨Hz2, HX2⟩
  icases HW37 with ⟨Hz37, HX37⟩
  rw [h.ekv, h.gq, h.gk]
  ihave Harg6 := (kv_back C c) $$ [Harg6 Hl HX1 HX2]
  · isplitl [Harg6]; iexact Harg6
    isplitl [Hl]; iexact Hl
    isplitl [HX1] <;> iassumption
  ihave Harg8 := (q_back C c) $$ [Harg8 Hbq]
  · isplitl [Harg8] <;> iassumption
  ihave Harg9 := (k_back C c) $$ [Harg9 Hbk]
  · isplitl [Harg9] <;> iassumption
  ihave Harg10 := (pw_back C c) $$ [HPR HX37]
  · isplitl [HPR] <;> iassumption
  rw [Prog.pure_eq_ret, wp_ret]
  imodintro
  iapply HQ
  isplitl [HO]; iexact HO
  unfold zers bufOut
  isplitl [Hz0 Hz1 Hz2 Hz3 Hz4 Hzgq Hz20 Hzgk Hz36 Hz37 Hzpr]
  · isplitl [Hz0]; iexact Hz0
    isplitl [Hz1]; iexact Hz1
    isplitl [Hz2]; iexact Hz2
    isplitl [Hz3]; iexact Hz3
    isplitl [Hz4]; iexact Hz4
    isplitl [Hzgq]; iexact Hzgq
    isplitl [Hz20]; iexact Hz20
    isplitl [Hzgk]; iexact Hzgk
    isplitl [Hz36]; iexact Hz36
    isplitl [Hz37]; iexact Hz37
    iexact Hzpr
  isplitl [Harg6 Harg7 Harg8 Harg9 Harg10 Harg11 Harg5]
  · isplitl [Harg6]; iexact Harg6
    isplitl [Harg7]; iexact Harg7
    isplitl [Harg8]; iexact Harg8
    isplitl [Harg9]; iexact Harg9
    isplitl [Harg10]; iexact Harg10
    isplitl [Harg11]; iexact Harg11
    iexact Harg5
  isplitl [Harg0]; iexact Harg0
  isplitl [Harg1]; iexact Harg1
  isplitl [Harg2]; iexact Harg2
  isplitl [Harg3]; iexact Harg3
  iexact Harg4

end Cert.Exchange

end
-- ==== Proof.Dealing.lean ====
module

public import proofs.«01_k».proof.Proof.Body

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

/-! ## The cells by kind -/

abbrev eqs : Fin 15 ↪ Fin 53 := ⟨kgqs, by decide⟩
abbrev eks : Fin 15 ↪ Fin 53 := ⟨kgks, by decide⟩
abbrev epr : Fin 15 ↪ Fin 53 := ⟨kpr, by decide⟩

theorem univ53 : (Finset.univ : Finset (Fin 53)) = insert 0 (insert 1 (insert 2 (insert 3 (insert 4 (Finset.univ.map eqs ∪ insert 20 (Finset.univ.map eks ∪ insert 36 (insert 37 (Finset.univ.map epr))))))))  := by decide
/-- A conjunction over a device's cells, kind by kind. -/
theorem split53 (Φ : Fin 53 → sProp 𝕄) : bigSep Finset.univ Φ = iprop(Φ 0 ∗ Φ 1 ∗ Φ 2 ∗ Φ 3 ∗ Φ 4 ∗ bigSep Finset.univ (fun j => Φ (kgqs j)) ∗ Φ 20 ∗ bigSep Finset.univ (fun j => Φ (kgks j)) ∗ Φ 36 ∗ Φ 37 ∗ bigSep Finset.univ (fun j => Φ (kpr j))) := by
  rw [univ53, bigSep_insert (by decide), bigSep_insert (by decide), bigSep_insert (by decide), bigSep_insert (by decide), bigSep_insert (by decide),
    bigSep_union (by decide), bigSep_insert (by decide), bigSep_union (by decide), bigSep_insert (by decide), bigSep_insert (by decide), bigSep_map, bigSep_map, bigSep_map]
  rfl

/-- The barrier apart from the transfer cells. -/
theorem split1 (Φ : Fin 53 → sProp 𝕄) : bigSep Finset.univ Φ = iprop(Φ 0 ∗ bigSep Finset.univ (fun j : Fin 52 => Φ j.succ)) := by
  rw [show (Finset.univ : Finset (Fin 53)) = insert 0 (Finset.univ.map (Fin.succEmb 52)) from by decide, bigSep_insert (by decide), bigSep_map]; rfl

/-! ## Conjunctions with little in them -/

theorem big_emp {I : Type} (S : Finset I) : (bigSep S (fun _ => iprop(emp)) : sProp 𝕄) = iprop(emp) := bigSep_emp_const S
theorem big_none {I : Type} (S : Finset I) (Φ : I → sProp 𝕄) (h : ∀ t ∈ S, Φ t = iprop(emp)) : iprop(emp) ⊢ bigSep S Φ := by
  rw [bigSep_congr h, big_emp]
theorem big_one {I : Type} [DecidableEq I] [Fintype I] (t : I) (Φ : I → sProp 𝕄) (h : ∀ t', t' ≠ t → Φ t' = iprop(emp)) : Φ t ⊢ bigSep Finset.univ Φ := by
  rw [bigSep_erase (Finset.mem_univ t), bigSep_congr (fun i hi => h i (Finset.ne_of_mem_erase hi)), big_emp]
  show Φ t ⊢ iprop(Φ t ∗ emp)
  iintro H; isplitl [H]; iexact H
  iempintro
theorem to_emp (P : sProp 𝕄) : P ⊢ iprop(emp) := by iintro -; iempintro

/-! ## The tokens -/

theorem TT_at {d t : Dev nD} {k : Fin 53} (h : pays d t k.val = true) : (TT d k Finset.univ : sProp 𝕄) ⊢ dutyTok (ER (F := F)) (kcell (t, k)) 0 d := by
  unfold TT
  refine (bigSep_elim (Finset.mem_univ t)).trans ?_
  rw [if_pos h]; exact .refl _
theorem pr_tok (d : Dev nD) : (bigSep Finset.univ (fun j : Fin 15 => TT d (kpr j) Finset.univ) : sProp 𝕄) ⊢ TT d (prk d) Finset.univ := by
  by_cases h : d.val = 0
  · refine (to_emp _).trans (big_none _ _ fun t _ => ?_)
    rw [OO_pr_none d h t (Finset.mem_univ t)]; rfl
  · obtain ⟨j, rfl⟩ := eq_nx d h
    rw [prk_nx]
    exact bigSep_elim (Finset.mem_univ j)

/-- A device's tokens, as the body takes them. -/
theorem tok_split (d : Dev nD) : (bigSep Finset.univ (fun k : Fin 53 => TT d k Finset.univ) : sProp 𝕄) ⊢ iprop(TT d 0 Finset.univ ∗ tokIn d) := by
  have hq : (bigSep Finset.univ (fun j : Fin 15 => TT d (kgqs j) Finset.univ) : sProp 𝕄) ⊢ dq d := by
    unfold dq; by_cases h : d.val = 0
    · rw [if_pos h]; obtain rfl : d = 0 := Fin.ext h
      exact bigSep_mono fun j _ => TT_at (by revert j; decide)
    · rw [if_neg h]; exact to_emp _
  have hk : (bigSep Finset.univ (fun j : Fin 15 => TT d (kgks j) Finset.univ) : sProp 𝕄) ⊢ dk d := by
    unfold dk; by_cases h : d.val = 0
    · rw [if_pos h]; obtain rfl : d = 0 := Fin.ext h
      exact bigSep_mono fun j _ => TT_at (by revert j; decide)
    · rw [if_neg h]; exact to_emp _
  have h1 : (TT d 1 Finset.univ : sProp 𝕄) ⊢ d1 d := by
    unfold d1; by_cases h : d.val < 15
    · rw [if_pos h]; exact TT_at (by clear hq hk; revert d; decide)
    · rw [if_neg h]; exact to_emp _
  have h2 : (TT d 2 Finset.univ : sProp 𝕄) ⊢ d2 d := by
    unfold d2; by_cases h : 0 < d.val
    · rw [if_pos h]; exact TT_at (by clear hq hk h1; revert d; decide)
    · rw [if_neg h]; exact to_emp _
  have h37 : (TT d 37 Finset.univ : sProp 𝕄) ⊢ d37 d := by
    unfold d37; by_cases h : d.val ≠ 0
    · rw [if_pos h]; exact TT_at (by clear hq hk h1 h2; revert d; decide)
    · rw [if_neg h]; exact to_emp _
  rw [split53]
  unfold tokIn
  iintro ⟨H0, H1, H2, H3, H4, Hq, H20, Hk, H36, H37, Hp⟩
  ihave Hq := hq $$ Hq
  ihave Hk := hk $$ Hk
  ihave H1 := h1 $$ H1
  ihave H2 := h2 $$ H2
  ihave H37 := h37 $$ H37
  ihave Hp := (pr_tok d) $$ Hp
  isplitl [H0]; iexact H0
  isplitl [H20 Hq]; · isplitl [H20] <;> iassumption
  isplitl [H36 Hk]; · isplitl [H36] <;> iassumption
  isplitl [H3 H1]; · isplitl [H3] <;> iassumption
  isplitl [H4 H2]; · isplitl [H4] <;> iassumption
  isplitl [Hp] <;> iassumption

/-- All tokens, dealt by cell, dealt again by who pays. -/
theorem deal : (bigSep Finset.univ (fun c : Dev nD => bigSep Finset.univ (fun k : Fin 53 => bigSep Finset.univ (fun d : Dev nD => if pays d c k.val = true then dutyTok (ER (F := F)) (kcell (c, k)) 0 d else iprop(emp)))) : sProp 𝕄)
    ⊢ bigSep Finset.univ (fun d : Dev nD => iprop(TT d 0 Finset.univ ∗ tokIn d)) := by
  have h : (bigSep Finset.univ (fun c : Dev nD => bigSep Finset.univ (fun k : Fin 53 => bigSep Finset.univ (fun d : Dev nD => if pays d c k.val = true then dutyTok (ER (F := F)) (kcell (c, k)) 0 d else iprop(emp)))) : sProp 𝕄)
      = bigSep Finset.univ (fun d : Dev nD => bigSep Finset.univ (fun k : Fin 53 => TT d k Finset.univ)) := by
    rw [bigSep_congr (fun (c : Dev nD) _ => Pipeline.bigSep_univ_comm (fun (k : Fin 53) (d : Dev nD) => (if pays d c k.val = true then dutyTok (ER (F := F)) (kcell (c, k)) 0 d else iprop(emp) : sProp 𝕄))),
      Pipeline.bigSep_univ_comm]
    refine bigSep_congr fun d _ => ?_
    rw [Pipeline.bigSep_univ_comm]
    rfl
  rw [h]
  exact bigSep_mono fun d _ => tok_split d

/-! ## The credits -/

/-- What device `d` owes at the start. -/
def O₀ (d : Dev nD) : CellTallies nD τ sig Unit := Osend d + OO d 0 Finset.univ

theorem OO_apply (d c : Dev nD) (k k' : Fin 53) : OO d k Finset.univ (kcell (c, k')) () = if k = k' then (if pays d c k.val = true then amt k.val else 0) else 0 := by
  unfold OO
  rw [Finset.sum_apply, Finsupp.finsetSum_apply]
  by_cases hk : k = k'
  · subst hk
    rw [if_pos rfl, Finset.sum_eq_single c]
    · split
      · rw [tallyAt_apply, if_pos ⟨rfl, rfl⟩]
      · rfl
    · intro t _ ht
      split
      · rw [tallyAt_apply, if_neg]; rintro ⟨h, -⟩; exact ht (congrArg Prod.fst (kcell_injective h)).symm
      · rfl
    · intro h; exact absurd (Finset.mem_univ c) h
  · rw [if_neg hk]
    refine Finset.sum_eq_zero fun t _ => ?_
    split
    · rw [tallyAt_apply, if_neg]; rintro ⟨h, -⟩; exact hk (congrArg Prod.snd (kcell_injective h)).symm
    · rfl

theorem O₀_apply (d c : Dev nD) (k : Fin 53) : O₀ d (kcell (c, k)) () =
    ((((OO d (prk d) Finset.univ (kcell (c, k)) () + OO d 36 Finset.univ (kcell (c, k)) ()) + OO d 4 Finset.univ (kcell (c, k)) ()) + OO d 3 Finset.univ (kcell (c, k)) ()) + OO d 20 Finset.univ (kcell (c, k)) ()) + OO d 0 Finset.univ (kcell (c, k)) () := by
  unfold O₀ Osend
  rw [zero_add]; rfl

/-- A cell other devices pay: what is owed there is what its duties are worth. -/
def Recv (k : Fin 53) : Prop := ∀ d c : Dev nD, O₀ d (kcell (c, k)) () = if pays d c k.val = true then amt k.val else 0

theorem prk_ne_0 : ∀ d : Dev nD, ¬ prk d = 0 := by decide
theorem recv_0 : Recv 0 := fun d c => by
  rw [O₀_apply]; rw [OO_apply, OO_apply, OO_apply, OO_apply, OO_apply, OO_apply]
  rw [if_neg (prk_ne_0 d), if_neg (show ¬((36 : Fin 53) = 0) from by decide), if_neg (show ¬((4 : Fin 53) = 0) from by decide), if_neg (show ¬((3 : Fin 53) = 0) from by decide), if_neg (show ¬((20 : Fin 53) = 0) from by decide), if_pos rfl]
  simp only [Nat.add_zero, Nat.zero_add]

theorem prk_ne_3 : ∀ d : Dev nD, ¬ prk d = 3 := by decide
theorem recv_3 : Recv 3 := fun d c => by
  rw [O₀_apply]; rw [OO_apply, OO_apply, OO_apply, OO_apply, OO_apply, OO_apply]
  rw [if_neg (prk_ne_3 d), if_neg (show ¬((36 : Fin 53) = 3) from by decide), if_neg (show ¬((4 : Fin 53) = 3) from by decide), if_pos rfl, if_neg (show ¬((20 : Fin 53) = 3) from by decide), if_neg (show ¬((0 : Fin 53) = 3) from by decide)]
  simp only [Nat.add_zero, Nat.zero_add]

theorem prk_ne_4 : ∀ d : Dev nD, ¬ prk d = 4 := by decide
theorem recv_4 : Recv 4 := fun d c => by
  rw [O₀_apply]; rw [OO_apply, OO_apply, OO_apply, OO_apply, OO_apply, OO_apply]
  rw [if_neg (prk_ne_4 d), if_neg (show ¬((36 : Fin 53) = 4) from by decide), if_pos rfl, if_neg (show ¬((3 : Fin 53) = 4) from by decide), if_neg (show ¬((20 : Fin 53) = 4) from by decide), if_neg (show ¬((0 : Fin 53) = 4) from by decide)]
  simp only [Nat.add_zero, Nat.zero_add]

theorem prk_ne_20 : ∀ d : Dev nD, ¬ prk d = 20 := by decide
theorem recv_20 : Recv 20 := fun d c => by
  rw [O₀_apply]; rw [OO_apply, OO_apply, OO_apply, OO_apply, OO_apply, OO_apply]
  rw [if_neg (prk_ne_20 d), if_neg (show ¬((36 : Fin 53) = 20) from by decide), if_neg (show ¬((4 : Fin 53) = 20) from by decide), if_neg (show ¬((3 : Fin 53) = 20) from by decide), if_pos rfl, if_neg (show ¬((0 : Fin 53) = 20) from by decide)]
  simp only [Nat.add_zero, Nat.zero_add]

theorem prk_ne_36 : ∀ d : Dev nD, ¬ prk d = 36 := by decide
theorem recv_36 : Recv 36 := fun d c => by
  rw [O₀_apply]; rw [OO_apply, OO_apply, OO_apply, OO_apply, OO_apply, OO_apply]
  rw [if_neg (prk_ne_36 d), if_pos rfl, if_neg (show ¬((4 : Fin 53) = 36) from by decide), if_neg (show ¬((3 : Fin 53) = 36) from by decide), if_neg (show ¬((20 : Fin 53) = 36) from by decide), if_neg (show ¬((0 : Fin 53) = 36) from by decide)]
  simp only [Nat.add_zero, Nat.zero_add]

theorem pays_kpr : ∀ (j : Fin 15) (d c : Dev nD), pays d c (kpr j).val = true → prk d = kpr j := by decide
theorem recv_pr (j : Fin 15) : Recv (kpr j) := fun d c => by
  rw [O₀_apply]; rw [OO_apply, OO_apply, OO_apply, OO_apply, OO_apply, OO_apply]
  rw [if_neg (show ¬(36 : Fin 53) = kpr j from by revert j; decide), if_neg (show ¬(4 : Fin 53) = kpr j from by revert j; decide), if_neg (show ¬(3 : Fin 53) = kpr j from by revert j; decide),
    if_neg (show ¬(20 : Fin 53) = kpr j from by revert j; decide), if_neg (show ¬(0 : Fin 53) = kpr j from by revert j; decide)]
  simp only [Nat.add_zero, Nat.zero_add]
  by_cases h : prk d = kpr j
  · rw [if_pos h, h]
  · rw [if_neg h, if_neg fun h' => h (pays_kpr j d c h')]

theorem launch_at {k : Fin 53} (h : Recv k) (c : Dev nD) (n : ℕ) (hn : (Finset.univ.filter (fun d : Dev nD => pays d c k.val = true)).card * amt k.val = n) :
    (cred (tallyOn (kcell (c, k)) (launchCredit (Pipeline.owing O₀) 0 (kcell (c, k)))) : sProp 𝕄) ⊢ crd c k n := by
  unfold crd
  refine Entails.of_eq (congrArg _ ?_)
  unfold tallyAt; refine congrArg _ (Finsupp.ext fun u => ?_); cases u
  rw [Pipeline.launchCredit_owing, Finsupp.single_eq_same, Finset.sum_congr rfl fun d _ => h d c, ← Finset.sum_filter, Finset.sum_const, smul_eq_mul, hn]

theorem card_3 : ∀ c : Dev nD, 0 < c.val → (Finset.univ.filter (fun d : Dev nD => pays d c (3 : Fin 53).val = true)).card = 1 := by decide
theorem card_4 : ∀ c : Dev nD, c.val < 15 → (Finset.univ.filter (fun d : Dev nD => pays d c (4 : Fin 53).val = true)).card = 1 := by decide
theorem card_20 : ∀ c : Dev nD, c.val ≠ 0 → (Finset.univ.filter (fun d : Dev nD => pays d c (20 : Fin 53).val = true)).card = 1 := by decide
theorem card_36 : ∀ c : Dev nD, c.val ≠ 0 → (Finset.univ.filter (fun d : Dev nD => pays d c (36 : Fin 53).val = true)).card = 1 := by decide
theorem card_pr : ∀ j : Fin 15, (Finset.univ.filter (fun d : Dev nD => pays d (0 : Dev nD) (kpr j).val = true)).card = 1 := by decide

abbrev ec : Fin 53 ↪ SemLoc sig := ⟨csem, csem_injective⟩

theorem w_3 (c : Dev nD) : iprop(at0 c 3 ∗ cred (tallyOn (kcell (c, 3)) (launchCredit (Pipeline.owing O₀) 0 (kcell (c, 3))))) ⊢ (wIn c 3 (0 < c.val) : sProp 𝕄) := by
  unfold wIn
  by_cases h : 0 < c.val
  · rw [if_pos h]; exact sep_mono_right (launch_at recv_3 c _ (by rw [card_3 c h, Nat.one_mul]))
  · rw [if_neg h]; exact sep_mono_right (to_emp _)

theorem w_4 (c : Dev nD) : iprop(at0 c 4 ∗ cred (tallyOn (kcell (c, 4)) (launchCredit (Pipeline.owing O₀) 0 (kcell (c, 4))))) ⊢ (wIn c 4 (c.val < 15) : sProp 𝕄) := by
  unfold wIn
  by_cases h : c.val < 15
  · rw [if_pos h]; exact sep_mono_right (launch_at recv_4 c _ (by rw [card_4 c h, Nat.one_mul]))
  · rw [if_neg h]; exact sep_mono_right (to_emp _)

theorem w_20 (c : Dev nD) : iprop(at0 c 20 ∗ cred (tallyOn (kcell (c, 20)) (launchCredit (Pipeline.owing O₀) 0 (kcell (c, 20))))) ⊢ (wIn c 20 (c.val ≠ 0) : sProp 𝕄) := by
  unfold wIn
  by_cases h : c.val ≠ 0
  · rw [if_pos h]; exact sep_mono_right (launch_at recv_20 c _ (by rw [card_20 c h, Nat.one_mul]))
  · rw [if_neg h]; exact sep_mono_right (to_emp _)

theorem w_36 (c : Dev nD) : iprop(at0 c 36 ∗ cred (tallyOn (kcell (c, 36)) (launchCredit (Pipeline.owing O₀) 0 (kcell (c, 36))))) ⊢ (wIn c 36 (c.val ≠ 0) : sProp 𝕄) := by
  unfold wIn
  by_cases h : c.val ≠ 0
  · rw [if_pos h]; exact sep_mono_right (launch_at recv_36 c _ (by rw [card_36 c h, Nat.one_mul]))
  · rw [if_neg h]; exact sep_mono_right (to_emp _)

theorem w_pr (c : Dev nD) : (bigSep Finset.univ (fun j : Fin 15 => cred (tallyOn (kcell (c, kpr j)) (launchCredit (Pipeline.owing O₀) 0 (kcell (c, kpr j))))) : sProp 𝕄) ⊢ cs0 c kpr := by
  unfold cs0
  by_cases h : c.val = 0
  · rw [if_pos h]; obtain rfl : c = 0 := Fin.ext h
    exact bigSep_mono fun j _ => launch_at (recv_pr j) 0 _ (by rw [card_pr j, Nat.one_mul])
  · rw [if_neg h]; exact to_emp _

/-- A device's positions and credits, as the body takes them. -/
theorem waits_in (c : Dev nD) : iprop(bigSep Finset.univ (fun k : Fin 53 => at0 c k) ∗ Pipeline.launchCred O₀ c) ⊢ (iprop(atIn c ∗ wtIn c) : sProp 𝕄) := by
  have hc : (Pipeline.launchCred O₀ c : sProp 𝕄) ⊢ bigSep Finset.univ (fun k : Fin 53 => cred (tallyOn (kcell (c, k)) (launchCredit (Pipeline.owing O₀) 0 (kcell (c, k))))) := by
    unfold Pipeline.launchCred
    refine (bigSep_subset (Finset.subset_univ (Finset.univ.map ec))).trans ?_
    rw [bigSep_map]; exact .refl _
  refine (sep_mono_right hc).trans ?_
  rw [split53, split53]
  unfold atIn wtIn
  iintro ⟨⟨H0, H1, H2, H3, H4, Hq, H20, Hk, H36, H37, Hp⟩, C0, -, -, C3, C4, -, C20, -, C36, -, Cp⟩
  isplitl [H1 H2 H37 Hp Hq Hk]
  · isplitl [H1]; iexact H1
    isplitl [H2]; iexact H2
    isplitl [H37]; iexact H37
    isplitl [Hp]; iexact Hp
    isplitl [Hq] <;> iassumption
  isplitl [H0 C0]
  · isplitl [H0]; iexact H0
    iapply (launch_at recv_0 c (nbar c) (Nat.mul_one _)); iexact C0
  isplitl [Cp]; · iapply (w_pr c); iexact Cp
  isplitl [H3 C3]; · iapply (w_3 c); isplitl [H3] <;> iassumption
  isplitl [H4 C4]; · iapply (w_4 c); isplitl [H4] <;> iassumption
  isplitl [H20 C20]; · iapply (w_20 c); isplitl [H20] <;> iassumption
  iapply (w_36 c); isplitl [H36] <;> iassumption

end Cert.Exchange

end
-- ==== Proof.Handing.lean ====
module

public import proofs.«01_k».proof.Proof.Dealing

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

/-! ## The landing buffers handed over -/

theorem halo_split (c : Dev nD) (f : (cc0_scratch1 : Ref sig .tc).ty.Contents (Elt F)) : (pts c cc0_scratch1 fullShare f : sProp 𝕄) ⊢ iprop(ptsOn c cc0_scratch1 (hset 0) fullShare f ∗ ptsOn c cc0_scratch1 (hset 1) fullShare f) := by
  have hd : Disjoint (hset 0) (hset 1) := by
    rw [Finset.disjoint_left]; intro x hi hj
    unfold hset at hi hj
    exact absurd ((Finset.mem_filter.mp hi).2.symm.trans (Finset.mem_filter.mp hj).2) (by decide)
  have hu : hset 0 ∪ hset 1 = Finset.univ := by
    ext x
    simp only [Finset.mem_union, Finset.mem_univ, iff_true]
    unfold hset
    simp only [Finset.mem_filter, Finset.mem_univ, true_and]
    have := (x 0).isLt
    change (x 0).val < 2 at this
    change (x 0).val = 0 ∨ (x 0).val = 1
    omega
  have := pointsTo_union (nD := nD) (τ := τ) (sig := sig) (Ix := Unit) (Val := Elt F) (Name := ℕ) (U := UU) (Lvl := ℕ) (ℓ := (c : Thread nD τ).loc cc0_scratch1) (q := fullShare) (f := f) hd
  rw [hu] at this
  exact this.1

theorem slots_split (f : (cc0_scratch5 : Ref sig .tc).ty.Contents (Elt F)) : (pts 0 cc0_scratch5 fullShare f : sProp 𝕄) ⊢ bigSep Finset.univ (fun j : Fin 15 => ptsOn 0 cc0_scratch5 (pset j) fullShare f) := by
  have hu : Finset.univ.biUnion (fun j : Fin 15 => pset j) = Finset.univ := by
    ext x; simp only [Finset.mem_biUnion, Finset.mem_univ, true_and, iff_true]
    exact ⟨x 0, by unfold pset; rw [Finset.mem_filter]; exact ⟨Finset.mem_univ _, rfl⟩⟩
  have hp := pointsTo_biUnion (nD := nD) (τ := τ) (sig := sig) (Ix := Unit) (Val := Elt F) (Name := ℕ) (U := UU) (Lvl := ℕ) (ℓ := ((0 : Dev nD) : Thread nD τ).loc cc0_scratch5) (q := fullShare) (f := f) Finset.univ pset pset_disj
  rw [hu] at hp
  exact Entails.of_eq hp

theorem univ16 : (Finset.univ : Finset (Dev nD)) = insert 0 (Finset.univ.map nxE) := by decide

/-- Scratch 5 of a device, as its signals hand it over; kept where nothing is handed over. -/
def kp5 (c : Dev nD) : sProp 𝕄 := if c.val = 0 then iprop(emp) else iprop(∃ f, pts c cc0_scratch5 fullShare f)

theorem give_pp (c : Dev nD) : iprop(∃ f, pts c cc0_scratch5 fullShare f) ⊢ (iprop(bigSep Finset.univ (fun t : Dev nD => PP t c) ∗ kp5 c) : sProp 𝕄) := by
  unfold kp5
  by_cases h : c.val = 0
  · obtain rfl : c = 0 := Fin.ext h
    rw [if_pos h, univ16, bigSep_insert (by decide), bigSep_map]
    have hS (f : (cc0_scratch5 : Ref sig .tc).ty.Contents (Elt F)) : bigSep Finset.univ (fun j : Fin 15 => ptsOn 0 cc0_scratch5 (pset j) fullShare f) ⊢ (bigSep Finset.univ (fun j : Fin 15 => PP (nx j) (0 : Dev nD)) : sProp 𝕄) := by
      refine bigSep_mono fun j _ => ?_
      unfold PP
      rw [dif_pos ⟨rfl, by simp only; omega⟩]
      show (ptsOn 0 cc0_scratch5 (pset j) fullShare f : sProp 𝕄) ⊢ iprop(∃ f, ptsOn 0 cc0_scratch5 (pset j) fullShare f)
      iintro H
      iexists f
      iexact H
    show _ ⊢ iprop((PP (0 : Dev nD) (0 : Dev nD) ∗ bigSep Finset.univ (fun j : Fin 15 => PP (nx j) (0 : Dev nD))) ∗ emp)
    iintro ⟨%f, H⟩
    isplitl [H]
    · ihave H := (slots_split f) $$ H
      isplitl []
      · unfold PP; rw [dif_neg (by decide)]; iempintro
      iapply (hS f); iexact H
    iempintro
  · rw [if_neg h]
    iintro H
    isplitr [H]
    · iapply (big_none Finset.univ (fun t : Dev nD => PP t c) fun t _ => by unfold PP; exact dif_neg fun h' => h h'.1)
      iempintro
    iexact H

/-- Scratch 2 and 3: handed to the first device; the first device keeps its own. -/
theorem give_gg (c : Dev nD) : iprop((∃ f, pts c cc0_scratch2 fullShare f) ∗ (∃ f, pts c cc0_scratch3 fullShare f)) ⊢ (iprop(bigSep Finset.univ (fun t : Dev nD => GG t c) ∗ ∃ f g, gst c f g) : sProp 𝕄) := by
  unfold gst
  by_cases h : c.val = 0
  · simp only [if_pos h]
    iintro ⟨⟨%f, H2⟩, %g, H3⟩
    isplitr [H2 H3]
    · iapply (big_none Finset.univ (fun t : Dev nD => GG t c) fun t _ => by unfold GG; exact if_neg fun h' => h'.2 h)
      iempintro
    iexists f; iexists g
    isplitl [H2] <;> iassumption
  · simp only [if_neg h]
    iintro ⟨⟨%f, H2⟩, %g, H3⟩
    isplitl [H2 H3]
    · iapply (big_one (0 : Dev nD) (fun t : Dev nD => GG t c) fun t ht => by unfold GG; exact if_neg fun h' => ht (Fin.ext h'.1))
      unfold GG
      rw [if_pos ⟨rfl, h⟩]
      isplitl [H2]
      · iexists f; iexact H2
      iexists g; iexact H3
    iexists f; iexists g
    iempintro

theorem give_hl (c : Dev nD) : iprop(∃ f, ptsOn c cc0_scratch1 (hset 1) fullShare f) ⊢ (iprop(bigSep Finset.univ (fun t : Dev nD => HL t c) ∗ ∃ f, zst1 c f) : sProp 𝕄) := by
  have hlt := c.isLt
  change c.val < 16 at hlt
  unfold zst1
  by_cases h : c.val = 15
  · simp only [if_pos h]
    iintro H
    isplitr [H]
    · iapply (big_none Finset.univ (fun t : Dev nD => HL t c) fun t _ => by unfold HL; exact if_neg fun h' => by have := t.isLt; change t.val < 16 at this; omega)
      iempintro
    iexact H
  · simp only [if_neg h]
    iintro H
    isplitl [H]
    · iapply (big_one (⟨c.val + 1, by show c.val + 1 < 16; omega⟩ : Dev nD) (fun t : Dev nD => HL t c) fun t ht => by unfold HL; exact if_neg fun h' => ht (Fin.ext h'.symm))
      unfold HL
      rw [if_pos rfl]
      iexact H
    iexists (fun _ => default)
    iempintro

theorem give_hr (c : Dev nD) : iprop(∃ f, ptsOn c cc0_scratch1 (hset 0) fullShare f) ⊢ (iprop(bigSep Finset.univ (fun t : Dev nD => HR t c) ∗ ∃ f, zst0 c f) : sProp 𝕄) := by
  have hlt := c.isLt
  change c.val < 16 at hlt
  unfold zst0
  by_cases h : c.val = 0
  · simp only [if_pos h]
    iintro H
    isplitr [H]
    · iapply (big_none Finset.univ (fun t : Dev nD => HR t c) fun t _ => by unfold HR; exact if_neg fun h' => by omega)
      iempintro
    iexact H
  · simp only [if_neg h]
    iintro ⟨%f, H⟩
    isplitl [H]
    · iapply (big_one (⟨c.val - 1, by show c.val - 1 < 16; omega⟩ : Dev nD) (fun t : Dev nD => HR t c) fun t ht => by unfold HR; exact if_neg fun h' => ht (Fin.ext (by simp only; omega)))
      unfold HR
      rw [if_pos (by simp only; omega)]
      iexists f
      iexact H
    iexists f
    iempintro

/-- What a device hands over with its signals, and what it keeps. -/
theorem give_all (c : Dev nD) : iprop((∃ f, pts c cc0_scratch1 fullShare f) ∗ (∃ f, pts c cc0_scratch2 fullShare f) ∗ (∃ f, pts c cc0_scratch3 fullShare f) ∗ (∃ f, pts c cc0_scratch5 fullShare f))
    ⊢ (iprop(give c Finset.univ ∗ (∃ f, zst0 c f) ∗ (∃ f, zst1 c f) ∗ (∃ f g, gst c f g) ∗ kp5 c) : sProp 𝕄) := by
  have hg : iprop(bigSep Finset.univ (fun t : Dev nD => PP t c) ∗ bigSep Finset.univ (fun t : Dev nD => GG t c) ∗ bigSep Finset.univ (fun t : Dev nD => HL t c) ∗ bigSep Finset.univ (fun t : Dev nD => HR t c)) ⊢ (give c Finset.univ : sProp 𝕄) := by
    have e : (bigSep Finset.univ (fun t : Dev nD => barPay t c) : sProp 𝕄) = iprop(bigSep Finset.univ (fun t : Dev nD => PP t c) ∗ bigSep Finset.univ (fun t : Dev nD => GG t c) ∗ bigSep Finset.univ (fun t : Dev nD => HL t c) ∗ bigSep Finset.univ (fun t : Dev nD => HR t c)) := by
      unfold barPay
      rw [bigSep_sep', bigSep_sep', bigSep_sep']
    rw [← e]
    unfold give
    refine bigSep_mono fun t _ => ?_
    split
    · exact .refl _
    · exact to_emp _
  iintro ⟨⟨%f, H1⟩, H2, H3, H5⟩
  ihave H1 := (halo_split c f) $$ H1
  icases H1 with ⟨HA, HB⟩
  ihave HA := (give_hr c) $$ [HA]
  · iexists f; iexact HA
  ihave HB := (give_hl c) $$ [HB]
  · iexists f; iexact HB
  ihave HG := (give_gg c) $$ [H2 H3]
  · isplitl [H2] <;> iassumption
  ihave HP := (give_pp c) $$ H5
  icases HA with ⟨HA, HZ0⟩
  icases HB with ⟨HB, HZ1⟩
  icases HG with ⟨HG, HZ⟩
  icases HP with ⟨HP, HZ5⟩
  isplitl [HA HB HG HP]
  · iapply hg
    isplitl [HP]; iexact HP
    isplitl [HG]; iexact HG
    isplitl [HB] <;> iassumption
  isplitl [HZ0]; iexact HZ0
  isplitl [HZ1]; iexact HZ1
  isplitl [HZ] <;> iassumption

end Cert.Exchange

end
-- ==== Proof.Contents.lean ====
module

public import proofs.«01_k».proof.Proof.Handing

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What the buffers hold, from the memory at the start -/

/-- The memory at the start. -/
def s₀ : MemSt nD τ sig (Elt F) := ⟨m, fun _ => 0, ρ⟩

def in0 (c : Dev nD) : (cc0_stg0_0 : Ref sig .tc).ty.Contents (Elt F) := (win0_0.blk (0 : Fin 1)).view.read (Elt F) (m ((c : Thread nD τ).loc main_arg0))
def in1 (c : Dev nD) : (cc0_stg1_0 : Ref sig .tc).ty.Contents (Elt F) := (win0_1.blk (0 : Fin 1)).view.read (Elt F) (m ((c : Thread nD τ).loc main_arg1))
def in2 (c : Dev nD) : (cc0_stg2_0 : Ref sig .tc).ty.Contents (Elt F) := (win0_2.blk (0 : Fin 1)).view.read (Elt F) (m ((c : Thread nD τ).loc main_arg2))
def in3 (c : Dev nD) : (cc0_stg3_0 : Ref sig .tc).ty.Contents (Elt F) := (win0_3.blk (0 : Fin 1)).view.read (Elt F) (m ((c : Thread nD τ).loc main_arg3))
def in4 (c : Dev nD) : (cc0_stg4_0 : Ref sig .tc).ty.Contents (Elt F) := (win0_4.blk (0 : Fin 1)).view.read (Elt F) (m ((c : Thread nD τ).loc main_arg4))

/-- What device `c` reads, from its operands alone. -/
def e0 (c : Dev nD) : Env F where
  x := in0 m c
  wq := in1 m c
  k := in2 m c
  v := in3 m c
  wo := in4 m c
  kv := kvF (in2 m c) (in3 m c)
  hl := fun _ => default
  gq := fun _ => default
  gk := fun _ => default
  pw := fun _ => default
  pp := fun _ => default
  v2 := wd c
/-- What device `c` reads once the first device's global rows have arrived. -/
def e1 (c : Dev nD) : Env F := { e0 m c with gq := gqF (e0 m 0), gk := gkF (e0 m 0) }
/-- The contents of the exchange. -/
def CC : Cont F where
  kv c := kvF (in2 m c) (in3 m c)
  gq := gqF (e0 m 0)
  gk := gkF (e0 m 0)
  pw c := pwF (e1 m c)
  z0 := z0F
  z1 := z1F
/-- What device `c` reads. -/
def EE (c : Dev nD) : Env F := { e1 m c with hl := (CC m).halo c, pw := (CC m).pw c, pp := (CC m).pp }

theorem fits (c : Dev nD) : Fits (CC m) c (EE m c) where
  v2 := rfl
  kv := rfl
  ekv := rfl
  hl := rfl
  gq := rfl
  gk := rfl
  gq0 h := by obtain rfl : c = 0 := Fin.ext h; rfl
  gk0 h := by obtain rfl : c = 0 := Fin.ext h; rfl
  pw := rfl
  epw := rfl
  pp := rfl
  z0 := rfl
  z1 := rfl

end Cert.Exchange

end
-- ==== Proof.Region.lean ====
module

public import proofs.«01_k».proof.Proof.Contents
public import proofs.«01_k».proof.Proof.Gen.KernelIdeal.Points

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The body's obligation -/

/-- A device's six scratch buffers at some contents. -/
def scr (c : Dev nD) : sProp 𝕄 :=
  iprop((∃ f, pts c cc0_scratch0 fullShare f) ∗ (∃ f, pts c cc0_scratch1 fullShare f) ∗ (∃ f, pts c cc0_scratch2 fullShare f) ∗ (∃ f, pts c cc0_scratch3 fullShare f) ∗ (∃ f, pts c cc0_scratch4 fullShare f) ∗ ∃ f, pts c cc0_scratch5 fullShare f)
/-- The exchange's ghost state a device starts from. -/
def start (c : Dev nD) : sProp 𝕄 := iprop(∃ K, know (CC m) K ∗ (TT c 0 Finset.univ ∗ tokIn c) ∗ atIn c ∗ wtIn c)
def Φ₀ (c : Dev nD) : sProp 𝕄 := iprop(start m c ∗ scr c)
def Φ₁ (c : Dev nD) : sProp 𝕄 := iprop(zers c ∗ scr c)

def t₀ : Fin cfg0.N := t0_0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => in0 m c
    | ⟨1, _⟩ => in1 m c
    | ⟨2, _⟩ => in2 m c
    | ⟨3, _⟩ => in3 m c
    | ⟨4, _⟩ => in4 m c
    | ⟨5, _⟩ => oc c (EE m c)
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at known contents. -/
def stgAt (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stgAt_intro (c : Dev nD) (b : Ref sig .tc) (X : b.ty.Contents (Elt F)) : (pts c b fullShare X : sProp 𝕄) ⊢ stgAt c b X := by
  unfold stgAt; iintro H; iexists X; isplitr; · ipureintro; rfl
  iexact H
theorem stgAt_elim (c : Dev nD) (b : Ref sig .tc) (X Y : b.ty.Contents (Elt F)) (h : X = Y) : (stgAt c b X : sProp 𝕄) ⊢ pts c b fullShare Y := by
  unfold stgAt; iintro ⟨%f, %hf, H⟩; rw [← h, ← hf]; iexact H
theorem stgAt_some (c : Dev nD) (b : Ref sig .tc) (X : b.ty.Contents (Elt F)) : (stgAt c b X : sProp 𝕄) ⊢ iprop(∃ f, pts c b fullShare f) := by
  unfold stgAt; iintro ⟨%f, %hf, H⟩; iexists f; iexact H

set_option maxRecDepth 4000 in
def bodyPre (c : Dev nD) : sProp 𝕄 :=
  iprop(Φ₀ m c ∗ (dats m ρ 0 c).owesAt () t₀.castSucc
    ∗ (∃ d, stgAt c cc0_stg0_0 ((dats m ρ 0 c).before (0 : Fin 6) t₀ d))
    ∗ (∃ d, stgAt c cc0_stg1_0 ((dats m ρ 0 c).before (1 : Fin 6) t₀ d))
    ∗ (∃ d, stgAt c cc0_stg2_0 ((dats m ρ 0 c).before (2 : Fin 6) t₀ d))
    ∗ (∃ d, stgAt c cc0_stg3_0 ((dats m ρ 0 c).before (3 : Fin 6) t₀ d))
    ∗ (∃ d, stgAt c cc0_stg4_0 ((dats m ρ 0 c).before (4 : Fin 6) t₀ d))
    ∗ (∃ d, stgAt c cc0_stg5_0 ((dats m ρ 0 c).before (5 : Fin 6) t₀ d)))
set_option maxRecDepth 4000 in
def bodyPost (c : Dev nD) : sProp 𝕄 :=
  iprop(Φ₁ c ∗ (dats m ρ 0 c).owesAt () t₀.succ ∗ stgAt c cc0_stg0_0 (in0 m c) ∗ stgAt c cc0_stg1_0 (in1 m c) ∗ stgAt c cc0_stg2_0 (in2 m c) ∗ stgAt c cc0_stg3_0 (in3 m c) ∗ stgAt c cc0_stg4_0 (in4 m c) ∗ stgAt c cc0_stg5_0 (oc c (EE m c)))

theorem before_0 (c : Dev nD) (d) : (dats m ρ 0 c).before (0 : Fin 6) t₀ d = (EE m c).x := by
  unfold Dat.before; rw [if_pos (fetch0_0 t₀)]; rfl

theorem before_1 (c : Dev nD) (d) : (dats m ρ 0 c).before (1 : Fin 6) t₀ d = (EE m c).wq := by
  unfold Dat.before; rw [if_pos (fetch0_1 t₀)]; rfl

theorem before_2 (c : Dev nD) (d) : (dats m ρ 0 c).before (2 : Fin 6) t₀ d = (EE m c).k := by
  unfold Dat.before; rw [if_pos (fetch0_2 t₀)]; rfl

theorem before_3 (c : Dev nD) (d) : (dats m ρ 0 c).before (3 : Fin 6) t₀ d = (EE m c).v := by
  unfold Dat.before; rw [if_pos (fetch0_3 t₀)]; rfl

theorem before_4 (c : Dev nD) (d) : (dats m ρ 0 c).before (4 : Fin 6) t₀ d = (EE m c).wo := by
  unfold Dat.before; rw [if_pos (fetch0_4 t₀)]; rfl

theorem scr_back (c : Dev nD) : iprop(bufOut (CC m) c (EE m c) ∗ kp5 c) ⊢ (iprop(scr c ∗ pts c cc0_stg5_0 fullShare (oc c (EE m c))) : sProp 𝕄) := by
  unfold bufOut scr
  iintro ⟨⟨H0, H1, H2, H3, H4, H5, Ho⟩, HK⟩
  isplitr [Ho]
  · isplitl [H0]; · iexists _; iexact H0
    isplitl [H1]; · iexists _; iexact H1
    isplitl [H2]; · iexists _; iexact H2
    isplitl [H3]; · iexists _; iexact H3
    isplitl [H4]; · iexists _; iexact H4
    iapply (show iprop(fl0 c cc0_scratch5 (CC m).pp ∗ kp5 c) ⊢ (iprop(∃ f, pts c cc0_scratch5 fullShare f) : sProp 𝕄) from by
      unfold fl0 kp5
      by_cases h : c.val = 0
      · rw [if_pos h, if_pos h]; iintro ⟨H, -⟩; iexists _; iexact H
      · rw [if_neg h, if_neg h]; iintro ⟨-, H⟩; iexact H)
    isplitl [H5] <;> iassumption
  iexact Ho

set_option maxHeartbeats 2000000 in
theorem sound_body (c : Dev nD) : bodyPre m ρ c ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) (fun _ => bodyPost m ρ c) := by
  unfold bodyPre Φ₀ start
  iintro ⟨⟨⟨%K, #Hk, ⟨HT0, HT⟩, Hat, Hwt⟩, Hscr⟩, Ho, ⟨%d0, H0⟩, ⟨%d1, H1⟩, ⟨%d2, H2⟩, ⟨%d3, H3⟩, ⟨%d4, H4⟩, ⟨%d5, H5⟩⟩
  ihave H0 := (stgAt_elim c cc0_stg0_0 _ _ (before_0 m ρ c d0)) $$ H0
  ihave H1 := (stgAt_elim c cc0_stg1_0 _ _ (before_1 m ρ c d1)) $$ H1
  ihave H2 := (stgAt_elim c cc0_stg2_0 _ _ (before_2 m ρ c d2)) $$ H2
  ihave H3 := (stgAt_elim c cc0_stg3_0 _ _ (before_3 m ρ c d3)) $$ H3
  ihave H4 := (stgAt_elim c cc0_stg4_0 _ _ (before_4 m ρ c d4)) $$ H4
  ihave H5 := (stgAt_some c cc0_stg5_0 _) $$ H5
  unfold Dat.owesAt Pipeline.owesWithin
  icases Ho with ⟨%W, %hW, HO⟩
  unfold scr
  icases Hscr with ⟨S0, S1, S2, S3, S4, S5⟩
  ihave HG := (give_all c) $$ [S1 S2 S3 S5]
  · isplitl [S1]; iexact S1
    isplitl [S2]; iexact S2
    isplitl [S3] <;> iassumption
  icases HG with ⟨HG, HZ0, HZ1, HZ, HK5⟩
  iapply (body_spec (CC m) K c (EE m c) (fits m c)) $$ [HO HT0 HG HT Hat Hwt S0 HZ0 HZ1 HZ S4 H0 H1 H2 H3 H4 H5]
  · isplitl []; iexact Hk
    isplitl [HO HT0 HG]
    · isplitl [HO]
      · unfold ow; iexists W; iexact HO
      isplitl [HT0] <;> iassumption
    isplitl [HT]; iexact HT
    isplitl [Hat]; iexact Hat
    isplitl [Hwt]; iexact Hwt
    isplitl [S0 HZ0 HZ1 HZ S4 H5]
    · unfold bufIn
      isplitl [S0]; iexact S0
      isplitl [HZ0]; iexact HZ0
      isplitl [HZ1]; iexact HZ1
      isplitl [HZ]; iexact HZ
      isplitl [S4] <;> iassumption
    isplitl [H0]; iexact H0
    isplitl [H1]; iexact H1
    isplitl [H2]; iexact H2
    isplitl [H3] <;> iassumption
  iintro ⟨HO, HZ, HB, H0, H1, H2, H3, H4⟩
  ihave HB := (scr_back m c) $$ [HB HK5]
  · isplitl [HB] <;> iassumption
  icases HB with ⟨HB, H5⟩
  unfold bodyPost Φ₁
  isplitl [HZ HB]; · isplitl [HZ] <;> iassumption
  isplitl [HO]
  · unfold ow
    icases HO with ⟨%W', HO⟩
    unfold Dat.owesAt Pipeline.owesWithin
    iexists W'
    isplitr; · ipureintro; exact fun _ _ => Or.inl trivial
    iexact HO
  isplitl [H0]; · iapply (stgAt_intro c cc0_stg0_0); iexact H0
  isplitl [H1]; · iapply (stgAt_intro c cc0_stg1_0); iexact H1
  isplitl [H2]; · iapply (stgAt_intro c cc0_stg2_0); iexact H2
  isplitl [H3]; · iapply (stgAt_intro c cc0_stg3_0); iexact H3
  isplitl [H4]; · iapply (stgAt_intro c cc0_stg4_0); iexact H4
  iapply (stgAt_intro c cc0_stg5_0); iexact H5

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Cert.Exchange

end
-- ==== Proof.Launching.lean ====
module

public import proofs.«01_k».proof.Proof.Region
public import Idealize.ShloMosaic.Lib.Pipeline.CollectiveSegs

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3 ix4)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-- Every cell of the exchange; every duty's token. -/
def exCells : Finset (GSem nD τ sig) := Finset.univ.map ⟨kcell, kcell_injective⟩
theorem tokOf_injective : Function.Injective (fun p : (Dev nD × Fin 53) × Dev nD => ((kcell p.1, 0, p.2) : GSem nD τ sig × ℕ × Dev nD)) := by
  rintro ⟨p, d⟩ ⟨p', d'⟩ h
  have h1 : p = p' := kcell_injective (congrArg Prod.fst h)
  have h2 : d = d' := congrArg (fun x => x.2.2) h
  rw [h1, h2]
def exToks : Finset (GSem nD τ sig × ℕ × Dev nD) :=
  (Finset.univ.filter (fun p : (Dev nD × Fin 53) × Dev nD => pays p.2 p.1.1 p.1.2.val = true)).map ⟨_, tokOf_injective⟩

def u₀ : UU := (initOf (Pipeline.cells cfgs cellOf_inj) (Pipeline.launchToks cfgs cellOf_inj), initOf exCells exToks)

/-- The tokens of device `c`'s own cells. -/
def toks (c : Dev nD) : sProp 𝕄 :=
  bigSep Finset.univ (fun k : Fin 53 => bigSep Finset.univ (fun d : Dev nD => if pays d c k.val = true then dutyTok (ER (F := F)) (kcell (c, k)) 0 d else iprop(emp)))

/-- What the launch deals device `c`. -/
def G (c : Dev nD) : sProp 𝕄 :=
  iprop((bigSep Finset.univ fun k : Fin 53 => roundState ER (sch (CC m)) (kcell (c, k)) 0)
    ∗ (bigSep Finset.univ fun k : Fin 53 => at0 c k) ∗ (bigSep Finset.univ fun k : Fin 53 => reached (ER (F := F)) (kcell (c, k)) 0) ∗ toks c)

/-- What every device knows but the levels. -/
def recs (K : Dev nD × Fin 53 → ℕ) : sProp 𝕄 :=
  iprop(bigSep Finset.univ (fun p => cellInv ER (sch (CC m)) (K p) (kcell p)) ∗ bigSep Finset.univ (fun p : Dev nD × Fin 53 => reached (ER (F := F)) (kcell p) 0))
instance recs_persistent (K : Dev nD × Fin 53 → ℕ) : BI.Persistent (recs m K) := by unfold recs; infer_instance

/-- What the global step makes of it. -/
def G' (c : Dev nD) : sProp 𝕄 := iprop(∃ K, recs m K ∗ (bigSep Finset.univ fun k : Fin 53 => at0 c k) ∗ (TT c 0 Finset.univ ∗ tokIn c))

theorem fund : BI.own ((ER (F := F)) (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 53 => Φ (kcell (c, k)) := by
    unfold exCells; rw [bigSep_map, bigSep_univ_prod]; rfl
  have hT : bigSep exToks (fun x => (dutyTok (ER (F := F)) x.1 x.2.1 x.2.2 : sProp 𝕄)) = bigSep Finset.univ fun c : Dev nD => toks c := by
    unfold exToks; rw [bigSep_map, bigSep_filter, bigSep_univ_prod, bigSep_univ_prod]; rfl
  iintro HX
  imod (Rounds.fund ER (sch (CC m)) exCells exToks) $$ HX with ⟨Hst, Hr, Hat, Htok⟩
  imodintro
  ihave Hst' := (Entails.of_eq (hX fun g => roundState ER (sch (CC m)) g 0)) $$ Hst
  ihave Hat' := (Entails.of_eq (hX fun g => atPos (ER (F := F)) g 0 ∅ 0)) $$ Hat
  ihave Hr' := (Entails.of_eq (hX fun g => reached (ER (F := F)) g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem unscopedSems0_eq (c : Dev nD) : (unscopedSems0 c : sProp 𝕄) = zer c 0 := by
  unfold unscopedSems0; rw [bigSep_eq_bigSepL_of_eq [SemLoc.reg barS] (by decide) (by decide)]; rfl

theorem zer_all (c : Dev nD) :
    (bigSep Finset.univ (fun k : Fin 53 => zer c k) : sProp 𝕄) = iprop(unscopedSems0 c ∗ Pipeline.ownSems0 (Ix := Unit) (Name := ℕ) (U := UU) (Lvl := ℕ) (Val := Elt F) (τ := τ) osem c) := by
  rw [split1, unscopedSems0_eq]; rfl
theorem zers_all (c : Dev nD) : (zers c : sProp 𝕄) = bigSep Finset.univ (fun k : Fin 53 => zer c k) := by rw [split53]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sch (CC m)) κ (kcell (c, k))))
          ∗ (bigSep Finset.univ fun k : Fin 53 => at0 c k) ∗ (bigSep Finset.univ fun k : Fin 53 => reached (ER (F := F)) (kcell (c, k)) 0) ∗ toks c) := by
  unfold G
  iintro ⟨Hos, Hus, Hst, Hat, Hr, Htok⟩
  ihave Hv := (Entails.of_eq (zer_all (F := F) c).symm) $$ [Hos Hus]
  · isplitl [Hus] <;> iassumption
  imod (show iprop((bigSep Finset.univ fun k : Fin 53 => zer c k) ∗ bigSep Finset.univ fun k : Fin 53 => roundState ER (sch (CC m)) (kcell (c, k)) 0)
      ⊢ (|={Set.univ}=> bigSep Finset.univ fun k => iprop(∃ κ : ℕ, cellInv ER (sch (CC m)) κ (kcell (c, k))) : sProp 𝕄) from by
        rw [← bigSep_sep']
        exact (bigSep_mono fun k _ => (Rounds.body_intro ER (sch (CC m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sch (CC m)) κ (kcell (c, k))))
          ∗ (bigSep Finset.univ fun k : Fin 53 => at0 c k) ∗ (bigSep Finset.univ fun k : Fin 53 => reached (ER (F := F)) (kcell (c, k)) 0) ∗ toks c) : sProp 𝕄)
      ⊢ bigSep Finset.univ (G' m) := by
  rw [bigSep_sep', bigSep_sep', bigSep_sep', ← bigSep_univ_prod (fun p : Dev nD × Fin 53 => iprop(∃ κ : ℕ, cellInv ER (sch (CC m)) κ (kcell p))),
    ← bigSep_univ_prod (fun p : Dev nD × Fin 53 => (reached (ER (F := F)) (kcell p) 0 : sProp 𝕄))]
  iintro ⟨HI, Hat, #HR, Htok⟩
  ihave HK := (BI.bigSep_exists_pi Finset.univ (fun (p : Dev nD × Fin 53) (κ : ℕ) => (cellInv ER (sch (CC m)) κ (kcell p) : sProp 𝕄))) $$ HI
  icases HK with ⟨%K, #HI⟩
  ihave Htok' := (Entails.of_eq (show (bigSep Finset.univ toks : sProp 𝕄) = bigSep Finset.univ (fun c : Dev nD => bigSep Finset.univ (fun k : Fin 53 => bigSep Finset.univ (fun d : Dev nD => if pays d c k.val = true then dutyTok (ER (F := F)) (kcell (c, k)) 0 d else iprop(emp)))) from rfl)) $$ Htok
  ihave Htk := (deal (F := F)) $$ Htok'
  iapply (with_persistent (R := recs m K) (Φ := fun c : Dev nD => iprop((bigSep Finset.univ fun k : Fin 53 => at0 c k) ∗ (TT c 0 Finset.univ ∗ tokIn c))) fun c _ => by
    unfold G'; iintro ⟨#H, H'⟩; iexists K
    isplitl []; · iexact H
    iexact H')
  isplitr
  · unfold recs; isplitl; · iexact HI
    iexact HR
  · iapply (Entails.of_eq (bigSep_sep' Finset.univ (fun c : Dev nD => bigSep Finset.univ fun k : Fin 53 => (at0 c k : sProp 𝕄)) (fun c => iprop(TT c 0 Finset.univ ∗ tokIn c))).symm)
    isplitl [Hat]; · iexact Hat
    iexact Htk

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, ⟨%K, HR, Hat, HT⟩⟩
  ihave HW := (waits_in c) $$ [Hat Hcr]
  · isplitl [Hat] <;> iassumption
  icases HW with ⟨Hat, Hwt⟩
  imodintro
  unfold start
  isplitl
  · iexists K
    isplitl [HR Hlev]
    · unfold recs know
      icases HR with ⟨H1, H2⟩
      isplitl [H1]; · iexact H1
      isplitl [H2] <;> iassumption
    isplitl [HT]; · iexact HT
    isplitl [Hat] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [zers_all, zer_all]
  iintro ⟨⟨Hu, Ho⟩, Hr⟩
  isplitl [Hu]; · iexact Hu
  isplitl [Ho]; · iexact Ho
  iexact Hr

theorem above_all (c : Dev nD) : Above 0 (O₀ c) := above_add (above_mono (by decide) (above_send c)) (above_OO c 0 _ (by decide))

theorem mayWait_stage (c : Dev nD) (q : DmaSem sig) (hq : q.val < 6) (O : CellTallies nD τ sig Unit) (hO : Above 0 O) :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by obtain ⟨t, k', rfl, -⟩ := hO g u hg; exact Finset.mem_singleton_self _)
    (fun p hp => by rw [Finset.mem_singleton.mp hp]; show lvk (kk (.dma q)) ≤ 0; unfold kk; dsimp only; rw [if_pos hq]; decide)
    (fun g u hg => by obtain ⟨t, k', rfl, h'⟩ := hO g u hg; show _ < lvk (kk (csem k')); rw [kk_csem]; exact h')

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact above_all c
      · exact above_zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
set_option maxHeartbeats 1000000 in
/-- On sixteen devices, for any float values, from any memory with zero counters: every weakly fair execution ends, every
    device's arrays then hold what the body computes, and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_0 (c : Dev nD) : finalA m ρ c (0 : Fin 6) = m ((c : Thread nD τ).loc main_arg0) := (dats (F := F) m ρ 0 c).arrAt_in (0 : Fin 6) rfl _

theorem finalA_1 (c : Dev nD) : finalA m ρ c (1 : Fin 6) = m ((c : Thread nD τ).loc main_arg1) := (dats (F := F) m ρ 0 c).arrAt_in (1 : Fin 6) rfl _

theorem finalA_2 (c : Dev nD) : finalA m ρ c (2 : Fin 6) = m ((c : Thread nD τ).loc main_arg2) := (dats (F := F) m ρ 0 c).arrAt_in (2 : Fin 6) rfl _

theorem finalA_3 (c : Dev nD) : finalA m ρ c (3 : Fin 6) = m ((c : Thread nD τ).loc main_arg3) := (dats (F := F) m ρ 0 c).arrAt_in (3 : Fin 6) rfl _

theorem finalA_4 (c : Dev nD) : finalA m ρ c (4 : Fin 6) = m ((c : Thread nD τ).loc main_arg4) := (dats (F := F) m ρ 0 c).arrAt_in (4 : Fin 6) rfl _

/-- Every run ends with the operands unchanged and every counter at zero. -/
theorem quiescent : θ_run defs (onTc (τ := τ) (main (F := F))) (s₀ m ρ) (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c 0).trans (finalA_0 m ρ c), (h.1 c 1).trans (finalA_1 m ρ c), (h.1 c 2).trans (finalA_2 m ρ c), (h.1 c 3).trans (finalA_3 m ρ c), (h.1 c 4).trans (finalA_4 m ρ c)⟩, h.2⟩) (run_main m ρ)

end Cert.Exchange

end
-- ==== Proof.Same.lean ====
module

public import proofs.«01_k».proof.Proof.Launching
public import proofs.«01_k».proof.Proof.Gen.Kernel
public import proofs.«01_k».proof.Defs

@[expose] public section

set_option maxRecDepth 100000

noncomputable section

namespace Cert.Exchange

open Idealize.ShloMosaic Idealize.SL.Sem

/-- At the words the named mask reads as the word the kernel prints. -/
local instance namedBits : Named Bits := ⟨fun _ _ _ b => Scalar.ofBits _ b⟩

set_option maxHeartbeats 4000000 in
theorem same_defs₀ : Cert.Kernel.defs₀ (F := Bits) = Cert.KernelIdeal.defs₀ (F := Bits) := by
  refine congrArg Defs.onTc (funext fun l => funext fun x => ?_)
  match l, x with
  | 0, (t, s) => rfl
  | ⟨_ + 1, h⟩, _ => exact absurd h (Nat.not_lt.2 (Nat.le_add_left _ _))

set_option maxHeartbeats 4000000 in
/-- The kernel as printed is the kernel with the mask's word named. -/
theorem same_defs : Cert.Kernel.defs (F := Bits) = Cert.KernelIdeal.defs (F := Bits) :=
  congrArg (Pipeline.defs (Cert.KernelIdeal.pcfgs (F := Bits))) same_defs₀

set_option maxHeartbeats 4000000 in
theorem same_main : Cert.Kernel.main (F := Bits) = Cert.KernelIdeal.main (F := Bits) := rfl

set_option maxHeartbeats 4000000 in
/-- The printed kernel ends on every run, its operands unchanged and every counter at zero. -/
theorem quiescent_words : Cert.quiescent_Kernel := fun m g _ => by
  rw [same_defs, same_main]
  exact quiescent (F := Bits) m g

end Cert.Exchange

end
-- ==== Proof.Words.lean ====
module

public import Idealize.ShloMosaic.PureOps.Ideal.Laws

@[expose] public section

noncomputable section

namespace Cert.Exchange

open Idealize.ShloMosaic

/-! ## Small integers as words -/

/-- The word of a small integer. -/
def W (a : ℤ) : BitVec 32 := BitVec.ofInt 32 a

theorem W_add (a b : ℤ) : IntOp.addi (W a) (W b) = W (a + b) := (BitVec.ofInt_add ..).symm
theorem W_mul (a b : ℤ) : IntOp.muli (W a) (W b) = W (a * b) := (BitVec.ofInt_mul ..).symm
theorem W_sub (a b : ℤ) : IntOp.subi (W a) (W b) = W (a - b) := by
  show W a - W b = _
  unfold W
  rw [BitVec.sub_eq_add_neg, ← BitVec.ofInt_neg, ← BitVec.ofInt_add, sub_eq_add_neg]

theorem W_toInt {a : ℤ} (h : -100000 ≤ a) (h' : a ≤ 100000) : (W a).toInt = a := by
  unfold W
  rw [BitVec.toInt_ofInt, Int.bmod_def]
  split <;> omega

theorem W_abs {a : ℤ} (h : -100000 ≤ a) (h' : a ≤ 100000) : IntOp.absi (W a) = W |a| := by
  unfold IntOp.absi
  rw [BitVec.msb_eq_toInt, W_toInt h h']
  by_cases hn : a < 0
  · rw [decide_eq_true hn, if_pos rfl, abs_of_neg hn]; unfold W; rw [BitVec.ofInt_neg]
  · rw [decide_eq_false hn, if_neg Bool.false_ne_true, abs_of_nonneg (not_lt.1 hn)]

theorem W_slt {a b : ℤ} (h : -100000 ≤ a) (h' : a ≤ 100000) (k : -100000 ≤ b) (k' : b ≤ 100000) :
    IntOp.cmpi .slt (W a) (W b) = BitVec.ofBool (decide (a < b)) := by
  show BitVec.ofBool ((W a).slt (W b)) = _
  rw [BitVec.slt_eq_decide, W_toInt h h', W_toInt k k']
theorem W_sle {a b : ℤ} (h : -100000 ≤ a) (h' : a ≤ 100000) (k : -100000 ≤ b) (k' : b ≤ 100000) :
    IntOp.cmpi .sle (W a) (W b) = BitVec.ofBool (decide (a ≤ b)) := by
  show BitVec.ofBool ((W a).sle (W b)) = _
  rw [BitVec.sle_eq_decide, W_toInt h h', W_toInt k k']
theorem W_sge {a b : ℤ} (h : -100000 ≤ a) (h' : a ≤ 100000) (k : -100000 ≤ b) (k' : b ≤ 100000) :
    IntOp.cmpi .sge (W a) (W b) = BitVec.ofBool (decide (b ≤ a)) := by
  show BitVec.ofBool ((W b).sle (W a)) = _
  rw [BitVec.sle_eq_decide, W_toInt h h', W_toInt k k']

theorem or_bool (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]
theorem and_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem select_bool {α : Type} (p : Prop) [Decidable p] (a b : α) :
    Scalar.select (BitVec.ofBool (decide p)) a b = if p then a else b := by
  by_cases hp : p <;> simp [hp, Scalar.select]

end Cert.Exchange

end
-- ==== Proof.Softmax.lean ====
module

public import Idealize.ShloMosaic.PureOps.Ideal.Laws

@[expose] public section

noncomputable section

namespace Cert.Exchange

open Idealize.ShloMosaic
open scoped BigOperators

/-! ## Softmax over a set of keys, on the extended reals -/

/-- The exponential weights of the keys in `A`, scored by `r`, against `v`. -/
def soft {ι : Type} (A : Finset ι) (r : ι → ℝ) (v : ι → EReal) : EReal :=
  ∑ i ∈ A, ((Real.exp (r i) / ∑ k ∈ A, Real.exp (r k) : ℝ) : EReal) * v i

/-- The largest score of a row. -/
def rowMax {ι : Type} [Fintype ι] (s : ι → EReal) : EReal := Finset.univ.fold max ⊥ s

/-- The row as programs compute it: shift by the largest score, exponentiate, divide by the sum, weigh. -/
def att {ι : Type} [Fintype ι] (s v : ι → EReal) : EReal :=
  ∑ i, Ideal.div (Ideal.exp (s i - rowMax s)) (∑ k, Ideal.exp (s k - rowMax s)) * v i

theorem coe_sum {ι : Type} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- A real that is not negative goes through a sum of extended reals. -/
theorem sum_mul_real {ι : Type} (A : Finset ι) (f : ι → EReal) {c : ℝ} (hc : 0 ≤ c) :
    (∑ i ∈ A, f i) * (c : EReal) = ∑ i ∈ A, f i * (c : EReal) := by
  classical
  induction A using Finset.induction_on with
  | empty => simp
  | insert a A ha ih =>
    rw [Finset.sum_insert ha, Finset.sum_insert ha, ← ih]
    exact EReal.right_distrib_of_nonneg_of_ne_top (by exact_mod_cast hc) (EReal.coe_ne_top c) _ _

/-- Where some score is real and none is infinite upward, the largest score is real. -/
theorem rowMax_real {ι : Type} [Fintype ι] (s : ι → EReal) (ht : ∀ i, s i ≠ ⊤) {i : ι} (hi : s i ≠ ⊥) : ∃ M : ℝ, rowMax s = M := by
  have h1 : rowMax s ≠ ⊤ := ne_of_lt ((Finset.fold_max_lt ⊤).2 ⟨bot_lt_top, fun x _ => lt_top_iff_ne_top.2 (ht x)⟩)
  have h2 : rowMax s ≠ ⊥ := ne_of_gt (lt_of_lt_of_le (bot_lt_iff_ne_bot.2 hi) ((Finset.le_fold_max (s i)).2 (.inr ⟨i, Finset.mem_univ _, le_rfl⟩)))
  exact ⟨(rowMax s).toReal, (EReal.coe_toReal h1 h2).symm⟩

theorem exp_sub_real (r M : ℝ) : Ideal.exp ((r : EReal) - (M : EReal)) = ((Real.exp (r - M) : ℝ) : EReal) := by
  rw [← EReal.coe_sub, Ideal.exp_coe]

theorem exp_sub_bot (M : ℝ) : Ideal.exp (⊥ - (M : EReal)) = 0 := by
  rw [show (⊥ - (M : EReal)) = ⊥ from by rw [sub_eq_add_neg, EReal.bot_add]]; rfl

/-- What programs compute is the softmax over the keys whose score is not `⊥`. -/
theorem att_eq {ι : Type} [Fintype ι] (s v : ι → EReal) (A : Finset ι) (hA : A.Nonempty) (r : ι → ℝ)
    (hr : ∀ i ∈ A, s i = (r i : EReal)) (hb : ∀ i, i ∉ A → s i = ⊥) : att s v = soft A r v := by
  classical
  obtain ⟨a, ha⟩ := hA
  obtain ⟨M, hM⟩ := rowMax_real s (fun i => by
    by_cases h : i ∈ A
    · rw [hr i h]; exact EReal.coe_ne_top _
    · rw [hb i h]; exact bot_ne_top) (i := a) (by rw [hr a ha]; exact EReal.coe_ne_bot _)
  have hS : (∑ k, Ideal.exp (s k - rowMax s)) = ((∑ k ∈ A, Real.exp (r k - M) : ℝ) : EReal) := by
    rw [coe_sum, ← Finset.sum_subset (Finset.subset_univ A) (fun i _ h => by rw [hb i h, hM, exp_sub_bot])]
    exact Finset.sum_congr rfl fun i h => by rw [hr i h, hM, exp_sub_real]
  have hpos : (0 : ℝ) < ∑ k ∈ A, Real.exp (r k - M) := Finset.sum_pos (fun _ _ => Real.exp_pos _) ⟨a, ha⟩
  unfold att soft
  rw [hS, ← Finset.sum_subset (Finset.subset_univ A) (fun i _ h => by
    rw [hb i h, hM, exp_sub_bot, Ideal.div_coe hpos.ne', zero_mul, zero_mul])]
  refine Finset.sum_congr rfl fun i h => ?_
  rw [hr i h, hM, exp_sub_real, Ideal.div_coe hpos.ne', ← EReal.coe_mul]
  have e : (∑ k ∈ A, Real.exp (r k - M)) = (∑ k ∈ A, Real.exp (r k)) / Real.exp M := by
    rw [Finset.sum_div]; exact Finset.sum_congr rfl fun k _ => Real.exp_sub _ _
  rw [e, Real.exp_sub, one_div_div, div_mul_div_cancel₀ (Real.exp_pos M).ne']

/-- The softmax does not depend on how the keys are named. -/
theorem soft_map {ι κ : Type} (A : Finset ι) (B : Finset κ) (e : ι → κ) (he : Set.BijOn e A B) (r : κ → ℝ) (v : κ → EReal)
    (r' : ι → ℝ) (v' : ι → EReal) (hr : ∀ i ∈ A, r' i = r (e i)) (hv : ∀ i ∈ A, v' i = v (e i)) : soft A r' v' = soft B r v := by
  have hS : (∑ k ∈ A, Real.exp (r' k)) = ∑ k ∈ B, Real.exp (r k) :=
    Finset.sum_nbij e he.mapsTo he.injOn he.surjOn (fun i h => by rw [hr i h])
  unfold soft
  rw [hS]
  exact Finset.sum_nbij e he.mapsTo he.injOn he.surjOn (fun i h => by rw [hr i h, hv i h])

/-- A row dealt in parts: each part shifts by its own number `m j`, and the parts are put together over the shift `M`. -/
theorem merge_eq {J T : Type} [Fintype J] [Fintype T] [Nonempty J] [Nonempty T] (r : J → T → ℝ) (v : J → T → EReal) (m : J → ℝ) (M : ℝ) :
    Ideal.div (∑ j, (∑ t, Ideal.exp ((r j t : EReal) - (m j : EReal)) * v j t) * Ideal.exp ((m j : EReal) - (M : EReal)))
        (∑ j, Ideal.exp ((m j : EReal) - (M : EReal)) * ∑ t, Ideal.exp ((r j t : EReal) - (m j : EReal)))
      = soft (Finset.univ : Finset (J × T)) (fun p => r p.1 p.2) (fun p => v p.1 p.2) := by
  have hL : (∑ j, Ideal.exp ((m j : EReal) - (M : EReal)) * ∑ t, Ideal.exp ((r j t : EReal) - (m j : EReal)))
      = (((∑ p : J × T, Real.exp (r p.1 p.2)) / Real.exp M : ℝ) : EReal) := by
    rw [Finset.sum_div, Fintype.sum_prod_type, coe_sum]
    refine Finset.sum_congr rfl fun j _ => ?_
    simp only [exp_sub_real]
    rw [← coe_sum, ← EReal.coe_mul, Finset.mul_sum]
    refine congrArg _ (Finset.sum_congr rfl fun t _ => ?_)
    rw [← Real.exp_add, ← Real.exp_sub]; congr 1; ring
  have hpos : (0 : ℝ) < ∑ p : J × T, Real.exp (r p.1 p.2) := Finset.sum_pos (fun _ _ => Real.exp_pos _) Finset.univ_nonempty
  have hne : (∑ p : J × T, Real.exp (r p.1 p.2)) / Real.exp M ≠ 0 := (div_pos hpos (Real.exp_pos M)).ne'
  have hnn : (0 : ℝ) ≤ 1 / ((∑ p : J × T, Real.exp (r p.1 p.2)) / Real.exp M) := by positivity
  rw [hL, Ideal.div_coe hne, sum_mul_real _ _ hnn]
  unfold soft
  generalize (∑ p : J × T, Real.exp (r p.1 p.2)) = Z at *
  rw [Fintype.sum_prod_type]
  refine Finset.sum_congr rfl fun j _ => ?_
  rw [exp_sub_real, sum_mul_real (ι := T) _ _ (Real.exp_pos _).le, sum_mul_real (ι := T) _ _ hnn]
  refine Finset.sum_congr rfl fun t _ => ?_
  have e : ∀ (a b c : ℝ) (w : EReal), (a : EReal) * w * b * c = ((a * b * c : ℝ) : EReal) * w := fun a b c w => by
    rw [EReal.coe_mul, EReal.coe_mul, mul_right_comm (a : EReal) w, mul_right_comm _ w]
  rw [exp_sub_real, e]
  congr 2
  rw [← Real.exp_add, show r j t - m j + (m j - M) = r j t - M by ring, Real.exp_sub, one_div_div, div_mul_div_cancel₀ (Real.exp_pos M).ne']

end Cert.Exchange

end
-- ==== Proof.BandHead.lean ====
module

public import proofs.«01_k».proof.Proof.Values
public import proofs.«01_k».proof.Proof.Words
public import proofs.«01_k».proof.Proof.Softmax
public import Idealize.ShloMosaic.Lib.MatmulPlain
public import Idealize.ShloMosaic.Lib.IdealHost
public import Idealize.ShloMosaic.Lib.ValueIdx
public import Idealize.ShloMosaic.Lib.ValueLayout
public import Idealize.ShloMosaic.Lib.ValueLayoutCasts
public import Idealize.ShloMosaic.Lib.Pipeline.Value

@[expose] public section

set_option maxRecDepth 10000

noncomputable section

namespace Cert.Exchange

open Cert.KernelIdeal Cert.KernelIdeal.Gen
open Idealize.ShloMosaic Idealize.ShloMosaic.TcCoe Idealize.ShloMosaic.ValueIdx
open scoped BigOperators

/-! ## One head of the banded rows -/

abbrev KV (s : Shape) (φ : FTy) := FVec Ideal s φ

theorem k_eighth : (Scalar.ofBits .f32 0x3E000000#32 : Ideal .f32) = ((1 / 8 : ℝ) : EReal) := by
  show Ideal.ofBits .f32 0x3E000000#32 = _
  simp [Ideal.ofBits, Ideal.ieee, -EReal.coe_mul]; norm_num
theorem k_minf : (FloatOps.ofBits .f32 0xFF800000#32 : Ideal .f32) = (⊥ : EReal) := by
  show Ideal.ofBits .f32 0xFF800000#32 = _
  simp [Ideal.ofBits, Ideal.ieee]
theorem k_mask : (Named.named κ "mask" 0xCE6E6B28#32 : Ideal .f32) = (⊥ : EReal) :=
  IdealRules.named_const.ideal_named_scalar _ _ _ _ rfl
theorem const_at {s : Shape} (i : s.Idx) : (constant s .f32 0x00000000#32 : KV s .f32) i = 0 := Ideal.ofBits_zero_f32

/-- A column of a reduction spread over its rows again. -/
theorem col_at {a b : ℕ} (x : KV ⟨1, ![a]⟩ .f32) (h : (⟨1, ![a]⟩ : Shape).ShapeCasts ⟨2, ![a, 1]⟩) (h' : (⟨2, ![a, 1]⟩ : Shape).Broadcasts ⟨2, ![a, b]⟩)
    (r : Fin a) (c : Fin b) : broadcastTo ⟨2, ![a, b]⟩ (shapeCast ⟨2, ![a, 1]⟩ x h) h' (ix2 r c) = x (ix1 r) := by
  rw [broadcastTo_apply _ _ _ (ix2 r 0) (by
    intro ax
    match ax with
    | ⟨0, _⟩ =>
      show r.val = if a = 1 then 0 else r.val
      split
      · have := r.isLt; omega
      · rfl
    | ⟨1, _⟩ => rfl), shapeCast_a_a1_apply]

theorem lift2 {a b : ℕ} (hr : (⟨2, ![a, b]⟩ : Shape).Reduces [1] ⟨1, ![a]⟩) (r : Fin a) (c : Fin b) : hr.lift (ix1 r) c = ix2 r c := by
  funext ax; apply Fin.ext
  match ax with
  | ⟨0, _⟩ => rfl
  | ⟨1, _⟩ => rfl

/-- A row's largest entry. -/
theorem max_at {a b : ℕ} (x : KV ⟨2, ![a, b]⟩ .f32) (hr : (⟨2, ![a, b]⟩ : Shape).Reduces [1] ⟨1, ![a]⟩) (r : Fin a) :
    multiReduction .maximumf [1] ⟨1, ![a]⟩ x 0xFF800000#32 hr (.inl rfl) rfl (ix1 r) = rowMax fun c : Fin b => x (ix2 r c) := by
  refine (Ideal.multiReduction_maximumf_single x 0xFF800000#32 hr (.inl rfl) rfl (ix1 r)).trans ?_
  have e : (x ∘ hr.lift (ix1 r)) = fun c : Fin b => x (ix2 r c) := by
    funext c; exact congrArg x (lift2 hr r c)
  rw [e, k_minf]
  rfl
/-- A row's sum. -/
theorem sum_at {a b : ℕ} (x : KV ⟨2, ![a, b]⟩ .f32) (hr : (⟨2, ![a, b]⟩ : Shape).Reduces [1] ⟨1, ![a]⟩) (r : Fin a) :
    multiReduction .add [1] ⟨1, ![a]⟩ x 0x00000000#32 hr (.inl rfl) rfl (ix1 r) = ∑ c : Fin b, x (ix2 r c) := by
  refine (Ideal.multiReduction_add_single x _ hr (.inl rfl) rfl (ix1 r)).trans ?_
  exact Finset.sum_congr rfl fun c _ => congrArg x (lift2 hr r c)

/-- The masked scores of the head at column `o`. -/
def bS (q : KV S128x256 .f32) (mk : IVec S128x512 1) (k : KV S512x256 .bf16) (o : ℕ) (hq : S128x256.Slices ![0, o] S128x64)
    (hk : S512x256.Slices ![0, o] S512x64) : KV S128x512 .f32 :=
  select mk (mulf (matmul dot_S128x64_S512x64_S128x512_1_1_0_0_n_n none (truncf .bf16 (extractStridedSlice S128x64 ![0, o] q hq) bitsLt_bf16_f32)
      (extractStridedSlice S512x64 ![0, o] k hk) (constant S128x512 .f32 0x00000000#32)) (broadcast S128x512 (Scalar.ofBits .f32 0x3E000000#32 : Ideal .f32)))
    (broadcast S128x512 (Named.named κ "mask" 0xCE6E6B28#32 : Ideal .f32))
/-- The scores less their row's largest. -/
def bD (s : KV S128x512 .f32) : KV S128x512 .f32 :=
  subf s (broadcastTo S128x512 (shapeCast S128x1 (multiReduction .maximumf [1] S128 s 0xFF800000#32 reduces_S128x512_S128 (.inl rfl) rfl) shapeCasts_S128_S128x1) broadcasts_S128x1_S128x512)
/-- The weights. -/
def bW (d : KV S128x512 .f32) : KV S128x512 .bf16 :=
  truncf .bf16 (divf (exp d) (broadcastTo S128x512 (shapeCast S128x1 (multiReduction .add [1] S128 (exp d) 0x00000000#32 reduces_S128x512_S128 (.inl rfl) rfl) shapeCasts_S128_S128x1) broadcasts_S128x1_S128x512)) bitsLt_bf16_f32
/-- The weighted values. -/
def bH (w : KV S128x512 .bf16) (v : KV S512x64 .bf16) : KV S128x64 .f32 :=
  matmul dot_S128x512_S512x64_S128x64_1_0_0_1_n_n none w v (constant S128x64 .f32 0x00000000#32)

/-- A masked score. -/
def bs (q : KV S128x256 .f32) (mk : IVec S128x512 1) (k : KV S512x256 .bf16) (o : ℕ) (ho : o + 64 ≤ 256) (r : Fin 128) (c : Fin 512) : EReal :=
  Scalar.select (mk (ix2 r c)) ((∑ d : Fin 64, q (ix2 r ⟨o + d.val, by omega⟩) * k (ix2 c ⟨o + d.val, by omega⟩)) * ((1 / 8 : ℝ) : EReal)) ⊥

theorem bS_at (q : KV S128x256 .f32) (mk : IVec S128x512 1) (k : KV S512x256 .bf16) (o : ℕ) (hq : S128x256.Slices ![0, o] S128x64)
    (hk : S512x256.Slices ![0, o] S512x64) (ho : o + 64 ≤ 256) (r : Fin 128) (c : Fin 512) :
    bS q mk k o hq hk (ix2 r c) = bs q mk k o ho r c := by
  unfold bS bs
  rw [select_apply, mulf_apply]
  have e : matmul dot_S128x64_S512x64_S128x512_1_1_0_0_n_n none (truncf .bf16 (extractStridedSlice S128x64 ![0, o] q hq) bitsLt_bf16_f32)
      (extractStridedSlice S512x64 ![0, o] k hk) (constant S128x512 .f32 0x00000000#32) (ix2 r c)
      = ∑ d : Fin 64, q (ix2 r ⟨o + d.val, by omega⟩) * k (ix2 c ⟨o + d.val, by omega⟩) := by
    refine (Ideal.matmul_transposedRhs_apply (M := 128) (K := 64) (N := 512) none _ _ _ r c).trans ?_
    rw [const_at, zero_add]
    refine Finset.sum_congr rfl fun d _ => ?_
    exact congrArg₂ (· * ·) (slice2_axis1_apply o q hq r d ⟨o + d.val, by omega⟩ rfl) (slice2_axis1_apply o k hk c d ⟨o + d.val, by omega⟩ rfl)
  rw [e]
  exact congrArg₂ (Scalar.select (mk (ix2 r c))) (congrArg _ k_eighth) k_mask

theorem bD_at (s : KV S128x512 .f32) (r : Fin 128) (c : Fin 512) : bD s (ix2 r c) = s (ix2 r c) - rowMax fun c : Fin 512 => s (ix2 r c) := by
  unfold bD
  rw [subf_apply, col_at, max_at]

theorem bW_at (d : KV S128x512 .f32) (r : Fin 128) (c : Fin 512) :
    bW d (ix2 r c) = Ideal.div (Ideal.exp (d (ix2 r c))) (∑ c : Fin 512, Ideal.exp (d (ix2 r c))) := by
  unfold bW
  show divf (exp d) _ (ix2 r c) = _
  rw [divf_apply, col_at, sum_at]
  rfl

theorem bH_at (w : KV S128x512 .bf16) (v : KV S512x64 .bf16) (r : Fin 128) (d : Fin 64) : bH w v (ix2 r d) = ∑ c : Fin 512, w (ix2 r c) * v (ix2 c d) := by
  unfold bH
  refine (Ideal.matmul_plain_apply (M := 128) (K := 512) (N := 64) none _ _ _ r d).trans ?_
  rw [const_at, zero_add]

/-- One head of the banded rows, entry by entry. -/
theorem head_at (q : KV S128x256 .f32) (mk : IVec S128x512 1) (k v : KV S512x256 .bf16) (o : ℕ) (hq : S128x256.Slices ![0, o] S128x64)
    (hk : S512x256.Slices ![0, o] S512x64) (ho : o + 64 ≤ 256) (r : Fin 128) (d : Fin 64) :
    bH (bW (bD (bS q mk k o hq hk))) (extractStridedSlice S512x64 ![0, o] v hk) (ix2 r d)
      = att (fun c => bs q mk k o ho r c) (fun c => v (ix2 c ⟨o + d.val, by omega⟩)) := by
  unfold att
  rw [bH_at]
  refine Finset.sum_congr rfl fun c _ => ?_
  rw [bW_at]
  simp only [bD_at, bS_at q mk k o hq hk ho]
  exact congrArg _ (slice2_axis1_apply o v hk c d ⟨o + d.val, by omega⟩ rfl)

/-- The four heads side by side, times the output weights. -/
def bO (h0 h1 h2 h3 : KV S128x64 .f32) (wo : KV S256x512 .f32) : KV S128x512 .f32 :=
  matmul dot_S128x256_S256x512_S128x512_1_0_0_1_n_n none
    (concatenate S128x256 1 [⟨S128x64, h0⟩, ⟨S128x64, h1⟩, ⟨S128x64, h2⟩, ⟨S128x64, h3⟩] concatenates_S128x64_S128x64_S128x64_S128x64_S128x256_d1)
    (shapeCast S256x512 wo shapeCasts_S256x512_S256x512) (constant S128x512 .f32 0x00000000#32)

theorem bO_at (h : Fin 4 → KV S128x64 .f32) (wo : KV S256x512 .f32) (r : Fin 128) (n : Fin 512) :
    bO (h 0) (h 1) (h 2) (h 3) wo (ix2 r n)
      = ∑ e : Fin 256, h ⟨e.val / 64, by omega⟩ (ix2 r ⟨e.val % 64, by omega⟩) * wo (ix2 e n) := by
  unfold bO
  refine (Ideal.matmul_plain_apply (M := 128) (K := 256) (N := 512) none _ _ _ r n).trans ?_
  rw [const_at, zero_add]
  refine Finset.sum_congr rfl fun e _ => ?_
  refine congrArg₂ (· * ·) ?_ (shapeCast_apply _ _ _ _ rfl)
  exact concatenate_ofFn_apply (t := S128x256) (s₁ := S128x64) (1 : Fin 2) h concatenates_S128x64_S128x64_S128x64_S128x64_S128x256_d1 rfl 64 rfl (ix2 r e)
    ⟨e.val / 64, by omega⟩ rfl _ rfl (by
      intro b hb
      match b with
      | ⟨0, _⟩ => rfl
      | ⟨1, _⟩ => exact absurd rfl hb)

/-! ## The printed values are these -/

variable (E : Env Ideal)

/-- The banded rows of one batch entry. -/
def bB (q : KV S128x256 .f32) (mk : IVec S128x512 1) (k v : KV S512x256 .bf16) (wo : KV S256x512 .f32) : KV S128x512 .f32 :=
  bO (bH (bW (bD (bS q mk k 0 slices_S128x256_o0_0_S128x64 slices_S512x256_o0_0_S512x64))) (extractStridedSlice S512x64 ![0, 0] v slices_S512x256_o0_0_S512x64))
    (bH (bW (bD (bS q mk k 64 slices_S128x256_o0_64_S128x64 slices_S512x256_o0_64_S512x64))) (extractStridedSlice S512x64 ![0, 64] v slices_S512x256_o0_64_S512x64))
    (bH (bW (bD (bS q mk k 128 slices_S128x256_o0_128_S128x64 slices_S512x256_o0_128_S512x64))) (extractStridedSlice S512x64 ![0, 128] v slices_S512x256_o0_128_S512x64))
    (bH (bW (bD (bS q mk k 192 slices_S128x256_o0_192_S128x64 slices_S512x256_o0_192_S512x64))) (extractStridedSlice S512x64 ![0, 192] v slices_S512x256_o0_192_S512x64))
    wo

theorem ob0 (b : Fin 128) (n : Fin 512) :
    k0_pay235 (v382 E) (v402 E) (v422 E) (v426 E) (v441 E) (cst_239 E) (v444 E) (ix3 0 b n) = bB (v40 E) (v337 E) (v350 E) (v362 E) (v444 E) (ix2 b n) :=
  shapeCast_ab_1ab_apply (bB (v40 E) (v337 E) (v350 E) (v362 E) (v444 E)) shapeCasts_S128x512_S1x128x512 0 b n
theorem ob1 (b : Fin 128) (n : Fin 512) :
    k0_pay1 (v557 E) (ix3 0 b n) = bB (v45 E) (v337 E) (v461 E) (v473 E) (v555 E) (ix2 b n) :=
  shapeCast_ab_1ab_apply (bB (v45 E) (v337 E) (v461 E) (v473 E) (v555 E)) shapeCasts_S128x512_S1x128x512 0 b n

/-- The banded rows of one batch entry, entry by entry. -/
theorem bB_at (q : KV S128x256 .f32) (mk : IVec S128x512 1) (k v : KV S512x256 .bf16) (wo : KV S256x512 .f32) (r : Fin 128) (n : Fin 512) :
    bB q mk k v wo (ix2 r n)
      = ∑ e : Fin 256, att (fun c => bs q mk k (64 * (e.val / 64)) (by omega) r c) (fun c => v (ix2 c ⟨64 * (e.val / 64) + e.val % 64, by omega⟩)) * wo (ix2 e n) := by
  unfold bB
  let h : Fin 4 → KV S128x64 .f32 := ![bH (bW (bD (bS q mk k 0 slices_S128x256_o0_0_S128x64 slices_S512x256_o0_0_S512x64))) (extractStridedSlice S512x64 ![0, 0] v slices_S512x256_o0_0_S512x64),
    bH (bW (bD (bS q mk k 64 slices_S128x256_o0_64_S128x64 slices_S512x256_o0_64_S512x64))) (extractStridedSlice S512x64 ![0, 64] v slices_S512x256_o0_64_S512x64),
    bH (bW (bD (bS q mk k 128 slices_S128x256_o0_128_S128x64 slices_S512x256_o0_128_S512x64))) (extractStridedSlice S512x64 ![0, 128] v slices_S512x256_o0_128_S512x64),
    bH (bW (bD (bS q mk k 192 slices_S128x256_o0_192_S128x64 slices_S512x256_o0_192_S512x64))) (extractStridedSlice S512x64 ![0, 192] v slices_S512x256_o0_192_S512x64)]
  have hh : ∀ (j : Fin 4) (d : Fin 64), h j (ix2 r d) = att (fun c => bs q mk k (64 * j.val) (by omega) r c) (fun c => v (ix2 c ⟨64 * j.val + d.val, by omega⟩)) := by
    intro j d
    match j with
    | ⟨0, _⟩ => exact head_at q mk k v 0 _ _ (by omega) r d
    | ⟨1, _⟩ => exact head_at q mk k v 64 _ _ (by omega) r d
    | ⟨2, _⟩ => exact head_at q mk k v 128 _ _ (by omega) r d
    | ⟨3, _⟩ => exact head_at q mk k v 192 _ _ (by omega) r d
  refine (bO_at h wo r n).trans (Finset.sum_congr rfl fun e _ => ?_)
  rw [hh]

end Cert.Exchange

end
-- ==== Proof.RefLayers.lean ====
module

public import proofs.«01_k».proof.Proof.Gen.ReferenceIdeal.Run
public import proofs.«01_k».proof.Proof.Words
public import proofs.«01_k».proof.Proof.Softmax
public import Idealize.ShloMosaic.Lib.MatmulPlain
public import Idealize.ShloMosaic.Lib.IdealHost
public import Idealize.ShloMosaic.Lib.ValueIdx
public import Idealize.ShloMosaic.Lib.Pipeline.Value

@[expose] public section

set_option maxRecDepth 4096

noncomputable section

namespace Cert.Exchange

open Idealize.ShloMosaic Idealize.ShloMosaic.TcCoe Idealize.ShloMosaic.ValueIdx
open Cert.ReferenceIdeal Cert.ReferenceIdeal.Gen
open scoped BigOperators

/-! ## The reference, layer by layer -/

abbrev RV (s : Shape) := FVec Ideal s .f32

/-- The row and column numbers, and the keys a row may attend to. -/
def rRows : IVec S2048x1 32 := broadcastInDim S2048x1 ![0] bcast_S2048_S2048x1_0 (iotaInDim S2048 32 0)
def rCols : IVec S1x2048 32 := broadcastInDim S1x2048 ![1] bcast_S2048_S1x2048_1 (iotaInDim S2048 32 0)
def rMask : IVec S2048x2048 1 :=
  ori (cmpi .sle (absi (subi (broadcastInDim S2048x2048 ![0, 1] bcast_S2048x1_S2048x2048_0_1 rRows)
      (broadcastInDim S2048x2048 ![0, 1] bcast_S1x2048_S2048x2048_0_1 rCols)))
      (broadcastInDim S2048x2048 ![] bcast_S_S2048x2048 (constantI S_ 32 128#32)))
    (ori (broadcastInDim S2048x2048 ![0, 1] bcast_S1x2048_S2048x2048_0_1
        (cmpi .slt rCols (broadcastInDim S1x2048 ![] bcast_S_S1x2048 (constantI S_ 32 32#32))))
      (broadcastInDim S2048x2048 ![0, 1] bcast_S2048x1_S2048x2048_0_1
        (cmpi .slt rRows (broadcastInDim S2048x1 ![] bcast_S_S2048x1 (constantI S_ 32 32#32)))))
/-- Whether a row has a key at all. -/
def rKeep : IVec S2048 1 := Host.reduce IntOp.ori rMask (constantI S_ 1 0#1) reducesTo_S2048x2048_S2048_d1 h_S_

variable (a0 : RV S2x2048x512) (a1 : RV S512x256) (a2 a3 : RV S2x2048x256) (a4 : RV S256x512)

/-- The queries, the raw scores, the masked scores. -/
def rQ : RV S2x2048x256 := Host.dotGeneral dot_S2x2048x512_S512x256_S2x2048x256_2_0_01_1_n_n none a0 a1
def rRaw : RV S2x4x2048x2048 :=
  Host.dotGeneral dot_S2x2048x4x64_S2x2048x4x64_S2x4x2048x2048_3_3_1_1_02_02 none
    (shapeCast S2x2048x4x64 (rQ a0 a1) shapeCasts_S2x2048x256_S2x2048x4x64) (shapeCast S2x2048x4x64 a2 shapeCasts_S2x2048x256_S2x2048x4x64)
def rSc : RV S2x4x2048x2048 :=
  select (broadcastInDim S2x4x2048x2048 ![0, 1, 2, 3] bcast_S1x1x2048x2048_S2x4x2048x2048_0_1_2_3
      (broadcastInDim S1x1x2048x2048 ![2, 3] bcast_S2048x2048_S1x1x2048x2048_2_3 rMask))
    (mulf (rRaw a0 a1 a2) (broadcastInDim S2x4x2048x2048 ![] bcast_S_S2x4x2048x2048 (constant S_ .f32 0x3E000000#32)))
    (broadcastInDim S2x4x2048x2048 ![] bcast_S_S2x4x2048x2048 (id (constant S_ .f32 0xFF800000#32)))
def rMax : RV S2x4x2048 :=
  Host.reduce FloatOps.maximumf (rSc a0 a1 a2) (constant S_ .f32 0xFF800000#32) reducesTo_S2x4x2048x2048_S2x4x2048_d3 h_S_
def rE : RV S2x4x2048x2048 :=
  Host.exp (subf (rSc a0 a1 a2) (broadcastInDim S2x4x2048x2048 ![0, 1, 2, 3] bcast_S2x4x2048x1_S2x4x2048x2048_0_1_2_3
    (broadcastInDim S2x4x2048x1 ![0, 1, 2] bcast_S2x4x2048_S2x4x2048x1_0_1_2 (rMax a0 a1 a2))))
def rL : RV S2x4x2048 :=
  Host.reduceAdd (rE a0 a1 a2) (constant S_ .f32 0x00000000#32) reducesTo_S2x4x2048x2048_S2x4x2048_d3 h_S_
def rDen : RV S2x4x2048x1 :=
  select (broadcastInDim S2x4x2048x1 ![0, 1, 2, 3] bcast_S1x1x2048x1_S2x4x2048x1_0_1_2_3
      (broadcastInDim S1x1x2048x1 ![2] bcast_S2048_S1x1x2048x1_2 rKeep))
    (broadcastInDim S2x4x2048x1 ![0, 1, 2] bcast_S2x4x2048_S2x4x2048x1_0_1_2 (rL a0 a1 a2))
    (broadcastInDim S2x4x2048x1 ![] bcast_S_S2x4x2048x1 (id (constant S_ .f32 0x3F800000#32)))
/-- The weights, the context, the result. -/
def rW : RV S2x4x2048x2048 :=
  select (broadcastInDim S2x4x2048x2048 ![0, 1, 2, 3] bcast_S1x1x2048x1_S2x4x2048x2048_0_1_2_3
      (broadcastInDim S1x1x2048x1 ![2] bcast_S2048_S1x1x2048x1_2 rKeep))
    (Host.divf (rE a0 a1 a2) (broadcastInDim S2x4x2048x2048 ![0, 1, 2, 3] bcast_S2x4x2048x1_S2x4x2048x2048_0_1_2_3 (rDen a0 a1 a2)))
    (broadcastInDim S2x4x2048x2048 ![] bcast_S_S2x4x2048x2048 (id (constant S_ .f32 0x00000000#32)))
def rCt : RV S2x4x64x2048 :=
  Host.dotGeneral dot_S2x2048x4x64_S2x4x2048x2048_S2x4x64x2048_1_3_3_2_02_01 none
    (shapeCast S2x2048x4x64 a3 shapeCasts_S2x2048x256_S2x2048x4x64) (rW a0 a1 a2)
def rCtx : RV S2x2048x256 :=
  shapeCast S2x2048x256 (transpose S2x2048x4x64 [0, 3, 1, 2] (rCt a0 a1 a2 a3) transposes_S2x4x64x2048_S2x2048x4x64_0_3_1_2)
    shapeCasts_S2x2048x4x64_S2x2048x256
def rOut : RV S2x2048x512 :=
  Host.dotGeneral dot_S2x2048x256_S256x512_S2x2048x512_2_0_01_1_n_n none (rCtx a0 a1 a2 a3) a4

/-- The reference's result is the last of the layers. -/
theorem res_eq (m : (ℓ : Loc nD τ sig) → Buf (Elt Ideal) ℓ) (c : Dev nD) :
    Cert.ReferenceIdeal.Value.res_main_v44 (F := Ideal) m c
      = rOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

end Cert.Exchange

end
-- ==== Proof.RefValue.lean ====
module

public import proofs.«01_k».proof.Proof.RefLayers

@[expose] public section

set_option maxRecDepth 4096

noncomputable section

namespace Cert.Exchange

open Idealize.ShloMosaic Idealize.ShloMosaic.TcCoe Idealize.ShloMosaic.ValueIdx
open Cert.ReferenceIdeal Cert.ReferenceIdeal.Gen
open scoped BigOperators

/-! ## What the reference computes -/

/-- Column `64 h + d` of a 256-wide row. -/
def hd (h : Fin 4) (d : Fin 64) : Fin 256 := ⟨64 * h.val + d.val, by omega⟩

/-- The keys row `i` may attend to. -/
def ok (i j : Fin 2048) : Prop := (i.val ≤ j.val + 128 ∧ j.val ≤ i.val + 128) ∨ j.val < 32 ∨ i.val < 32
instance (i j : Fin 2048) : Decidable (ok i j) := by unfold ok; infer_instance

theorem ori_at {s : Shape} {w : ℕ} (x y : IVec s w) (i : s.Idx) : ori x y i = IntOp.ori (x i) (y i) := rfl
theorem cmpi_at {s : Shape} {w : ℕ} (p : CmpIPredicate) (x y : IVec s w) (i : s.Idx) : cmpi p x y i = IntOp.cmpi p (x i) (y i) := rfl
theorem absi_at {s : Shape} {w : ℕ} (x : IVec s w) (i : s.Idx) : absi x i = IntOp.absi (x i) := rfl
theorem subi_at {s : Shape} {w : ℕ} (x y : IVec s w) (i : s.Idx) : subi x y i = IntOp.subi (x i) (y i) := rfl

theorem hdivf_at {s : Shape} (x y : RV s) (i : s.Idx) : Host.divf x y i = Ideal.div (x i) (y i) := rfl

theorem red2 : S2048x2048.Reduces [1] S2048 := ⟨reducesTo_S2048x2048_S2048_d1.1, Nat.one_pos, reducesTo_S2048x2048_S2048_d1.2⟩
theorem red4 : S2x4x2048x2048.Reduces [3] S2x4x2048 :=
  ⟨reducesTo_S2x4x2048x2048_S2x4x2048_d3.1, Nat.succ_pos 2, reducesTo_S2x4x2048x2048_S2x4x2048_d3.2⟩

theorem rRows_apply (i : Fin 2048) (j : Fin 1) : rRows (ix2 i j) = W i.val := by
  unfold rRows
  rw [broadcastInDim_apply _ _ _ _ (ix1 i) (by intro a; fin_cases a; rfl)]; rfl
theorem rCols_apply (i : Fin 1) (j : Fin 2048) : rCols (ix2 i j) = W j.val := by
  unfold rCols
  rw [broadcastInDim_apply _ _ _ _ (ix1 j) (by intro a; fin_cases a; rfl)]; rfl

/-- The mask is the set of allowed keys. -/
theorem rMask_apply (i j : Fin 2048) : rMask (ix2 i j) = BitVec.ofBool (decide (ok i j)) := by
  unfold rMask
  rw [ori_at, ori_at, cmpi_at, absi_at, subi_at]
  rw [broadcastInDim_apply _ _ rRows _ (ix2 i 0) (by intro a; fin_cases a <;> rfl), broadcastInDim_apply _ _ rCols _ (ix2 0 j) (by intro a; fin_cases a <;> rfl),
    broadcastInDim_apply _ _ (cmpi .slt rCols _) _ (ix2 0 j) (by intro a; fin_cases a <;> rfl), broadcastInDim_apply _ _ (cmpi .slt rRows _) _ (ix2 i 0) (by intro a; fin_cases a <;> rfl)]
  rw [cmpi_at, cmpi_at, show ∀ h, broadcastInDim S2048x2048 ![] h (constantI S_ 32 128#32) (ix2 i j) = W 128 from fun _ => rfl,
    show ∀ h, broadcastInDim S1x2048 ![] h (constantI S_ 32 32#32) (ix2 0 j) = W 32 from fun _ => rfl,
    show ∀ h, broadcastInDim S2048x1 ![] h (constantI S_ 32 32#32) (ix2 i 0) = W 32 from fun _ => rfl]
  have hi := i.isLt
  have hj := j.isLt
  rw [rRows_apply, rCols_apply, W_sub, W_abs (by omega) (by omega), W_sle (by have := abs_nonneg ((i.val : ℤ) - j.val); omega) (by rw [abs_le]; omega) (by omega) (by omega),
    W_slt (by omega) (by omega) (by omega) (by omega), W_slt (by omega) (by omega) (by omega) (by omega), or_bool, or_bool]
  congr 1
  apply decide_eq_decide.2
  unfold ok
  rw [abs_le]
  omega

/-- Every row keeps a key, itself. -/
theorem rKeep_apply (i : Fin 2048) : rKeep (ix1 i) = 1#1 := by
  unfold rKeep
  rw [Host.reduce_eq_fold_single IntOp.ori rMask _ _ red2 _]
  have hh : ∀ s : Finset (Fin 2048), i ∈ s → ∀ f : Fin 2048 → BitVec 1, f i = 1#1 → s.fold IntOp.ori 0#1 f = 1#1 := by
    intro s hs f hf
    rw [← Finset.insert_erase hs, Finset.fold_insert (op := IntOp.ori (w := 1)) (Finset.notMem_erase _ _), hf]
    exact (by decide : ∀ z : BitVec 1, IntOp.ori 1#1 z = 1#1) _
  refine hh _ (Finset.mem_univ _) _ ?_
  have hl : red2.lift (ix1 i) i = ix2 i i := by
    funext c; apply Fin.ext; fin_cases c <;> rfl
  show rMask (red2.lift (ix1 i) i) = _
  rw [hl, rMask_apply, decide_eq_true (by unfold ok; omega)]; rfl

variable (a0 : RV S2x2048x512) (a1 : RV S512x256) (a2 a3 : RV S2x2048x256) (a4 : RV S256x512)

/-- A query's entry. -/
def Qr (b : Fin 2) (i : Fin 2048) (n : Fin 256) : EReal := ∑ d : Fin 512, a0 (ix3 b i d) * a1 (ix2 d n)
/-- A score, before the mask. -/
def Sr (b : Fin 2) (h : Fin 4) (i j : Fin 2048) : EReal :=
  (∑ d : Fin 64, Qr a0 a1 b i (hd h d) * a2 (ix3 b j (hd h d))) * ((1 / 8 : ℝ) : EReal)
/-- A context's entry: the softmax over the allowed keys, applied to the values. -/
def Cr (b : Fin 2) (h : Fin 4) (i : Fin 2048) (d : Fin 64) : EReal :=
  soft (Finset.univ.filter (ok i)) (fun j => (Sr a0 a1 a2 b h i j).toReal) (fun j => a3 (ix3 b j (hd h d)))
/-- A result's entry. -/
def Or (b : Fin 2) (i : Fin 2048) (n : Fin 512) : EReal :=
  ∑ e : Fin 256, Cr a0 a1 a2 a3 b ⟨e.val / 64, by omega⟩ i ⟨e.val % 64, by omega⟩ * a4 (ix2 e n)

theorem eighth : Ideal.ofBits .f32 0x3E000000#32 = ((1 / 8 : ℝ) : EReal) := by
  simp [Ideal.ofBits, Ideal.ieee, -EReal.coe_mul]; norm_num
theorem minf : Ideal.ofBits .f32 0xFF800000#32 = ⊥ := by simp [Ideal.ofBits, Ideal.ieee]

theorem rQ_apply (b : Fin 2) (i : Fin 2048) (n : Fin 256) : rQ a0 a1 (ix3 b i n) = Qr a0 a1 b i n := by
  unfold rQ Qr
  simp only [Host.dotGeneral]
  rw [Ideal.dotGeneral_apply, ← Equiv.sum_comp (contrEquiv1 dot_S2x2048x512_S512x256_S2x2048x256_2_0_01_1_n_n 512 rfl rfl).symm]
  refine Finset.sum_congr rfl fun k _ => ?_
  have hk := contrEquiv1_symm_val dot_S2x2048x512_S512x256_S2x2048x256_2_0_01_1_n_n 512 rfl rfl k
  congr 2
  · funext a; apply Fin.ext
    match a with
    | ⟨0, _⟩ => rfl
    | ⟨1, _⟩ => rfl
    | ⟨2, _⟩ => exact hk
  · funext a; apply Fin.ext
    match a with
    | ⟨0, _⟩ => exact hk
    | ⟨1, _⟩ => rfl

theorem split_apply (x : RV S2x2048x256) (b : Fin 2) (i : Fin 2048) (h : Fin 4) (d : Fin 64) :
    shapeCast S2x2048x4x64 x shapeCasts_S2x2048x256_S2x2048x4x64 (ix4 b i h d) = x (ix3 b i (hd h d)) := by
  refine shapeCast_apply x _ _ _ ?_
  rw [Shape.rowMajor_val_three, Shape.rowMajor_val_four]
  show (b.val * 2048 + i.val) * 256 + (64 * h.val + d.val) = ((b.val * 2048 + i.val) * 4 + h.val) * 64 + d.val
  ring

theorem rRaw_apply (b : Fin 2) (h : Fin 4) (i j : Fin 2048) :
    rRaw a0 a1 a2 (ix4 b h i j) = ∑ d : Fin 64, Qr a0 a1 b i (hd h d) * a2 (ix3 b j (hd h d)) := by
  unfold rRaw
  simp only [Host.dotGeneral]
  rw [Ideal.dotGeneral_apply, ← Equiv.sum_comp (contrEquiv1 dot_S2x2048x4x64_S2x2048x4x64_S2x4x2048x2048_3_3_1_1_02_02 64 rfl rfl).symm]
  refine Finset.sum_congr rfl fun k _ => ?_
  have hk := contrEquiv1_symm_val dot_S2x2048x4x64_S2x2048x4x64_S2x4x2048x2048_3_3_1_1_02_02 64 rfl rfl k
  rw [← rQ_apply, ← split_apply (rQ a0 a1) b i h k, ← split_apply a2 b j h k]
  congr 2
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => exact hk

theorem rSc_apply (b : Fin 2) (h : Fin 4) (i j : Fin 2048) :
    rSc a0 a1 a2 (ix4 b h i j) = if ok i j then Sr a0 a1 a2 b h i j else ⊥ := by
  unfold rSc
  rw [select_apply, broadcastInDim_apply _ _ _ _ (ix4 0 0 i j) (by intro a; fin_cases a <;> rfl),
    broadcastInDim_apply _ _ rMask _ (ix2 i j) (by intro a; fin_cases a <;> rfl), rMask_apply, select_bool]
  refine if_congr Iff.rfl ?_ ?_
  · show rRaw a0 a1 a2 (ix4 b h i j) * Ideal.ofBits .f32 0x3E000000#32 = _
    rw [rRaw_apply, eighth]; rfl
  · exact minf

theorem lift4 (hr : S2x4x2048x2048.Reduces [3] S2x4x2048) (b : Fin 2) (h : Fin 4) (i j : Fin 2048) : hr.lift (ix3 b h i) j = ix4 b h i j := by
  funext c; apply Fin.ext; fin_cases c <;> rfl

theorem rMax_apply (b : Fin 2) (h : Fin 4) (i : Fin 2048) :
    rMax a0 a1 a2 (ix3 b h i) = rowMax fun j => rSc a0 a1 a2 (ix4 b h i j) := by
  unfold rMax rowMax
  have hr := red4
  rw [Host.reduce_eq_fold_single (α := EReal) (FloatOps.maximumf (F := Ideal) (φ := .f32)) (rSc a0 a1 a2) _ _ hr _]
  have e : (rSc a0 a1 a2 ∘ hr.lift (ix3 b h i)) = fun j => rSc a0 a1 a2 (ix4 b h i j) := by
    funext j
    exact congrArg (rSc a0 a1 a2) (lift4 hr b h i j)
  rw [e, show (constant (F := Ideal) S_ .f32 0xFF800000#32) (Shape.Idx.first h_S_) = (⊥ : EReal) from minf]
  rfl

theorem rE_apply (b : Fin 2) (h : Fin 4) (i j : Fin 2048) :
    rE a0 a1 a2 (ix4 b h i j) = Ideal.exp (rSc a0 a1 a2 (ix4 b h i j) - rowMax fun j => rSc a0 a1 a2 (ix4 b h i j)) := by
  unfold rE
  show Ideal.exp (_ - broadcastInDim _ _ _ _ (ix4 b h i j)) = _
  rw [broadcastInDim_apply _ _ _ _ (ix4 b h i 0) (by intro a; fin_cases a <;> rfl),
    broadcastInDim_apply _ _ _ _ (ix3 b h i) (by intro a; fin_cases a <;> rfl), rMax_apply]

theorem rL_apply (b : Fin 2) (h : Fin 4) (i : Fin 2048) :
    rL a0 a1 a2 (ix3 b h i) = ∑ j : Fin 2048, rE a0 a1 a2 (ix4 b h i j) := by
  unfold rL
  have hr := red4
  show Ideal.hostReduceAdd _ (rE a0 a1 a2) (Ideal.ofBits .f32 0x00000000#32) (ix3 b h i) = _
  rw [Ideal.hostReduceAdd_single _ hr, Ideal.ofBits_zero_f32, zero_add]
  exact Finset.sum_congr rfl fun j _ => congrArg _ (lift4 hr b h i j)

theorem rDen_apply (b : Fin 2) (h : Fin 4) (i : Fin 2048) :
    rDen a0 a1 a2 (ix4 b h i 0) = ∑ j : Fin 2048, rE a0 a1 a2 (ix4 b h i j) := by
  unfold rDen
  rw [select_apply, broadcastInDim_apply _ _ _ _ (ix4 0 0 i 0) (by intro a; fin_cases a <;> rfl),
    broadcastInDim_apply _ _ rKeep _ (ix1 i) (by intro a; fin_cases a <;> rfl), rKeep_apply, select_one,
    broadcastInDim_apply _ _ _ _ (ix3 b h i) (by intro a; fin_cases a <;> rfl), rL_apply]

theorem rW_apply (b : Fin 2) (h : Fin 4) (i j : Fin 2048) :
    rW a0 a1 a2 (ix4 b h i j) = Ideal.div (rE a0 a1 a2 (ix4 b h i j)) (∑ j : Fin 2048, rE a0 a1 a2 (ix4 b h i j)) := by
  unfold rW
  rw [select_apply, broadcastInDim_apply _ _ _ _ (ix4 0 0 i 0) (by intro a; fin_cases a <;> rfl),
    broadcastInDim_apply _ _ rKeep _ (ix1 i) (by intro a; fin_cases a <;> rfl), rKeep_apply, select_one, hdivf_at,
    broadcastInDim_apply _ _ _ _ (ix4 b h i 0) (by intro a; fin_cases a <;> rfl), rDen_apply]

theorem rCt_apply (b : Fin 2) (h : Fin 4) (d : Fin 64) (i : Fin 2048) :
    rCt a0 a1 a2 a3 (ix4 b h d i) = att (fun j => rSc a0 a1 a2 (ix4 b h i j)) (fun j => a3 (ix3 b j (hd h d))) := by
  unfold rCt att
  simp only [Host.dotGeneral]
  rw [Ideal.dotGeneral_apply, ← Equiv.sum_comp (contrEquiv1 dot_S2x2048x4x64_S2x4x2048x2048_S2x4x64x2048_1_3_3_2_02_01 2048 rfl rfl).symm]
  refine Finset.sum_congr rfl fun k _ => ?_
  have hk := contrEquiv1_symm_val dot_S2x2048x4x64_S2x4x2048x2048_S2x4x64x2048_1_3_3_2_02_01 2048 rfl rfl k
  rw [mul_comm, ← split_apply a3 b k h d]
  simp only [← rE_apply]
  rw [← rW_apply]
  congr 2
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => exact hk
    | ⟨2, _⟩ => rfl
    | ⟨3, _⟩ => rfl

/-- With real scores the context is the softmax over the allowed keys. -/
theorem rCt_eq (hS : ∀ b h i j, ∃ r : ℝ, Sr a0 a1 a2 b h i j = r) (b : Fin 2) (h : Fin 4) (d : Fin 64) (i : Fin 2048) :
    rCt a0 a1 a2 a3 (ix4 b h d i) = Cr a0 a1 a2 a3 b h i d := by
  rw [rCt_apply]
  unfold Cr
  refine att_eq _ _ _ ⟨i, by simp [ok]⟩ _ ?_ ?_
  · intro j hj
    rw [rSc_apply, if_pos (Finset.mem_filter.1 hj).2]
    obtain ⟨r, hr⟩ := hS b h i j
    rw [hr, EReal.toReal_coe]
  · intro j hj
    rw [rSc_apply, if_neg (fun h => hj (Finset.mem_filter.2 ⟨Finset.mem_univ _, h⟩))]

theorem rCtx_apply (b : Fin 2) (i : Fin 2048) (e : Fin 256) :
    rCtx a0 a1 a2 a3 (ix3 b i e) = rCt a0 a1 a2 a3 (ix4 b ⟨e.val / 64, by omega⟩ ⟨e.val % 64, by omega⟩ i) := by
  unfold rCtx
  rw [shapeCast_apply _ _ _ (ix4 b i ⟨e.val / 64, by omega⟩ ⟨e.val % 64, by omega⟩) (by
      rw [Shape.rowMajor_val_three, Shape.rowMajor_val_four]
      show ((b.val * 2048 + i.val) * 4 + e.val / 64) * 64 + e.val % 64 = (b.val * 2048 + i.val) * 256 + e.val
      omega),
    transpose_apply _ _ _ _ (ix4 b ⟨e.val / 64, by omega⟩ ⟨e.val % 64, by omega⟩ i) (by intro a; fin_cases a <;> rfl)]

/-- With real scores the reference's result, entry by entry. -/
theorem rOut_eq (hS : ∀ b h i j, ∃ r : ℝ, Sr a0 a1 a2 b h i j = r) (b : Fin 2) (i : Fin 2048) (n : Fin 512) :
    rOut a0 a1 a2 a3 a4 (ix3 b i n) = Or a0 a1 a2 a3 a4 b i n := by
  unfold rOut Or
  simp only [Host.dotGeneral]
  rw [Ideal.dotGeneral_apply, ← Equiv.sum_comp (contrEquiv1 dot_S2x2048x256_S256x512_S2x2048x512_2_0_01_1_n_n 256 rfl rfl).symm]
  refine Finset.sum_congr rfl fun k _ => ?_
  have hk := contrEquiv1_symm_val dot_S2x2048x256_S256x512_S2x2048x512_2_0_01_1_n_n 256 rfl rfl k
  rw [← rCt_eq _ _ _ _ hS, ← rCtx_apply]
  congr 2
  · funext a; apply Fin.ext
    match a with
    | ⟨0, _⟩ => rfl
    | ⟨1, _⟩ => rfl
    | ⟨2, _⟩ => exact hk
  · funext a; apply Fin.ext
    match a with
    | ⟨0, _⟩ => exact hk
    | ⟨1, _⟩ => rfl

end Cert.Exchange

end
-- ==== Proof.BandKeys.lean ====
module

public import proofs.«01_k».proof.Proof.BandHead
public import proofs.«01_k».proof.Proof.RefValue
public import Idealize.ShloMosaic.Lib.Pipeline.ValueKit.Tiles
public import Idealize.ShloMosaic.Lib.Pointwise.SelectCore

@[expose] public section

set_option maxRecDepth 10000

noncomputable section

namespace Cert.Exchange

open Cert.KernelIdeal Cert.KernelIdeal.Gen
open Idealize.ShloMosaic hiding ix1 ix2 ix3 ix4
open Idealize.ShloMosaic.TcCoe Idealize.ShloMosaic.ValueIdx
open scoped BigOperators

/-! ## What the banded rows read -/

/-! The loads. -/

theorem v36_at (E : Env Ideal) (r : Fin 128) (n : Fin 512) : v36 E (ix3 0 r n) = E.x (ix3 0 r n) :=
  View.ld_unit_apply_of E.x _ _ _ _ _ (by intro x; fin_cases x <;> first | rfl | exact (Nat.zero_add _).symm)
theorem v41_at (E : Env Ideal) (r : Fin 128) (n : Fin 512) : v41 E (ix3 0 r n) = E.x (ix3 1 r n) :=
  View.ld_unit_apply_of E.x _ _ _ _ _ (by intro x; fin_cases x <;> first | rfl | exact (Nat.zero_add _).symm)
theorem v38_at (E : Env Ideal) (r : Fin 512) (n : Fin 256) : v38 E (ix2 r n) = E.wq (ix2 r n) :=
  View.ld_unit_apply_of E.wq _ _ _ _ _ (by intro x; fin_cases x <;> first | rfl | exact (Nat.zero_add _).symm)
theorem v43_at (E : Env Ideal) (r : Fin 512) (n : Fin 256) : v43 E (ix2 r n) = E.wq (ix2 r n) :=
  View.ld_unit_apply_of E.wq _ _ _ _ _ (by intro x; fin_cases x <;> first | rfl | exact (Nat.zero_add _).symm)
theorem v444_at (E : Env Ideal) (r : Fin 256) (n : Fin 512) : v444 E (ix2 r n) = E.wo (ix2 r n) :=
  View.ld_unit_apply_of E.wo _ _ _ _ _ (by intro x; fin_cases x <;> first | rfl | exact (Nat.zero_add _).symm)
theorem v555_at (E : Env Ideal) (r : Fin 256) (n : Fin 512) : v555 E (ix2 r n) = E.wo (ix2 r n) :=
  View.ld_unit_apply_of E.wo _ _ _ _ _ (by intro x; fin_cases x <;> first | rfl | exact (Nat.zero_add _).symm)
theorem v339_at (E : Env Ideal) (r : Fin 128) (n : Fin 512) : v339 E (ix4 0 0 r n) = E.hl (ix4 0 0 r n) :=
  View.ld_unit_apply_of E.hl _ _ _ _ _ (by intro x; fin_cases x <;> first | rfl | exact (Nat.zero_add _).symm)
theorem v345_at (E : Env Ideal) (r : Fin 128) (n : Fin 512) : v345 E (ix4 0 0 r n) = E.hl (ix4 1 0 r n) :=
  View.ld_unit_apply_of E.hl _ _ _ _ _ (by intro x; fin_cases x <;> first | rfl | exact (Nat.zero_add _).symm)
theorem v348_at (E : Env Ideal) (r : Fin 32) (n : Fin 256) : v348 E (ix4 0 0 r n) = E.gk (ix4 0 0 r n) :=
  View.ld_unit_apply_of E.gk _ _ _ _ _ (by intro x; fin_cases x <;> first | rfl | exact (Nat.zero_add _).symm)
theorem v351_at (E : Env Ideal) (r : Fin 128) (n : Fin 512) : v351 E (ix4 0 0 r n) = E.hl (ix4 0 0 r n) :=
  View.ld_unit_apply_of E.hl _ _ _ _ _ (by intro x; fin_cases x <;> first | rfl | exact (Nat.zero_add _).symm)
theorem v357_at (E : Env Ideal) (r : Fin 128) (n : Fin 512) : v357 E (ix4 0 0 r n) = E.hl (ix4 1 0 r n) :=
  View.ld_unit_apply_of E.hl _ _ _ _ _ (by intro x; fin_cases x <;> first | rfl | exact (Nat.zero_add _).symm)
theorem v360_at (E : Env Ideal) (r : Fin 32) (n : Fin 256) : v360 E (ix4 0 0 r n) = E.gk (ix4 1 0 r n) :=
  View.ld_unit_apply_of E.gk _ _ _ _ _ (by intro x; fin_cases x <;> first | rfl | exact (Nat.zero_add _).symm)
theorem v450_at (E : Env Ideal) (r : Fin 128) (n : Fin 512) : v450 E (ix4 0 0 r n) = E.hl (ix4 0 1 r n) :=
  View.ld_unit_apply_of E.hl _ _ _ _ _ (by intro x; fin_cases x <;> first | rfl | exact (Nat.zero_add _).symm)
theorem v456_at (E : Env Ideal) (r : Fin 128) (n : Fin 512) : v456 E (ix4 0 0 r n) = E.hl (ix4 1 1 r n) :=
  View.ld_unit_apply_of E.hl _ _ _ _ _ (by intro x; fin_cases x <;> first | rfl | exact (Nat.zero_add _).symm)
theorem v459_at (E : Env Ideal) (r : Fin 32) (n : Fin 256) : v459 E (ix4 0 0 r n) = E.gk (ix4 0 1 r n) :=
  View.ld_unit_apply_of E.gk _ _ _ _ _ (by intro x; fin_cases x <;> first | rfl | exact (Nat.zero_add _).symm)
theorem v462_at (E : Env Ideal) (r : Fin 128) (n : Fin 512) : v462 E (ix4 0 0 r n) = E.hl (ix4 0 1 r n) :=
  View.ld_unit_apply_of E.hl _ _ _ _ _ (by intro x; fin_cases x <;> first | rfl | exact (Nat.zero_add _).symm)
theorem v468_at (E : Env Ideal) (r : Fin 128) (n : Fin 512) : v468 E (ix4 0 0 r n) = E.hl (ix4 1 1 r n) :=
  View.ld_unit_apply_of E.hl _ _ _ _ _ (by intro x; fin_cases x <;> first | rfl | exact (Nat.zero_add _).symm)
theorem v471_at (E : Env Ideal) (r : Fin 32) (n : Fin 256) : v471 E (ix4 0 0 r n) = E.gk (ix4 1 1 r n) :=
  View.ld_unit_apply_of E.gk _ _ _ _ _ (by intro x; fin_cases x <;> first | rfl | exact (Nat.zero_add _).symm)
theorem v342_at (E : Env Ideal) (r : Fin 128) (n : Fin 256) : v342 E (ix3 0 r n) = E.k (ix3 0 r n) :=
  View.ld_unit_apply_of E.k _ _ _ _ _ (by intro x; fin_cases x <;> first | rfl | exact (Nat.zero_add _).symm)
theorem v354_at (E : Env Ideal) (r : Fin 128) (n : Fin 256) : v354 E (ix3 0 r n) = E.v (ix3 0 r n) :=
  View.ld_unit_apply_of E.v _ _ _ _ _ (by intro x; fin_cases x <;> first | rfl | exact (Nat.zero_add _).symm)
theorem v453_at (E : Env Ideal) (r : Fin 128) (n : Fin 256) : v453 E (ix3 0 r n) = E.k (ix3 1 r n) :=
  View.ld_unit_apply_of E.k _ _ _ _ _ (by intro x; fin_cases x <;> first | rfl | exact (Nat.zero_add _).symm)
theorem v465_at (E : Env Ideal) (r : Fin 128) (n : Fin 256) : v465 E (ix3 0 r n) = E.v (ix3 1 r n) :=
  View.ld_unit_apply_of E.v _ _ _ _ _ (by intro x; fin_cases x <;> first | rfl | exact (Nat.zero_add _).symm)

/-- Row `r` of device `c` among all rows. -/
def gl (c : Fin 16) (r : Fin 128) : Fin 2048 := ⟨128 * c.val + r.val, by omega⟩

variable (a0 : RV ⟨3, ![2, 2048, 512]⟩) (a1 : RV ⟨2, ![512, 256]⟩) (a2 a3 : RV ⟨3, ![2, 2048, 256]⟩) (a4 : RV ⟨2, ![256, 512]⟩)

/-- What device `c` reads, in the whole arrays' terms. -/
structure Holds (E : Env Ideal) (c : Fin 16) : Prop where
  x : ∀ (b : Fin 2) (r : Fin 128) (n : Fin 512), E.x (ix3 b r n) = a0 (ix3 b (gl c r) n)
  wq : ∀ (d : Fin 512) (n : Fin 256), E.wq (ix2 d n) = a1 (ix2 d n)
  k : ∀ (b : Fin 2) (r : Fin 128) (n : Fin 256), E.k (ix3 b r n) = a2 (ix3 b (gl c r) n)
  v : ∀ (b : Fin 2) (r : Fin 128) (n : Fin 256), E.v (ix3 b r n) = a3 (ix3 b (gl c r) n)
  wo : ∀ (d : Fin 256) (n : Fin 512), E.wo (ix2 d n) = a4 (ix2 d n)
  lk : ∀ (h : 1 ≤ c.val) (b : Fin 2) (r : Fin 128) (n : Fin 256), E.hl (ix4 0 b r ⟨0 + n.val, by omega⟩) = a2 (ix3 b (gl ⟨c.val - 1, by omega⟩ r) n)
  lv : ∀ (h : 1 ≤ c.val) (b : Fin 2) (r : Fin 128) (n : Fin 256), E.hl (ix4 0 b r ⟨256 + n.val, by omega⟩) = a3 (ix3 b (gl ⟨c.val - 1, by omega⟩ r) n)
  rk : ∀ (h : c.val + 1 < 16) (b : Fin 2) (r : Fin 128) (n : Fin 256), E.hl (ix4 1 b r ⟨0 + n.val, by omega⟩) = a2 (ix3 b (gl ⟨c.val + 1, h⟩ r) n)
  rv : ∀ (h : c.val + 1 < 16) (b : Fin 2) (r : Fin 128) (n : Fin 256), E.hl (ix4 1 b r ⟨256 + n.val, by omega⟩) = a3 (ix3 b (gl ⟨c.val + 1, h⟩ r) n)
  gk : ∀ (b : Fin 2) (r : Fin 32) (n : Fin 256), E.gk (ix4 0 b r n) = a2 (ix3 b ⟨r.val, by omega⟩ n)
  gv : ∀ (b : Fin 2) (r : Fin 32) (n : Fin 256), E.gk (ix4 1 b r n) = a3 (ix3 b ⟨r.val, by omega⟩ n)
  v2 : E.v2 = W c.val

/-! The queries. -/

theorem q_at (x : KV S1x128x512 .f32) (w : KV S512x256 .f32) (r : Fin 128) (n : Fin 256) :
    k0_pay180 x w (ix2 r n) = ∑ d : Fin 512, x (ix3 0 r d) * w (ix2 d n) := by
  refine (Ideal.matmul_plain_apply (M := 128) (K := 512) (N := 256) none _ _ _ r n).trans ?_
  rw [const_at, zero_add]
  refine Finset.sum_congr rfl fun d _ => congrArg₂ (· * ·) (shapeCast_apply _ _ _ _ ?_) (shapeCast_apply _ _ _ _ rfl)
  rw [Shape.rowMajor_val_two, Shape.rowMajor_val_three]
  show (0 * 128 + r.val) * 512 + d.val = _
  rw [Nat.zero_mul, Nat.zero_add]; rfl

theorem v40_eq {E : Env Ideal} {c : Fin 16} (h : Holds a0 a1 a2 a3 a4 E c) (r : Fin 128) (n : Fin 256) : v40 E (ix2 r n) = Qr a0 a1 0 (gl c r) n := by
  refine (q_at (v36 E) (v38 E) r n).trans (Finset.sum_congr rfl fun d _ => ?_)
  rw [v36_at, v38_at, h.x, h.wq]
theorem v45_eq {E : Env Ideal} {c : Fin 16} (h : Holds a0 a1 a2 a3 a4 E c) (r : Fin 128) (n : Fin 256) : v45 E (ix2 r n) = Qr a0 a1 1 (gl c r) n := by
  refine (q_at (v41 E) (v43 E) r n).trans (Finset.sum_congr rfl fun d _ => ?_)
  rw [v41_at, v43_at, h.x, h.wq]

/-! The keys and the values of the window. -/

section Cat
variable (A B C : KV S128x256 .bf16) (G : KV S32x256 .bf16) (Z : KV S96x256 .bf16) (c : Fin 512) (n : Fin 256)

/-- The window: left neighbour, own rows, right neighbour, the first rows, zeros. -/
def cat : KV S512x256 .bf16 :=
  concatenate S512x256 0 [⟨S128x256, A⟩, ⟨S128x256, B⟩, ⟨S128x256, C⟩, ⟨S32x256, G⟩, ⟨S96x256, Z⟩] concatenates_S128x256_S128x256_S128x256_S32x256_S96x256_S512x256_d0

theorem cat_0  (h : c.val < 128) : cat A B C G Z (ix2 c n) = A (ix2 ⟨c.val, h⟩ n) := by
  refine (concatenate_cons_apply ..).trans ?_
  refine (concatenateAt_cons ..).trans ((dif_pos (show c.val < 128 from h)).trans ?_)
  refine congrArg A (funext fun b => Fin.ext ?_)
  fin_cases b <;> rfl
theorem cat_1 (h : ¬ c.val < 128) (h' : c.val - 128 < 128) : cat A B C G Z (ix2 c n) = B (ix2 ⟨c.val - 128, h'⟩ n) := by
  refine (concatenate_cons_apply ..).trans ?_
  refine (concatenateAt_cons ..).trans ((dif_neg (show ¬ c.val < 128 from h)).trans ?_)
  refine (concatenateAt_cons ..).trans ((dif_pos (show c.val - 128 < 128 from h')).trans ?_)
  refine congrArg B (funext fun b => Fin.ext ?_)
  fin_cases b <;> rfl
theorem cat_2 (h : ¬ c.val < 128) (h' : ¬ c.val - 128 < 128) (h'' : c.val - 128 - 128 < 128) : cat A B C G Z (ix2 c n) = C (ix2 ⟨c.val - 128 - 128, h''⟩ n) := by
  refine (concatenate_cons_apply ..).trans ?_
  refine (concatenateAt_cons ..).trans ((dif_neg (show ¬ c.val < 128 from h)).trans ?_)
  refine (concatenateAt_cons ..).trans ((dif_neg (show ¬ c.val - 128 < 128 from h')).trans ?_)
  refine (concatenateAt_cons ..).trans ((dif_pos (show c.val - 128 - 128 < 128 from h'')).trans ?_)
  refine congrArg C (funext fun b => Fin.ext ?_)
  fin_cases b <;> rfl
theorem cat_3 (h : ¬ c.val < 128) (h' : ¬ c.val - 128 < 128) (h'' : ¬ c.val - 128 - 128 < 128) (h3 : c.val - 128 - 128 - 128 < 32) : cat A B C G Z (ix2 c n) = G (ix2 ⟨c.val - 128 - 128 - 128, h3⟩ n) := by
  refine (concatenate_cons_apply ..).trans ?_
  refine (concatenateAt_cons ..).trans ((dif_neg (show ¬ c.val < 128 from h)).trans ?_)
  refine (concatenateAt_cons ..).trans ((dif_neg (show ¬ c.val - 128 < 128 from h')).trans ?_)
  refine (concatenateAt_cons ..).trans ((dif_neg (show ¬ c.val - 128 - 128 < 128 from h'')).trans ?_)
  refine (concatenateAt_cons ..).trans ((dif_pos (show c.val - 128 - 128 - 128 < 32 from h3)).trans ?_)
  refine congrArg G (funext fun b => Fin.ext ?_)
  fin_cases b <;> rfl
end Cat

/-- The columns of the window that hold a key. -/
def inW (c : Fin 16) (cl : Fin 512) : Prop := (cl.val < 384 ∧ 128 ≤ 128 * c.val + cl.val ∧ 128 * c.val + cl.val < 2048 + 128) ∨ (384 ≤ cl.val ∧ cl.val < 416)
/-- The key a column holds. -/
def key (c : Fin 16) (cl : Fin 512) : Fin 2048 := ⟨(if cl.val < 384 then 128 * c.val + cl.val - 128 else cl.val - 384) % 2048, Nat.mod_lt _ (by omega)⟩

theorem cat_key (A B C : KV S128x256 .bf16) (G : KV S32x256 .bf16) (Z : KV S96x256 .bf16) (c : Fin 16) (y : Fin 2048 → Fin 256 → EReal)
    (hA : ∀ (h : 1 ≤ c.val) r n, A (ix2 r n) = y (gl ⟨c.val - 1, by omega⟩ r) n) (hB : ∀ r n, B (ix2 r n) = y (gl c r) n)
    (hC : ∀ (h : c.val + 1 < 16) r n, C (ix2 r n) = y (gl ⟨c.val + 1, h⟩ r) n) (hG : ∀ (r : Fin 32) n, G (ix2 r n) = y ⟨r.val, by omega⟩ n)
    (cl : Fin 512) (h : inW c cl) (n : Fin 256) : cat A B C G Z (ix2 cl n) = y (key c cl) n := by
  unfold inW at h
  have hc := c.isLt
  by_cases h0 : cl.val < 128
  · rw [cat_0 A B C G Z cl n h0, hA (by omega)]
    refine congrArg (fun z => y z n) (Fin.ext ?_)
    show 128 * (c.val - 1) + cl.val = (if cl.val < 384 then 128 * c.val + cl.val - 128 else cl.val - 384) % 2048
    rw [if_pos (by omega)]; omega
  by_cases h1 : cl.val - 128 < 128
  · rw [cat_1 A B C G Z cl n h0 h1, hB]
    refine congrArg (fun z => y z n) (Fin.ext ?_)
    show 128 * c.val + (cl.val - 128) = (if cl.val < 384 then 128 * c.val + cl.val - 128 else cl.val - 384) % 2048
    rw [if_pos (by omega)]; omega
  by_cases h2 : cl.val - 128 - 128 < 128
  · rw [cat_2 A B C G Z cl n h0 h1 h2, hC (by omega)]
    refine congrArg (fun z => y z n) (Fin.ext ?_)
    show 128 * (c.val + 1) + (cl.val - 128 - 128) = (if cl.val < 384 then 128 * c.val + cl.val - 128 else cl.val - 384) % 2048
    rw [if_pos (by omega)]; omega
  · rw [cat_3 A B C G Z cl n h0 h1 h2 (by omega), hG]
    refine congrArg (fun z => y z n) (Fin.ext ?_)
    show cl.val - 128 - 128 - 128 = (if cl.val < 384 then 128 * c.val + cl.val - 128 else cl.val - 384) % 2048
    rw [if_neg (by omega)]; omega

/-- A halo slot's half. -/
theorem half_at (x : KV S1x1x128x512 .bf16) (o : ℕ) (h : S128x512.Slices ![0, o] S128x256) (ho : o + 256 ≤ 512) (r : Fin 128) (n : Fin 256) :
    extractStridedSlice S128x256 ![0, o] (shapeCast S128x512 x shapeCasts_S1x1x128x512_S128x512) h (ix2 r n) = x (ix4 0 0 r ⟨o + n.val, by omega⟩) := by
  rw [slice2_axis1_apply o _ h r n ⟨o + n.val, by omega⟩ rfl]
  refine shapeCast_apply _ _ _ _ ?_
  rw [Shape.rowMajor_val_two, Shape.rowMajor_val_four]
  show ((0 * 1 + 0) * 128 + r.val) * 512 + (o + n.val) = r.val * 512 + (o + n.val)
  omega
theorem own_at (x : KV S1x128x256 .f32) (r : Fin 128) (n : Fin 256) :
    truncf .bf16 (shapeCast S128x256 x shapeCasts_S1x128x256_S128x256) bitsLt_bf16_f32 (ix2 r n) = x (ix3 0 r n) :=
  shapeCast_1ab_ab_apply x _ r n
theorem glob_at (x : KV S1x1x32x256 .bf16) (r : Fin 32) (n : Fin 256) : shapeCast S32x256 x shapeCasts_S1x1x32x256_S32x256 (ix2 r n) = x (ix4 0 0 r n) := by
  refine shapeCast_apply _ _ _ _ ?_
  rw [Shape.rowMajor_val_two, Shape.rowMajor_val_four]
  show ((0 * 1 + 0) * 32 + r.val) * 256 + n.val = r.val * 256 + n.val
  omega

variable {a0 a1 a2 a3 a4} {E : Env Ideal} {c : Fin 16} (h : Holds a0 a1 a2 a3 a4 E c) (cl : Fin 512) (hw : inW c cl) (n : Fin 256)

include h hw

theorem v350_eq : v350 E (ix2 cl n) = a2 (ix3 0 (key c cl) n) :=
  cat_key _ _ _ _ (v338 E) c (fun j n => a2 (ix3 0 j n)) (fun h1 r n => (half_at (v339 E) 0 _ (by omega) r n).trans ((v339_at E r _).trans (h.lk h1 0 r n)))
    (fun r n => (own_at (v342 E) r n).trans ((v342_at E r n).trans (h.k 0 r n)))
    (fun h1 r n => (half_at (v345 E) 0 _ (by omega) r n).trans ((v345_at E r _).trans (h.rk h1 0 r n)))
    (fun r n => (glob_at (v348 E) r n).trans ((v348_at E r n).trans (h.gk 0 r n))) cl hw n
theorem v362_eq : v362 E (ix2 cl n) = a3 (ix3 0 (key c cl) n) :=
  cat_key _ _ _ _ (v338 E) c (fun j n => a3 (ix3 0 j n)) (fun h1 r n => (half_at (v351 E) 256 slices_S128x512_o0_256_S128x256 (by omega) r n).trans ((v351_at E r _).trans (h.lv h1 0 r n)))
    (fun r n => (own_at (v354 E) r n).trans ((v354_at E r n).trans (h.v 0 r n)))
    (fun h1 r n => (half_at (v357 E) 256 slices_S128x512_o0_256_S128x256 (by omega) r n).trans ((v357_at E r _).trans (h.rv h1 0 r n)))
    (fun r n => (glob_at (v360 E) r n).trans ((v360_at E r n).trans (h.gv 0 r n))) cl hw n
theorem v461_eq : v461 E (ix2 cl n) = a2 (ix3 1 (key c cl) n) :=
  cat_key _ _ _ _ (v338 E) c (fun j n => a2 (ix3 1 j n)) (fun h1 r n => (half_at (v450 E) 0 _ (by omega) r n).trans ((v450_at E r _).trans (h.lk h1 1 r n)))
    (fun r n => (own_at (v453 E) r n).trans ((v453_at E r n).trans (h.k 1 r n)))
    (fun h1 r n => (half_at (v456 E) 0 _ (by omega) r n).trans ((v456_at E r _).trans (h.rk h1 1 r n)))
    (fun r n => (glob_at (v459 E) r n).trans ((v459_at E r n).trans (h.gk 1 r n))) cl hw n
theorem v473_eq : v473 E (ix2 cl n) = a3 (ix3 1 (key c cl) n) :=
  cat_key _ _ _ _ (v338 E) c (fun j n => a3 (ix3 1 j n)) (fun h1 r n => (half_at (v462 E) 256 slices_S128x512_o0_256_S128x256 (by omega) r n).trans ((v462_at E r _).trans (h.lv h1 1 r n)))
    (fun r n => (own_at (v465 E) r n).trans ((v465_at E r n).trans (h.v 1 r n)))
    (fun h1 r n => (half_at (v468 E) 256 slices_S128x512_o0_256_S128x256 (by omega) r n).trans ((v468_at E r _).trans (h.rv h1 1 r n)))
    (fun r n => (glob_at (v471 E) r n).trans ((v471_at E r n).trans (h.gv 1 r n))) cl hw n

end Cert.Exchange

end
-- ==== Proof.PartHead.lean ====
module

public import proofs.«01_k».proof.Proof.BandKeys

@[expose] public section

set_option maxRecDepth 10000

noncomputable section

namespace Cert.Exchange

open Cert.KernelIdeal Cert.KernelIdeal.Gen
open Idealize.ShloMosaic hiding ix1 ix2 ix3 ix4
open Idealize.ShloMosaic.TcCoe Idealize.ShloMosaic.ValueIdx
open scoped BigOperators

/-! ## A partial result -/

/-- The scores of the head at column `o`: the broadcast queries against the device's own keys. -/
def pS (q : KV S1x32x256 .bf16) (k : KV S1x128x256 .f32) (o : ℕ) (hq : S32x256.Slices ![0, o] S32x64) (hk : S128x256.Slices ![0, o] S128x64) : KV S32x128 .f32 :=
  mulf (matmul dot_S32x64_S128x64_S32x128_1_1_0_0_n_n none (extractStridedSlice S32x64 ![0, o] (shapeCast S32x256 q shapeCasts_S1x32x256_S32x256) hq)
    (truncf .bf16 (extractStridedSlice S128x64 ![0, o] (shapeCast S128x256 k shapeCasts_S1x128x256_S128x256) hk) bitsLt_bf16_f32)
    (constant S32x128 .f32 0x00000000#32)) (broadcast S32x128 (Scalar.ofBits .f32 0x3E000000#32 : Ideal .f32))
/-- The largest score of a row. -/
def pM (s : KV S32x128 .f32) : KV S32x1 .f32 :=
  extf .f32 (truncf .bf16 (shapeCast S32x1 (multiReduction .maximumf [1] S32 s 0xFF800000#32 reduces_S32x128_S32 (.inl rfl) rfl) shapeCasts_S32_S32x1) bitsLt_bf16_f32) bitsLt_bf16_f32
/-- The unnormalized weights. -/
def pE (s : KV S32x128 .f32) : KV S32x128 .f32 := exp (subf s (broadcastTo S32x128 (pM s) broadcasts_S32x1_S32x128))
/-- The weights' sum. -/
def pL (s : KV S32x128 .f32) : KV S32x1 .f32 := shapeCast S32x1 (multiReduction .add [1] S32 (pE s) 0x00000000#32 reduces_S32x128_S32 (.inl rfl) rfl) shapeCasts_S32_S32x1
/-- The head's columns of the values. -/
def pV (v : KV S1x128x256 .f32) (o : ℕ) (hk : S128x256.Slices ![0, o] S128x64) : KV S128x64 .bf16 :=
  truncf .bf16 (extractStridedSlice S128x64 ![0, o] (shapeCast S128x256 v shapeCasts_S1x128x256_S128x256) hk) bitsLt_bf16_f32
/-- The weighted values. -/
def pA (s : KV S32x128 .f32) (v : KV S128x64 .bf16) : KV S32x64 .f32 :=
  matmul dot_S32x128_S128x64_S32x64_1_0_0_1_n_n none (truncf .bf16 (pE s) bitsLt_bf16_f32) v (constant S32x64 .f32 0x00000000#32)

theorem own64_at (x : KV S1x128x256 .f32) (o : ℕ) (hk : S128x256.Slices ![0, o] S128x64) (ho : o + 64 ≤ 256) (t : Fin 128) (d : Fin 64) :
    extractStridedSlice S128x64 ![0, o] (shapeCast S128x256 x shapeCasts_S1x128x256_S128x256) hk (ix2 t d) = x (ix3 0 t ⟨o + d.val, by omega⟩) := by
  rw [slice2_axis1_apply o _ hk t d ⟨o + d.val, by omega⟩ rfl]
  exact shapeCast_1ab_ab_apply x _ t ⟨o + d.val, by omega⟩

/-- A score of a partial result. -/
def ps (q : KV S1x32x256 .bf16) (k : KV S1x128x256 .f32) (o : ℕ) (ho : o + 64 ≤ 256) (r : Fin 32) (t : Fin 128) : EReal :=
  (∑ d : Fin 64, q (ix3 0 r ⟨o + d.val, by omega⟩) * k (ix3 0 t ⟨o + d.val, by omega⟩)) * ((1 / 8 : ℝ) : EReal)

theorem pS_at (q : KV S1x32x256 .bf16) (k : KV S1x128x256 .f32) (o : ℕ) (hq : S32x256.Slices ![0, o] S32x64) (hk : S128x256.Slices ![0, o] S128x64)
    (ho : o + 64 ≤ 256) (r : Fin 32) (t : Fin 128) : pS q k o hq hk (ix2 r t) = ps q k o ho r t := by
  unfold pS ps
  rw [mulf_apply]
  refine congrArg₂ (· * ·) ?_ k_eighth
  refine (Ideal.matmul_transposedRhs_apply (M := 32) (K := 64) (N := 128) none _ _ _ r t).trans ?_
  rw [const_at, zero_add]
  refine Finset.sum_congr rfl fun d _ => congrArg₂ (· * ·) ?_ (own64_at k o hk ho t d)
  rw [slice2_axis1_apply o _ hq r d ⟨o + d.val, by omega⟩ rfl]
  exact shapeCast_1ab_ab_apply q _ r ⟨o + d.val, by omega⟩

theorem pM_at (s : KV S32x128 .f32) (r : Fin 32) : pM s (ix2 r 0) = rowMax fun t : Fin 128 => s (ix2 r t) :=
  (shapeCast_a_a1_apply (multiReduction .maximumf [1] S32 s 0xFF800000#32 reduces_S32x128_S32 (.inl rfl) rfl) shapeCasts_S32_S32x1 r 0).trans (max_at s reduces_S32x128_S32 r)
theorem pE_at (s : KV S32x128 .f32) (r : Fin 32) (t : Fin 128) : pE s (ix2 r t) = Ideal.exp (s (ix2 r t) - rowMax fun t : Fin 128 => s (ix2 r t)) := by
  have e : broadcastTo S32x128 (pM s) broadcasts_S32x1_S32x128 (ix2 r t) = rowMax fun t : Fin 128 => s (ix2 r t) :=
    (col_at (multiReduction .maximumf [1] S32 s 0xFF800000#32 reduces_S32x128_S32 (.inl rfl) rfl) shapeCasts_S32_S32x1 broadcasts_S32x1_S32x128 r t).trans (max_at s reduces_S32x128_S32 r)
  exact congrArg (fun y => Ideal.exp (s (ix2 r t) - y)) e
theorem pL_at (s : KV S32x128 .f32) (r : Fin 32) : pL s (ix2 r 0) = ∑ t : Fin 128, Ideal.exp (s (ix2 r t) - rowMax fun t : Fin 128 => s (ix2 r t)) := by
  unfold pL
  rw [shapeCast_a_a1_apply, sum_at]
  exact Finset.sum_congr rfl fun t _ => pE_at s r t
theorem pA_at (s : KV S32x128 .f32) (v : KV S128x64 .bf16) (r : Fin 32) (d : Fin 64) :
    pA s v (ix2 r d) = ∑ t : Fin 128, Ideal.exp (s (ix2 r t) - rowMax fun t : Fin 128 => s (ix2 r t)) * v (ix2 t d) := by
  unfold pA
  refine (Ideal.matmul_plain_apply (M := 32) (K := 128) (N := 64) none _ _ _ r d).trans ?_
  rw [const_at, zero_add]
  exact Finset.sum_congr rfl fun t _ => congrArg (· * v (ix2 t d)) (pE_at s r t)

section
variable (q : KV S1x32x256 .bf16) (k v : KV S1x128x256 .f32) (o : ℕ) (hq : S32x256.Slices ![0, o] S32x64) (hk : S128x256.Slices ![0, o] S128x64) (ho : o + 64 ≤ 256) (r : Fin 32)
theorem mx_at : pM (pS q k o hq hk) (ix2 r 0) = rowMax (ps q k o ho r) := by
  rw [pM_at]; exact congrArg rowMax (funext fun t => pS_at q k o hq hk ho r t)
theorem ls_at : pL (pS q k o hq hk) (ix2 r 0) = ∑ t : Fin 128, Ideal.exp (ps q k o ho r t - rowMax (ps q k o ho r)) := by
  rw [pL_at]; simp only [pS_at q k o hq hk ho]
theorem ac_at (d : Fin 64) : pA (pS q k o hq hk) (pV v o hk) (ix2 r d) = ∑ t : Fin 128, Ideal.exp (ps q k o ho r t - rowMax (ps q k o ho r)) * v (ix3 0 t ⟨o + d.val, by omega⟩) := by
  rw [pA_at]; simp only [pS_at q k o hq hk ho]
  exact Finset.sum_congr rfl fun t _ => congrArg _ (own64_at v o hk ho t d)
end

/-- The packed partial result: four heads of weighted values, four largest scores, four sums, zeros. -/
def pk (x0 : KV S32x64 .f32) (x1 : KV S32x64 .f32) (x2 : KV S32x64 .f32) (x3 : KV S32x64 .f32) (x4 : KV S32x1 .f32) (x5 : KV S32x1 .f32) (x6 : KV S32x1 .f32) (x7 : KV S32x1 .f32) (x8 : KV S32x1 .f32) (x9 : KV S32x1 .f32) (x10 : KV S32x1 .f32) (x11 : KV S32x1 .f32) (x12 : KV S32x120 .f32) : KV S32x384 .f32 :=
  concatenate S32x384 1 [⟨S32x64, x0⟩, ⟨S32x64, x1⟩, ⟨S32x64, x2⟩, ⟨S32x64, x3⟩, ⟨S32x1, x4⟩, ⟨S32x1, x5⟩, ⟨S32x1, x6⟩, ⟨S32x1, x7⟩, ⟨S32x1, x8⟩, ⟨S32x1, x9⟩, ⟨S32x1, x10⟩, ⟨S32x1, x11⟩, ⟨S32x120, x12⟩] concatenates_S32x64_S32x64_S32x64_S32x64_S32x1_S32x1_S32x1_S32x1_S32x1_S32x1_S32x1_S32x1_S32x120_S32x384_d1

theorem pk_0 (x0 : KV S32x64 .f32) (x1 : KV S32x64 .f32) (x2 : KV S32x64 .f32) (x3 : KV S32x64 .f32) (x4 : KV S32x1 .f32) (x5 : KV S32x1 .f32) (x6 : KV S32x1 .f32) (x7 : KV S32x1 .f32) (x8 : KV S32x1 .f32) (x9 : KV S32x1 .f32) (x10 : KV S32x1 .f32) (x11 : KV S32x1 .f32) (x12 : KV S32x120 .f32) (r : Fin 32) (n : Fin 64) :
    pk x0 x1 x2 x3 x4 x5 x6 x7 x8 x9 x10 x11 x12 (ix2 r ⟨0 + n.val, by omega⟩) = x0 (ix2 r n) := by
  have hn := n.isLt
  refine (concatenate_cons_apply ..).trans ?_
  refine (concatenateAt_cons ..).trans ((dif_pos (show 0 + n.val < 64 by omega)).trans ?_)
  refine congrArg x0 (funext fun b => Fin.ext ?_)
  match b with
  | ⟨0, _⟩ => rfl
  | ⟨1, _⟩ => show 0 + n.val = n.val; omega
theorem pk_1 (x0 : KV S32x64 .f32) (x1 : KV S32x64 .f32) (x2 : KV S32x64 .f32) (x3 : KV S32x64 .f32) (x4 : KV S32x1 .f32) (x5 : KV S32x1 .f32) (x6 : KV S32x1 .f32) (x7 : KV S32x1 .f32) (x8 : KV S32x1 .f32) (x9 : KV S32x1 .f32) (x10 : KV S32x1 .f32) (x11 : KV S32x1 .f32) (x12 : KV S32x120 .f32) (r : Fin 32) (n : Fin 64) :
    pk x0 x1 x2 x3 x4 x5 x6 x7 x8 x9 x10 x11 x12 (ix2 r ⟨64 + n.val, by omega⟩) = x1 (ix2 r n) := by
  have hn := n.isLt
  refine (concatenate_cons_apply ..).trans ?_
  refine (concatenateAt_cons ..).trans ((dif_neg (show ¬ 64 + n.val < 64 by omega)).trans ?_)
  refine (concatenateAt_cons ..).trans ((dif_pos (show 64 + n.val - 64 < 64 by omega)).trans ?_)
  refine congrArg x1 (funext fun b => Fin.ext ?_)
  match b with
  | ⟨0, _⟩ => rfl
  | ⟨1, _⟩ => show 64 + n.val - 64 = n.val; omega
theorem pk_2 (x0 : KV S32x64 .f32) (x1 : KV S32x64 .f32) (x2 : KV S32x64 .f32) (x3 : KV S32x64 .f32) (x4 : KV S32x1 .f32) (x5 : KV S32x1 .f32) (x6 : KV S32x1 .f32) (x7 : KV S32x1 .f32) (x8 : KV S32x1 .f32) (x9 : KV S32x1 .f32) (x10 : KV S32x1 .f32) (x11 : KV S32x1 .f32) (x12 : KV S32x120 .f32) (r : Fin 32) (n : Fin 64) :
    pk x0 x1 x2 x3 x4 x5 x6 x7 x8 x9 x10 x11 x12 (ix2 r ⟨128 + n.val, by omega⟩) = x2 (ix2 r n) := by
  have hn := n.isLt
  refine (concatenate_cons_apply ..).trans ?_
  refine (concatenateAt_cons ..).trans ((dif_neg (show ¬ 128 + n.val < 64 by omega)).trans ?_)
  refine (concatenateAt_cons ..).trans ((dif_neg (show ¬ 128 + n.val - 64 < 64 by omega)).trans ?_)
  refine (concatenateAt_cons ..).trans ((dif_pos (show 128 + n.val - 64 - 64 < 64 by omega)).trans ?_)
  refine congrArg x2 (funext fun b => Fin.ext ?_)
  match b with
  | ⟨0, _⟩ => rfl
  | ⟨1, _⟩ => show 128 + n.val - 64 - 64 = n.val; omega
theorem pk_3 (x0 : KV S32x64 .f32) (x1 : KV S32x64 .f32) (x2 : KV S32x64 .f32) (x3 : KV S32x64 .f32) (x4 : KV S32x1 .f32) (x5 : KV S32x1 .f32) (x6 : KV S32x1 .f32) (x7 : KV S32x1 .f32) (x8 : KV S32x1 .f32) (x9 : KV S32x1 .f32) (x10 : KV S32x1 .f32) (x11 : KV S32x1 .f32) (x12 : KV S32x120 .f32) (r : Fin 32) (n : Fin 64) :
    pk x0 x1 x2 x3 x4 x5 x6 x7 x8 x9 x10 x11 x12 (ix2 r ⟨192 + n.val, by omega⟩) = x3 (ix2 r n) := by
  have hn := n.isLt
  refine (concatenate_cons_apply ..).trans ?_
  refine (concatenateAt_cons ..).trans ((dif_neg (show ¬ 192 + n.val < 64 by omega)).trans ?_)
  refine (concatenateAt_cons ..).trans ((dif_neg (show ¬ 192 + n.val - 64 < 64 by omega)).trans ?_)
  refine (concatenateAt_cons ..).trans ((dif_neg (show ¬ 192 + n.val - 64 - 64 < 64 by omega)).trans ?_)
  refine (concatenateAt_cons ..).trans ((dif_pos (show 192 + n.val - 64 - 64 - 64 < 64 by omega)).trans ?_)
  refine congrArg x3 (funext fun b => Fin.ext ?_)
  match b with
  | ⟨0, _⟩ => rfl
  | ⟨1, _⟩ => show 192 + n.val - 64 - 64 - 64 = n.val; omega
theorem pk_4 (x0 : KV S32x64 .f32) (x1 : KV S32x64 .f32) (x2 : KV S32x64 .f32) (x3 : KV S32x64 .f32) (x4 : KV S32x1 .f32) (x5 : KV S32x1 .f32) (x6 : KV S32x1 .f32) (x7 : KV S32x1 .f32) (x8 : KV S32x1 .f32) (x9 : KV S32x1 .f32) (x10 : KV S32x1 .f32) (x11 : KV S32x1 .f32) (x12 : KV S32x120 .f32) (r : Fin 32) (n : Fin 1) :
    pk x0 x1 x2 x3 x4 x5 x6 x7 x8 x9 x10 x11 x12 (ix2 r ⟨256 + n.val, by omega⟩) = x4 (ix2 r n) := by
  have hn := n.isLt
  refine (concatenate_cons_apply ..).trans ?_
  refine (concatenateAt_cons ..).trans ((dif_neg (show ¬ 256 + n.val < 64 by omega)).trans ?_)
  refine (concatenateAt_cons ..).trans ((dif_neg (show ¬ 256 + n.val - 64 < 64 by omega)).trans ?_)
  refine (concatenateAt_cons ..).trans ((dif_neg (show ¬ 256 + n.val - 64 - 64 < 64 by omega)).trans ?_)
  refine (concatenateAt_cons ..).trans ((dif_neg (show ¬ 256 + n.val - 64 - 64 - 64 < 64 by omega)).trans ?_)
  refine (concatenateAt_cons ..).trans ((dif_pos (show 256 + n.val - 64 - 64 - 64 - 64 < 1 by omega)).trans ?_)
  refine congrArg x4 (funext fun b => Fin.ext ?_)
  match b with
  | ⟨0, _⟩ => rfl
  | ⟨1, _⟩ => show 256 + n.val - 64 - 64 - 64 - 64 = n.val; omega
theorem pk_5 (x0 : KV S32x64 .f32) (x1 : KV S32x64 .f32) (x2 : KV S32x64 .f32) (x3 : KV S32x64 .f32) (x4 : KV S32x1 .f32) (x5 : KV S32x1 .f32) (x6 : KV S32x1 .f32) (x7 : KV S32x1 .f32) (x8 : KV S32x1 .f32) (x9 : KV S32x1 .f32) (x10 : KV S32x1 .f32) (x11 : KV S32x1 .f32) (x12 : KV S32x120 .f32) (r : Fin 32) (n : Fin 1) :
    pk x0 x1 x2 x3 x4 x5 x6 x7 x8 x9 x10 x11 x12 (ix2 r ⟨257 + n.val, by omega⟩) = x5 (ix2 r n) := by
  have hn := n.isLt
  refine (concatenate_cons_apply ..).trans ?_
  refine (concatenateAt_cons ..).trans ((dif_neg (show ¬ 257 + n.val < 64 by omega)).trans ?_)
  refine (concatenateAt_cons ..).trans ((dif_neg (show ¬ 257 + n.val - 64 < 64 by omega)).trans ?_)
  refine (concatenateAt_cons ..).trans ((dif_neg (show ¬ 257 + n.val - 64 - 64 < 64 by omega)).trans ?_)
  refine (concatenateAt_cons ..).trans ((dif_neg (show ¬ 257 + n.val - 64 - 64 - 64 < 64 by omega)).trans ?_)
  refine (concatenateAt_cons ..).trans ((dif_neg (show ¬ 257 + n.val - 64 - 64 - 64 - 64 < 1 by omega)).trans ?_)
  refine (concatenateAt_cons ..).trans ((dif_pos (show 257 + n.val - 64 - 64 - 64 - 64 - 1 < 1 by omega)).trans ?_)
  refine congrArg x5 (funext fun b => Fin.ext ?_)
  match b with
  | ⟨0, _⟩ => rfl
  | ⟨1, _⟩ => show 257 + n.val - 64 - 64 - 64 - 64 - 1 = n.val; omega
theorem pk_6 (x0 : KV S32x64 .f32) (x1 : KV S32x64 .f32) (x2 : KV S32x64 .f32) (x3 : KV S32x64 .f32) (x4 : KV S32x1 .f32) (x5 : KV S32x1 .f32) (x6 : KV S32x1 .f32) (x7 : KV S32x1 .f32) (x8 : KV S32x1 .f32) (x9 : KV S32x1 .f32) (x10 : KV S32x1 .f32) (x11 : KV S32x1 .f32) (x12 : KV S32x120 .f32) (r : Fin 32) (n : Fin 1) :
    pk x0 x1 x2 x3 x4 x5 x6 x7 x8 x9 x10 x11 x12 (ix2 r ⟨258 + n.val, by omega⟩) = x6 (ix2 r n) := by
  have hn := n.isLt
  refine (concatenate_cons_apply ..).trans ?_
  refine (concatenateAt_cons ..).trans ((dif_neg (show ¬ 258 + n.val < 64 by omega)).trans ?_)
  refine (concatenateAt_cons ..).trans ((dif_neg (show ¬ 258 + n.val - 64 < 64 by omega)).trans ?_)
  refine (concatenateAt_cons ..).trans ((dif_neg (show ¬ 258 + n.val - 64 - 64 < 64 by omega)).trans ?_)
  refine (concatenateAt_cons ..).trans ((dif_neg (show ¬ 258 + n.val - 64 - 64 - 64 < 64 by omega)).trans ?_)
  refine (concatenateAt_cons ..).trans ((dif_neg (show ¬ 258 + n.val - 64 - 64 - 64 - 64 < 1 by omega)).trans ?_)
  refine (concatenateAt_cons ..).trans ((dif_neg (show ¬ 258 + n.val - 64 - 64 - 64 - 64 - 1 < 1 by omega)).trans ?_)
  refine (concatenateAt_cons ..).trans ((dif_pos (show 258 + n.val - 64 - 64 - 64 - 64 - 1 - 1 < 1 by omega)).trans ?_)
  refine congrArg x6 (funext fun b => Fin.ext ?_)
  match b with
  | ⟨0, _⟩ => rfl
  | ⟨1, _⟩ => show 258 + n.val - 64 - 64 - 64 - 64 - 1 - 1 = n.val; omega
theorem pk_7 (x0 : KV S32x64 .f32) (x1 : KV S32x64 .f32) (x2 : KV S32x64 .f32) (x3 : KV S32x64 .f32) (x4 : KV S32x1 .f32) (x5 : KV S32x1 .f32) (x6 : KV S32x1 .f32) (x7 : KV S32x1 .f32) (x8 : KV S32x1 .f32) (x9 : KV S32x1 .f32) (x10 : KV S32x1 .f32) (x11 : KV S32x1 .f32) (x12 : KV S32x120 .f32) (r : Fin 32) (n : Fin 1) :
    pk x0 x1 x2 x3 x4 x5 x6 x7 x8 x9 x10 x11 x12 (ix2 r ⟨259 + n.val, by omega⟩) = x7 (ix2 r n) := by
  have hn := n.isLt
  refine (concatenate_cons_apply ..).trans ?_
  refine (concatenateAt_cons ..).trans ((dif_neg (show ¬ 259 + n.val < 64 by omega)).trans ?_)
  refine (concatenateAt_cons ..).trans ((dif_neg (show ¬ 259 + n.val - 64 < 64 by omega)).trans ?_)
  refine (concatenateAt_cons ..).trans ((dif_neg (show ¬ 259 + n.val - 64 - 64 < 64 by omega)).trans ?_)
  refine (concatenateAt_cons ..).trans ((dif_neg (show ¬ 259 + n.val - 64 - 64 - 64 < 64 by omega)).trans ?_)
  refine (concatenateAt_cons ..).trans ((dif_neg (show ¬ 259 + n.val - 64 - 64 - 64 - 64 < 1 by omega)).trans ?_)
  refine (concatenateAt_cons ..).trans ((dif_neg (show ¬ 259 + n.val - 64 - 64 - 64 - 64 - 1 < 1 by omega)).trans ?_)
  refine (concatenateAt_cons ..).trans ((dif_neg (show ¬ 259 + n.val - 64 - 64 - 64 - 64 - 1 - 1 < 1 by omega)).trans ?_)
  refine (concatenateAt_cons ..).trans ((dif_pos (show 259 + n.val - 64 - 64 - 64 - 64 - 1 - 1 - 1 < 1 by omega)).trans ?_)
  refine congrArg x7 (funext fun b => Fin.ext ?_)
  match b with
  | ⟨0, _⟩ => rfl
  | ⟨1, _⟩ => show 259 + n.val - 64 - 64 - 64 - 64 - 1 - 1 - 1 = n.val; omega
theorem pk_8 (x0 : KV S32x64 .f32) (x1 : KV S32x64 .f32) (x2 : KV S32x64 .f32) (x3 : KV S32x64 .f32) (x4 : KV S32x1 .f32) (x5 : KV S32x1 .f32) (x6 : KV S32x1 .f32) (x7 : KV S32x1 .f32) (x8 : KV S32x1 .f32) (x9 : KV S32x1 .f32) (x10 : KV S32x1 .f32) (x11 : KV S32x1 .f32) (x12 : KV S32x120 .f32) (r : Fin 32) (n : Fin 1) :
    pk x0 x1 x2 x3 x4 x5 x6 x7 x8 x9 x10 x11 x12 (ix2 r ⟨260 + n.val, by omega⟩) = x8 (ix2 r n) := by
  have hn := n.isLt
  refine (concatenate_cons_apply ..).trans ?_
  refine (concatenateAt_cons ..).trans ((dif_neg (show ¬ 260 + n.val < 64 by omega)).trans ?_)
  refine (concatenateAt_cons ..).trans ((dif_neg (show ¬ 260 + n.val - 64 < 64 by omega)).trans ?_)
  refine (concatenateAt_cons ..).trans ((dif_neg (show ¬ 260 + n.val - 64 - 64 < 64 by omega)).trans ?_)
  refine (concatenateAt_cons ..).trans ((dif_neg (show ¬ 260 + n.val - 64 - 64 - 64 < 64 by omega)).trans ?_)
  refine (concatenateAt_cons ..).trans ((dif_neg (show ¬ 260 + n.val - 64 - 64 - 64 - 64 < 1 by omega)).trans ?_)
  refine (concatenateAt_cons ..).trans ((dif_neg (show ¬ 260 + n.val - 64 - 64 - 64 - 64 - 1 < 1 by omega)).trans ?_)
  refine (concatenateAt_cons ..).trans ((dif_neg (show ¬ 260 + n.val - 64 - 64 - 64 - 64 - 1 - 1 < 1 by omega)).trans ?_)
  refine (concatenateAt_cons ..).trans ((dif_neg (show ¬ 260 + n.val - 64 - 64 - 64 - 64 - 1 - 1 - 1 < 1 by omega)).trans ?_)
  refine (concatenateAt_cons ..).trans ((dif_pos (show 260 + n.val - 64 - 64 - 64 - 64 - 1 - 1 - 1 - 1 < 1 by omega)).trans ?_)
  refine congrArg x8 (funext fun b => Fin.ext ?_)
  match b with
  | ⟨0, _⟩ => rfl
  | ⟨1, _⟩ => show 260 + n.val - 64 - 64 - 64 - 64 - 1 - 1 - 1 - 1 = n.val; omega
theorem pk_9 (x0 : KV S32x64 .f32) (x1 : KV S32x64 .f32) (x2 : KV S32x64 .f32) (x3 : KV S32x64 .f32) (x4 : KV S32x1 .f32) (x5 : KV S32x1 .f32) (x6 : KV S32x1 .f32) (x7 : KV S32x1 .f32) (x8 : KV S32x1 .f32) (x9 : KV S32x1 .f32) (x10 : KV S32x1 .f32) (x11 : KV S32x1 .f32) (x12 : KV S32x120 .f32) (r : Fin 32) (n : Fin 1) :
    pk x0 x1 x2 x3 x4 x5 x6 x7 x8 x9 x10 x11 x12 (ix2 r ⟨261 + n.val, by omega⟩) = x9 (ix2 r n) := by
  have hn := n.isLt
  refine (concatenate_cons_apply ..).trans ?_
  refine (concatenateAt_cons ..).trans ((dif_neg (show ¬ 261 + n.val < 64 by omega)).trans ?_)
  refine (concatenateAt_cons ..).trans ((dif_neg (show ¬ 261 + n.val - 64 < 64 by omega)).trans ?_)
  refine (concatenateAt_cons ..).trans ((dif_neg (show ¬ 261 + n.val - 64 - 64 < 64 by omega)).trans ?_)
  refine (concatenateAt_cons ..).trans ((dif_neg (show ¬ 261 + n.val - 64 - 64 - 64 < 64 by omega)).trans ?_)
  refine (concatenateAt_cons ..).trans ((dif_neg (show ¬ 261 + n.val - 64 - 64 - 64 - 64 < 1 by omega)).trans ?_)
  refine (concatenateAt_cons ..).trans ((dif_neg (show ¬ 261 + n.val - 64 - 64 - 64 - 64 - 1 < 1 by omega)).trans ?_)
  refine (concatenateAt_cons ..).trans ((dif_neg (show ¬ 261 + n.val - 64 - 64 - 64 - 64 - 1 - 1 < 1 by omega)).trans ?_)
  refine (concatenateAt_cons ..).trans ((dif_neg (show ¬ 261 + n.val - 64 - 64 - 64 - 64 - 1 - 1 - 1 < 1 by omega)).trans ?_)
  refine (concatenateAt_cons ..).trans ((dif_neg (show ¬ 261 + n.val - 64 - 64 - 64 - 64 - 1 - 1 - 1 - 1 < 1 by omega)).trans ?_)
  refine (concatenateAt_cons ..).trans ((dif_pos (show 261 + n.val - 64 - 64 - 64 - 64 - 1 - 1 - 1 - 1 - 1 < 1 by omega)).trans ?_)
  refine congrArg x9 (funext fun b => Fin.ext ?_)
  match b with
  | ⟨0, _⟩ => rfl
  | ⟨1, _⟩ => show 261 + n.val - 64 - 64 - 64 - 64 - 1 - 1 - 1 - 1 - 1 = n.val; omega
theorem pk_10 (x0 : KV S32x64 .f32) (x1 : KV S32x64 .f32) (x2 : KV S32x64 .f32) (x3 : KV S32x64 .f32) (x4 : KV S32x1 .f32) (x5 : KV S32x1 .f32) (x6 : KV S32x1 .f32) (x7 : KV S32x1 .f32) (x8 : KV S32x1 .f32) (x9 : KV S32x1 .f32) (x10 : KV S32x1 .f32) (x11 : KV S32x1 .f32) (x12 : KV S32x120 .f32) (r : Fin 32) (n : Fin 1) :
    pk x0 x1 x2 x3 x4 x5 x6 x7 x8 x9 x10 x11 x12 (ix2 r ⟨262 + n.val, by omega⟩) = x10 (ix2 r n) := by
  have hn := n.isLt
  refine (concatenate_cons_apply ..).trans ?_
  refine (concatenateAt_cons ..).trans ((dif_neg (show ¬ 262 + n.val < 64 by omega)).trans ?_)
  refine (concatenateAt_cons ..).trans ((dif_neg (show ¬ 262 + n.val - 64 < 64 by omega)).trans ?_)
  refine (concatenateAt_cons ..).trans ((dif_neg (show ¬ 262 + n.val - 64 - 64 < 64 by omega)).trans ?_)
  refine (concatenateAt_cons ..).trans ((dif_neg (show ¬ 262 + n.val - 64 - 64 - 64 < 64 by omega)).trans ?_)
  refine (concatenateAt_cons ..).trans ((dif_neg (show ¬ 262 + n.val - 64 - 64 - 64 - 64 < 1 by omega)).trans ?_)
  refine (concatenateAt_cons ..).trans ((dif_neg (show ¬ 262 + n.val - 64 - 64 - 64 - 64 - 1 < 1 by omega)).trans ?_)
  refine (concatenateAt_cons ..).trans ((dif_neg (show ¬ 262 + n.val - 64 - 64 - 64 - 64 - 1 - 1 < 1 by omega)).trans ?_)
  refine (concatenateAt_cons ..).trans ((dif_neg (show ¬ 262 + n.val - 64 - 64 - 64 - 64 - 1 - 1 - 1 < 1 by omega)).trans ?_)
  refine (concatenateAt_cons ..).trans ((dif_neg (show ¬ 262 + n.val - 64 - 64 - 64 - 64 - 1 - 1 - 1 - 1 < 1 by omega)).trans ?_)
  refine (concatenateAt_cons ..).trans ((dif_neg (show ¬ 262 + n.val - 64 - 64 - 64 - 64 - 1 - 1 - 1 - 1 - 1 < 1 by omega)).trans ?_)
  refine (concatenateAt_cons ..).trans ((dif_pos (show 262 + n.val - 64 - 64 - 64 - 64 - 1 - 1 - 1 - 1 - 1 - 1 < 1 by omega)).trans ?_)
  refine congrArg x10 (funext fun b => Fin.ext ?_)
  match b with
  | ⟨0, _⟩ => rfl
  | ⟨1, _⟩ => show 262 + n.val - 64 - 64 - 64 - 64 - 1 - 1 - 1 - 1 - 1 - 1 = n.val; omega
theorem pk_11 (x0 : KV S32x64 .f32) (x1 : KV S32x64 .f32) (x2 : KV S32x64 .f32) (x3 : KV S32x64 .f32) (x4 : KV S32x1 .f32) (x5 : KV S32x1 .f32) (x6 : KV S32x1 .f32) (x7 : KV S32x1 .f32) (x8 : KV S32x1 .f32) (x9 : KV S32x1 .f32) (x10 : KV S32x1 .f32) (x11 : KV S32x1 .f32) (x12 : KV S32x120 .f32) (r : Fin 32) (n : Fin 1) :
    pk x0 x1 x2 x3 x4 x5 x6 x7 x8 x9 x10 x11 x12 (ix2 r ⟨263 + n.val, by omega⟩) = x11 (ix2 r n) := by
  have hn := n.isLt
  refine (concatenate_cons_apply ..).trans ?_
  refine (concatenateAt_cons ..).trans ((dif_neg (show ¬ 263 + n.val < 64 by omega)).trans ?_)
  refine (concatenateAt_cons ..).trans ((dif_neg (show ¬ 263 + n.val - 64 < 64 by omega)).trans ?_)
  refine (concatenateAt_cons ..).trans ((dif_neg (show ¬ 263 + n.val - 64 - 64 < 64 by omega)).trans ?_)
  refine (concatenateAt_cons ..).trans ((dif_neg (show ¬ 263 + n.val - 64 - 64 - 64 < 64 by omega)).trans ?_)
  refine (concatenateAt_cons ..).trans ((dif_neg (show ¬ 263 + n.val - 64 - 64 - 64 - 64 < 1 by omega)).trans ?_)
  refine (concatenateAt_cons ..).trans ((dif_neg (show ¬ 263 + n.val - 64 - 64 - 64 - 64 - 1 < 1 by omega)).trans ?_)
  refine (concatenateAt_cons ..).trans ((dif_neg (show ¬ 263 + n.val - 64 - 64 - 64 - 64 - 1 - 1 < 1 by omega)).trans ?_)
  refine (concatenateAt_cons ..).trans ((dif_neg (show ¬ 263 + n.val - 64 - 64 - 64 - 64 - 1 - 1 - 1 < 1 by omega)).trans ?_)
  refine (concatenateAt_cons ..).trans ((dif_neg (show ¬ 263 + n.val - 64 - 64 - 64 - 64 - 1 - 1 - 1 - 1 < 1 by omega)).trans ?_)
  refine (concatenateAt_cons ..).trans ((dif_neg (show ¬ 263 + n.val - 64 - 64 - 64 - 64 - 1 - 1 - 1 - 1 - 1 < 1 by omega)).trans ?_)
  refine (concatenateAt_cons ..).trans ((dif_neg (show ¬ 263 + n.val - 64 - 64 - 64 - 64 - 1 - 1 - 1 - 1 - 1 - 1 < 1 by omega)).trans ?_)
  refine (concatenateAt_cons ..).trans ((dif_pos (show 263 + n.val - 64 - 64 - 64 - 64 - 1 - 1 - 1 - 1 - 1 - 1 - 1 < 1 by omega)).trans ?_)
  refine congrArg x11 (funext fun b => Fin.ext ?_)
  match b with
  | ⟨0, _⟩ => rfl
  | ⟨1, _⟩ => show 263 + n.val - 64 - 64 - 64 - 64 - 1 - 1 - 1 - 1 - 1 - 1 - 1 = n.val; omega

/-- One batch entry's packed partial result. -/
def pB (q : KV S1x32x256 .bf16) (k v : KV S1x128x256 .f32) : KV S32x384 .f32 :=
  pk (pA (pS q k 0 slices_S32x256_o0_0_S32x64 slices_S128x256_o0_0_S128x64) (pV v 0 slices_S128x256_o0_0_S128x64)) (pA (pS q k 64 slices_S32x256_o0_64_S32x64 slices_S128x256_o0_64_S128x64) (pV v 64 slices_S128x256_o0_64_S128x64)) (pA (pS q k 128 slices_S32x256_o0_128_S32x64 slices_S128x256_o0_128_S128x64) (pV v 128 slices_S128x256_o0_128_S128x64)) (pA (pS q k 192 slices_S32x256_o0_192_S32x64 slices_S128x256_o0_192_S128x64) (pV v 192 slices_S128x256_o0_192_S128x64))
    (pM (pS q k 0 slices_S32x256_o0_0_S32x64 slices_S128x256_o0_0_S128x64)) (pM (pS q k 64 slices_S32x256_o0_64_S32x64 slices_S128x256_o0_64_S128x64)) (pM (pS q k 128 slices_S32x256_o0_128_S32x64 slices_S128x256_o0_128_S128x64)) (pM (pS q k 192 slices_S32x256_o0_192_S32x64 slices_S128x256_o0_192_S128x64))
    (pL (pS q k 0 slices_S32x256_o0_0_S32x64 slices_S128x256_o0_0_S128x64)) (pL (pS q k 64 slices_S32x256_o0_64_S32x64 slices_S128x256_o0_64_S128x64)) (pL (pS q k 128 slices_S32x256_o0_128_S32x64 slices_S128x256_o0_128_S128x64)) (pL (pS q k 192 slices_S32x256_o0_192_S32x64 slices_S128x256_o0_192_S128x64))
    (broadcast S32x120 (Scalar.ofBits .f32 0x00000000#32 : Ideal .f32))

section
variable (q : KV S1x32x256 .bf16) (k v : KV S1x128x256 .f32) (r : Fin 32) (h : Fin 4)
theorem pB_acc (d : Fin 64) : pB q k v (ix2 r ⟨64 * h.val + d.val, by omega⟩)
    = ∑ t : Fin 128, Ideal.exp (ps q k (64 * h.val) (by omega) r t - rowMax (ps q k (64 * h.val) (by omega) r)) * v (ix3 0 t ⟨64 * h.val + d.val, by omega⟩) := by
    match h with
    | ⟨0, _⟩ => exact (pk_0 _ _ _ _ _ _ _ _ _ _ _ _ _ r d).trans (ac_at q k v 0 _ _ (by omega) r d)
    | ⟨1, _⟩ => exact (pk_1 _ _ _ _ _ _ _ _ _ _ _ _ _ r d).trans (ac_at q k v 64 _ _ (by omega) r d)
    | ⟨2, _⟩ => exact (pk_2 _ _ _ _ _ _ _ _ _ _ _ _ _ r d).trans (ac_at q k v 128 _ _ (by omega) r d)
    | ⟨3, _⟩ => exact (pk_3 _ _ _ _ _ _ _ _ _ _ _ _ _ r d).trans (ac_at q k v 192 _ _ (by omega) r d)

theorem pB_max : pB q k v (ix2 r ⟨256 + h.val, by omega⟩) = rowMax (ps q k (64 * h.val) (by omega) r) := by
    match h with
    | ⟨0, _⟩ => exact (pk_4 _ _ _ _ _ _ _ _ _ _ _ _ _ r 0).trans (mx_at q k 0 _ _ (by omega) r)
    | ⟨1, _⟩ => exact (pk_5 _ _ _ _ _ _ _ _ _ _ _ _ _ r 0).trans (mx_at q k 64 _ _ (by omega) r)
    | ⟨2, _⟩ => exact (pk_6 _ _ _ _ _ _ _ _ _ _ _ _ _ r 0).trans (mx_at q k 128 _ _ (by omega) r)
    | ⟨3, _⟩ => exact (pk_7 _ _ _ _ _ _ _ _ _ _ _ _ _ r 0).trans (mx_at q k 192 _ _ (by omega) r)

theorem pB_sum : pB q k v (ix2 r ⟨260 + h.val, by omega⟩) = ∑ t : Fin 128, Ideal.exp (ps q k (64 * h.val) (by omega) r t - rowMax (ps q k (64 * h.val) (by omega) r)) := by
    match h with
    | ⟨0, _⟩ => exact (pk_8 _ _ _ _ _ _ _ _ _ _ _ _ _ r 0).trans (ls_at q k 0 _ _ (by omega) r)
    | ⟨1, _⟩ => exact (pk_9 _ _ _ _ _ _ _ _ _ _ _ _ _ r 0).trans (ls_at q k 64 _ _ (by omega) r)
    | ⟨2, _⟩ => exact (pk_10 _ _ _ _ _ _ _ _ _ _ _ _ _ r 0).trans (ls_at q k 128 _ _ (by omega) r)
    | ⟨3, _⟩ => exact (pk_11 _ _ _ _ _ _ _ _ _ _ _ _ _ r 0).trans (ls_at q k 192 _ _ (by omega) r)

end

/-! The printed values are these. -/

theorem pw0 (E : Env Ideal) (r : Fin 32) (n : Fin 384) : pwF E (ix3 0 r n) = pB (v77 E) (v80 E) (v84 E) (ix2 r n) :=
  shapeCast_ab_1ab_apply (pB (v77 E) (v80 E) (v84 E)) shapeCasts_S32x384_S1x32x384 0 r n
theorem pw1 (E : Env Ideal) (r : Fin 32) (n : Fin 384) : pwF E (ix3 1 r n) = pB (v183 E) (v186 E) (v190 E) (ix2 r n) :=
  shapeCast_ab_1ab_apply (pB (v183 E) (v186 E) (v190 E)) shapeCasts_S32x384_S1x32x384 0 r n

end Cert.Exchange

end
-- ==== Proof.MergeHead.lean ====
module

public import proofs.«01_k».proof.Proof.PartHead
public import proofs.«01_k».proof.Proof.MergeValues

@[expose] public section

set_option maxRecDepth 10000

noncomputable section

namespace Cert.Exchange

open Cert.KernelIdeal Cert.KernelIdeal.Gen
open Idealize.ShloMosaic hiding ix1 ix2 ix3 ix4
open Idealize.ShloMosaic.TcCoe Idealize.ShloMosaic.ValueIdx
open scoped BigOperators

/-! ## Merging the partial results -/

/-- Sixteen summands added from the left. -/
def nest {s : Shape} (f : Fin 16 → KV s .f32) : KV s .f32 := (addf (addf (addf (addf (addf (addf (addf (addf (addf (addf (addf (addf (addf (addf (addf (f 0) (f 1)) (f 2)) (f 3)) (f 4)) (f 5)) (f 6)) (f 7)) (f 8)) (f 9)) (f 10)) (f 11)) (f 12)) (f 13)) (f 14)) (f 15))
theorem nest_at {s : Shape} (f : Fin 16 → KV s .f32) (i : s.Idx) : nest f i = ∑ j, f j i := by
  simp only [Fin.sum_univ_castSucc, Finset.univ_eq_empty, Finset.sum_empty, zero_add]
  rfl

variable (A : Fin 16 → KV S32x384 .f32)

/-- A part's four largest scores, and its four sums. -/
def pmx (j : Fin 16) : KV S32x4 .f32 := extractStridedSlice S32x4 ![0, 256] (A j) slices_S32x384_o0_256_S32x4
def pls (j : Fin 16) : KV S32x4 .f32 := extractStridedSlice S32x4 ![0, 260] (A j) slices_S32x384_o0_260_S32x4
/-- The largest over all parts. -/
def mxA : KV S32x4 .f32 := (maximumf (maximumf (maximumf (maximumf (maximumf (maximumf (maximumf (maximumf (maximumf (maximumf (maximumf (maximumf (maximumf (maximumf (maximumf (pmx A 0) (pmx A 1)) (pmx A 2)) (pmx A 3)) (pmx A 4)) (pmx A 5)) (pmx A 6)) (pmx A 7)) (pmx A 8)) (pmx A 9)) (pmx A 10)) (pmx A 11)) (pmx A 12)) (pmx A 13)) (pmx A 14)) (pmx A 15))
/-- A part's rescaling. -/
def pcf (j : Fin 16) : KV S32x4 .f32 := exp (subf (pmx A j) (mxA A))
/-- The sum of all weights. -/
def lsA : KV S32x4 .f32 := nest fun j => mulf (pcf A j) (pls A j)
/-- A head's merged numerator, and its quotient. -/
def numA (o h : ℕ) (hs : S32x384.Slices ![0, o] S32x64) (hc : S32x4.Slices ![0, h] S32x1) : KV S32x64 .f32 :=
  nest fun j => mulf (extractStridedSlice S32x64 ![0, o] (A j) hs) (broadcastTo S32x64 (extractStridedSlice S32x1 ![0, h] (pcf A j) hc) broadcasts_S32x1_S32x64)
def ctxA (o h : ℕ) (hs : S32x384.Slices ![0, o] S32x64) (hc : S32x4.Slices ![0, h] S32x1) : KV S32x64 .f32 :=
  divf (numA A o h hs hc) (broadcastTo S32x64 (extractStridedSlice S32x1 ![0, h] (lsA A) hc) broadcasts_S32x1_S32x64)
/-- The four heads side by side, times the output weights. -/
def gO (h0 h1 h2 h3 : KV S32x64 .f32) (wo : KV S256x512 .f32) : KV S32x512 .f32 :=
  matmul dot_S32x256_S256x512_S32x512_1_0_0_1_n_n none
    (concatenate S32x256 1 [⟨S32x64, h0⟩, ⟨S32x64, h1⟩, ⟨S32x64, h2⟩, ⟨S32x64, h3⟩] concatenates_S32x64_S32x64_S32x64_S32x64_S32x256_d1)
    (shapeCast S256x512 wo shapeCasts_S256x512_S256x512) (constant S32x512 .f32 0x00000000#32)
def gB (wo : KV S256x512 .f32) : KV S32x512 .f32 := gO (ctxA A 0 0 slices_S32x384_o0_0_S32x64 slices_S32x4_o0_0_S32x1) (ctxA A 64 1 slices_S32x384_o0_64_S32x64 slices_S32x4_o0_1_S32x1) (ctxA A 128 2 slices_S32x384_o0_128_S32x64 slices_S32x4_o0_2_S32x1) (ctxA A 192 3 slices_S32x384_o0_192_S32x64 slices_S32x4_o0_3_S32x1) wo

theorem gO_at (h : Fin 4 → KV S32x64 .f32) (wo : KV S256x512 .f32) (r : Fin 32) (n : Fin 512) :
    gO (h 0) (h 1) (h 2) (h 3) wo (ix2 r n) = ∑ e : Fin 256, h ⟨e.val / 64, by omega⟩ (ix2 r ⟨e.val % 64, by omega⟩) * wo (ix2 e n) := by
  unfold gO
  refine (Ideal.matmul_plain_apply (M := 32) (K := 256) (N := 512) none _ _ _ r n).trans ?_
  rw [const_at, zero_add]
  refine Finset.sum_congr rfl fun e _ => ?_
  refine congrArg₂ (· * ·) ?_ (shapeCast_apply _ _ _ _ rfl)
  exact concatenate_ofFn_apply (t := S32x256) (s₁ := S32x64) (1 : Fin 2) h concatenates_S32x64_S32x64_S32x64_S32x64_S32x256_d1 rfl 64 rfl (ix2 r e)
    ⟨e.val / 64, by omega⟩ rfl _ rfl (by
      intro b hb
      match b with
      | ⟨0, _⟩ => rfl
      | ⟨1, _⟩ => exact absurd rfl hb)

theorem pmx_at (j : Fin 16) (r : Fin 32) (h : Fin 4) : pmx A j (ix2 r h) = A j (ix2 r ⟨256 + h.val, by omega⟩) :=
  slice2_axis1_apply 256 (A j) slices_S32x384_o0_256_S32x4 r h ⟨256 + h.val, by omega⟩ rfl
theorem pls_at (j : Fin 16) (r : Fin 32) (h : Fin 4) : pls A j (ix2 r h) = A j (ix2 r ⟨260 + h.val, by omega⟩) :=
  slice2_axis1_apply 260 (A j) slices_S32x384_o0_260_S32x4 r h ⟨260 + h.val, by omega⟩ rfl

theorem max_coe {a b : EReal} (ha : ∃ x : ℝ, a = x) (hb : ∃ x : ℝ, b = x) : ∃ x : ℝ, max a b = x := by
  rcases max_choice a b with h | h <;> rw [h] <;> assumption
/-- The largest over all parts is a number when each part's is. -/
theorem mxA_real (r : Fin 32) (h : Fin 4) (H : ∀ j, ∃ x : ℝ, pmx A j (ix2 r h) = x) : ∃ x : ℝ, mxA A (ix2 r h) = x := by
  unfold mxA
  exact (max_coe (max_coe (max_coe (max_coe (max_coe (max_coe (max_coe (max_coe (max_coe (max_coe (max_coe (max_coe (max_coe (max_coe (max_coe (H 0) (H 1)) (H 2)) (H 3)) (H 4)) (H 5)) (H 6)) (H 7)) (H 8)) (H 9)) (H 10)) (H 11)) (H 12)) (H 13)) (H 14)) (H 15))

theorem one_at (x : KV S32x4 .f32) (o : ℕ) (ho : o < 4) (hc : S32x4.Slices ![0, o] S32x1) (r : Fin 32) (d : Fin 64) :
    broadcastTo S32x64 (extractStridedSlice S32x1 ![0, o] x hc) broadcasts_S32x1_S32x64 (ix2 r d) = x (ix2 r ⟨o, ho⟩) := by
  rw [broadcastTo_apply _ _ _ (ix2 r 0) (by
    intro ax
    match ax with
    | ⟨0, _⟩ => rfl
    | ⟨1, _⟩ => rfl)]
  exact slice2_axis1_apply o x hc r 0 ⟨o, ho⟩ rfl

/-- A merged head, entry by entry. -/
theorem ctxA_at (o h : ℕ) (hs : S32x384.Slices ![0, o] S32x64) (hc : S32x4.Slices ![0, h] S32x1) (ho : o + 64 ≤ 384) (hh : h < 4) (r : Fin 32) (d : Fin 64) :
    ctxA A o h hs hc (ix2 r d) = Ideal.div
      (∑ j, A j (ix2 r ⟨o + d.val, by omega⟩) * Ideal.exp (A j (ix2 r ⟨256 + h, by omega⟩) - mxA A (ix2 r ⟨h, hh⟩)))
      (∑ j, Ideal.exp (A j (ix2 r ⟨256 + h, by omega⟩) - mxA A (ix2 r ⟨h, hh⟩)) * A j (ix2 r ⟨260 + h, by omega⟩)) := by
  have hcf : ∀ j, pcf A j (ix2 r ⟨h, hh⟩) = Ideal.exp (A j (ix2 r ⟨256 + h, by omega⟩) - mxA A (ix2 r ⟨h, hh⟩)) := fun j =>
    congrArg (fun y => Ideal.exp (y - mxA A (ix2 r ⟨h, hh⟩))) (pmx_at A j r ⟨h, hh⟩)
  unfold ctxA
  rw [divf_apply, one_at (lsA A) h hh]
  refine congrArg₂ Ideal.div ?_ ?_
  · unfold numA
    rw [nest_at]
    refine Finset.sum_congr rfl fun j _ => ?_
    rw [mulf_apply, one_at (pcf A j) h hh, hcf]
    exact congrArg (· * _) (slice2_axis1_apply o (A j) hs r d ⟨o + d.val, by omega⟩ rfl)
  · unfold lsA
    rw [nest_at]
    refine Finset.sum_congr rfl fun j _ => ?_
    rw [mulf_apply, hcf]
    exact congrArg (_ * ·) (pls_at A j r ⟨h, hh⟩)

theorem gB_at (wo : KV S256x512 .f32) (r : Fin 32) (n : Fin 512) : gB A wo (ix2 r n) = ∑ e : Fin 256, Ideal.div
      (∑ j, A j (ix2 r ⟨64 * (e.val / 64) + e.val % 64, by omega⟩) * Ideal.exp (A j (ix2 r ⟨256 + e.val / 64, by omega⟩) - mxA A (ix2 r ⟨e.val / 64, by omega⟩)))
      (∑ j, Ideal.exp (A j (ix2 r ⟨256 + e.val / 64, by omega⟩) - mxA A (ix2 r ⟨e.val / 64, by omega⟩)) * A j (ix2 r ⟨260 + e.val / 64, by omega⟩)) * wo (ix2 e n) := by
  unfold gB
  let h : Fin 4 → KV S32x64 .f32 := ![ctxA A 0 0 slices_S32x384_o0_0_S32x64 slices_S32x4_o0_0_S32x1, ctxA A 64 1 slices_S32x384_o0_64_S32x64 slices_S32x4_o0_1_S32x1, ctxA A 128 2 slices_S32x384_o0_128_S32x64 slices_S32x4_o0_2_S32x1, ctxA A 192 3 slices_S32x384_o0_192_S32x64 slices_S32x4_o0_3_S32x1]
  have hh : ∀ (i : Fin 4) (d : Fin 64), h i (ix2 r d) = Ideal.div
      (∑ j, A j (ix2 r ⟨64 * i.val + d.val, by omega⟩) * Ideal.exp (A j (ix2 r ⟨256 + i.val, by omega⟩) - mxA A (ix2 r i)))
      (∑ j, Ideal.exp (A j (ix2 r ⟨256 + i.val, by omega⟩) - mxA A (ix2 r i)) * A j (ix2 r ⟨260 + i.val, by omega⟩)) := by
    intro i d
    match i with
    | ⟨0, _⟩ => exact ctxA_at A 0 0 _ _ (by omega) (by omega) r d
    | ⟨1, _⟩ => exact ctxA_at A 64 1 _ _ (by omega) (by omega) r d
    | ⟨2, _⟩ => exact ctxA_at A 128 2 _ _ (by omega) (by omega) r d
    | ⟨3, _⟩ => exact ctxA_at A 192 3 _ _ (by omega) (by omega) r d
  refine (gO_at h wo r n).trans (Finset.sum_congr rfl fun e _ => ?_)
  rw [hh]

end Cert.Exchange

end
-- ==== Proof.MergeEq.lean ====
module

public import proofs.«01_k».proof.Proof.MergeHead

@[expose] public section

set_option maxRecDepth 10000

noncomputable section

namespace Cert.Exchange

open Cert.KernelIdeal Cert.KernelIdeal.Gen
open Idealize.ShloMosaic hiding ix1 ix2 ix3 ix4
open Idealize.ShloMosaic.TcCoe Idealize.ShloMosaic.ValueIdx
open scoped BigOperators

/-! ## The printed merge is this one -/

def PA0 (E : Env Ideal) : Fin 16 → KV S32x384 .f32 := ![v665 E, v668 E, v671 E, v674 E, v677 E, v680 E, v683 E, v686 E, v689 E, v692 E, v695 E, v698 E, v701 E, v704 E, v707 E, v710 E]
def PA1 (E : Env Ideal) : Fin 16 → KV S32x384 .f32 := ![v1158 E, v1161 E, v1164 E, v1167 E, v1170 E, v1173 E, v1176 E, v1179 E, v1182 E, v1185 E, v1188 E, v1191 E, v1194 E, v1197 E, v1200 E, v1203 E]

variable (E : Env Ideal)

/-! The first batch entry. -/

theorem og0 (r : Fin 32) (n : Fin 512) : k0_pay92 (v1149 E) (v1151 E) (cst_474 E) (ix3 0 r n) = gB (PA0 E) (v1150 E) (ix2 r n) :=
  shapeCast_ab_1ab_apply (gB (PA0 E) (v1150 E)) shapeCasts_S32x512_S1x32x512 0 r n

/-! The second batch entry. -/

theorem og1 (r : Fin 32) (n : Fin 512) : k0_pay2 (v1200 E) (v1203 E) (v1278 E) (v1280 E) (v1282 E) (v1313 E) (v1395 E) (v1477 E) (v1559 E) (v1623 E) (v1624 E) (v1643 E) (ix3 0 r n) = gB (PA1 E) (v1643 E) (ix2 r n) :=
  shapeCast_ab_1ab_apply (gB (PA1 E) (v1643 E)) shapeCasts_S32x512_S1x32x512 0 r n

end Cert.Exchange

end
-- ==== Proof.BandMask.lean ====
module

public import proofs.«01_k».proof.Proof.BandKeys

@[expose] public section

set_option maxRecDepth 10000

noncomputable section

namespace Cert.Exchange

open Cert.KernelIdeal Cert.KernelIdeal.Gen
open Idealize.ShloMosaic hiding ix1 ix2 ix3 ix4
open Idealize.ShloMosaic.TcCoe Idealize.ShloMosaic.ValueIdx
open scoped BigOperators

/-! ## The banded rows' mask -/

/-- The columns of the window that row `r` of device `c` attends to. -/
def vis (c : Fin 16) (r : Fin 128) (cl : Fin 512) : Prop :=
  (((cl.val < 384 ∧ 128 ≤ 128 * c.val + cl.val) ∧ 128 * c.val + cl.val < 2048 + 128) ∧
    (((128 * c.val + cl.val ≤ 128 * c.val + r.val + 256 ∧ r.val ≤ cl.val) ∨ 128 * c.val + cl.val < 160) ∨ 128 * c.val + r.val < 32))
  ∨ ((384 ≤ cl.val ∧ cl.val < 416) ∧ 2 ≤ c.val)
instance (c : Fin 16) (r : Fin 128) (cl : Fin 512) : Decidable (vis c r cl) := by unfold vis; infer_instance

/-- The mask in integers: `x` the device, `r` the row, `l` the column. -/
def visZ (x r l : ℤ) : Prop :=
  (((l < 384 ∧ 0 ≤ (x - 1) * 128 + l) ∧ (x - 1) * 128 + l < 2048) ∧
    ((|x * 128 + r - ((x - 1) * 128 + l)| ≤ 128 ∨ (x - 1) * 128 + l < 32) ∨ x * 128 + r < 32))
  ∨ ((384 ≤ l ∧ l < 416) ∧ 2 ≤ x)
instance (x r l : ℤ) : Decidable (visZ x r l) := by unfold visZ; infer_instance

theorem vis_iff (c : Fin 16) (r : Fin 128) (cl : Fin 512) : visZ c.val r.val cl.val ↔ vis c r cl := by
  unfold visZ vis
  rw [abs_le]
  omega

section
variable (a : BitVec 32) (r : Fin 128) (cl : Fin 512)
theorem pay219_at : k0_pay219 a (ix2 r cl) = IntOp.addi (IntOp.muli a (W 128)) (W r.val) := by
  show IntOp.addi _ (iota .tc S128x512 32 [0] iota_S128x512_d0_w32 (ix2 r cl)) = _
  rw [iota_single_apply]; rfl
theorem col0_at : iota .tc S128x512 32 [1] iota_S128x512_d1_w32 (ix2 r cl) = W cl.val := by
  rw [iota_single_apply]; rfl
theorem pay220_at : k0_pay220 a (ix2 r cl) = IntOp.addi (IntOp.muli (IntOp.subi a (W 1)) (W 128)) (W cl.val) := by
  show IntOp.addi _ (iota .tc S128x512 32 [1] iota_S128x512_d1_w32 (ix2 r cl)) = _
  rw [col0_at]; rfl
theorem pay221_at : k0_pay221 a (ix2 r cl) = IntOp.andi (IntOp.andi (IntOp.cmpi .slt (W cl.val) (W 384)) (IntOp.cmpi .sge (k0_pay220 a (ix2 r cl)) (W 0))) (IntOp.cmpi .slt (k0_pay220 a (ix2 r cl)) (W 2048)) := by
  rw [← col0_at r cl]; rfl
theorem pay222_at : k0_pay222 a (ix2 r cl) = IntOp.cmpi .sle (IntOp.absi (IntOp.subi (k0_pay219 a (ix2 r cl)) (k0_pay220 a (ix2 r cl)))) (W 128) := rfl
theorem pay223_at (A B C : IVec S128x512 32) (D G : IVec S128x512 1) : k0_pay223 a A B C D G (ix2 r cl) =
    IntOp.ori (IntOp.andi (D (ix2 r cl)) (IntOp.ori (IntOp.ori (G (ix2 r cl)) (IntOp.cmpi .slt (C (ix2 r cl)) (W 32))) (IntOp.cmpi .slt (B (ix2 r cl)) (W 32))))
      (IntOp.andi (IntOp.andi (IntOp.cmpi .sge (A (ix2 r cl)) (W 384)) (IntOp.cmpi .slt (A (ix2 r cl)) (W 416))) (IntOp.cmpi .sge a (W 2))) := rfl
end

/-- The mask at a row and a column. -/
theorem v337_eq {E : Env Ideal} {c : Fin 16} (h : E.v2 = W c.val) (r : Fin 128) (cl : Fin 512) :
    v337 E (ix2 r cl) = BitVec.ofBool (decide (vis c r cl)) := by
  have hc := c.isLt
  have hr := r.isLt
  have hl := cl.isLt
  have ha : |(c.val : ℤ) * 128 + r.val - (((c.val : ℤ) - 1) * 128 + cl.val)| ≤ 100000 := by rw [abs_le]; omega
  have ha' : -100000 ≤ |(c.val : ℤ) * 128 + r.val - (((c.val : ℤ) - 1) * 128 + cl.val)| := le_trans (by omega) (abs_nonneg _)
  refine (pay223_at (Exchange.v2 E) r cl _ _ _ _ _).trans ?_
  rw [show v317 E = k0_pay221 (Exchange.v2 E) from rfl, show v321 E = k0_pay222 (Exchange.v2 E) from rfl, show v305 E = k0_pay219 (Exchange.v2 E) from rfl,
    show v309 E = k0_pay220 (Exchange.v2 E) from rfl, show v302 E (ix2 r cl) = W cl.val from col0_at r cl, show Exchange.v2 E = W c.val from h,
    pay221_at, pay222_at, pay220_at, pay219_at, W_sub, W_mul, W_mul, W_add, W_add, W_sub, W_abs (by omega) (by omega),
    W_slt (by omega) (by omega) (by omega) (by omega), W_slt (by omega) (by omega) (by omega) (by omega), W_slt (by omega) (by omega) (by omega) (by omega),
    W_slt (by omega) (by omega) (by omega) (by omega), W_slt (by omega) (by omega) (by omega) (by omega),
    W_sge (by omega) (by omega) (by omega) (by omega), W_sge (by omega) (by omega) (by omega) (by omega), W_sge (by omega) (by omega) (by omega) (by omega),
    W_sle ha' ha (by omega) (by omega)]
  simp only [and_bool, or_bool]
  refine congrArg BitVec.ofBool (decide_eq_decide.2 ?_)
  exact vis_iff c r cl

end Cert.Exchange

end
-- ==== Proof.BandRows.lean ====
module

public import proofs.«01_k».proof.Proof.BandMask

@[expose] public section

set_option maxRecDepth 10000

noncomputable section

namespace Cert.Exchange

open Cert.KernelIdeal Cert.KernelIdeal.Gen
open Idealize.ShloMosaic hiding ix1 ix2 ix3 ix4
open Idealize.ShloMosaic.TcCoe Idealize.ShloMosaic.ValueIdx
open scoped BigOperators

/-! ## The banded rows are the reference's -/

/-- Off the first rows the visible columns are the allowed keys, each once. -/
theorem vis_bij (c : Fin 16) (r : Fin 128) (h : 32 ≤ (gl c r).val) :
    Set.BijOn (key c) ↑(Finset.univ.filter fun cl => vis c r cl) ↑(Finset.univ.filter fun j => ok (gl c r) j) := by
  have hc := c.isLt
  have hr := r.isLt
  have h0 : 32 ≤ 128 * c.val + r.val := h
  refine ⟨fun cl hcl => ?_, fun p hp q hq e => ?_, fun j hj => ?_⟩
  · have hv : vis c r cl := (Finset.mem_filter.1 (Finset.mem_coe.1 hcl)).2
    have hl := cl.isLt
    refine Finset.mem_coe.2 (Finset.mem_filter.2 ⟨Finset.mem_univ _, ?_⟩)
    unfold vis at hv
    unfold ok
    show (128 * c.val + r.val ≤ (if cl.val < 384 then 128 * c.val + cl.val - 128 else cl.val - 384) % 2048 + 128 ∧
      (if cl.val < 384 then 128 * c.val + cl.val - 128 else cl.val - 384) % 2048 ≤ 128 * c.val + r.val + 128) ∨
      (if cl.val < 384 then 128 * c.val + cl.val - 128 else cl.val - 384) % 2048 < 32 ∨ 128 * c.val + r.val < 32
    split <;> omega
  · have hv : vis c r p := (Finset.mem_filter.1 (Finset.mem_coe.1 hp)).2
    have hw : vis c r q := (Finset.mem_filter.1 (Finset.mem_coe.1 hq)).2
    have hl := p.isLt
    have hl' := q.isLt
    have e' : (if p.val < 384 then 128 * c.val + p.val - 128 else p.val - 384) % 2048 = (if q.val < 384 then 128 * c.val + q.val - 128 else q.val - 384) % 2048 :=
      congrArg Fin.val e
    unfold vis at hv hw
    refine Fin.ext ?_
    split at e' <;> split at e' <;> omega
  · have hv : ok (gl c r) j := (Finset.mem_filter.1 (Finset.mem_coe.1 hj)).2
    have hl := j.isLt
    unfold ok at hv
    have hv' : (128 * c.val + r.val ≤ j.val + 128 ∧ j.val ≤ 128 * c.val + r.val + 128) ∨ j.val < 32 ∨ 128 * c.val + r.val < 32 := hv
    by_cases hg : j.val < 32 ∧ 2 ≤ c.val
    · refine ⟨⟨j.val + 384, by omega⟩, Finset.mem_coe.2 (Finset.mem_filter.2 ⟨Finset.mem_univ _, ?_⟩), Fin.ext ?_⟩
      · unfold vis; right; show (384 ≤ j.val + 384 ∧ j.val + 384 < 416) ∧ 2 ≤ c.val; omega
      · show (if j.val + 384 < 384 then 128 * c.val + (j.val + 384) - 128 else j.val + 384 - 384) % 2048 = j.val
        rw [if_neg (by omega)]; omega
    · refine ⟨⟨j.val + 128 - 128 * c.val, by omega⟩, Finset.mem_coe.2 (Finset.mem_filter.2 ⟨Finset.mem_univ _, ?_⟩), Fin.ext ?_⟩
      · unfold vis; left
        show ((j.val + 128 - 128 * c.val < 384 ∧ 128 ≤ 128 * c.val + (j.val + 128 - 128 * c.val)) ∧ 128 * c.val + (j.val + 128 - 128 * c.val) < 2048 + 128) ∧
          (((128 * c.val + (j.val + 128 - 128 * c.val) ≤ 128 * c.val + r.val + 256 ∧ r.val ≤ j.val + 128 - 128 * c.val) ∨ 128 * c.val + (j.val + 128 - 128 * c.val) < 160) ∨ 128 * c.val + r.val < 32)
        omega
      · show (if j.val + 128 - 128 * c.val < 384 then 128 * c.val + (j.val + 128 - 128 * c.val) - 128 else j.val + 128 - 128 * c.val - 384) % 2048 = j.val
        rw [if_pos (by omega)]; omega

theorem vis_inW {c : Fin 16} {r : Fin 128} {cl : Fin 512} (h : vis c r cl) : inW c cl := by
  unfold vis at h; unfold inW; omega

theorem vis_nonempty (c : Fin 16) (r : Fin 128) : (Finset.univ.filter fun cl => vis c r cl).Nonempty := by
  refine ⟨⟨r.val + 128, by omega⟩, Finset.mem_filter.2 ⟨Finset.mem_univ _, ?_⟩⟩
  have := c.isLt
  have := r.isLt
  unfold vis; left
  show ((r.val + 128 < 384 ∧ 128 ≤ 128 * c.val + (r.val + 128)) ∧ 128 * c.val + (r.val + 128) < 2048 + 128) ∧
    (((128 * c.val + (r.val + 128) ≤ 128 * c.val + r.val + 256 ∧ r.val ≤ r.val + 128) ∨ 128 * c.val + (r.val + 128) < 160) ∨ 128 * c.val + r.val < 32)
  omega

section
variable {a0 : RV ⟨3, ![2, 2048, 512]⟩} {a1 : RV ⟨2, ![512, 256]⟩} {a2 a3 : RV ⟨3, ![2, 2048, 256]⟩} {a4 : RV ⟨2, ![256, 512]⟩}

/-- One head of the banded rows is the reference's head. -/
theorem head_eq (hS : ∀ b h i j, ∃ r : ℝ, Sr a0 a1 a2 b h i j = r) (b : Fin 2) (c : Fin 16) (r : Fin 128) (h0 : 32 ≤ (gl c r).val)
    (q : KV S128x256 .f32) (mk : IVec S128x512 1) (k v : KV S512x256 .bf16)
    (hq : ∀ n, q (ix2 r n) = Qr a0 a1 b (gl c r) n) (hm : ∀ cl, mk (ix2 r cl) = BitVec.ofBool (decide (vis c r cl)))
    (hk : ∀ cl n, inW c cl → k (ix2 cl n) = a2 (ix3 b (key c cl) n)) (hv : ∀ cl n, inW c cl → v (ix2 cl n) = a3 (ix3 b (key c cl) n))
    (h : Fin 4) (d : Fin 64) (o : ℕ) (ho : o + 64 ≤ 256) (hh : o = 64 * h.val) (n : Fin 256) (hn : n = hd h d) :
    att (fun cl => bs q mk k o ho r cl) (fun cl => v (ix2 cl n)) = Cr a0 a1 a2 a3 b h (gl c r) d := by
  subst hh hn
  have hb : ∀ cl, vis c r cl → bs q mk k (64 * h.val) ho r cl = Sr a0 a1 a2 b h (gl c r) (key c cl) := by
    intro cl hc
    unfold bs
    rw [hm, select_bool, if_pos hc]
    unfold Sr
    refine congrArg (· * ((1 / 8 : ℝ) : EReal)) (Finset.sum_congr rfl fun e _ => ?_)
    exact congrArg₂ (· * ·) (hq (hd h e)) (hk cl (hd h e) (vis_inW hc))
  have hn : ∀ cl, ¬ vis c r cl → bs q mk k (64 * h.val) ho r cl = ⊥ := by
    intro cl hc
    unfold bs
    rw [hm, select_bool, if_neg hc]
  rw [att_eq _ _ (Finset.univ.filter fun cl => vis c r cl) (vis_nonempty c r) (fun cl => (Sr a0 a1 a2 b h (gl c r) (key c cl)).toReal)
    (fun cl hc => by
      rw [hb cl (Finset.mem_filter.1 hc).2]
      obtain ⟨x, hx⟩ := hS b h (gl c r) (key c cl)
      rw [hx, EReal.toReal_coe])
    (fun cl hc => hn cl fun hh => hc (Finset.mem_filter.2 ⟨Finset.mem_univ _, hh⟩))]
  unfold Cr
  exact soft_map _ _ (key c) (vis_bij c r h0) _ _ _ _ (fun _ _ => rfl) (fun cl hc => hv cl (hd h d) (vis_inW (Finset.mem_filter.1 hc).2))

theorem row_eq (hS : ∀ b h i j, ∃ r : ℝ, Sr a0 a1 a2 b h i j = r) (b : Fin 2) (c : Fin 16) (r : Fin 128) (h0 : 32 ≤ (gl c r).val)
    (q : KV S128x256 .f32) (mk : IVec S128x512 1) (k v : KV S512x256 .bf16) (wo : KV S256x512 .f32)
    (hq : ∀ n, q (ix2 r n) = Qr a0 a1 b (gl c r) n) (hm : ∀ cl, mk (ix2 r cl) = BitVec.ofBool (decide (vis c r cl)))
    (hk : ∀ cl n, inW c cl → k (ix2 cl n) = a2 (ix3 b (key c cl) n)) (hv : ∀ cl n, inW c cl → v (ix2 cl n) = a3 (ix3 b (key c cl) n))
    (hwo : ∀ e n, wo (ix2 e n) = a4 (ix2 e n)) (n : Fin 512) :
    bB q mk k v wo (ix2 r n) = Or a0 a1 a2 a3 a4 b (gl c r) n := by
  rw [bB_at]
  unfold Or
  refine Finset.sum_congr rfl fun e _ => congrArg₂ (· * ·) ?_ (hwo e n)
  exact head_eq hS b c r h0 q mk k v hq hm hk hv ⟨e.val / 64, by omega⟩ ⟨e.val % 64, by omega⟩ _ _ rfl _ rfl

/-- The banded rows of a device, off the first rows. -/
theorem ob_eq (hS : ∀ b h i j, ∃ r : ℝ, Sr a0 a1 a2 b h i j = r) {E : Env Ideal} {c : Fin 16} (h : Holds a0 a1 a2 a3 a4 E c) (b : Fin 2) (r : Fin 128) (h0 : 32 ≤ (gl c r).val) (n : Fin 512) :
    obF E (ix3 b r n) = Or a0 a1 a2 a3 a4 b (gl c r) n := by
  have hb : b = 0 ∨ b = 1 := by omega
  rcases hb with rfl | rfl
  · refine (ob0 E r n).trans (row_eq hS 0 c r h0 _ _ _ _ _ (fun n => v40_eq a0 a1 a2 a3 a4 h r n) (fun cl => v337_eq h.v2 r cl) (fun cl n hw => v350_eq h cl hw n)
      (fun cl n hw => v362_eq h cl hw n) (fun e n => (v444_at E e n).trans (h.wo e n)) n)
  · refine (ob1 E r n).trans (row_eq hS 1 c r h0 _ _ _ _ _ (fun n => v45_eq a0 a1 a2 a3 a4 h r n) (fun cl => v337_eq h.v2 r cl) (fun cl n hw => v461_eq h cl hw n)
      (fun cl n hw => v473_eq h cl hw n) (fun e n => (v555_at E e n).trans (h.wo e n)) n)
end

end Cert.Exchange

end
-- ==== Proof.GlobalRows.lean ====
module

public import proofs.«01_k».proof.Proof.MergeEq
public import proofs.«01_k».proof.Proof.BandRows

@[expose] public section

set_option maxRecDepth 10000

noncomputable section

namespace Cert.Exchange

open Cert.KernelIdeal Cert.KernelIdeal.Gen
open Idealize.ShloMosaic hiding ix1 ix2 ix3 ix4
open Idealize.ShloMosaic.TcCoe Idealize.ShloMosaic.ValueIdx
open scoped BigOperators

/-! ## The first rows are the reference's -/

/-! The parts as they are read. -/

theorem pwr_at (x : KV S1x32x384 .bf16) (r : Fin 32) (n : Fin 384) :
    extf .f32 (shapeCast S32x384 x shapeCasts_S1x32x384_S32x384) bitsLt_bf16_f32 (ix2 r n) = x (ix3 0 r n) := shapeCast_1ab_ab_apply x _ r n
theorem ppr_at (x : KV S1x1x32x384 .bf16) (r : Fin 32) (n : Fin 384) :
    extf .f32 (shapeCast S32x384 x shapeCasts_S1x1x32x384_S32x384) bitsLt_bf16_f32 (ix2 r n) = x (ix4 0 0 r n) := by
  refine shapeCast_apply _ _ _ _ ?_
  rw [Shape.rowMajor_val_two, Shape.rowMajor_val_four]
  show ((0 * 1 + 0) * 32 + r.val) * 384 + n.val = r.val * 384 + n.val
  omega

theorem PA0_zero (E : Env Ideal) (r : Fin 32) (n : Fin 384) : PA0 E 0 (ix2 r n) = E.pw (ix3 0 r n) :=
  (pwr_at (v663 E) r n).trans (View.ld_unit_apply_of E.pw _ _ _ _ _ (by intro x; fin_cases x <;> first | rfl | exact (Nat.zero_add _).symm))
theorem PA0_succ (E : Env Ideal) (j : Fin 15) (r : Fin 32) (n : Fin 384) : PA0 E j.succ (ix2 r n) = E.pp (ix4 j 0 r n) := by
  match j with
  | ⟨0, _⟩ => exact (ppr_at (v666 E) r n).trans (View.ld_unit_apply_of E.pp _ _ _ _ _ (by intro x; fin_cases x <;> first | rfl | exact (Nat.zero_add _).symm))
  | ⟨1, _⟩ => exact (ppr_at (v669 E) r n).trans (View.ld_unit_apply_of E.pp _ _ _ _ _ (by intro x; fin_cases x <;> first | rfl | exact (Nat.zero_add _).symm))
  | ⟨2, _⟩ => exact (ppr_at (v672 E) r n).trans (View.ld_unit_apply_of E.pp _ _ _ _ _ (by intro x; fin_cases x <;> first | rfl | exact (Nat.zero_add _).symm))
  | ⟨3, _⟩ => exact (ppr_at (v675 E) r n).trans (View.ld_unit_apply_of E.pp _ _ _ _ _ (by intro x; fin_cases x <;> first | rfl | exact (Nat.zero_add _).symm))
  | ⟨4, _⟩ => exact (ppr_at (v678 E) r n).trans (View.ld_unit_apply_of E.pp _ _ _ _ _ (by intro x; fin_cases x <;> first | rfl | exact (Nat.zero_add _).symm))
  | ⟨5, _⟩ => exact (ppr_at (v681 E) r n).trans (View.ld_unit_apply_of E.pp _ _ _ _ _ (by intro x; fin_cases x <;> first | rfl | exact (Nat.zero_add _).symm))
  | ⟨6, _⟩ => exact (ppr_at (v684 E) r n).trans (View.ld_unit_apply_of E.pp _ _ _ _ _ (by intro x; fin_cases x <;> first | rfl | exact (Nat.zero_add _).symm))
  | ⟨7, _⟩ => exact (ppr_at (v687 E) r n).trans (View.ld_unit_apply_of E.pp _ _ _ _ _ (by intro x; fin_cases x <;> first | rfl | exact (Nat.zero_add _).symm))
  | ⟨8, _⟩ => exact (ppr_at (v690 E) r n).trans (View.ld_unit_apply_of E.pp _ _ _ _ _ (by intro x; fin_cases x <;> first | rfl | exact (Nat.zero_add _).symm))
  | ⟨9, _⟩ => exact (ppr_at (v693 E) r n).trans (View.ld_unit_apply_of E.pp _ _ _ _ _ (by intro x; fin_cases x <;> first | rfl | exact (Nat.zero_add _).symm))
  | ⟨10, _⟩ => exact (ppr_at (v696 E) r n).trans (View.ld_unit_apply_of E.pp _ _ _ _ _ (by intro x; fin_cases x <;> first | rfl | exact (Nat.zero_add _).symm))
  | ⟨11, _⟩ => exact (ppr_at (v699 E) r n).trans (View.ld_unit_apply_of E.pp _ _ _ _ _ (by intro x; fin_cases x <;> first | rfl | exact (Nat.zero_add _).symm))
  | ⟨12, _⟩ => exact (ppr_at (v702 E) r n).trans (View.ld_unit_apply_of E.pp _ _ _ _ _ (by intro x; fin_cases x <;> first | rfl | exact (Nat.zero_add _).symm))
  | ⟨13, _⟩ => exact (ppr_at (v705 E) r n).trans (View.ld_unit_apply_of E.pp _ _ _ _ _ (by intro x; fin_cases x <;> first | rfl | exact (Nat.zero_add _).symm))
  | ⟨14, _⟩ => exact (ppr_at (v708 E) r n).trans (View.ld_unit_apply_of E.pp _ _ _ _ _ (by intro x; fin_cases x <;> first | rfl | exact (Nat.zero_add _).symm))
theorem PA1_zero (E : Env Ideal) (r : Fin 32) (n : Fin 384) : PA1 E 0 (ix2 r n) = E.pw (ix3 1 r n) :=
  (pwr_at (v1156 E) r n).trans (View.ld_unit_apply_of E.pw _ _ _ _ _ (by intro x; fin_cases x <;> first | rfl | exact (Nat.zero_add _).symm))
theorem PA1_succ (E : Env Ideal) (j : Fin 15) (r : Fin 32) (n : Fin 384) : PA1 E j.succ (ix2 r n) = E.pp (ix4 j 1 r n) := by
  match j with
  | ⟨0, _⟩ => exact (ppr_at (v1159 E) r n).trans (View.ld_unit_apply_of E.pp _ _ _ _ _ (by intro x; fin_cases x <;> first | rfl | exact (Nat.zero_add _).symm))
  | ⟨1, _⟩ => exact (ppr_at (v1162 E) r n).trans (View.ld_unit_apply_of E.pp _ _ _ _ _ (by intro x; fin_cases x <;> first | rfl | exact (Nat.zero_add _).symm))
  | ⟨2, _⟩ => exact (ppr_at (v1165 E) r n).trans (View.ld_unit_apply_of E.pp _ _ _ _ _ (by intro x; fin_cases x <;> first | rfl | exact (Nat.zero_add _).symm))
  | ⟨3, _⟩ => exact (ppr_at (v1168 E) r n).trans (View.ld_unit_apply_of E.pp _ _ _ _ _ (by intro x; fin_cases x <;> first | rfl | exact (Nat.zero_add _).symm))
  | ⟨4, _⟩ => exact (ppr_at (v1171 E) r n).trans (View.ld_unit_apply_of E.pp _ _ _ _ _ (by intro x; fin_cases x <;> first | rfl | exact (Nat.zero_add _).symm))
  | ⟨5, _⟩ => exact (ppr_at (v1174 E) r n).trans (View.ld_unit_apply_of E.pp _ _ _ _ _ (by intro x; fin_cases x <;> first | rfl | exact (Nat.zero_add _).symm))
  | ⟨6, _⟩ => exact (ppr_at (v1177 E) r n).trans (View.ld_unit_apply_of E.pp _ _ _ _ _ (by intro x; fin_cases x <;> first | rfl | exact (Nat.zero_add _).symm))
  | ⟨7, _⟩ => exact (ppr_at (v1180 E) r n).trans (View.ld_unit_apply_of E.pp _ _ _ _ _ (by intro x; fin_cases x <;> first | rfl | exact (Nat.zero_add _).symm))
  | ⟨8, _⟩ => exact (ppr_at (v1183 E) r n).trans (View.ld_unit_apply_of E.pp _ _ _ _ _ (by intro x; fin_cases x <;> first | rfl | exact (Nat.zero_add _).symm))
  | ⟨9, _⟩ => exact (ppr_at (v1186 E) r n).trans (View.ld_unit_apply_of E.pp _ _ _ _ _ (by intro x; fin_cases x <;> first | rfl | exact (Nat.zero_add _).symm))
  | ⟨10, _⟩ => exact (ppr_at (v1189 E) r n).trans (View.ld_unit_apply_of E.pp _ _ _ _ _ (by intro x; fin_cases x <;> first | rfl | exact (Nat.zero_add _).symm))
  | ⟨11, _⟩ => exact (ppr_at (v1192 E) r n).trans (View.ld_unit_apply_of E.pp _ _ _ _ _ (by intro x; fin_cases x <;> first | rfl | exact (Nat.zero_add _).symm))
  | ⟨12, _⟩ => exact (ppr_at (v1195 E) r n).trans (View.ld_unit_apply_of E.pp _ _ _ _ _ (by intro x; fin_cases x <;> first | rfl | exact (Nat.zero_add _).symm))
  | ⟨13, _⟩ => exact (ppr_at (v1198 E) r n).trans (View.ld_unit_apply_of E.pp _ _ _ _ _ (by intro x; fin_cases x <;> first | rfl | exact (Nat.zero_add _).symm))
  | ⟨14, _⟩ => exact (ppr_at (v1201 E) r n).trans (View.ld_unit_apply_of E.pp _ _ _ _ _ (by intro x; fin_cases x <;> first | rfl | exact (Nat.zero_add _).symm))

theorem v77_at (E : Env Ideal) (r : Fin 32) (n : Fin 256) : v77 E (ix3 0 r n) = E.gq (ix3 0 r n) := View.ld_unit_apply_of E.gq _ _ _ _ _ (by intro x; fin_cases x <;> first | rfl | exact (Nat.zero_add _).symm)
theorem v183_at (E : Env Ideal) (r : Fin 32) (n : Fin 256) : v183 E (ix3 0 r n) = E.gq (ix3 1 r n) := View.ld_unit_apply_of E.gq _ _ _ _ _ (by intro x; fin_cases x <;> first | rfl | exact (Nat.zero_add _).symm)
theorem v80_at (E : Env Ideal) (r : Fin 128) (n : Fin 256) : v80 E (ix3 0 r n) = E.k (ix3 0 r n) := View.ld_unit_apply_of E.k _ _ _ _ _ (by intro x; fin_cases x <;> first | rfl | exact (Nat.zero_add _).symm)
theorem v186_at (E : Env Ideal) (r : Fin 128) (n : Fin 256) : v186 E (ix3 0 r n) = E.k (ix3 1 r n) := View.ld_unit_apply_of E.k _ _ _ _ _ (by intro x; fin_cases x <;> first | rfl | exact (Nat.zero_add _).symm)
theorem v84_at (E : Env Ideal) (r : Fin 128) (n : Fin 256) : v84 E (ix3 0 r n) = E.v (ix3 0 r n) := View.ld_unit_apply_of E.v _ _ _ _ _ (by intro x; fin_cases x <;> first | rfl | exact (Nat.zero_add _).symm)
theorem v190_at (E : Env Ideal) (r : Fin 128) (n : Fin 256) : v190 E (ix3 0 r n) = E.v (ix3 1 r n) := View.ld_unit_apply_of E.v _ _ _ _ _ (by intro x; fin_cases x <;> first | rfl | exact (Nat.zero_add _).symm)
theorem v1150_at (E : Env Ideal) (r : Fin 256) (n : Fin 512) : v1150 E (ix2 r n) = E.wo (ix2 r n) := View.ld_unit_apply_of E.wo _ _ _ _ _ (by intro x; fin_cases x <;> first | rfl | exact (Nat.zero_add _).symm)
theorem v1643_at (E : Env Ideal) (r : Fin 256) (n : Fin 512) : v1643 E (ix2 r n) = E.wo (ix2 r n) := View.ld_unit_apply_of E.wo _ _ _ _ _ (by intro x; fin_cases x <;> first | rfl | exact (Nat.zero_add _).symm)

/-- One of the first rows among all rows. -/
def g0 (r : Fin 32) : Fin 2048 := ⟨r.val, by omega⟩

section
variable (a0 : RV ⟨3, ![2, 2048, 512]⟩) (a1 : RV ⟨2, ![512, 256]⟩) (a2 a3 : RV ⟨3, ![2, 2048, 256]⟩) (a4 : RV ⟨2, ![256, 512]⟩)

/-- What device `j` reads for its partial result, in the whole arrays' terms. -/
structure PHolds (E : Env Ideal) (j : Fin 16) : Prop where
  gq : ∀ (b : Fin 2) (r : Fin 32) (n : Fin 256), E.gq (ix3 b r n) = Qr a0 a1 b (g0 r) n
  k : ∀ (b : Fin 2) (r : Fin 128) (n : Fin 256), E.k (ix3 b r n) = a2 (ix3 b (gl j r) n)
  v : ∀ (b : Fin 2) (r : Fin 128) (n : Fin 256), E.v (ix3 b r n) = a3 (ix3 b (gl j r) n)

/-- The scores of a first row against device `j`'s keys. -/
def sc (b : Fin 2) (h : Fin 4) (r : Fin 32) (j : Fin 16) (t : Fin 128) : EReal := Sr a0 a1 a2 b h (g0 r) (gl j t)

/-- A packed partial result in the reference's terms. -/
structure PEq (x : KV S32x384 .f32) (b : Fin 2) (j : Fin 16) : Prop where
  acc : ∀ (r : Fin 32) (h : Fin 4) (d : Fin 64), x (ix2 r ⟨64 * h.val + d.val, by omega⟩)
    = ∑ t : Fin 128, Ideal.exp (sc a0 a1 a2 b h r j t - rowMax (sc a0 a1 a2 b h r j)) * a3 (ix3 b (gl j t) (hd h d))
  mx : ∀ (r : Fin 32) (h : Fin 4), x (ix2 r ⟨256 + h.val, by omega⟩) = rowMax (sc a0 a1 a2 b h r j)
  ls : ∀ (r : Fin 32) (h : Fin 4), x (ix2 r ⟨260 + h.val, by omega⟩) = ∑ t : Fin 128, Ideal.exp (sc a0 a1 a2 b h r j t - rowMax (sc a0 a1 a2 b h r j))
end

variable {a0 : RV ⟨3, ![2, 2048, 512]⟩} {a1 : RV ⟨2, ![512, 256]⟩} {a2 a3 : RV ⟨3, ![2, 2048, 256]⟩} {a4 : RV ⟨2, ![256, 512]⟩}

theorem peq (x : KV S32x384 .f32) (q : KV S1x32x256 .bf16) (k v : KV S1x128x256 .f32) (b : Fin 2) (j : Fin 16) (hx : ∀ r n, x (ix2 r n) = pB q k v (ix2 r n))
    (hq : ∀ r n, q (ix3 0 r n) = Qr a0 a1 b (g0 r) n) (hk : ∀ t n, k (ix3 0 t n) = a2 (ix3 b (gl j t) n)) (hv : ∀ t n, v (ix3 0 t n) = a3 (ix3 b (gl j t) n)) :
    PEq a0 a1 a2 a3 x b j := by
  have hs : ∀ (h : Fin 4) (r : Fin 32), ps q k (64 * h.val) (by omega) r = sc a0 a1 a2 b h r j := by
    intro h r
    funext t
    unfold ps sc Sr
    refine congrArg (· * ((1 / 8 : ℝ) : EReal)) (Finset.sum_congr rfl fun d _ => ?_)
    exact congrArg₂ (· * ·) (hq r (hd h d)) (hk t (hd h d))
  refine ⟨fun r h d => ?_, fun r h => ?_, fun r h => ?_⟩
  · rw [hx, pB_acc, hs]
    exact Finset.sum_congr rfl fun t _ => congrArg _ (hv t (hd h d))
  · rw [hx, pB_max, hs]
  · rw [hx, pB_sum, hs]

theorem peq_of {D : Env Ideal} {j : Fin 16} (H : PHolds a0 a1 a2 a3 D j) (b : Fin 2) (x : KV S32x384 .f32) (hx : ∀ r n, x (ix2 r n) = pwF D (ix3 b r n)) :
    PEq a0 a1 a2 a3 x b j := by
  have hb : b = 0 ∨ b = 1 := by omega
  rcases hb with rfl | rfl
  · exact peq x (v77 D) (v80 D) (v84 D) 0 j (fun r n => (hx r n).trans (pw0 D r n)) (fun r n => (v77_at D r n).trans (H.gq 0 r n))
      (fun t n => (v80_at D t n).trans (H.k 0 t n)) (fun t n => (v84_at D t n).trans (H.v 0 t n))
  · exact peq x (v183 D) (v186 D) (v190 D) 1 j (fun r n => (hx r n).trans (pw1 D r n)) (fun r n => (v183_at D r n).trans (H.gq 1 r n))
      (fun t n => (v186_at D t n).trans (H.k 1 t n)) (fun t n => (v190_at D t n).trans (H.v 1 t n))

/-- Every key is one device's, and a first row attends to all of them. -/
theorem all_bij (r : Fin 32) : Set.BijOn (fun p : Fin 16 × Fin 128 => gl p.1 p.2) ↑(Finset.univ : Finset (Fin 16 × Fin 128)) ↑(Finset.univ.filter fun j => ok (g0 r) j) := by
  refine ⟨fun p _ => ?_, fun p _ q _ e => ?_, fun j _ => ?_⟩
  · refine Finset.mem_coe.2 (Finset.mem_filter.2 ⟨Finset.mem_univ _, Or.inr (Or.inr ?_)⟩)
    show r.val < 32
    exact r.isLt
  · have e' : 128 * p.1.val + p.2.val = 128 * q.1.val + q.2.val := congrArg Fin.val e
    have h1 := p.2.isLt
    have h2 := q.2.isLt
    exact Prod.ext (Fin.ext (by omega)) (Fin.ext (by omega))
  · have hj := j.isLt
    refine ⟨(⟨j.val / 128, by omega⟩, ⟨j.val % 128, by omega⟩), Finset.mem_coe.2 (Finset.mem_univ _), Fin.ext ?_⟩
    show 128 * (j.val / 128) + j.val % 128 = j.val
    omega

/-- A merged head is the reference's head. -/
theorem merged (hS : ∀ b h i j, ∃ r : ℝ, Sr a0 a1 a2 b h i j = r) (A : Fin 16 → KV S32x384 .f32) (b : Fin 2) (H : ∀ j, PEq a0 a1 a2 a3 (A j) b j)
    (r : Fin 32) (h : Fin 4) (d : Fin 64) :
    Ideal.div (∑ j, A j (ix2 r ⟨64 * h.val + d.val, by omega⟩) * Ideal.exp (A j (ix2 r ⟨256 + h.val, by omega⟩) - mxA A (ix2 r h)))
      (∑ j, Ideal.exp (A j (ix2 r ⟨256 + h.val, by omega⟩) - mxA A (ix2 r h)) * A j (ix2 r ⟨260 + h.val, by omega⟩))
    = Cr a0 a1 a2 a3 b h (g0 r) d := by
  choose R hR using fun j t => (hS b h (g0 r) (gl j t) : ∃ x : ℝ, sc a0 a1 a2 b h r j t = x)
  replace hR : ∀ j t, sc a0 a1 a2 b h r j t = (R j t : EReal) := hR
  have hm : ∀ j, ∃ m : ℝ, rowMax (sc a0 a1 a2 b h r j) = m := fun j =>
    rowMax_real _ (fun t => by rw [hR]; exact EReal.coe_ne_top _) (i := (0 : Fin 128)) (by rw [hR]; exact EReal.coe_ne_bot _)
  obtain ⟨M, hM⟩ := mxA_real A r h fun j => by
    rw [pmx_at, (H j).mx]; exact hm j
  choose m hm using hm
  simp only [(H _).acc, (H _).mx, (H _).ls, hM, hm]
  simp only [hR]
  refine (merge_eq R (fun j t => a3 (ix3 b (gl j t) (hd h d))) m M).trans ?_
  unfold Cr
  exact soft_map _ _ (fun p : Fin 16 × Fin 128 => gl p.1 p.2) (all_bij r) _ _ _ _ (fun p _ => by
    show R p.1 p.2 = (sc a0 a1 a2 b h r p.1 p.2).toReal
    rw [hR, EReal.toReal_coe]) (fun _ _ => rfl)

/-- The merged rows are the reference's. -/
theorem gB_eq (hS : ∀ b h i j, ∃ r : ℝ, Sr a0 a1 a2 b h i j = r) (A : Fin 16 → KV S32x384 .f32) (b : Fin 2) (H : ∀ j, PEq a0 a1 a2 a3 (A j) b j)
    (wo : KV S256x512 .f32) (hwo : ∀ e n, wo (ix2 e n) = a4 (ix2 e n)) (r : Fin 32) (n : Fin 512) :
    gB A wo (ix2 r n) = Or a0 a1 a2 a3 a4 b (g0 r) n := by
  rw [gB_at]
  unfold Or
  refine Finset.sum_congr rfl fun e _ => congrArg₂ (· * ·) ?_ (hwo e n)
  exact merged hS A b H r ⟨e.val / 64, by omega⟩ ⟨e.val % 64, by omega⟩

/-- The first device's first rows. -/
theorem om_eq (hS : ∀ b h i j, ∃ r : ℝ, Sr a0 a1 a2 b h i j = r) {E : Env Ideal} (D : Fin 16 → Env Ideal) (H : ∀ j, PHolds a0 a1 a2 a3 (D j) j)
    (hpw : ∀ (b : Fin 2) (r : Fin 32) (n : Fin 384), E.pw (ix3 b r n) = pwF (D 0) (ix3 b r n))
    (hpp : ∀ (j : Fin 15) (b : Fin 2) (r : Fin 32) (n : Fin 384), E.pp (ix4 j b r n) = pwF (D j.succ) (ix3 b r n))
    (hwo : ∀ (d : Fin 256) (n : Fin 512), E.wo (ix2 d n) = a4 (ix2 d n)) (b : Fin 2) (r : Fin 128) (hr : r.val < 32) (n : Fin 512) :
    omF E (ix3 b r n) = Or a0 a1 a2 a3 a4 b (g0 ⟨r.val, hr⟩) n := by
  have hb : b = 0 ∨ b = 1 := by omega
  rcases hb with rfl | rfl
  · have h0 : omF E (ix3 0 r n) = k0_pay92 (v1149 E) (v1151 E) (cst_474 E) (ix3 0 ⟨r.val, hr⟩ n) := dif_pos (show ((ix3 (0 : Fin 2) r n : S2x128x512.Idx) 1).val < 32 from hr)
    rw [h0, og0]
    refine gB_eq hS (PA0 E) 0 (fun j => ?_) _ (fun e n => (v1150_at E e n).trans (hwo e n)) ⟨r.val, hr⟩ n
    refine Fin.cases ?_ (fun j => ?_) j
    · exact peq_of (H 0) 0 _ fun r n => (PA0_zero E r n).trans (hpw 0 r n)
    · exact peq_of (H j.succ) 0 _ fun r n => (PA0_succ E j r n).trans (hpp j 0 r n)
  · have h0 : omF E (ix3 1 r n) = k0_pay2 (v1200 E) (v1203 E) (v1278 E) (v1280 E) (v1282 E) (v1313 E) (v1395 E) (v1477 E) (v1559 E) (v1623 E) (v1624 E) (v1643 E) (ix3 0 ⟨r.val, hr⟩ n) :=
      dif_pos (show ((ix3 (1 : Fin 2) r n : S2x128x512.Idx) 1).val < 32 from hr)
    rw [h0, og1]
    refine gB_eq hS (PA1 E) 1 (fun j => ?_) _ (fun e n => (v1643_at E e n).trans (hwo e n)) ⟨r.val, hr⟩ n
    refine Fin.cases ?_ (fun j => ?_) j
    · exact peq_of (H 0) 1 _ fun r n => (PA1_zero E r n).trans (hpw 1 r n)
    · exact peq_of (H j.succ) 1 _ fun r n => (PA1_succ E j r n).trans (hpp j 1 r n)

end Cert.Exchange

end
-- ==== Proof.Assembly.lean ====
module

public import proofs.«01_k».proof.Proof.GlobalRows
public import proofs.«01_k».proof.Proof.Contents

@[expose] public section

set_option maxRecDepth 10000

noncomputable section

namespace Cert.Exchange

open Cert.KernelIdeal Cert.KernelIdeal.Gen
open Idealize.ShloMosaic hiding ix1 ix2 ix3 ix4
open Idealize.ShloMosaic.TcCoe Idealize.ShloMosaic.ValueIdx
open scoped BigOperators

/-! ## What each device reads, in the whole arrays' terms -/

variable (a0 : RV ⟨3, ![2, 2048, 512]⟩) (a1 : RV ⟨2, ![512, 256]⟩) (a2 a3 : RV ⟨3, ![2, 2048, 256]⟩) (a4 : RV ⟨2, ![256, 512]⟩)
variable (m : (ℓ : Loc nD τ sig) → Buf (Elt Ideal) ℓ)

/-- The operands on the devices are the blocks of the whole arrays, or copies. -/
structure Laid : Prop where
  x : ∀ (c : Fin 16) (b : Fin 2) (r : Fin 128) (n : Fin 512), (in0 m c : KV S2x128x512 .f32) (ix3 b r n) = a0 (ix3 b (gl c r) n)
  wq : ∀ (c : Fin 16) (d : Fin 512) (n : Fin 256), (in1 m c : KV S512x256 .f32) (ix2 d n) = a1 (ix2 d n)
  k : ∀ (c : Fin 16) (b : Fin 2) (r : Fin 128) (n : Fin 256), (in2 m c : KV S2x128x256 .f32) (ix3 b r n) = a2 (ix3 b (gl c r) n)
  v : ∀ (c : Fin 16) (b : Fin 2) (r : Fin 128) (n : Fin 256), (in3 m c : KV S2x128x256 .f32) (ix3 b r n) = a3 (ix3 b (gl c r) n)
  wo : ∀ (c : Fin 16) (d : Fin 256) (n : Fin 512), (in4 m c : KV S256x512 .f32) (ix2 d n) = a4 (ix2 d n)

theorem blk_at {n : ℕ} (c : Fin 16) (X : RV ⟨3, ![2, 2048, n]⟩) (ht : Layout.Tiles ⟨3, ![2, 128, n]⟩ ⟨3, ![2, 2048, n]⟩ 1 16) (b : Fin 2) (r : Fin 128) (d : Fin n) :
    Layout.block ⟨3, ![2, 128, n]⟩ ⟨3, ![2, 2048, n]⟩ 1 16 c X ht (ix3 b r d) = X (ix3 b (gl c r) d) := by
  refine congrArg X (funext fun a => Fin.ext ?_)
  refine (ht.idx_val c (ix3 b r d) a).trans ?_
  fin_cases a
  · rfl
  · show c.val * 128 + r.val = 128 * c.val + r.val
    omega
  · rfl

theorem cast_self {s : Shape} {φ : FTy} (x : KV s φ) (h : s.ShapeCasts s) (i : s.Idx) : shapeCast s x h i = x i := shapeCast_apply x h _ i rfl
theorem cast4 {φ : FTy} (x : KV S32x256 φ) (h : S32x256.ShapeCasts S1x1x32x256) (r : Fin 32) (n : Fin 256) :
    shapeCast S1x1x32x256 x h (ix4 0 0 r n) = x (ix2 r n) :=
  shapeCast_apply x h _ _ (by
    rw [Shape.rowMajor_val_four, Shape.rowMajor_val_two]
    show r.val * 256 + n.val = ((0 * 1 + 0) * 32 + r.val) * 256 + n.val
    omega)
theorem pay176_at (x : KV S2x128x256 .f32) (i : S2x128x256.Idx) : k0_pay176 (F := Ideal) x i = x i := by
  unfold k0_pay176
  exact (cast_self _ _ i).trans (cast_self x _ i)
theorem pay177_at (x : KV S2x128x256 .f32) (i : S2x128x256.Idx) : k0_pay177 (F := Ideal) x i = x i := by
  unfold k0_pay177
  exact (cast_self _ _ i).trans (cast_self x _ i)

theorem tlH_at (a b : Fin 2) (r : Fin 128) (n : Fin 512) : tlH (ix4 a b r n) = ix3 b r n := funext fun x => by fin_cases x <;> rfl
theorem tlP_at (a : Fin 15) (b : Fin 2) (r : Fin 32) (n : Fin 384) : tlP (ix4 a b r n) = ix3 b r n := funext fun x => by fin_cases x <;> rfl
theorem halo_0 (C : Cont Ideal) (c : Dev nD) (b : Fin 2) (r : Fin 128) (n : Fin 512) :
    (C.halo c : KV S2x2x128x512 .bf16) (ix4 0 b r n) = (C.lo c : KV S2x128x512 .bf16) (ix3 b r n) :=
  (if_pos rfl).trans (congrArg (C.lo c : KV S2x128x512 .bf16) (tlH_at 0 b r n))
theorem halo_1 (C : Cont Ideal) (c : Dev nD) (b : Fin 2) (r : Fin 128) (n : Fin 512) :
    (C.halo c : KV S2x2x128x512 .bf16) (ix4 1 b r n) = (C.hi c : KV S2x128x512 .bf16) (ix3 b r n) :=
  (if_neg (show ¬ (1 : Fin 2).val = 0 by decide)).trans (congrArg (C.hi c : KV S2x128x512 .bf16) (tlH_at 1 b r n))
theorem pp_at (C : Cont Ideal) (j : Fin 15) (b : Fin 2) (r : Fin 32) (n : Fin 384) :
    (C.pp : KV S15x2x32x384 .bf16) (ix4 j b r n) = (C.pw j.succ : KV S2x32x384 .bf16) (ix3 b r n) :=
  congrArg (C.pw j.succ : KV S2x32x384 .bf16) (tlP_at j b r n)

/-- The packed keys and values, entry by entry. -/
theorem kvF_lt (k v : KV S2x128x256 .f32) (b : Fin 2) (r : Fin 128) (n : Fin 256) (h : 0 + n.val < 512) :
    (kvF (F := Ideal) k v : KV S2x128x512 .bf16) (ix3 b r ⟨0 + n.val, h⟩) = k (ix3 b r n) := by
  refine (dif_pos (show 0 + n.val < 256 by omega)).trans ?_
  refine (pay176_at k _).trans ?_
  exact congrArg (fun y => k (ix3 b r y)) (Fin.ext (Nat.zero_add _))
theorem kvF_ge (k v : KV S2x128x256 .f32) (b : Fin 2) (r : Fin 128) (n : Fin 256) (h : 256 + n.val < 512) :
    (kvF (F := Ideal) k v : KV S2x128x512 .bf16) (ix3 b r ⟨256 + n.val, h⟩) = v (ix3 b r n) := by
  refine (dif_neg (show ¬ 256 + n.val < 256 by omega)).trans ?_
  refine (pay177_at v _).trans ?_
  exact congrArg (fun y => v (ix3 b r y)) (Fin.ext (Nat.add_sub_cancel_left ..))

theorem wd_eq : ∀ c : Dev nD, wd c = W c.val := by decide

theorem v578_at (E : Env Ideal) (r : Fin 32) (n : Fin 256) : v578 E (ix3 0 r n) = E.k (ix3 0 (Fin.castLE (by omega) r) n) :=
  View.ld_unit_apply_of E.k _ _ _ _ _ (by intro x; fin_cases x <;> first | rfl | exact (Nat.zero_add _).symm)
theorem v584_at (E : Env Ideal) (r : Fin 32) (n : Fin 256) : v584 E (ix3 0 r n) = E.v (ix3 0 (Fin.castLE (by omega) r) n) :=
  View.ld_unit_apply_of E.v _ _ _ _ _ (by intro x; fin_cases x <;> first | rfl | exact (Nat.zero_add _).symm)
theorem v595_at (E : Env Ideal) (r : Fin 32) (n : Fin 256) : v595 E (ix3 0 r n) = E.k (ix3 1 (Fin.castLE (by omega) r) n) :=
  View.ld_unit_apply_of E.k _ _ _ _ _ (by intro x; fin_cases x <;> first | rfl | exact (Nat.zero_add _).symm)
theorem v601_at (E : Env Ideal) (r : Fin 32) (n : Fin 256) : v601 E (ix3 0 r n) = E.v (ix3 1 (Fin.castLE (by omega) r) n) :=
  View.ld_unit_apply_of E.v _ _ _ _ _ (by intro x; fin_cases x <;> first | rfl | exact (Nat.zero_add _).symm)

theorem pay4_at (x : KV S1x32x256 .f32) (r : Fin 32) (n : Fin 256) : k0_pay4 (F := Ideal) x (ix4 0 0 r n) = x (ix3 0 r n) := by
  unfold k0_pay4
  exact (cast4 _ _ r n).trans (shapeCast_1ab_ab_apply x _ r n)
theorem pay3_at (x : KV S128x256 .f32) (r : Fin 32) (n : Fin 256) : k0_pay3 (F := Ideal) x (ix3 0 r n) = x (ix2 (Fin.castLE (by omega) r) n) := by
  unfold k0_pay3
  refine (shapeCast_ab_1ab_apply (truncf .bf16 (extractStridedSlice S32x256 ![0, 0] x slices_S128x256_o0_0_S32x256) bitsLt_bf16_f32 : KV S32x256 .bf16) _ 0 r n).trans ?_
  refine congrArg x (funext fun a => Fin.ext ?_)
  fin_cases a <;> first | exact Nat.zero_add _ | rfl

theorem gl_zero (r : Fin 32) : gl 0 (Fin.castLE (by omega) r) = g0 r := Fin.ext (show 128 * 0 + r.val = r.val by omega)

theorem gkF_k (E : Env Ideal) (b : Fin 2) (r : Fin 32) (n : Fin 256) :
    (gkF E : KV S2x2x32x256 .bf16) (ix4 0 b r n) = E.k (ix3 b (Fin.castLE (by omega) r) n) := by
  fin_cases b
  · exact (pay4_at (v578 E) r n).trans (v578_at E r n)
  · exact (pay4_at (v595 E) r n).trans (v595_at E r n)
theorem gkF_v (E : Env Ideal) (b : Fin 2) (r : Fin 32) (n : Fin 256) :
    (gkF E : KV S2x2x32x256 .bf16) (ix4 1 b r n) = E.v (ix3 b (Fin.castLE (by omega) r) n) := by
  fin_cases b
  · exact (pay4_at (v584 E) r n).trans (v584_at E r n)
  · exact (pay4_at (v601 E) r n).trans (v601_at E r n)

section
variable {a0 a1 a2 a3 a4 m}

/-- What device `c` reads for its own rows. -/
theorem Laid.holds (L : Laid a0 a1 a2 a3 a4 m) (c : Fin 16) : Holds a0 a1 a2 a3 a4 (EE m c) c where
  x := L.x c
  wq := L.wq c
  k := L.k c
  v := L.v c
  wo := L.wo c
  lk h b r n := by
    refine (halo_0 (CC m) c b r ⟨0 + n.val, by omega⟩).trans ?_
    rw [Cont.lo, dif_neg (by omega)]
    exact (kvF_lt _ _ b r n _).trans (L.k _ b r n)
  lv h b r n := by
    refine (halo_0 (CC m) c b r ⟨256 + n.val, by omega⟩).trans ?_
    rw [Cont.lo, dif_neg (by omega)]
    exact (kvF_ge _ _ b r n _).trans (L.v _ b r n)
  rk h b r n := by
    refine (halo_1 (CC m) c b r ⟨0 + n.val, by omega⟩).trans ?_
    rw [Cont.hi, dif_pos (by omega)]
    exact (kvF_lt _ _ b r n _).trans (L.k _ b r n)
  rv h b r n := by
    refine (halo_1 (CC m) c b r ⟨256 + n.val, by omega⟩).trans ?_
    rw [Cont.hi, dif_pos (by omega)]
    exact (kvF_ge _ _ b r n _).trans (L.v _ b r n)
  gk b r n := (gkF_k (e0 m 0) b r n).trans ((L.k 0 b _ n).trans (congrArg (fun y => a2 (ix3 b y n)) (gl_zero r)))
  gv b r n := (gkF_v (e0 m 0) b r n).trans ((L.v 0 b _ n).trans (congrArg (fun y => a3 (ix3 b y n)) (gl_zero r)))
  v2 := wd_eq c

/-- What device `j` reads for the first rows' partial results. -/
theorem Laid.parts (L : Laid a0 a1 a2 a3 a4 m) (j : Fin 16) : PHolds a0 a1 a2 a3 (e1 m j) j where
  gq b r n := by
    refine Eq.trans ?_ (congrArg (fun y => Qr a0 a1 b y n) (gl_zero r))
    fin_cases b
    · exact (pay3_at (v40 (e0 m 0)) r n).trans (v40_eq a0 a1 a2 a3 a4 (L.holds 0) _ n)
    · exact (pay3_at (v45 (e0 m 0)) r n).trans (v45_eq a0 a1 a2 a3 a4 (L.holds 0) _ n)
  k := L.k j
  v := L.v j

/-- A device's block of the result is its block of the reference's. -/
theorem Laid.out (L : Laid a0 a1 a2 a3 a4 m) (hS : ∀ b h i j, ∃ r : ℝ, Sr a0 a1 a2 b h i j = r) (c : Fin 16) (b : Fin 2) (r : Fin 128) (n : Fin 512) :
    (oc (F := Ideal) c (EE m c) : KV S2x128x512 .f32) (ix3 b r n) = Or a0 a1 a2 a3 a4 b (gl c r) n := by
  unfold oc
  by_cases hc : c.val = 0
  · rw [if_pos hc]
    obtain rfl : c = 0 := Fin.ext hc
    by_cases hr : r.val < 32
    · refine (om_eq hS (E := EE m 0) (fun j => e1 m j) L.parts (fun _ _ _ => rfl) (pp_at (CC m)) (L.wo 0) b r hr n).trans ?_
      exact congrArg (fun y => Or a0 a1 a2 a3 a4 b y n) (Fin.ext (show r.val = 128 * 0 + r.val by omega))
    · refine Eq.trans ?_ (ob_eq hS (L.holds 0) b r (show 32 ≤ 128 * 0 + r.val by omega) n)
      exact dif_neg hr
  · rw [if_neg hc]
    exact ob_eq hS (L.holds c) b r (show 32 ≤ 128 * c.val + r.val by omega) n

end

end Cert.Exchange

end
-- ==== Proof.Result.lean ====
module

public import proofs.«01_k».proof.Proof.Assembly
public import proofs.«01_k».proof.Proof.Launching

@[expose] public section

set_option maxRecDepth 10000

noncomputable section

namespace Cert.Exchange

open Cert.KernelIdeal Cert.KernelIdeal.Gen
open Idealize.ShloMosaic hiding ix1 ix2 ix3 ix4
open Idealize.ShloMosaic.TcCoe Idealize.ShloMosaic.ValueIdx
open scoped BigOperators

/-! ## The blocks the run reads and leaves, as arrays -/

variable {F : FTy → Type} [FloatOps F] [Named F]
variable (m : (ℓ : Loc nD τ sig) → Buf (Elt F) ℓ) (ρ : Dev nD → PrngReg)

theorem one_zero {a : ℕ} : ∀ x : ℕ, 0 * a + 1 * x = x := fun x => by omega

theorem in0_eq (c : Dev nD) : in0 m c = m ((c : Thread nD τ).loc main_arg0) :=
  funext fun i => congrArg (m ((c : Thread nD τ).loc main_arg0)) (funext fun a => Fin.ext (by fin_cases a <;> exact one_zero _))
theorem in1_eq (c : Dev nD) : in1 m c = m ((c : Thread nD τ).loc main_arg1) :=
  funext fun i => congrArg (m ((c : Thread nD τ).loc main_arg1)) (funext fun a => Fin.ext (by fin_cases a <;> exact one_zero _))
theorem in2_eq (c : Dev nD) : in2 m c = m ((c : Thread nD τ).loc main_arg2) :=
  funext fun i => congrArg (m ((c : Thread nD τ).loc main_arg2)) (funext fun a => Fin.ext (by fin_cases a <;> exact one_zero _))
theorem in3_eq (c : Dev nD) : in3 m c = m ((c : Thread nD τ).loc main_arg3) :=
  funext fun i => congrArg (m ((c : Thread nD τ).loc main_arg3)) (funext fun a => Fin.ext (by fin_cases a <;> exact one_zero _))
theorem in4_eq (c : Dev nD) : in4 m c = m ((c : Thread nD τ).loc main_arg4) :=
  funext fun i => congrArg (m ((c : Thread nD τ).loc main_arg4)) (funext fun a => Fin.ext (by fin_cases a <;> exact one_zero _))

/-- The result array of a device after the run. -/
theorem finalA_5 (c : Dev nD) : finalA m ρ c (5 : Fin 6) = oc c (EE m c) := by
  have h : (win0_5.blk (0 : Fin 1)).view.read (Elt F) (finalA m ρ c (5 : Fin 6)) = oc c (EE m c) := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  refine Eq.trans ?_ h
  exact (funext fun i => congrArg (finalA m ρ c (5 : Fin 6)) (funext fun a => Fin.ext (by fin_cases a <;> exact one_zero _))).symm

end Cert.Exchange

end
-- ==== Proof.Finite.lean ====
module

public import proofs.«01_k».proof.Proof.BandKeys
public import proofs.«01_k».proof.Pre_scores_finite_KernelIdeal
public import proofs.«01_k».proof.Pre_scores_finite_ReferenceIdeal
public import Idealize.ShloMosaic.Lib.ReduceAll

@[expose] public section

set_option maxRecDepth 10000

noncomputable section

namespace Cert.Exchange

open Cert.KernelIdeal Cert.KernelIdeal.Gen
open Idealize.ShloMosaic hiding ix1 ix2 ix3 ix4
open Idealize.ShloMosaic.TcCoe Idealize.ShloMosaic.ValueIdx
open scoped BigOperators

/-! ## What the precondition says -/

/-- The shape relations of the precondition at a device's shapes. -/
theorem preK : Cert.Pre_scores_finite_KernelIdeal.Facts := ⟨by decide, by decide, by decide, by decide, by decide, by decide, by decide⟩
/-- The shape relations of the precondition at the whole arrays' shapes. -/
theorem preR : Cert.Pre_scores_finite_ReferenceIdeal.Facts := ⟨by decide, by decide, by decide, by decide, by decide, by decide, by decide⟩

theorem inf_top : (Scalar.ofBits .f32 0x7F800000#32 : Ideal .f32) = (⊤ : EReal) := by
  show Ideal.ofBits .f32 0x7F800000#32 = _
  simp [Ideal.ofBits, Ideal.ieee]

/-- A value whose size is below infinity is a real number. -/
theorem real_of_lt (x : Ideal .f32) (h : FloatOps.cmpf .olt (FloatOps.absf x) (Scalar.ofBits .f32 0x7F800000#32 : Ideal .f32) = 1#1) :
    ∃ r : ℝ, x = (r : EReal) := by
  rw [inf_top] at h
  have h' : max x (-x) < (⊤ : EReal) := by
    by_contra hn
    have : FloatOps.cmpf .olt (FloatOps.absf x) ((⊤ : EReal) : Ideal .f32) = 0#1 := by
      show Ideal.cmp .olt (max x (-x)) (⊤ : EReal) = 0#1
      simp only [Ideal.cmp, decide_eq_false hn]
      rfl
    rw [this] at h
    exact absurd h (by decide)
  obtain ⟨h1, h2⟩ := max_lt_iff.1 h'
  induction x using EReal.rec with
  | bot => exact absurd h2 (by simp)
  | coe r => exact ⟨r, rfl⟩
  | top => exact absurd h1 (by simp)

theorem and_one : ∀ a b : BitVec 1, IntOp.andi a b = 1#1 → a = 1#1 ∧ b = 1#1 := by decide

theorem ix0_sub : ∀ i j : (⟨0, ![]⟩ : Shape).Idx, i = j := fun i j => funext fun a => a.elim0

/-- Under the precondition, every entry of the operands the scores are made of is a real number. -/
theorem pre_real (a0 : RV ⟨3, ![2, 128, 512]⟩) (a1 : RV ⟨2, ![512, 256]⟩) (a2 a3 : RV ⟨3, ![2, 128, 256]⟩) (a4 : RV ⟨2, ![256, 512]⟩)
    (h : @Cert.Pre_scores_finite_KernelIdeal.fn preK Ideal _ a0 a1 a2 a3 a4 = fun _ => 1#1) :
    (∀ i, ∃ r : ℝ, a0 i = (r : EReal)) ∧ (∀ i, ∃ r : ℝ, a1 i = (r : EReal)) ∧ ∀ i, ∃ r : ℝ, a2 i = (r : EReal) := by
  haveI : Subsingleton Cert.Pre_scores_finite_KernelIdeal.S_.Idx := ⟨ix0_sub⟩
  have h0 := congrFun h (fun a => a.elim0)
  obtain ⟨h01, h2⟩ := and_one _ _ h0
  obtain ⟨h0, h1⟩ := and_one _ _ h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

theorem mul_real {x y : EReal} (hx : ∃ r : ℝ, x = (r : EReal)) (hy : ∃ r : ℝ, y = (r : EReal)) : ∃ r : ℝ, x * y = (r : EReal) := by
  obtain ⟨r, rfl⟩ := hx
  obtain ⟨s, rfl⟩ := hy
  exact ⟨r * s, (EReal.coe_mul r s).symm⟩

theorem sum_real {ι : Type} (s : Finset ι) (f : ι → EReal) (h : ∀ i, ∃ r : ℝ, f i = (r : EReal)) : ∃ r : ℝ, ∑ i ∈ s, f i = (r : EReal) := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

/-- Scores of real operands are real. -/
theorem Sr_real (a0 : RV ⟨3, ![2, 2048, 512]⟩) (a1 : RV ⟨2, ![512, 256]⟩) (a2 : RV ⟨3, ![2, 2048, 256]⟩)
    (h0 : ∀ i, ∃ r : ℝ, a0 i = (r : EReal)) (h1 : ∀ i, ∃ r : ℝ, a1 i = (r : EReal)) (h2 : ∀ i, ∃ r : ℝ, a2 i = (r : EReal)) (b h i j) :
    ∃ r : ℝ, Sr a0 a1 a2 b h i j = (r : EReal) :=
  mul_real (sum_real _ _ fun d => mul_real (sum_real _ _ fun e => mul_real (h0 _) (h1 _)) (h2 _)) ⟨_, rfl⟩

end Cert.Exchange

end
-- ==== Proof.Algebraic.lean ====
module

public import proofs.«01_k».proof.Proof.Result
public import proofs.«01_k».proof.Proof.Finite
public import proofs.«01_k».proof.Defs
public import proofs.«01_k».proof.Proof.Gen.ReferenceIdeal
public import proofs.«01_k».proof.Proof.Gen.ReferenceIdeal.Run

@[expose] public section

set_option maxRecDepth 10000

noncomputable section

namespace Cert.Exchange

open Cert.KernelIdeal Cert.KernelIdeal.Gen
open Idealize.ShloMosaic hiding ix1 ix2 ix3 ix4
open Idealize.ShloMosaic.TcCoe Idealize.ShloMosaic.ValueIdx
open scoped BigOperators

/-! ## The equation -/

/-- A row of the whole array stands in one device's block. -/
theorem gl_split (i : Fin 2048) : i = gl ⟨i.val / 128, by omega⟩ ⟨i.val % 128, by omega⟩ :=
  Fin.ext (Nat.div_add_mod i.val 128).symm

/-- Every entry of a whole array is an entry of some device's block. -/
theorem real_whole {n : ℕ} (X : RV ⟨3, ![2, 2048, n]⟩) (f : Fin 16 → RV ⟨3, ![2, 128, n]⟩)
    (h : ∀ c b r d, f c (ix3 b r d) = X (ix3 b (gl c r) d)) (hr : ∀ c i, ∃ r : ℝ, f c i = (r : EReal)) (i) : ∃ r : ℝ, X i = (r : EReal) := by
  obtain ⟨s, hs⟩ := hr ⟨(i 1).val / 128, by have : (i 1).val < 2048 := (i 1).isLt; omega⟩
    (ix3 (i 0) ⟨(i 1).val % 128, Nat.mod_lt _ (by decide)⟩ (i 2))
  refine ⟨s, Eq.trans (congrArg X (funext fun a => ?_)) ((h _ _ _ _).symm.trans hs)⟩
  fin_cases a
  · rfl
  · exact gl_split (i 1)
  · rfl

instance hK : Cert.KernelIdeal.Facts := Cert.KernelIdeal.Gen.facts
instance hR : Cert.ReferenceIdeal.Facts := Cert.ReferenceIdeal.Gen.facts
instance hPK : Cert.Pre_scores_finite_KernelIdeal.Facts := preK

set_option maxHeartbeats 1000000 in
/-- From a memory whose operands are the blocks of the reference's, with finite `x`, `Wq` and keys, every run of the devices
    leaves on each the block of the reference's result. -/
theorem algebraic : Cert.algebraic_KernelIdeal_ReferenceIdeal_pre_scores_finite_KernelIdeal := by
  intro m g m' g' hpre hin
  have L : Laid (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) m :=
    { x := fun c b r n => (congrFun ((in0_eq m c).trans (hin c).1) (ix3 b r n)).trans (blk_at c _ _ b r n)
      wq := fun c d n => congrFun ((in1_eq m c).trans (hin c).2.1) (ix2 d n)
      k := fun c b r n => (congrFun ((in2_eq m c).trans (hin c).2.2.1) (ix3 b r n)).trans (blk_at c _ _ b r n)
      v := fun c b r n => (congrFun ((in3_eq m c).trans (hin c).2.2.2.1) (ix3 b r n)).trans (blk_at c _ _ b r n)
      wo := fun c d n => congrFun ((in4_eq m c).trans (hin c).2.2.2.2) (ix2 d n) }
  have hf := fun c => pre_real _ _ _ _ _ (hpre c)
  have h0 := real_whole _ _ L.x fun c i => by
    obtain ⟨r, hr⟩ := (hf c).1 i
    exact ⟨r, (congrFun (in0_eq m c) i).trans hr⟩
  have h2 := real_whole _ _ L.k fun c i => by
    obtain ⟨r, hr⟩ := (hf c).2.2 i
    exact ⟨r, (congrFun (in2_eq m c) i).trans hr⟩
  have hS := Sr_real _ _ _ h0 (fun i => ((hf 0).2.1 i).imp fun r hr => (congrFun (hin 0).2.1 i).symm.trans hr) h2
  refine ⟨Cert.ReferenceIdeal.Value.res_main_v44 (F := Ideal) m' 0, ?_, ?_⟩
  · refine (θ_run Cert.KernelIdeal.defs _ _).mono (fun r h c => ⟨?_, (h.1 c 0).trans (finalA_0 m g c), (h.1 c 1).trans (finalA_1 m g c),
      (h.1 c 2).trans (finalA_2 m g c), (h.1 c 3).trans (finalA_3 m g c), (h.1 c 4).trans (finalA_4 m g c)⟩) (run_main (F := Ideal) m g)
    refine ((h.1 c 5).trans (finalA_5 m g c)).trans (funext fun i => ?_)
    rw [ValueIdx.eq_ix3 i]
    refine (L.out hS c _ _ _).trans ?_
    refine Eq.trans ?_ (blk_at c _ _ _ _ _).symm
    rw [res_eq]
    exact (rOut_eq _ _ _ _ _ hS _ _ _).symm
  · exact (θ_run Cert.ReferenceIdeal.defs _ _).mono (fun r h => h 0) (Cert.ReferenceIdeal.Value.run (F := Ideal) m' g')

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference ends on every run with its arguments unchanged; it has no semaphores. -/
theorem quiescent_reference : Cert.quiescent_ReferenceIdeal := fun m g _ =>
  (θ_run Cert.ReferenceIdeal.defs _ _).mono (fun _ h => ⟨fun c => (h c).2, funext fun g => by rcases g with ⟨t, i | i⟩ <;> exact i.elim0⟩)
    (Cert.ReferenceIdeal.Value.run (F := Ideal) m g)

theorem claim : Cert.Claim := ⟨Cert.Kernel.Gen.facts, Cert.KernelIdeal.Gen.facts, Cert.ReferenceIdeal.Gen.facts,
  Cert.Exchange.preK, Cert.Exchange.preR,
  Cert.Exchange.quiescent_words, fun m g _ => Cert.Exchange.quiescent (F := Ideal) m g, fun m g _ => Cert.Exchange.quiescent (F := Ideal) m g,
  quiescent_reference, fun m g _ => quiescent_reference m g trivial,
  IdealRules.named_const.statement Cert.KernelIdeal.κ "mask" .f32 0xCE6E6B28#32 ⊥ rfl, Cert.Exchange.algebraic⟩

end Cert.Proof

end
